-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v3_5)) (v4 : (c : Dev Cert.KernelIdeal.nD) → Buf (Elt Ideal) ((c.tc : Thread Cert.KernelIdeal.nD Cert.KernelIdeal.τ).loc Cert.KernelIdeal.main_v3_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v3_5) = v3 c
          ∧ r.2.mem ((c.tc : Thread Cert.KernelIdeal.nD Cert.KernelIdeal.τ).loc Cert.KernelIdeal.main_v3_6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_v247) = v1 c
          ∧ r.2.mem ((c.tc : Thread Cert.ReferenceIdeal.nD Cert.ReferenceIdeal.τ).loc Cert.ReferenceIdeal.main_v224) = v2 c
          ∧ r.2.mem ((c.tc : Thread Cert.ReferenceIdeal.nD Cert.ReferenceIdeal.τ).loc Cert.ReferenceIdeal.main_v271) = v3 c
          ∧ r.2.mem ((c.tc : Thread Cert.ReferenceIdeal.nD Cert.ReferenceIdeal.τ).loc Cert.ReferenceIdeal.main_v246) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_v3) = v1 c
          ∧ r.2.mem ((c.tc : Thread Cert.Reference9Ideal.nD Cert.Reference9Ideal.τ).loc Cert.Reference9Ideal.main_v5) = v2 c
          ∧ r.2.mem ((c.tc : Thread Cert.Reference9Ideal.nD Cert.Reference9Ideal.τ).loc Cert.Reference9Ideal.main_v7) = v3 c
          ∧ r.2.mem ((c.tc : Thread Cert.Reference9Ideal.nD Cert.Reference9Ideal.τ).loc Cert.Reference9Ideal.main_v9) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v20) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v12) = v0 c
          ∧ r.2.mem ((c.tc : Thread Cert.Reference14Ideal.nD Cert.Reference14Ideal.τ).loc Cert.Reference14Ideal.main_v13) = v1 c
          ∧ r.2.mem ((c.tc : Thread Cert.Reference14Ideal.nD Cert.Reference14Ideal.τ).loc Cert.Reference14Ideal.main_v14) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v20) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_v22) = v2 c
          ∧ r.2.mem ((c.tc : Thread Cert.Reference15Ideal.nD Cert.Reference15Ideal.τ).loc Cert.Reference15Ideal.main_v23) = v3 c
          ∧ r.2.mem ((c.tc : Thread Cert.Reference15Ideal.nD Cert.Reference15Ideal.τ).loc Cert.Reference15Ideal.main_v24) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hPre_finite : Cert.Pre_finite.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
-- ==== Pre_finite.lean ====
abbrev S2048x2304 : Shape := ⟨2, ![2048, 2304]⟩
abbrev S4x1x64 : Shape := ⟨3, ![4, 1, 64]⟩
abbrev S2048x256 : Shape := ⟨2, ![2048, 256]⟩
abbrev S_ : Shape := ⟨0, ![]⟩

class Facts : Prop where
  bcast_S_S2048x2304 : S_.BroadcastsInDim S2048x2304 (![] : Fin 0 → Fin S2048x2304.rank)
  reducesTo_S2048x2304_S_d0_1 : S2048x2304.ReducesTo [0, 1] S_
  h_S_ : 0 < S_.numel
  bcast_S_S4x1x64 : S_.BroadcastsInDim S4x1x64 (![] : Fin 0 → Fin S4x1x64.rank)
  reducesTo_S4x1x64_S_d0_1_2 : S4x1x64.ReducesTo [0, 1, 2] S_
  bcast_S_S2048x256 : S_.BroadcastsInDim S2048x256 (![] : Fin 0 → Fin S2048x256.rank)
  reducesTo_S2048x256_S_d0_1 : S2048x256.ReducesTo [0, 1] S_

variable [Facts]

def fn_part1 {F : FTy → Type} [FloatOps F] (main_arg4 : FVec F S2048x256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  main_v23

def fn {F : FTy → Type} [FloatOps F] (main_arg0 : FVec F S2048x2304 .f32) (main_arg1 : FVec F S4x1x64 .f32) (main_arg2 : FVec F S4x1x64 .f32) (main_arg3 : FVec F S2048x256 .f32) (main_arg4 : FVec F S2048x256 .f32) : IVec S_ 1 :=
  let main_v0 : FVec F S2048x2304 .f32 := Host.absf main_arg0
  let main_cst : FVec F S_ .f32 := constant S_ .f32 0x7F800000#32
  let main_v1 : FVec F S2048x2304 .f32 := broadcastInDim S2048x2304 ![] bcast_S_S2048x2304 main_cst
  let main_v2 : IVec S2048x2304 1 := cmpf .olt main_v0 main_v1
  let main_c : IVec S_ 1 := constantI S_ 1 1#1
  let main_v3 : IVec S_ 1 := (fun x v => Host.reduce IntOp.andi x v reducesTo_S2048x2304_S_d0_1 h_S_) main_v2 main_c
  let main_v4 : FVec F S4x1x64 .f32 := Host.absf main_arg1
  let main_cst_0 : FVec F S_ .f32 := constant S_ .f32 0x7F800000#32
  let main_v5 : FVec F S4x1x64 .f32 := broadcastInDim S4x1x64 ![] bcast_S_S4x1x64 main_cst_0
  let main_v6 : IVec S4x1x64 1 := cmpf .olt main_v4 main_v5
  let main_c_1 : IVec S_ 1 := constantI S_ 1 1#1
  let main_v7 : IVec S_ 1 := (fun x v => Host.reduce IntOp.andi x v reducesTo_S4x1x64_S_d0_1_2 h_S_) main_v6 main_c_1
  let main_v8 : IVec S_ 1 := andi main_v3 main_v7
  let main_v9 : FVec F S4x1x64 .f32 := Host.absf main_arg2
  let main_cst_2 : FVec F S_ .f32 := constant S_ .f32 0x7F800000#32
  let main_v10 : FVec F S4x1x64 .f32 := broadcastInDim S4x1x64 ![] bcast_S_S4x1x64 main_cst_2
  let main_v11 : IVec S4x1x64 1 := cmpf .olt main_v9 main_v10
  let main_c_3 : IVec S_ 1 := constantI S_ 1 1#1
  let main_v12 : IVec S_ 1 := (fun x v => Host.reduce IntOp.andi x v reducesTo_S4x1x64_S_d0_1_2 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_v13 main_v16
-- ==== Pre_finite5.lean ====
abbrev S2048x1024 : Shape := ⟨2, ![2048, 1024]⟩
abbrev S4x2048x704 : Shape := ⟨3, ![4, 2048, 704]⟩
abbrev S4x704x1024 : Shape := ⟨3, ![4, 704, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4x2048x704 : S_.BroadcastsInDim S4x2048x704 (![] : Fin 0 → Fin S4x2048x704.rank)
  reducesTo_S4x2048x704_S_d0_1_2 : S4x2048x704.ReducesTo [0, 1, 2] S_
  bitsLt_bf16_f32 : FTy.bits .bf16 < FTy.bits .f32
  bcast_S_S4x704x1024 : S_.BroadcastsInDim S4x704x1024 (![] : Fin 0 → Fin S4x704x1024.rank)
  reducesTo_S4x704x1024_S_d0_1_2 : S4x704x1024.ReducesTo [0, 1, 2] S_

variable [Facts]

def fn {F : FTy → Type} [FloatOps F] (main_arg0 : FVec F S2048x1024 .f32) (main_arg1 : FVec F S4x2048x704 .f32) (main_arg2 : FVec F S4x2048x704 .f32) (main_arg3 : FVec F S4x704x1024 .bf16) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S4x2048x704 .f32 := Host.absf main_arg2
  let main_cst_0 : FVec F S_ .f32 := constant S_ .f32 0x7F800000#32
  let main_v5 : FVec F S4x2048x704 .f32 := broadcastInDim S4x2048x704 ![] bcast_S_S4x2048x704 main_cst_0
  let main_v6 : IVec S4x2048x704 1 := cmpf .olt main_v4 main_v5
  let main_c_1 : IVec S_ 1 := constantI S_ 1 1#1
  let main_v7 : IVec S_ 1 := (fun x v => Host.reduce IntOp.andi x v reducesTo_S4x2048x704_S_d0_1_2 h_S_) main_v6 main_c_1
  let main_v8 : IVec S_ 1 := andi main_v3 main_v7
  let main_v9 : FVec F S4x704x1024 .f32 := (extf .f32 · bitsLt_bf16_f32) main_arg3
  let main_v10 : FVec F S4x704x1024 .f32 := Host.absf main_v9
  let main_cst_2 : FVec F S_ .f32 := constant S_ .f32 0x7F800000#32
  let main_v11 : FVec F S4x704x1024 .f32 := broadcastInDim S4x704x1024 ![] bcast_S_S4x704x1024 main_cst_2
  let main_v12 : IVec S4x704x1024 1 := cmpf .olt main_v10 main_v11
  let main_c_3 : IVec S_ 1 := constantI S_ 1 1#1
  let main_v13 : IVec S_ 1 := (fun x v => Host.reduce IntOp.andi x v reducesTo_S4x704x1024_S_d0_1_2 h_S_) main_v12 main_c_3
  let main_v14 : IVec S_ 1 := andi main_v8 main_v13
  main_v14
-- ==== Kernel.lean ====
abbrev S2048x2304 : Shape := ⟨2, ![2048, 2304]⟩
abbrev S4x1x64 : Shape := ⟨3, ![4, 1, 64]⟩
abbrev S2048x256 : Shape := ⟨2, ![2048, 256]⟩
abbrev S512x9216 : Shape := ⟨2, ![512, 9216]⟩
abbrev S512x1024 : Shape := ⟨2, ![512, 1024]⟩
abbrev S128x256 : Shape := ⟨2, ![128, 256]⟩
abbrev S4x1x1 : Shape := ⟨3, ![4, 1, 1]⟩
abbrev S128x64 : Shape := ⟨2, ![128, 64]⟩
abbrev S1x128x64 : Shape := ⟨3, ![1, 128, 64]⟩
abbrev S4x128x64 : Shape := ⟨3, ![4, 128, 64]⟩
abbrev S4x128 : Shape := ⟨2, ![4, 128]⟩
abbrev S4x128x1 : Shape := ⟨3, ![4, 128, 1]⟩
abbrev S128x128 : Shape := ⟨2, ![128, 128]⟩
abbrev S4x128x128 : Shape := ⟨3, ![4, 128, 128]⟩
abbrev S1x128x128 : Shape := ⟨3, ![1, 128, 128]⟩
abbrev S3x128x64 : Shape := ⟨3, ![3, 128, 64]⟩
abbrev S2x128x64 : Shape := ⟨3, ![2, 128, 64]⟩
abbrev S4x64 : Shape := ⟨2, ![4, 64]⟩
abbrev S128x192 : Shape := ⟨2, ![128, 192]⟩
abbrev S384x1024 : Shape := ⟨2, ![384, 1024]⟩
abbrev S_ : Shape := ⟨0, ![]⟩

abbrev nBuf : Space → Nat
  | .hbm => 28
  | .vmem => 28
  | .smem => 0
  | _ => 0

abbrev bufTy : (tb : Table) → Fin (tcTables nBuf tb) → BufTy
  | .hbm, ⟨0, _⟩ => ⟨S2048x2304, .f32⟩
  | .hbm, ⟨1, _⟩ => ⟨S4x1x64, .f32⟩
  | .hbm, ⟨2, _⟩ => ⟨S4x1x64, .f32⟩
  | .hbm, ⟨3, _⟩ => ⟨S2048x256, .f32⟩
  | .hbm, ⟨4, _⟩ => ⟨S2048x256, .f32⟩
  | .hbm, ⟨5, _⟩ => ⟨S512x9216, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S4x1x64, .f32⟩
  | .hbm, ⟨14, _⟩ => ⟨S4x1x64, .f32⟩
  | .hbm, ⟨15, _⟩ => ⟨S2048x256, .f32⟩
  | .hbm, ⟨16, _⟩ => ⟨S384x1024, .f32⟩
  | .hbm, ⟨17, _⟩ => ⟨S_, .i32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S2048x256, .f32⟩
  | .hbm, ⟨22, _⟩ => ⟨S384x1024, .f32⟩
  | .hbm, ⟨23, _⟩ => ⟨S_, .i32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S2048x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S4x1x64, .f32⟩
  | .local _ .vmem, ⟨11, _⟩ => ⟨S4x1x64, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S4x1x64, .f32⟩
  | .local _ .vmem, ⟨27, _⟩ => ⟨S4x1x64, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg15_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem15_0 : DmaSem sig := 27

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let v2 : BitVec 32 := Scalar.muli arg0 c9_i32
  let c3_i32 : BitVec 32 := 3#32
  let v3 : BitVec 32 := Scalar.addi v2 c3_i32
  let c1_i32_0 : BitVec 32 := 1#32
  let v4 : BitVec 32 := Scalar.addi v3 c1_i32_0
  let c0_i32_1 : BitVec 32 := 0#32
  ![v1.toNat, v4.toNat]

def cc0_transform_2 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c3_i32 : BitVec 32 := 3#32
  let v1 : BitVec 32 := Scalar.addi v0 c3_i32
  let c1_i32 : BitVec 32 := 1#32
  let v2 : BitVec 32 := Scalar.addi v1 c1_i32
  let c0_i32 : BitVec 32 := 0#32
  ![arg1.toNat, v2.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let v2 : BitVec 32 := Scalar.muli arg0 c9_i32
  let c6_i32 : BitVec 32 := 6#32
  let v3 : BitVec 32 := Scalar.addi v2 c6_i32
  let c1_i32_0 : BitVec 32 := 1#32
  let v4 : BitVec 32 := Scalar.addi v3 c1_i32_0
  let c0_i32_1 : BitVec 32 := 0#32
  ![v1.toNat, v4.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c6_i32 : BitVec 32 := 6#32
  let v1 : BitVec 32 := Scalar.addi v0 c6_i32
  let c1_i32 : BitVec 32 := 1#32
  let v2 : BitVec 32 := Scalar.addi v1 c1_i32
  let c0_i32 : BitVec 32 := 0#32
  ![arg1.toNat, v2.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S4x1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S4x1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== KernelIdeal.lean ====
variable {F : FTy → Type} [FloatOps F] [Named F]
def κ : String → Option EReal := fun
  | "mask" => some ⊥
  | _ => none
-- ==== ReferenceIdeal.lean ====
abbrev S2048x2304 : Shape := ⟨2, ![2048, 2304]⟩
abbrev S4x1x64 : Shape := ⟨3, ![4, 1, 64]⟩
abbrev S2048x256 : Shape := ⟨2, ![2048, 256]⟩
abbrev S1x2048x4x64 : Shape := ⟨4, ![1, 2048, 4, 64]⟩
abbrev S4x64 : Shape := ⟨2, ![4, 64]⟩
abbrev S_ : Shape := ⟨0, ![]⟩
abbrev S1x2048x4 : Shape := ⟨3, ![1, 2048, 4]⟩
abbrev S1x2048x4x1 : Shape := ⟨4, ![1, 2048, 4, 1]⟩
abbrev S1x1x4x64 : Shape := ⟨4, ![1, 1, 4, 64]⟩
abbrev S4 : Shape := ⟨1, ![4]⟩
abbrev S1x512x4x4x64 : Shape := ⟨5, ![1, 512, 4, 4, 64]⟩
abbrev S1x4x512x4x64 : Shape := ⟨5, ![1, 4, 512, 4, 64]⟩
abbrev S1x4x4x128x4x64 : Shape := ⟨6, ![1, 4, 4, 128, 4, 64]⟩
abbrev S1x4x1x128x4x64 : Shape := ⟨6, ![1, 4, 1, 128, 4, 64]⟩
abbrev S1x4x3x128x4x64 : Shape := ⟨6, ![1, 4, 3, 128, 4, 64]⟩
abbrev S1x4x4x256x4x64 : Shape := ⟨6, ![1, 4, 4, 256, 4, 64]⟩
abbrev S1x4x4x4x128x256 : Shape := ⟨6, ![1, 4, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S4x1x128x256 : Shape := ⟨4, ![4, 1, 128, 256]⟩
abbrev S1x1x1x4x128x256 : Shape := ⟨6, ![1, 1, 1, 4, 128, 256]⟩
abbrev S1x4x4x4x128 : Shape := ⟨5, ![1, 4, 4, 4, 128]⟩
abbrev S1x4x4x4x128x1 : Shape := ⟨6, ![1, 4, 4, 4, 128, 1]⟩
abbrev S1x4x4x4x64x128 : Shape := ⟨6, ![1, 4, 4, 4, 64, 128]⟩
abbrev S1x4x4x128x4 : Shape := ⟨5, ![1, 4, 4, 128, 4]⟩
abbrev S1x4x512x4 : Shape := ⟨4, ![1, 4, 512, 4]⟩
abbrev S1x512x4x4 : Shape := ⟨4, ![1, 512, 4, 4]⟩
abbrev S2048x4 : Shape := ⟨2, ![2048, 4]⟩
abbrev S1x4x4x4x64x256 : Shape := ⟨6, ![1, 4, 4, 4, 64, 256]⟩
abbrev S4x4x4x128 : Shape := ⟨4, ![4, 4, 4, 128]⟩
abbrev S1x4x4x4x256x64 : Shape := ⟨6, ![1, 4, 4, 4, 256, 64]⟩
abbrev S1x4x4x4x128x64 : Shape := ⟨6, ![1, 4, 4, 4, 128, 64]⟩
abbrev S1x4x64 : Shape := ⟨3, ![1, 4, 64]⟩

abbrev nBuf : Space → Nat
  | .hbm => 347
  | .vmem => 0
  | .smem => 0
  | _ => 0

abbrev hbmTy0_0 (i : Nat) : BufTy := match i % 128 with
  | 0 => ⟨S2048x2304, .f32⟩
  | 1 => ⟨S4x1x64, .f32⟩
  | 2 => ⟨S4x1x64, .f32⟩
  | 3 => ⟨S2048x256, .f32⟩
  | 4 => ⟨S2048x256, .f32⟩
  | 5 => ⟨S2048x256, .f32⟩
  | 6 => ⟨S2048x256, .f32⟩
  | 7 => ⟨S2048x256, .f32⟩
  | 8 => ⟨S1x2048x4x64, .f32⟩
  | 9 => ⟨S4x64, .f32⟩
  | 10 => ⟨S1x2048x4x64, .f32⟩
  | 11 => ⟨S_, .f32⟩
  | 12 => ⟨S1x2048x4, .f32⟩
  | 13 => ⟨S1x2048x4x1, .f32⟩
  | 14 => ⟨S_, .f32⟩
  | 15 => ⟨S1x2048x4x1, .f32⟩
  | 16 => ⟨S1x2048x4x1, .f32⟩
  | 17 => ⟨S_, .f32⟩
  | 18 => ⟨S1x2048x4x1, .f32⟩
  | 19 => ⟨S1x2048x4x1, .f32⟩
  | 20 => ⟨S1x2048x4x1, .f32⟩
  | 21 => ⟨S1x2048x4x1, .f32⟩
  | 22 => ⟨S_, .f32⟩
  | 23 => ⟨S1x2048x4x1, .f32⟩
  | 24 => ⟨S1x2048x4x1, .f32⟩
  | 25 => ⟨S1x2048x4x64, .f32⟩
  | 26 => ⟨S1x2048x4x64, .f32⟩
  | 27 => ⟨S1x1x4x64, .f32⟩
  | 28 => ⟨S1x2048x4x64, .f32⟩
  | 29 => ⟨S1x2048x4x64, .f32⟩
  | 30 => ⟨S_, .f32⟩
  | 31 => ⟨S1x2048x4x64, .f32⟩
  | 32 => ⟨S1x2048x4x64, .f32⟩
  | 33 => ⟨S1x2048x4x64, .f32⟩
  | 34 => ⟨S4x64, .f32⟩
  | 35 => ⟨S1x2048x4x64, .f32⟩
  | 36 => ⟨S_, .f32⟩
  | 37 => ⟨S1x2048x4, .f32⟩
  | 38 => ⟨S1x2048x4x1, .f32⟩
  | 39 => ⟨S_, .f32⟩
  | 40 => ⟨S1x2048x4x1, .f32⟩
  | 41 => ⟨S1x2048x4x1, .f32⟩
  | 42 => ⟨S_, .f32⟩
  | 43 => ⟨S1x2048x4x1, .f32⟩
  | 44 => ⟨S1x2048x4x1, .f32⟩
  | 45 => ⟨S1x2048x4x1, .f32⟩
  | 46 => ⟨S1x2048x4x1, .f32⟩
  | 47 => ⟨S_, .f32⟩
  | 48 => ⟨S1x2048x4x1, .f32⟩
  | 49 => ⟨S1x2048x4x1, .f32⟩
  | 50 => ⟨S1x2048x4x64, .f32⟩
  | 51 => ⟨S1x2048x4x64, .f32⟩
  | 52 => ⟨S1x1x4x64, .f32⟩
  | 53 => ⟨S1x2048x4x64, .f32⟩
  | 54 => ⟨S1x2048x4x64, .f32⟩
  | 55 => ⟨S1x2048x4x64, .f32⟩
  | 56 => ⟨S4, .f32⟩
  | 57 => ⟨S_, .f32⟩
  | 58 => ⟨S4, .f32⟩
  | 59 => ⟨S4, .f32⟩
  | 60 => ⟨S_, .f32⟩
  | 61 => ⟨S4, .f32⟩
  | 62 => ⟨S4, .f32⟩
  | 63 => ⟨S_, .f32⟩
  | 64 => ⟨S4, .f32⟩
  | 65 => ⟨S4, .f32⟩
  | 66 => ⟨S_, .f32⟩
  | 67 => ⟨S4, .f32⟩
  | 68 => ⟨S4, .f32⟩
  | 69 => ⟨S4, .f32⟩
  | 70 => ⟨S1x512x4x4x64, .f32⟩
  | 71 => ⟨S1x4x512x4x64, .f32⟩
  | 72 => ⟨S_, .i32⟩
  | 73 => ⟨S_, .f32⟩
  | 74 => ⟨S1x4x512x4x64, .f32⟩
  | 75 => ⟨S_, .f32⟩
  | 76 => ⟨S1x4x4x128x4x64, .f32⟩
  | 77 => ⟨S1x512x4x4x64, .f32⟩
  | 78 => ⟨S1x4x512x4x64, .f32⟩
  | 79 => ⟨S_, .i32⟩
  | 80 => ⟨S_, .f32⟩
  | 81 => ⟨S1x4x512x4x64, .f32⟩
  | 82 => ⟨S_, .f32⟩
  | 83 => ⟨S1x4x4x128x4x64, .f32⟩
  | 84 => ⟨S1x4x1x128x4x64, .f32⟩
  | 85 => ⟨S_, .f32⟩
  | 86 => ⟨S1x4x1x128x4x64, .f32⟩
  | 87 => ⟨S1x4x3x128x4x64, .f32⟩
  | 88 => ⟨S1x4x4x128x4x64, .f32⟩
  | 89 => ⟨S_, .f32⟩
  | 90 => ⟨S1x4x1x128x4x64, .f32⟩
  | 91 => ⟨S1x4x4x256x4x64, .f32⟩
  | 92 => ⟨S1x512x4x4x64, .f32⟩
  | 93 => ⟨S1x4x512x4x64, .f32⟩
  | 94 => ⟨S_, .i32⟩
  | 95 => ⟨S_, .f32⟩
  | 96 => ⟨S1x4x512x4x64, .f32⟩
  | 97 => ⟨S_, .f32⟩
  | 98 => ⟨S1x4x4x128x4x64, .f32⟩
  | 99 => ⟨S1x4x1x128x4x64, .f32⟩
  | 100 => ⟨S_, .f32⟩
  | 101 => ⟨S1x4x1x128x4x64, .f32⟩
  | 102 => ⟨S1x4x3x128x4x64, .f32⟩
  | 103 => ⟨S1x4x4x128x4x64, .f32⟩
  | 104 => ⟨S_, .f32⟩
  | 105 => ⟨S1x4x1x128x4x64, .f32⟩
  | 106 => ⟨S1x4x4x256x4x64, .f32⟩
  | 107 => ⟨S1x4x4x4x128x256, .f32⟩
  | 108 => ⟨S128, .i32⟩
  | 109 => ⟨S128x1, .i32⟩
  | 110 => ⟨S256, .i32⟩
  | 111 => ⟨S1x256, .i32⟩
  | 112 => ⟨S_, .i32⟩
  | 113 => ⟨S128x1, .i32⟩
  | 114 => ⟨S128x1, .i32⟩
  | 115 => ⟨S128x256, .i32⟩
  | 116 => ⟨S128x256, .i32⟩
  | 117 => ⟨S128x256, .i32⟩
  | 118 => ⟨S4, .i32⟩
  | 119 => ⟨S4x1x1, .i32⟩
  | 120 => ⟨S_, .i32⟩
  | 121 => ⟨S128x256, .i32⟩
  | 122 => ⟨S128x256, .i1⟩
  | 123 => ⟨S_, .i32⟩
  | 124 => ⟨S128x256, .i32⟩
  | 125 => ⟨S128x256, .i1⟩
  | 126 => ⟨S128x256, .i1⟩
  | 127 => ⟨S_, .i32⟩
  | _ => ⟨S2048x2304, .f32⟩

abbrev hbmTy0_1 (i : Nat) : BufTy := match i % 128 with
  | 0 => ⟨S4x1x1, .i32⟩
  | 1 => ⟨S4x1x1, .i1⟩
  | 2 => ⟨S_, .i32⟩
  | 3 => ⟨S1x256, .i32⟩
  | 4 => ⟨S1x256, .i1⟩
  | 5 => ⟨S1x1x256, .i1⟩
  | 6 => ⟨S4x1x256, .i1⟩
  | 7 => ⟨S4x1x256, .i1⟩
  | 8 => ⟨S4x1x256, .i1⟩
  | 9 => ⟨S1x128x256, .i1⟩
  | 10 => ⟨S4x128x256, .i1⟩
  | 11 => ⟨S4x128x256, .i1⟩
  | 12 => ⟨S4x128x256, .i1⟩
  | 13 => ⟨S4x1x1, .f32⟩
  | 14 => ⟨S4x1x1, .f32⟩
  | 15 => ⟨S_, .i32⟩
  | 16 => ⟨S128x256, .i32⟩
  | 17 => ⟨S128x256, .i32⟩
  | 18 => ⟨S128x256, .f32⟩
  | 19 => ⟨S1x128x256, .f32⟩
  | 20 => ⟨S4x128x256, .f32⟩
  | 21 => ⟨S4x128x256, .f32⟩
  | 22 => ⟨S4x128x256, .f32⟩
  | 23 => ⟨S4x1x128x256, .i1⟩
  | 24 => ⟨S1x1x1x4x128x256, .f32⟩
  | 25 => ⟨S1x4x4x4x128x256, .f32⟩
  | 26 => ⟨S1x4x4x4x128x256, .f32⟩
  | 27 => ⟨S_, .f32⟩
  | 28 => ⟨S_, .f32⟩
  | 29 => ⟨S1x4x4x4x128x256, .i1⟩
  | 30 => ⟨S1x4x4x4x128x256, .f32⟩
  | 31 => ⟨S1x4x4x4x128x256, .f32⟩
  | 32 => ⟨S_, .f32⟩
  | 33 => ⟨S1x4x4x4x128x256, .f32⟩
  | 34 => ⟨S_, .f32⟩
  | 35 => ⟨S1x4x4x4x128, .f32⟩
  | 36 => ⟨S1x4x4x4x128x1, .f32⟩
  | 37 => ⟨S1x4x4x4x128x256, .f32⟩
  | 38 => ⟨S1x4x4x4x128x256, .i1⟩
  | 39 => ⟨S1x4x4x4x128x256, .f32⟩
  | 40 => ⟨S_, .f32⟩
  | 41 => ⟨S1x4x4x4x128, .f32⟩
  | 42 => ⟨S1x4x4x4x128x1, .f32⟩
  | 43 => ⟨S1x4x4x4x128x256, .f32⟩
  | 44 => ⟨S1x4x4x4x128x256, .f32⟩
  | 45 => ⟨S1x4x4x4x128x256, .f32⟩
  | 46 => ⟨S_, .f32⟩
  | 47 => ⟨S1x4x4x4x128, .f32⟩
  | 48 => ⟨S1x4x4x4x128x1, .f32⟩
  | 49 => ⟨S1x4x4x4x128x256, .f32⟩
  | 50 => ⟨S1x4x4x4x128x256, .f32⟩
  | 51 => ⟨S1x4x4x4x128x1, .f32⟩
  | 52 => ⟨S_, .f32⟩
  | 53 => ⟨S1x4x4x4x128x1, .f32⟩
  | 54 => ⟨S1x4x4x4x128x1, .f32⟩
  | 55 => ⟨S1x4x4x4x64x128, .f32⟩
  | 56 => ⟨S1x4x4x128x4x64, .f32⟩
  | 57 => ⟨S1x4x4x4x128x1, .f32⟩
  | 58 => ⟨S1x4x4x4x128x1, .f32⟩
  | 59 => ⟨S1x4x4x4x128, .f32⟩
  | 60 => ⟨S1x4x512x4x64, .f32⟩
  | 61 => ⟨S1x512x4x4x64, .f32⟩
  | 62 => ⟨S1x2048x4x64, .f32⟩
  | 63 => ⟨S1x4x4x128x4, .f32⟩
  | 64 => ⟨S1x4x512x4, .f32⟩
  | 65 => ⟨S1x512x4x4, .f32⟩
  | 66 => ⟨S1x2048x4, .f32⟩
  | 67 => ⟨S2048x256, .f32⟩
  | 68 => ⟨S1x2048x4x1, .f32⟩
  | 69 => ⟨S1x2048x4x64, .f32⟩
  | 70 => ⟨S2048x256, .f32⟩
  | 71 => ⟨S1x2048x4x64, .f32⟩
  | 72 => ⟨S_, .f32⟩
  | 73 => ⟨S2048x4, .f32⟩
  | 74 => ⟨S1x2048x4x1, .f32⟩
  | 75 => ⟨S_, .f32⟩
  | 76 => ⟨S2048x4, .f32⟩
  | 77 => ⟨S1x2048x4, .f32⟩
  | 78 => ⟨S1x2048x4x64, .f32⟩
  | 79 => ⟨S1x512x4x4, .f32⟩
  | 80 => ⟨S1x4x512x4, .f32⟩
  | 81 => ⟨S1x4x4x128x4, .f32⟩
  | 82 => ⟨S1x4x4x4x128, .f32⟩
  | 83 => ⟨S1x512x4x4x64, .f32⟩
  | 84 => ⟨S1x4x512x4x64, .f32⟩
  | 85 => ⟨S1x4x4x128x4x64, .f32⟩
  | 86 => ⟨S1x4x4x4x128x1, .f32⟩
  | 87 => ⟨S1x4x4x4x128x1, .f32⟩
  | 88 => ⟨S1x4x4x4x64x128, .f32⟩
  | 89 => ⟨S1x4x4x4x128x256, .f32⟩
  | 90 => ⟨S1x4x4x4x64x256, .f32⟩
  | 91 => ⟨S1x4x4x256x4x64, .f32⟩
  | 92 => ⟨S1x4x4x4x128x256, .f32⟩
  | 93 => ⟨S1x4x4x4x128x256, .f32⟩
  | 94 => ⟨S1x4x4x4x128x256, .f32⟩
  | 95 => ⟨S_, .f32⟩
  | 96 => ⟨S1x4x4x4x128, .f32⟩
  | 97 => ⟨S1x4x4x4x128x1, .f32⟩
  | 98 => ⟨S1x4x4x4x128x1, .f32⟩
  | 99 => ⟨S1x4x4x4x128x1, .f32⟩
  | 100 => ⟨S1x4x4x4x128x256, .f32⟩
  | 101 => ⟨S1x4x4x4x128x256, .f32⟩
  | 102 => ⟨S_, .f32⟩
  | 103 => ⟨S4x4x4x128, .f32⟩
  | 104 => ⟨S1x4x4x4x128, .f32⟩
  | 105 => ⟨S1x4x4x4x128x256, .f32⟩
  | 106 => ⟨S1x4x4x4x128x256, .f32⟩
  | 107 => ⟨S1x4x4x4x128x256, .f32⟩
  | 108 => ⟨S1x4x4x4x128x256, .f32⟩
  | 109 => ⟨S_, .f32⟩
  | 110 => ⟨S1x4x4x4x128, .f32⟩
  | 111 => ⟨S1x4x4x4x128x1, .f32⟩
  | 112 => ⟨S1x4x4x4x128x1, .f32⟩
  | 113 => ⟨S_, .f32⟩
  | 114 => ⟨S4x4x4x128, .f32⟩
  | 115 => ⟨S1x4x4x4x128, .f32⟩
  | 116 => ⟨S1x4x4x4x128, .f32⟩
  | 117 => ⟨S1x4x4x4x128x256, .f32⟩
  | 118 => ⟨S1x4x4x4x128x256, .f32⟩
  | 119 => ⟨S1x4x4x4x128x256, .f32⟩
  | 120 => ⟨S_, .f32⟩
  | 121 => ⟨S1x4x4x4x128x256, .f32⟩
  | 122 => ⟨S1x4x4x4x128x256, .f32⟩
  | 123 => ⟨S1x4x4x4x256x64, .f32⟩
  | 124 => ⟨S1x4x4x256x4x64, .f32⟩
  | 125 => ⟨S1x4x4x4x128x64, .f32⟩
  | 126 => ⟨S1x4x4x128x4x64, .f32⟩
  | 127 => ⟨S1x4x4x128x4x64, .f32⟩
  | _ => ⟨S2048x2304, .f32⟩

abbrev hbmTy0_2 (i : Nat) : BufTy := match i % 128 with
  | 0 => ⟨S1x4x4x128x4x64, .f32⟩
  | 1 => ⟨S1x4x1x128x4x64, .f32⟩
  | 2 => ⟨S1x4x3x128x4x64, .f32⟩
  | 3 => ⟨S_, .f32⟩
  | 4 => ⟨S1x4x4x128x4x64, .f32⟩
  | 5 => ⟨S1x4x4x128x4x64, .f32⟩
  | 6 => ⟨S1x4x512x4x64, .f32⟩
  | 7 => ⟨S_, .f32⟩
  | 8 => ⟨S1x4x512x4x64, .f32⟩
  | 9 => ⟨S1x4x512x4x64, .f32⟩
  | 10 => ⟨S1x512x4x4x64, .f32⟩
  | 11 => ⟨S1x2048x4x64, .f32⟩
  | 12 => ⟨S1x4x4x128x4x64, .f32⟩
  | 13 => ⟨S1x4x4x128x4x64, .f32⟩
  | 14 => ⟨S1x4x1x128x4x64, .f32⟩
  | 15 => ⟨S1x4x3x128x4x64, .f32⟩
  | 16 => ⟨S_, .f32⟩
  | 17 => ⟨S1x4x4x128x4x64, .f32⟩
  | 18 => ⟨S1x4x4x128x4x64, .f32⟩
  | 19 => ⟨S1x4x512x4x64, .f32⟩
  | 20 => ⟨S_, .f32⟩
  | 21 => ⟨S1x4x512x4x64, .f32⟩
  | 22 => ⟨S1x4x512x4x64, .f32⟩
  | 23 => ⟨S1x512x4x4x64, .f32⟩
  | 24 => ⟨S1x2048x4x64, .f32⟩
  | 25 => ⟨S1x4x512x4x64, .f32⟩
  | 26 => ⟨S_, .f32⟩
  | 27 => ⟨S1x4x512x4x64, .f32⟩
  | 28 => ⟨S1x4x512x4x64, .f32⟩
  | 29 => ⟨S1x512x4x4x64, .f32⟩
  | 30 => ⟨S1x2048x4x64, .f32⟩
  | 31 => ⟨S2048x256, .f32⟩
  | 32 => ⟨S1x2048x4x64, .f32⟩
  | 33 => ⟨S_, .f32⟩
  | 34 => ⟨S1x4x64, .f32⟩
  | 35 => ⟨S1x1x4x64, .f32⟩
  | 36 => ⟨S1x2048x4x64, .f32⟩
  | 37 => ⟨S1x2048x4x64, .f32⟩
  | 38 => ⟨S_, .f32⟩
  | 39 => ⟨S4x64, .f32⟩
  | 40 => ⟨S1x2048x4x64, .f32⟩
  | 41 => ⟨S1x2048x4x64, .f32⟩
  | 42 => ⟨S1x2048x4x64, .f32⟩
  | 43 => ⟨S_, .f32⟩
  | 44 => ⟨S1x2048x4, .f32⟩
  | 45 => ⟨S1x2048x4x1, .f32⟩
  | 46 => ⟨S1x2048x4x1, .f32⟩
  | 47 => ⟨S_, .f32⟩
  | 48 => ⟨S1x2048x4x1, .f32⟩
  | 49 => ⟨S1x2048x4x1, .f32⟩
  | 50 => ⟨S_, .f32⟩
  | 51 => ⟨S2048x4, .f32⟩
  | 52 => ⟨S1x2048x4, .f32⟩
  | 53 => ⟨S1x2048x4x64, .f32⟩
  | 54 => ⟨S1x2048x4x64, .f32⟩
  | 55 => ⟨S1x2048x4x64, .f32⟩
  | 56 => ⟨S1x2048x4x64, .f32⟩
  | 57 => ⟨S1x2048x4x64, .f32⟩
  | 58 => ⟨S4x1x64, .f32⟩
  | 59 => ⟨S2048x256, .f32⟩
  | 60 => ⟨S_, .f32⟩
  | 61 => ⟨S1x2048x4x64, .f32⟩
  | 62 => ⟨S1x2048x4x64, .f32⟩
  | 63 => ⟨S1x2048x4x64, .f32⟩
  | 64 => ⟨S_, .f32⟩
  | 65 => ⟨S1x4x64, .f32⟩
  | 66 => ⟨S1x1x4x64, .f32⟩
  | 67 => ⟨S1x2048x4x64, .f32⟩
  | 68 => ⟨S1x2048x4x64, .f32⟩
  | 69 => ⟨S_, .f32⟩
  | 70 => ⟨S4x64, .f32⟩
  | 71 => ⟨S1x2048x4x64, .f32⟩
  | 72 => ⟨S1x2048x4x64, .f32⟩
  | 73 => ⟨S1x2048x4x64, .f32⟩
  | 74 => ⟨S_, .f32⟩
  | 75 => ⟨S1x2048x4, .f32⟩
  | 76 => ⟨S1x2048x4x1, .f32⟩
  | 77 => ⟨S1x2048x4x1, .f32⟩
  | 78 => ⟨S_, .f32⟩
  | 79 => ⟨S1x2048x4x1, .f32⟩
  | 80 => ⟨S1x2048x4x1, .f32⟩
  | 81 => ⟨S_, .f32⟩
  | 82 => ⟨S2048x4, .f32⟩
  | 83 => ⟨S1x2048x4, .f32⟩
  | 84 => ⟨S1x2048x4x64, .f32⟩
  | 85 => ⟨S1x2048x4x64, .f32⟩
  | 86 => ⟨S1x2048x4x64, .f32⟩
  | 87 => ⟨S1x2048x4x64, .f32⟩
  | 88 => ⟨S1x2048x4x64, .f32⟩
  | 89 => ⟨S4x1x64, .f32⟩
  | 90 => ⟨S2048x256, .f32⟩
  | _ => ⟨S2048x2304, .f32⟩

abbrev hbmTy (i : Nat) : BufTy := match i / 128 with
  | 0 => hbmTy0_0 i
  | 1 => hbmTy0_1 i
  | 2 => hbmTy0_2 i
  | _ => ⟨S2048x2304, .f32⟩

abbrev bufTy : (tb : Table) → Fin (tcTables nBuf tb) → BufTy
  | .hbm, ⟨i, _⟩ => hbmTy i
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_cst_10 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c : Ref sig .tc := ⟨.hbm, 72, rfl⟩
abbrev main_call0_v0 : Ref sig .tc := ⟨.hbm, 73, rfl⟩
abbrev main_v54_0 : Ref sig .tc := ⟨.hbm, 74, rfl⟩
abbrev main_v54_1 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_12 : Ref sig .tc := ⟨.hbm, 79, rfl⟩
abbrev main_call1_v0 : Ref sig .tc := ⟨.hbm, 80, rfl⟩
abbrev main_v58_0 : Ref sig .tc := ⟨.hbm, 81, rfl⟩
abbrev main_v58_1 : Ref sig .tc := ⟨.hbm, 82, rfl⟩
abbrev main_v59 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_14 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_c_15 : Ref sig .tc := ⟨.hbm, 94, rfl⟩
abbrev main_call2_v0 : Ref sig .tc := ⟨.hbm, 95, rfl⟩
abbrev main_v68_0 : Ref sig .tc := ⟨.hbm, 96, rfl⟩
abbrev main_v68_1 : Ref sig .tc := ⟨.hbm, 97, rfl⟩
abbrev main_v69 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_19 : Ref sig .tc := ⟨.hbm, 120, rfl⟩
abbrev main_v88 : Ref sig .tc := ⟨.hbm, 121, rfl⟩
abbrev main_v89 : Ref sig .tc := ⟨.hbm, 122, rfl⟩
abbrev main_c_20 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_21 : Ref sig .tc := ⟨.hbm, 127, rfl⟩
abbrev main_v93 : Ref sig .tc := ⟨.hbm, 128, rfl⟩
abbrev main_v94 : Ref sig .tc := ⟨.hbm, 129, rfl⟩
abbrev main_c_22 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_c_23 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_24 : Ref sig .tc := ⟨.hbm, 155, rfl⟩
abbrev main_call3_v0 : Ref sig .tc := ⟨.hbm, 156, rfl⟩
abbrev main_v118_1 : Ref sig .tc := ⟨.hbm, 157, rfl⟩
abbrev main_call3_v2 : Ref sig .tc := ⟨.hbm, 158, rfl⟩
abbrev main_v118_0 : Ref sig .tc := ⟨.hbm, 159, rfl⟩
abbrev main_call3_cst : Ref sig .tc := ⟨.hbm, 160, rfl⟩
abbrev main_v118_2 : Ref sig .tc := ⟨.hbm, 161, rfl⟩
abbrev main_cst_25 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_cst_26 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_27 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_cst_28 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_29 : Ref sig .tc := ⟨.hbm, 200, rfl⟩
abbrev main_v153 : Ref sig .tc := ⟨.hbm, 201, rfl⟩
abbrev main_v154 : Ref sig .tc := ⟨.hbm, 202, rfl⟩
abbrev main_cst_30 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_31 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_cst_32 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_cst_33 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_cst_34 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_call4_cst : Ref sig .tc := ⟨.hbm, 248, rfl⟩
abbrev main_call4_v0 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_cst_35 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_call5_cst : Ref sig .tc := ⟨.hbm, 263, rfl⟩
abbrev main_call5_v0 : Ref sig .tc := ⟨.hbm, 264, rfl⟩
abbrev main_v207 : Ref sig .tc := ⟨.hbm, 265, rfl⟩
abbrev main_v208 : Ref sig .tc := ⟨.hbm, 266, rfl⟩
abbrev main_v209 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_36 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_call6_cst : Ref sig .tc := ⟨.hbm, 276, rfl⟩
abbrev main_call6_v0 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_call7_cst : Ref sig .tc := ⟨.hbm, 282, rfl⟩
abbrev main_call7_v0 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_cst_37 : Ref sig .tc := ⟨.hbm, 289, rfl⟩
abbrev main_v226 : Ref sig .tc := ⟨.hbm, 290, rfl⟩
abbrev main_v227 : Ref sig .tc := ⟨.hbm, 291, rfl⟩
abbrev main_v228 : Ref sig .tc := ⟨.hbm, 292, rfl⟩
abbrev main_v229 : Ref sig .tc := ⟨.hbm, 293, rfl⟩
abbrev main_cst_38 : Ref sig .tc := ⟨.hbm, 294, rfl⟩
abbrev main_v230 : Ref sig .tc := ⟨.hbm, 295, rfl⟩
abbrev main_v231 : Ref sig .tc := ⟨.hbm, 296, rfl⟩
abbrev main_v232 : Ref sig .tc := ⟨.hbm, 297, rfl⟩
abbrev main_v233 : Ref sig .tc := ⟨.hbm, 298, rfl⟩
abbrev main_cst_39 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_cst_40 : Ref sig .tc := ⟨.hbm, 303, rfl⟩
abbrev main_v237 : Ref sig .tc := ⟨.hbm, 304, rfl⟩
abbrev main_v238 : Ref sig .tc := ⟨.hbm, 305, rfl⟩
abbrev main_cst_41 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_42 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_cst_43 : Ref sig .tc := ⟨.hbm, 320, rfl⟩
abbrev main_v251 : Ref sig .tc := ⟨.hbm, 321, rfl⟩
abbrev main_v252 : Ref sig .tc := ⟨.hbm, 322, rfl⟩
abbrev main_v253 : Ref sig .tc := ⟨.hbm, 323, rfl⟩
abbrev main_v254 : Ref sig .tc := ⟨.hbm, 324, rfl⟩
abbrev main_cst_44 : Ref sig .tc := ⟨.hbm, 325, rfl⟩
abbrev main_v255 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_cst_45 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_cst_46 : Ref sig .tc := ⟨.hbm, 334, rfl⟩
abbrev main_v262 : Ref sig .tc := ⟨.hbm, 335, rfl⟩
abbrev main_v263 : Ref sig .tc := ⟨.hbm, 336, rfl⟩
abbrev main_cst_47 : Ref sig .tc := ⟨.hbm, 337, rfl⟩
abbrev main_v264 : Ref sig .tc := ⟨.hbm, 338, rfl⟩
abbrev main_v265 : Ref sig .tc := ⟨.hbm, 339, rfl⟩
abbrev main_v266 : Ref sig .tc := ⟨.hbm, 340, rfl⟩
abbrev main_v267 : Ref sig .tc := ⟨.hbm, 341, rfl⟩
abbrev main_v268 : Ref sig .tc := ⟨.hbm, 342, rfl⟩
abbrev main_v269 : Ref sig .tc := ⟨.hbm, 343, rfl⟩
abbrev main_v270 : Ref sig .tc := ⟨.hbm, 344, rfl⟩
abbrev main_v271 : Ref sig .tc := ⟨.hbm, 345, rfl⟩
abbrev main_v272 : Ref sig .tc := ⟨.hbm, 346, rfl⟩

abbrev nD : Nat := 1
abbrev τ : Topo := Topo.v7x

variable {F : FTy → Type} [FloatOps F]
-- ==== Kernel2.lean ====
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x2048x704, .f32⟩
  | .hbm, ⟨1, _⟩ => ⟨S2048x1024, .f32⟩
  | .hbm, ⟨2, _⟩ => ⟨S4x704x1024, .bf16⟩
  | .local _ .vmem, ⟨0, _⟩ => ⟨S1x2048x704, .f32⟩
  | .local _ .vmem, ⟨1, _⟩ => ⟨S1x2048x704, .f32⟩
  | .local _ .vmem, ⟨2, _⟩ => ⟨S2048x1024, .f32⟩
  | .local _ .vmem, ⟨3, _⟩ => ⟨S1x704x1024, .bf16⟩
  | .local _ .vmem, ⟨4, _⟩ => ⟨S1x704x1024, .bf16⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x704 : Shape := ⟨3, ![4, 2048, 704]⟩
abbrev S2048x1024 : Shape := ⟨2, ![2048, 1024]⟩
abbrev S_ : Shape := ⟨0, ![]⟩
abbrev S1024x2816 : Shape := ⟨2, ![1024, 2816]⟩
abbrev S2048x2816 : Shape := ⟨2, ![2048, 2816]⟩
abbrev S2048x4x704 : Shape := ⟨3, ![2048, 4, 704]⟩
abbrev S2816x1024 : Shape := ⟨2, ![2816, 1024]⟩
abbrev S4x704x1024 : Shape := ⟨3, ![4, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S2048x1024, .f32⟩
  | .hbm, ⟨2, _⟩ => ⟨S_, .f32⟩
  | .hbm, ⟨3, _⟩ => ⟨S1024x2816, .f32⟩
  | .hbm, ⟨4, _⟩ => ⟨S2048x2816, .f32⟩
  | .hbm, ⟨5, _⟩ => ⟨S2048x4x704, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S4x704x1024, .f32⟩
  | .hbm, ⟨11, _⟩ => ⟨S4x704x1024, .bf16⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4x2048x704 : Shape := ⟨3, ![4, 2048, 704]⟩
abbrev S2048x1024 : Shape := ⟨2, ![2048, 1024]⟩
abbrev S4x704x1024 : Shape := ⟨3, ![4, 704, 1024]⟩
abbrev S1x2048x704 : Shape := ⟨3, ![1, 2048, 704]⟩
abbrev S1x704x1024 : Shape := ⟨3, ![1, 704, 1024]⟩
abbrev S2048x704 : Shape := ⟨2, ![2048, 704]⟩
abbrev S704x1024 : Shape := ⟨2, ![704, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S2048x1024, .f32⟩
  | .hbm, ⟨3, _⟩ => ⟨S4x704x1024, .bf16⟩
  | .local _ .vmem, ⟨0, _⟩ => ⟨S1x2048x704, .f32⟩
  | .local _ .vmem, ⟨1, _⟩ => ⟨S1x2048x704, .f32⟩
  | .local _ .vmem, ⟨2, _⟩ => ⟨S1x2048x704, .f32⟩
  | .local _ .vmem, ⟨3, _⟩ => ⟨S1x2048x704, .f32⟩
  | .local _ .vmem, ⟨4, _⟩ => ⟨S2048x1024, .f32⟩
  | .local _ .vmem, ⟨5, _⟩ => ⟨S1x704x1024, .bf16⟩
  | .local _ .vmem, ⟨6, _⟩ => ⟨S1x704x1024, .bf16⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x704 : Shape := ⟨3, ![4, 2048, 704]⟩
abbrev S2048x1024 : Shape := ⟨2, ![2048, 1024]⟩
abbrev S_ : Shape := ⟨0, ![]⟩
abbrev S2816x1024 : Shape := ⟨2, ![2816, 1024]⟩
abbrev S2048x4x704 : Shape := ⟨3, ![2048, 4, 704]⟩
abbrev S2048x2816 : Shape := ⟨2, ![2048, 2816]⟩
abbrev S1024x2816 : Shape := ⟨2, ![1024, 2816]⟩
abbrev S4x704x1024 : Shape := ⟨3, ![4, 704, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S2048x1024, .f32⟩
  | .hbm, ⟨3, _⟩ => ⟨S_, .f32⟩
  | .hbm, ⟨4, _⟩ => ⟨S2816x1024, .f32⟩
  | .hbm, ⟨5, _⟩ => ⟨S2048x4x704, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x4x704, .f32⟩
  | .hbm, ⟨17, _⟩ => ⟨S2048x2816, .f32⟩
  | .hbm, ⟨18, _⟩ => ⟨S2048x2816, .f32⟩
  | .hbm, ⟨19, _⟩ => ⟨S2048x1024, .f32⟩
  | .hbm, ⟨20, _⟩ => ⟨S1024x2816, .f32⟩
  | .hbm, ⟨21, _⟩ => ⟨S2816x1024, .f32⟩
  | .hbm, ⟨22, _⟩ => ⟨S4x704x1024, .f32⟩
  | .hbm, ⟨23, _⟩ => ⟨S4x704x1024, .bf16⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Kernel4.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x704x1024, .bf16⟩
  | .hbm, ⟨3, _⟩ => ⟨S4x704x1024, .bf16⟩
  | .hbm, ⟨4, _⟩ => ⟨S2048x1024, .f32⟩
  | .local _ .vmem, ⟨0, _⟩ => ⟨S1x1024x704, .f32⟩
  | .local _ .vmem, ⟨1, _⟩ => ⟨S1x1024x704, .f32⟩
  | .local _ .vmem, ⟨2, _⟩ => ⟨S1x1024x704, .f32⟩
  | .local _ .vmem, ⟨3, _⟩ => ⟨S1x1024x704, .f32⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1024x1024, .f32⟩
  | .local _ .vmem, ⟨9, _⟩ => ⟨S1024x1024, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_12 : BitVec 32 := 0#32
  let v15 : BitVec 1 := Scalar.cmpi .ne v14 c0_i32_12
  v15

def k0_cond2 (i : grid0.Coords) : BitVec 1 :=
  let arg1 : BitVec 32 := BitVec.ofNat 32 (i 1).val
  let c0_i32_13 : BitVec 32 := 0#32
  let v16 : BitVec 1 := Scalar.cmpi .sgt arg1 c0_i32_13
  let v17 : BitVec 32 := Scalar.extui v16
  let c0_i32_14 : BitVec 32 := 0#32
  let v18 : BitVec 1 := Scalar.cmpi .ne v17 c0_i32_14
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference4Ideal.lean ====
abbrev S4x2048x704 : Shape := ⟨3, ![4, 2048, 704]⟩
abbrev S4x704x1024 : Shape := ⟨3, ![4, 704, 1024]⟩
abbrev S2816x1024 : Shape := ⟨2, ![2816, 1024]⟩
abbrev S1024x2816 : Shape := ⟨2, ![1024, 2816]⟩
abbrev S_ : Shape := ⟨0, ![]⟩
abbrev S2048x1024 : Shape := ⟨2, ![2048, 1024]⟩
abbrev S2048x2816 : Shape := ⟨2, ![2048, 2816]⟩
abbrev S2048x4x704 : Shape := ⟨3, ![2048, 4, 704]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x704x1024, .bf16⟩
  | .hbm, ⟨3, _⟩ => ⟨S4x704x1024, .bf16⟩
  | .hbm, ⟨4, _⟩ => ⟨S4x704x1024, .f32⟩
  | .hbm, ⟨5, _⟩ => ⟨S2816x1024, .f32⟩
  | .hbm, ⟨6, _⟩ => ⟨S1024x2816, .f32⟩
  | .hbm, ⟨7, _⟩ => ⟨S4x704x1024, .f32⟩
  | .hbm, ⟨8, _⟩ => ⟨S2816x1024, .f32⟩
  | .hbm, ⟨9, _⟩ => ⟨S1024x2816, .f32⟩
  | .hbm, ⟨10, _⟩ => ⟨S_, .f32⟩
  | .hbm, ⟨11, _⟩ => ⟨S2048x1024, .f32⟩
  | .hbm, ⟨12, _⟩ => ⟨S2048x2816, .f32⟩
  | .hbm, ⟨13, _⟩ => ⟨S2048x2816, .f32⟩
  | .hbm, ⟨14, _⟩ => ⟨S2048x4x704, .f32⟩
  | .hbm, ⟨15, _⟩ => ⟨S2048x2816, .f32⟩
  | .hbm, ⟨16, _⟩ => ⟨S2048x4x704, .f32⟩
  | .hbm, ⟨17, _⟩ => ⟨S2048x2816, .f32⟩
  | .hbm, ⟨18, _⟩ => ⟨S2048x1024, .f32⟩
  | .hbm, ⟨19, _⟩ => ⟨S2048x1024, .f32⟩
  | .hbm, ⟨20, _⟩ => ⟨S2048x1024, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S2048x1024 : Shape := ⟨2, ![2048, 1024]⟩
abbrev S4x2048x704 : Shape := ⟨3, ![4, 2048, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .f32⟩
  | .hbm, ⟨2, _⟩ => ⟨S4x2048x704, .f32⟩
  | .hbm, ⟨3, _⟩ => ⟨S4x704x1024, .bf16⟩
  | .hbm, ⟨4, _⟩ => ⟨S4x2048x704, .f32⟩
  | .hbm, ⟨5, _⟩ => ⟨S4x2048x704, .f32⟩
  | .local _ .vmem, ⟨0, _⟩ => ⟨S1024x1024, .f32⟩
  | .local _ .vmem, ⟨1, _⟩ => ⟨S1024x1024, .f32⟩
  | .local _ .vmem, ⟨2, _⟩ => ⟨S1x1024x704, .f32⟩
  | .local _ .vmem, ⟨3, _⟩ => ⟨S1x1024x704, .f32⟩
  | .local _ .vmem, ⟨4, _⟩ => ⟨S1x1024x704, .f32⟩
  | .local _ .vmem, ⟨5, _⟩ => ⟨S1x1024x704, .f32⟩
  | .local _ .vmem, ⟨6, _⟩ => ⟨S1x704x1024, .bf16⟩
  | .local _ .vmem, ⟨7, _⟩ => ⟨S1x704x1024, .bf16⟩
  | .local _ .vmem, ⟨8, _⟩ => ⟨S1x1024x704, .f32⟩
  | .local _ .vmem, ⟨9, _⟩ => ⟨S1x1024x704, .f32⟩
  | .local _ .vmem, ⟨10, _⟩ => ⟨S1x1024x704, .f32⟩
  | .local _ .vmem, ⟨11, _⟩ => ⟨S1x1024x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S2048x1024 : Shape := ⟨2, ![2048, 1024]⟩
abbrev S4x2048x704 : Shape := ⟨3, ![4, 2048, 704]⟩
abbrev S4x704x1024 : Shape := ⟨3, ![4, 704, 1024]⟩
abbrev S2816x1024 : Shape := ⟨2, ![2816, 1024]⟩
abbrev S2048x4x704 : Shape := ⟨3, ![2048, 4, 704]⟩
abbrev S2048x2816 : Shape := ⟨2, ![2048, 2816]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2048x704, .f32⟩
  | .hbm, ⟨2, _⟩ => ⟨S4x2048x704, .f32⟩
  | .hbm, ⟨3, _⟩ => ⟨S4x704x1024, .bf16⟩
  | .hbm, ⟨4, _⟩ => ⟨S4x704x1024, .f32⟩
  | .hbm, ⟨5, _⟩ => ⟨S2816x1024, .f32⟩
  | .hbm, ⟨6, _⟩ => ⟨S2048x4x704, .f32⟩
  | .hbm, ⟨7, _⟩ => ⟨S2048x2816, .f32⟩
  | .hbm, ⟨8, _⟩ => ⟨S2048x4x704, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S_, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x1024, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x4x704, .f32⟩
  | .hbm, ⟨33, _⟩ => ⟨S4x2048x704, .f32⟩
  | .hbm, ⟨34, _⟩ => ⟨S2048x4x704, .f32⟩
  | .hbm, ⟨35, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== Kernel6.lean ====
abbrev S2048x1024 : Shape := ⟨2, ![2048, 1024]⟩
abbrev S4x704x1024 : Shape := ⟨3, ![4, 704, 1024]⟩
abbrev S4x2048x704 : Shape := ⟨3, ![4, 2048, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x2048x704, .f32⟩
  | .local _ .vmem, ⟨0, _⟩ => ⟨S1024x1024, .f32⟩
  | .local _ .vmem, ⟨1, _⟩ => ⟨S1024x1024, .f32⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .f32⟩
  | .local _ .vmem, ⟨5, _⟩ => ⟨S1x1024x704, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x1024 : Shape := ⟨2, ![2048, 1024]⟩
abbrev S4x704x1024 : Shape := ⟨3, ![4, 704, 1024]⟩
abbrev S2816x1024 : Shape := ⟨2, ![2816, 1024]⟩
abbrev S1024x2816 : Shape := ⟨2, ![1024, 2816]⟩
abbrev S2048x2816 : Shape := ⟨2, ![2048, 2816]⟩
abbrev S2048x4x704 : Shape := ⟨3, ![2048, 4, 704]⟩
abbrev S4x2048x704 : Shape := ⟨3, ![4, 2048, 704]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x704x1024, .bf16⟩
  | .hbm, ⟨2, _⟩ => ⟨S4x704x1024, .f32⟩
  | .hbm, ⟨3, _⟩ => ⟨S2816x1024, .f32⟩
  | .hbm, ⟨4, _⟩ => ⟨S1024x2816, .f32⟩
  | .hbm, ⟨5, _⟩ => ⟨S2048x2816, .f32⟩
  | .hbm, ⟨6, _⟩ => ⟨S2048x4x704, .f32⟩
  | .hbm, ⟨7, _⟩ => ⟨S4x2048x704, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4x2048x704 : Shape := ⟨3, ![4, 2048, 704]⟩
abbrev S4x704x1024 : Shape := ⟨3, ![4, 704, 1024]⟩
abbrev S2048x1024 : Shape := ⟨2, ![2048, 1024]⟩
abbrev S1x1024x704 : Shape := ⟨3, ![1, 1024, 704]⟩
abbrev S1x704x1024 : Shape := ⟨3, ![1, 704, 1024]⟩
abbrev S1024x1024 : Shape := ⟨2, ![1024, 1024]⟩
abbrev S1024x704 : Shape := ⟨2, ![1024, 704]⟩
abbrev S704x1024 : Shape := ⟨2, ![704, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x704x1024, .bf16⟩
  | .hbm, ⟨3, _⟩ => ⟨S2048x1024, .f32⟩
  | .local _ .vmem, ⟨0, _⟩ => ⟨S1x1024x704, .f32⟩
  | .local _ .vmem, ⟨1, _⟩ => ⟨S1x1024x704, .f32⟩
  | .local _ .vmem, ⟨2, _⟩ => ⟨S1x1024x704, .f32⟩
  | .local _ .vmem, ⟨3, _⟩ => ⟨S1x1024x704, .f32⟩
  | .local _ .vmem, ⟨4, _⟩ => ⟨S1x704x1024, .bf16⟩
  | .local _ .vmem, ⟨5, _⟩ => ⟨S1x704x1024, .bf16⟩
  | .local _ .vmem, ⟨6, _⟩ => ⟨S1024x1024, .f32⟩
  | .local _ .vmem, ⟨7, _⟩ => ⟨S1024x1024, .f32⟩
  | _, _ => ⟨S4x2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v17 : BitVec 1 := Scalar.cmpi .eq arg1 c0_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg1 : BitVec 32 := BitVec.ofNat 32 (i 1).val
  let c0_i32_12 : BitVec 32 := 0#32
  let v20 : BitVec 1 := Scalar.cmpi .sgt arg1 c0_i32_12
  let v21 : BitVec 32 := Scalar.extui v20
  let c0_i32_13 : BitVec 32 := 0#32
  let v22 : BitVec 1 := Scalar.cmpi .ne v21 c0_i32_13
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference7Ideal.lean ====
abbrev S4x2048x704 : Shape := ⟨3, ![4, 2048, 704]⟩
abbrev S4x704x1024 : Shape := ⟨3, ![4, 704, 1024]⟩
abbrev S2048x4x704 : Shape := ⟨3, ![2048, 4, 704]⟩
abbrev S2048x2816 : Shape := ⟨2, ![2048, 2816]⟩
abbrev S_ : Shape := ⟨0, ![]⟩
abbrev S2816x1024 : Shape := ⟨2, ![2816, 1024]⟩
abbrev S2048x1024 : Shape := ⟨2, ![2048, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x704, .f32⟩
  | .hbm, ⟨1, _⟩ => ⟨S4x2048x704, .f32⟩
  | .hbm, ⟨2, _⟩ => ⟨S4x704x1024, .bf16⟩
  | .hbm, ⟨3, _⟩ => ⟨S2048x4x704, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x4x704, .f32⟩
  | .hbm, ⟨15, _⟩ => ⟨S2048x2816, .f32⟩
  | .hbm, ⟨16, _⟩ => ⟨S2048x2816, .f32⟩
  | .hbm, ⟨17, _⟩ => ⟨S4x704x1024, .f32⟩
  | .hbm, ⟨18, _⟩ => ⟨S2816x1024, .f32⟩
  | .hbm, ⟨19, _⟩ => ⟨S2048x1024, .f32⟩
  | _, _ => ⟨S4x2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== Kernel8.lean ====
abbrev S2048x1024 : Shape := ⟨2, ![2048, 1024]⟩
abbrev S1024x1024 : Shape := ⟨2, ![1024, 1024]⟩
abbrev S1024x2304 : Shape := ⟨2, ![1024, 2304]⟩
abbrev S2048x2304 : Shape := ⟨2, ![2048, 2304]⟩
abbrev S256x1024 : Shape := ⟨2, ![256, 1024]⟩
abbrev S256x2304 : Shape := ⟨2, ![256, 2304]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .bf16⟩
  | .hbm, ⟨3, _⟩ => ⟨S1024x2304, .bf16⟩
  | .hbm, ⟨4, _⟩ => ⟨S2048x1024, .f32⟩
  | .hbm, ⟨5, _⟩ => ⟨S2048x1024, .f32⟩
  | .hbm, ⟨6, _⟩ => ⟨S2048x2304, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x2304, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x2304, .f32⟩
  | .local _ .vmem, ⟨10, _⟩ => ⟨S256x2304, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S2048x1024 : Shape := ⟨2, ![2048, 1024]⟩
abbrev S1024x1024 : Shape := ⟨2, ![1024, 1024]⟩
abbrev S1024x2304 : Shape := ⟨2, ![1024, 2304]⟩
abbrev S2048x2304 : Shape := ⟨2, ![2048, 2304]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .bf16⟩
  | .hbm, ⟨3, _⟩ => ⟨S1024x2304, .bf16⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S1024x2304, .f32⟩
  | .hbm, ⟨9, _⟩ => ⟨S2048x2304, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S1024x128 : Shape := ⟨2, ![1024, 128]⟩
abbrev S2048x128 : Shape := ⟨2, ![2048, 128]⟩
abbrev S256x1024 : Shape := ⟨2, ![256, 1024]⟩
abbrev S256x128 : Shape := ⟨2, ![256, 128]⟩

abbrev nBuf : Space → Nat
  | .hbm => 11
  | .vmem => 17
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x128, .bf16⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x128, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x128, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference9Ideal.lean ====
abbrev S2048x1024 : Shape := ⟨2, ![2048, 1024]⟩
abbrev S1024x1024 : Shape := ⟨2, ![1024, 1024]⟩
abbrev S1024x128 : Shape := ⟨2, ![1024, 128]⟩
abbrev S2048x128 : Shape := ⟨2, ![2048, 128]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x128, .bf16⟩
  | .hbm, ⟨6, _⟩ => ⟨S1024x1024, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S2048x1024, .f32⟩
  | .hbm, ⟨12, _⟩ => ⟨S1024x1024, .f32⟩
  | .hbm, ⟨13, _⟩ => ⟨S2048x1024, .f32⟩
  | .hbm, ⟨14, _⟩ => ⟨S1024x128, .f32⟩
  | .hbm, ⟨15, _⟩ => ⟨S2048x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel10.lean ====
abbrev S2048x1024 : Shape := ⟨2, ![2048, 1024]⟩
abbrev S1024x3072 : Shape := ⟨2, ![1024, 3072]⟩
abbrev S2048x3072 : Shape := ⟨2, ![2048, 3072]⟩
abbrev S256x1024 : Shape := ⟨2, ![256, 1024]⟩
abbrev S256x3072 : Shape := ⟨2, ![256, 3072]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S2048x3072, .f32⟩
  | .local _ .vmem, ⟨0, _⟩ => ⟨S256x1024, .f32⟩
  | .local _ .vmem, ⟨1, _⟩ => ⟨S256x1024, .f32⟩
  | .local _ .vmem, ⟨2, _⟩ => ⟨S1024x3072, .bf16⟩
  | .local _ .vmem, ⟨3, _⟩ => ⟨S256x3072, .f32⟩
  | .local _ .vmem, ⟨4, _⟩ => ⟨S256x3072, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S2048x1024 : Shape := ⟨2, ![2048, 1024]⟩
abbrev S1024x3072 : Shape := ⟨2, ![1024, 3072]⟩
abbrev S2048x3072 : Shape := ⟨2, ![2048, 3072]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3072, .bf16⟩
  | .hbm, ⟨2, _⟩ => ⟨S1024x3072, .f32⟩
  | .hbm, ⟨3, _⟩ => ⟨S2048x3072, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel11.lean ====
abbrev S2048x1024 : Shape := ⟨2, ![2048, 1024]⟩
abbrev S2048x2304 : Shape := ⟨2, ![2048, 2304]⟩
abbrev S1024x1024 : Shape := ⟨2, ![1024, 1024]⟩
abbrev S1024x2304 : Shape := ⟨2, ![1024, 2304]⟩
abbrev S256x1024 : Shape := ⟨2, ![256, 1024]⟩
abbrev S256x2304 : Shape := ⟨2, ![256, 2304]⟩

abbrev nBuf : Space → Nat
  | .hbm => 7
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2304, .f32⟩
  | .hbm, ⟨3, _⟩ => ⟨S1024x1024, .bf16⟩
  | .hbm, ⟨4, _⟩ => ⟨S1024x1024, .bf16⟩
  | .hbm, ⟨5, _⟩ => ⟨S1024x2304, .bf16⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2304, .f32⟩
  | .local _ .vmem, ⟨5, _⟩ => ⟨S256x2304, .f32⟩
  | .local _ .vmem, ⟨6, _⟩ => ⟨S1024x1024, .bf16⟩
  | .local _ .vmem, ⟨7, _⟩ => ⟨S1024x1024, .bf16⟩
  | .local _ .vmem, ⟨8, _⟩ => ⟨S1024x2304, .bf16⟩
  | .local _ .vmem, ⟨9, _⟩ => ⟨S256x1024, .f32⟩
  | .local _ .vmem, ⟨10, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference11Ideal.lean ====
abbrev S2048x1024 : Shape := ⟨2, ![2048, 1024]⟩
abbrev S2048x2304 : Shape := ⟨2, ![2048, 2304]⟩
abbrev S1024x1024 : Shape := ⟨2, ![1024, 1024]⟩
abbrev S1024x2304 : Shape := ⟨2, ![1024, 2304]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x2304, .f32⟩
  | .hbm, ⟨3, _⟩ => ⟨S1024x1024, .bf16⟩
  | .hbm, ⟨4, _⟩ => ⟨S1024x1024, .bf16⟩
  | .hbm, ⟨5, _⟩ => ⟨S1024x2304, .bf16⟩
  | .hbm, ⟨6, _⟩ => ⟨S_, .f32⟩
  | .hbm, ⟨7, _⟩ => ⟨S2048x1024, .f32⟩
  | .hbm, ⟨8, _⟩ => ⟨S1024x1024, .f32⟩
  | .hbm, ⟨9, _⟩ => ⟨S2048x1024, .f32⟩
  | .hbm, ⟨10, _⟩ => ⟨S1024x1024, .f32⟩
  | .hbm, ⟨11, _⟩ => ⟨S2048x1024, .f32⟩
  | .hbm, ⟨12, _⟩ => ⟨S1024x2304, .f32⟩
  | .hbm, ⟨13, _⟩ => ⟨S2048x2304, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]
-- ==== Kernel12.lean ====
abbrev S2048x1024 : Shape := ⟨2, ![2048, 1024]⟩
abbrev S2048x128 : Shape := ⟨2, ![2048, 128]⟩
abbrev S1024x1024 : Shape := ⟨2, ![1024, 1024]⟩
abbrev S1024x128 : Shape := ⟨2, ![1024, 128]⟩
abbrev S256x1024 : Shape := ⟨2, ![256, 1024]⟩
abbrev S256x128 : Shape := ⟨2, ![256, 128]⟩

abbrev nBuf : Space → Nat
  | .hbm => 12
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x128, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x128, .bf16⟩
  | .hbm, ⟨10, _⟩ => ⟨S2048x1024, .f32⟩
  | .hbm, ⟨11, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x128, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference12Ideal.lean ====
abbrev S2048x1024 : Shape := ⟨2, ![2048, 1024]⟩
abbrev S2048x128 : Shape := ⟨2, ![2048, 128]⟩
abbrev S1024x1024 : Shape := ⟨2, ![1024, 1024]⟩
abbrev S1024x128 : Shape := ⟨2, ![1024, 128]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x128, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x128, .bf16⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S1024x1024, .f32⟩
  | .hbm, ⟨16, _⟩ => ⟨S2048x1024, .f32⟩
  | .hbm, ⟨17, _⟩ => ⟨S1024x1024, .f32⟩
  | .hbm, ⟨18, _⟩ => ⟨S2048x1024, .f32⟩
  | .hbm, ⟨19, _⟩ => ⟨S1024x1024, .f32⟩
  | .hbm, ⟨20, _⟩ => ⟨S2048x1024, .f32⟩
  | .hbm, ⟨21, _⟩ => ⟨S1024x128, .f32⟩
  | .hbm, ⟨22, _⟩ => ⟨S2048x128, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel13.lean ====
abbrev S2048x3072 : Shape := ⟨2, ![2048, 3072]⟩
abbrev S1024x3072 : Shape := ⟨2, ![1024, 3072]⟩
abbrev S2048x1024 : Shape := ⟨2, ![2048, 1024]⟩
abbrev S256x3072 : Shape := ⟨2, ![256, 3072]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x3072, .f32⟩
  | .hbm, ⟨1, _⟩ => ⟨S1024x3072, .bf16⟩
  | .hbm, ⟨2, _⟩ => ⟨S2048x1024, .f32⟩
  | .hbm, ⟨3, _⟩ => ⟨S2048x1024, .f32⟩
  | .local _ .vmem, ⟨0, _⟩ => ⟨S256x3072, .f32⟩
  | .local _ .vmem, ⟨1, _⟩ => ⟨S256x3072, .f32⟩
  | .local _ .vmem, ⟨2, _⟩ => ⟨S1024x3072, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S2048x3072 : Shape := ⟨2, ![2048, 3072]⟩
abbrev S1024x3072 : Shape := ⟨2, ![1024, 3072]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S1024x3072, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x3072, .f32⟩
  | .hbm, ⟨6, _⟩ => ⟨S2048x3072, .f32⟩
  | .hbm, ⟨7, _⟩ => ⟨S2048x1024, .f32⟩
  | .hbm, ⟨8, _⟩ => ⟨S2048x1024, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel14.lean ====
abbrev S2048x1024 : Shape := ⟨2, ![2048, 1024]⟩
abbrev S2048x2304 : Shape := ⟨2, ![2048, 2304]⟩
abbrev S1024x1024 : Shape := ⟨2, ![1024, 1024]⟩
abbrev S1024x2304 : Shape := ⟨2, ![1024, 2304]⟩
abbrev S256x1024 : Shape := ⟨2, ![256, 1024]⟩
abbrev S256x2304 : Shape := ⟨2, ![256, 2304]⟩
abbrev S1024x256 : Shape := ⟨2, ![1024, 256]⟩
abbrev S256x256 : Shape := ⟨2, ![256, 256]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2304, .f32⟩
  | .hbm, ⟨4, _⟩ => ⟨S1024x1024, .bf16⟩
  | .hbm, ⟨5, _⟩ => ⟨S1024x1024, .bf16⟩
  | .hbm, ⟨6, _⟩ => ⟨S1024x2304, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2304, .f32⟩
  | .local _ .vmem, ⟨7, _⟩ => ⟨S256x2304, .f32⟩
  | .local _ .vmem, ⟨8, _⟩ => ⟨S1024x1024, .bf16⟩
  | .local _ .vmem, ⟨9, _⟩ => ⟨S1024x1024, .bf16⟩
  | .local _ .vmem, ⟨10, _⟩ => ⟨S1024x2304, .bf16⟩
  | .local _ .vmem, ⟨11, _⟩ => ⟨S1024x1024, .f32⟩
  | .local _ .vmem, ⟨12, _⟩ => ⟨S1024x1024, .f32⟩
  | .local _ .vmem, ⟨13, _⟩ => ⟨S1024x2304, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond11 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_27 : BitVec 32 := 0#32
  let v46 : BitVec 1 := Scalar.cmpi .ne v45 c0_i32_27
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2304 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S2048x1024 : Shape := ⟨2, ![2048, 1024]⟩
abbrev S2048x2304 : Shape := ⟨2, ![2048, 2304]⟩
abbrev S_ : Shape := ⟨0, ![]⟩
abbrev S1024x1024 : Shape := ⟨2, ![1024, 1024]⟩
abbrev S1024x2304 : Shape := ⟨2, ![1024, 2304]⟩
abbrev S2304x1024 : Shape := ⟨2, ![2304, 1024]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x2304, .f32⟩
  | .hbm, ⟨4, _⟩ => ⟨S_, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x2304, .f32⟩
  | .hbm, ⟨10, _⟩ => ⟨S2048x1024, .f32⟩
  | .hbm, ⟨11, _⟩ => ⟨S2048x1024, .f32⟩
  | .hbm, ⟨12, _⟩ => ⟨S2048x2304, .f32⟩
  | .hbm, ⟨13, _⟩ => ⟨S2304x1024, .f32⟩
  | .hbm, ⟨14, _⟩ => ⟨S1024x2304, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1024x1024, .bf16⟩
  | .hbm, ⟨21, _⟩ => ⟨S1024x2304, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel15.lean ====
abbrev S2048x1024 : Shape := ⟨2, ![2048, 1024]⟩
abbrev S2048x128 : Shape := ⟨2, ![2048, 128]⟩
abbrev S1024x1024 : Shape := ⟨2, ![1024, 1024]⟩
abbrev S1024x128 : Shape := ⟨2, ![1024, 128]⟩
abbrev S256x1024 : Shape := ⟨2, ![256, 1024]⟩
abbrev S256x128 : Shape := ⟨2, ![256, 128]⟩
abbrev S1024x256 : Shape := ⟨2, ![1024, 256]⟩

abbrev nBuf : Space → Nat
  | .hbm => 11
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x128, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1024x128, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x128, .f32⟩
  | .local _ .vmem, ⟨11, _⟩ => ⟨S256x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x128, .bf16⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def k0_cond11 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_29 : BitVec 32 := 0#32
  let v46 : BitVec 1 := Scalar.cmpi .ne v45 c0_i32_29
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference15Ideal.lean ====
abbrev S2048x1024 : Shape := ⟨2, ![2048, 1024]⟩
abbrev S2048x128 : Shape := ⟨2, ![2048, 128]⟩
abbrev S_ : Shape := ⟨0, ![]⟩
abbrev S1024x1024 : Shape := ⟨2, ![1024, 1024]⟩
abbrev S1024x128 : Shape := ⟨2, ![1024, 128]⟩
abbrev S128x1024 : Shape := ⟨2, ![128, 1024]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x128, .f32⟩
  | .hbm, ⟨6, _⟩ => ⟨S_, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S_, .f32⟩
  | .hbm, ⟨15, _⟩ => ⟨S1024x128, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x128, .f32⟩
  | .hbm, ⟨21, _⟩ => ⟨S128x1024, .f32⟩
  | .hbm, ⟨22, _⟩ => ⟨S1024x128, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S1024x1024, .f32⟩
  | .hbm, ⟨31, _⟩ => ⟨S1024x1024, .bf16⟩
  | .hbm, ⟨32, _⟩ => ⟨S1024x1024, .bf16⟩
  | .hbm, ⟨33, _⟩ => ⟨S1024x1024, .bf16⟩
  | .hbm, ⟨34, _⟩ => ⟨S1024x1024, .bf16⟩
  | .hbm, ⟨35, _⟩ => ⟨S1024x128, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel16.lean ====
abbrev S2048x1024 : Shape := ⟨2, ![2048, 1024]⟩
abbrev S2048x3072 : Shape := ⟨2, ![2048, 3072]⟩
abbrev S1024x3072 : Shape := ⟨2, ![1024, 3072]⟩
abbrev S256x1024 : Shape := ⟨2, ![256, 1024]⟩
abbrev S256x3072 : Shape := ⟨2, ![256, 3072]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S1024x3072, .bf16⟩
  | .local _ .vmem, ⟨0, _⟩ => ⟨S256x1024, .f32⟩
  | .local _ .vmem, ⟨1, _⟩ => ⟨S256x1024, .f32⟩
  | .local _ .vmem, ⟨2, _⟩ => ⟨S256x3072, .f32⟩
  | .local _ .vmem, ⟨3, _⟩ => ⟨S256x3072, .f32⟩
  | .local _ .vmem, ⟨4, _⟩ => ⟨S1024x3072, .bf16⟩
  | .local _ .vmem, ⟨5, _⟩ => ⟨S1024x3072, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond7 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_15 : BitVec 32 := 0#32
  let v30 : BitVec 1 := Scalar.cmpi .ne v29 c0_i32_15
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference16Ideal.lean ====
abbrev S2048x1024 : Shape := ⟨2, ![2048, 1024]⟩
abbrev S2048x3072 : Shape := ⟨2, ![2048, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3072, .f32⟩
  | .hbm, ⟨2, _⟩ => ⟨S_, .f32⟩
  | .hbm, ⟨3, _⟩ => ⟨S1024x3072, .f32⟩
  | .hbm, ⟨4, _⟩ => ⟨S2048x3072, .f32⟩
  | .hbm, ⟨5, _⟩ => ⟨S3072x1024, .f32⟩
  | .hbm, ⟨6, _⟩ => ⟨S1024x3072, .f32⟩
  | .hbm, ⟨7, _⟩ => ⟨S1024x3072, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Att.Spec.lean ====
module

public import Idealize.ShloMosaic.PureOps.Ideal

/-!
# The gradient of one cell of the dilated window attention, over the real numbers

A *cell* is one head of one block of 128 queries of one residue of the dilation: its queries `qf` and its keys `kc`
(normalised, with the gains; the queries with the factor `1/8`), the keys `kp` of the block before, the values, the
cotangents `dO` of the output rows and `dl` of the log-sum-exps. `has` says whether there is a block before.
Everything here is a definition over `ℝ`; the maximum of a row is taken in the extended reals, since a masked score is
`⊥` there.
-/

@[expose] public section

noncomputable section

namespace Cert.Att

open Idealize.ShloMosaic

/-! ## Sums and constants -/

/-- A finite sum of reals, summed in the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- Division by a nonzero real, of reals. -/
theorem div_real {y : ℝ} (h : y ≠ 0) (x : ℝ) : Ideal.div (x : EReal) (y : EReal) = ((x / y : ℝ) : EReal) := by
  rw [Ideal.div_coe h, ← EReal.coe_mul, mul_one_div]

/-- The normalisation's `ε`, the value of the constant `0x358637BD`. -/
def eps : ℝ := 8796093 / 8796093022208

/-- The slope of a head: `exp (-(2/3)·ln 2·(5 + h))`, with the constant's own value for `(2/3)·ln 2`. -/
def slope (h : Fin 4) : ℝ := Real.exp ((5 + (h.val : ℝ)) * (-(484545 / 1048576)))

/-! ## The normalisation and its gradient, one row of 64 -/

/-- The mean square of a row, plus `ε`. -/
def ms (x : Fin 64 → ℝ) : ℝ := (∑ e, x e * x e) / 64 + eps

/-- The constant under the root is positive. -/
theorem eps_pos : 0 < eps := by unfold eps; norm_num

/-- The mean square with that constant is positive. -/
theorem ms_pos (x : Fin 64 → ℝ) : 0 < ms x :=
  add_pos_of_nonneg_of_pos (div_nonneg (Finset.sum_nonneg fun e _ => mul_self_nonneg _) (by norm_num)) eps_pos

/-- The reciprocal root of the mean square. -/
def rr (x : Fin 64 → ℝ) : ℝ := (Real.sqrt (ms x))⁻¹

/-- The normalised row. -/
def nrm (x : Fin 64 → ℝ) (e : Fin 64) : ℝ := x e * rr x

/-- The derivative of `rr` by the mean square: `-rr/(2·ms)`. -/
def rd (x : Fin 64 → ℝ) : ℝ := -(1 / 2) * (rr x / ms x)

/-- The coefficient of the row in the gradient of the normalisation, for the cotangent `d` of the normalised row. -/
def nc (x d : Fin 64 → ℝ) : ℝ := ((∑ e, x e * d e) * rd x) / 64

/-- The gradient of the normalisation, for the cotangent `d` of the normalised row. -/
def nb (x d : Fin 64 → ℝ) (e : Fin 64) : ℝ := d e * rr x + x e * nc x d + nc x d * x e

/-- The gradient of the normalisation is linear in the cotangent. -/
theorem nb_add (x d d' : Fin 64 → ℝ) (e : Fin 64) : nb x (fun e => d e + d' e) e = nb x d e + nb x d' e := by
  have h : nc x (fun e => d e + d' e) = nc x d + nc x d' := by
    unfold nc; simp only [mul_add, Finset.sum_add_distrib]; ring
  unfold nb; rw [h]; ring

/-- The gradient of the normalisation at cotangent zero. -/
theorem nb_zero (x d : Fin 64 → ℝ) (h : ∀ e, d e = 0) (e : Fin 64) : nb x d e = 0 := by
  unfold nb nc; simp [h]

/-! ## One cell -/

/-- The inputs of one cell. -/
structure Cell where
  has : Bool
  sg : ℝ
  qf : Fin 128 → Fin 64 → ℝ
  kp : Fin 128 → Fin 64 → ℝ
  kc : Fin 128 → Fin 64 → ℝ
  vp : Fin 128 → Fin 64 → ℝ
  vc : Fin 128 → Fin 64 → ℝ
  dO : Fin 128 → Fin 64 → ℝ
  dl : Fin 128 → ℝ

namespace Cell

variable (C : Cell)

/-- The biased score of query `i` with key `j` of the block before. -/
def sP (i j : Fin 128) : ℝ := (∑ e, C.qf i e * C.kp j e) - C.sg * (((i.val : ℝ) + 128 - j.val) * 4)
/-- The biased score of query `i` with key `j` of its own block. -/
def sC (i j : Fin 128) : ℝ := (∑ e, C.qf i e * C.kc j e) - C.sg * (((i.val : ℝ) - j.val) * 4)
/-- Query `i` sees key `j` of the block before. -/
def vP (i j : Fin 128) : Prop := C.has = true ∧ i.val ≤ j.val
/-- Query `i` sees key `j` of its own block. -/
def vC (i j : Fin 128) : Prop := j.val ≤ i.val
/-- Whether a row sees a key can be decided. -/
instance (i j : Fin 128) : Decidable (C.vP i j) := by unfold vP; infer_instance
/-- Whether a row sees a key can be decided. -/
instance (i j : Fin 128) : Decidable (vC i j) := by unfold vC; infer_instance
/-- The masked score with a key of the block before. -/
def mP (i j : Fin 128) : EReal := if C.vP i j then (C.sP i j : EReal) else ⊥
/-- The masked score with a key of the own block. -/
def mC (i j : Fin 128) : EReal := if vC i j then (C.sC i j : EReal) else ⊥
/-- The row's maximum, in the extended reals. -/
def mx (i : Fin 128) : EReal := max (Finset.univ.sup fun j => C.mP i j) (Finset.univ.sup fun j => C.mC i j)
/-- The row's maximum. -/
def m (i : Fin 128) : ℝ := (C.mx i).toReal
/-- The exponentials, block before. -/
def pP (i j : Fin 128) : ℝ := if C.vP i j then Real.exp (C.sP i j - C.m i) else 0
/-- The exponentials, own block. -/
def pC (i j : Fin 128) : ℝ := if vC i j then Real.exp (C.sC i j - C.m i) else 0
/-- The normaliser. -/
def den (i : Fin 128) : ℝ := (∑ j, C.pP i j) + ∑ j, C.pC i j
/-- The weights, block before. -/
def wP (i j : Fin 128) : ℝ := C.pP i j / C.den i
/-- The weights, own block. -/
def wC (i j : Fin 128) : ℝ := C.pC i j / C.den i
/-- The cotangents of the weights, block before. -/
def dwP (i j : Fin 128) : ℝ := ∑ e, C.dO i e * C.vp j e
/-- The cotangents of the weights, own block. -/
def dwC (i j : Fin 128) : ℝ := ∑ e, C.dO i e * C.vc j e
/-- The reciprocal square of the normaliser. -/
def iv (i : Fin 128) : ℝ := 1 / (C.den i * C.den i)
/-- The cotangent of the normaliser. -/
def dden (i : Fin 128) : ℝ :=
  C.dl i / C.den i - (∑ j, C.dwP i j * C.iv i * C.pP i j) - ∑ j, C.dwC i j * C.iv i * C.pC i j
/-- The cotangents of the scores, block before. -/
def dsP (i j : Fin 128) : ℝ := (C.dwP i j / C.den i + C.dden i) * C.pP i j
/-- The cotangents of the scores, own block. -/
def dsC (i j : Fin 128) : ℝ := (C.dwC i j / C.den i + C.dden i) * C.pC i j
/-- The gradient of the values of the block before. -/
def dvP (j : Fin 128) (e : Fin 64) : ℝ := ∑ i, C.wP i j * C.dO i e
/-- The gradient of the values of the own block. -/
def dvC (j : Fin 128) (e : Fin 64) : ℝ := ∑ i, C.wC i j * C.dO i e
/-- The gradient of the queries. -/
def dq (i : Fin 128) (e : Fin 64) : ℝ := (∑ j, C.dsP i j * C.kp j e) + ∑ j, C.dsC i j * C.kc j e
/-- The gradient of the keys of the block before. -/
def dkP (j : Fin 128) (e : Fin 64) : ℝ := ∑ i, C.dsP i j * C.qf i e
/-- The gradient of the keys of the own block. -/
def dkC (j : Fin 128) (e : Fin 64) : ℝ := ∑ i, C.dsC i j * C.qf i e

/-- A row sees itself. -/
theorem vC_self (i : Fin 128) : vC i i := le_rfl

/-- The row's maximum is a real number: the diagonal is never masked. -/
theorem mx_eq (i : Fin 128) : C.mx i = (C.m i : EReal) := by
  refine (EReal.coe_toReal ?_ ?_).symm
  · refine ne_of_lt (max_lt ?_ ?_) <;> rw [Finset.sup_lt_iff bot_lt_top] <;> intro j _
    · unfold mP; split <;> simp [EReal.coe_lt_top]
    · unfold mC; split <;> simp [EReal.coe_lt_top]
  · refine ne_of_gt (lt_of_lt_of_le (EReal.bot_lt_coe (C.sC i i)) (le_trans ?_ (le_max_right _ _)))
    refine le_trans (le_of_eq ?_) (Finset.le_sup (f := fun j => C.mC i j) (Finset.mem_univ i))
    exact (if_pos (vC_self i)).symm

/-- The exponentials are not negative. -/
theorem pP_nonneg (i j : Fin 128) : 0 ≤ C.pP i j := by unfold pP; split <;> positivity
/-- The exponentials are not negative. -/
theorem pC_nonneg (i j : Fin 128) : 0 ≤ C.pC i j := by unfold pC; split <;> positivity

/-- A row's denominator is positive. -/
theorem den_pos (i : Fin 128) : 0 < C.den i := by
  refine add_pos_of_nonneg_of_pos (Finset.sum_nonneg fun j _ => C.pP_nonneg i j) ?_
  refine Finset.sum_pos' (fun j _ => C.pC_nonneg i j) ⟨i, Finset.mem_univ i, ?_⟩
  unfold pC; rw [if_pos (vC_self i)]; positivity

/-- A row's denominator is not zero. -/
theorem den_ne (i : Fin 128) : C.den i ≠ 0 := (C.den_pos i).ne'

/-- The exponential of a masked score less the maximum, block before. -/
theorem exp_mP (i j : Fin 128) : Ideal.exp (C.mP i j - (C.m i : EReal)) = (C.pP i j : EReal) := by
  unfold mP pP; split
  · rw [← EReal.coe_sub, Ideal.exp_coe]
  · rw [EReal.bot_sub, Ideal.exp_bot, EReal.coe_zero]

/-- The exponential of a masked score less the maximum, own block. -/
theorem exp_mC (i j : Fin 128) : Ideal.exp (C.mC i j - (C.m i : EReal)) = (C.pC i j : EReal) := by
  unfold mC pC; split
  · rw [← EReal.coe_sub, Ideal.exp_coe]
  · rw [EReal.bot_sub, Ideal.exp_bot, EReal.coe_zero]

/-- The cotangents of a row's scores add up to the cotangent of the log-sum-exp. -/
theorem sum_ds (i : Fin 128) : (∑ j, C.dsP i j) + ∑ j, C.dsC i j = C.dl i := by
  have hd := C.den_ne i
  have hP : ∑ j, C.dsP i j = (∑ j, C.dwP i j * C.pP i j) / C.den i + C.dden i * ∑ j, C.pP i j := by
    rw [Finset.sum_div, Finset.mul_sum, ← Finset.sum_add_distrib]
    exact Finset.sum_congr rfl fun j _ => by unfold dsP; ring
  have hC : ∑ j, C.dsC i j = (∑ j, C.dwC i j * C.pC i j) / C.den i + C.dden i * ∑ j, C.pC i j := by
    rw [Finset.sum_div, Finset.mul_sum, ← Finset.sum_add_distrib]
    exact Finset.sum_congr rfl fun j _ => by unfold dsC; ring
  have hdd : C.dden i = C.dl i / C.den i - (∑ j, C.dwP i j * C.pP i j) * C.iv i - (∑ j, C.dwC i j * C.pC i j) * C.iv i := by
    unfold dden; rw [Finset.sum_mul, Finset.sum_mul]
    congr 1
    · congr 1; exact Finset.sum_congr rfl fun j _ => by ring
    · exact Finset.sum_congr rfl fun j _ => by ring
  have hden : C.den i = (∑ j, C.pP i j) + ∑ j, C.pC i j := rfl
  have hiv : C.iv i * C.den i = 1 / C.den i := by unfold iv; field_simp
  have : (∑ j, C.dsP i j) + ∑ j, C.dsC i j
      = (∑ j, C.dwP i j * C.pP i j) / C.den i + (∑ j, C.dwC i j * C.pC i j) / C.den i + C.dden i * C.den i := by
    rw [hP, hC, hden]; ring
  rw [this, hdd]
  have h1 : C.dl i / C.den i * C.den i = C.dl i := by field_simp
  calc _ = (∑ j, C.dwP i j * C.pP i j) / C.den i + (∑ j, C.dwC i j * C.pC i j) / C.den i
        + (C.dl i / C.den i * C.den i - (∑ j, C.dwP i j * C.pP i j) * (C.iv i * C.den i)
          - (∑ j, C.dwC i j * C.pC i j) * (C.iv i * C.den i)) := by ring
    _ = C.dl i := by rw [h1, hiv]; ring

/-! ### A first block: the block before does not matter -/

/-- The cell with other keys and values in the block before. -/
def withPrev (kp vp : Fin 128 → Fin 64 → ℝ) : Cell := { C with kp := kp, vp := vp }

section First
variable (h : C.has = false) (kp vp : Fin 128 → Fin 64 → ℝ)
include h

/-- The first block sees nothing before it. -/
theorem not_vP (i j : Fin 128) : ¬ C.vP i j := fun hv => by have := hv.1; rw [h] at this; cases this

/-- In the first block the keys and values before it do not matter. -/
theorem pP_first (i j : Fin 128) : C.pP i j = 0 := if_neg (C.not_vP h i j)
/-- In the first block the keys and values before it do not matter. -/
theorem dsP_first (i j : Fin 128) : C.dsP i j = 0 := by unfold dsP; rw [C.pP_first h, mul_zero]
/-- In the first block the keys and values before it do not matter. -/
theorem wP_first (i j : Fin 128) : C.wP i j = 0 := by unfold wP; rw [C.pP_first h, zero_div]
/-- In the first block the keys and values before it do not matter. -/
theorem dvP_first (j : Fin 128) (e : Fin 64) : C.dvP j e = 0 :=
  Finset.sum_eq_zero fun i _ => by rw [C.wP_first h, zero_mul]
/-- In the first block the keys and values before it do not matter. -/
theorem dkP_first (j : Fin 128) (e : Fin 64) : C.dkP j e = 0 :=
  Finset.sum_eq_zero fun i _ => by rw [C.dsP_first h, zero_mul]

/-- In the first block the keys and values before it do not matter. -/
theorem mx_first (i : Fin 128) : (C.withPrev kp vp).mx i = C.mx i := by
  have h1 : (fun j => (C.withPrev kp vp).mP i j) = fun j => C.mP i j := by
    funext j
    have e1 : (C.withPrev kp vp).mP i j = ⊥ := if_neg ((C.withPrev kp vp).not_vP h i j)
    have e2 : C.mP i j = ⊥ := if_neg (C.not_vP h i j)
    rw [e1, e2]
  unfold mx; rw [h1]; rfl
/-- In the first block the keys and values before it do not matter. -/
theorem m_first (i : Fin 128) : (C.withPrev kp vp).m i = C.m i := by unfold m; rw [C.mx_first h]
/-- In the first block the keys and values before it do not matter. -/
theorem pC_first (i j : Fin 128) : (C.withPrev kp vp).pC i j = C.pC i j := by unfold pC; rw [C.m_first h]; rfl
/-- In the first block the keys and values before it do not matter. -/
theorem den_first (i : Fin 128) : (C.withPrev kp vp).den i = C.den i := by
  unfold den; congr 1
  · exact Finset.sum_congr rfl fun j _ => by rw [C.pP_first h, (C.withPrev kp vp).pP_first h]
  · exact Finset.sum_congr rfl fun j _ => C.pC_first h kp vp i j
/-- In the first block the keys and values before it do not matter. -/
theorem wC_first (i j : Fin 128) : (C.withPrev kp vp).wC i j = C.wC i j := by
  unfold wC; rw [C.pC_first h, C.den_first h]
/-- In the first block the keys and values before it do not matter. -/
theorem iv_first (i : Fin 128) : (C.withPrev kp vp).iv i = C.iv i := by unfold iv; rw [C.den_first h]
/-- In the first block the keys and values before it do not matter. -/
theorem dden_first (i : Fin 128) : (C.withPrev kp vp).dden i = C.dden i := by
  unfold dden; congr 1
  · congr 1
    · rw [C.den_first h]; rfl
    · exact Finset.sum_congr rfl fun j _ => by
        rw [C.pP_first h, (C.withPrev kp vp).pP_first h, mul_zero, mul_zero]
  · exact Finset.sum_congr rfl fun j _ => by rw [C.pC_first h, C.iv_first h]; rfl
/-- In the first block the keys and values before it do not matter. -/
theorem dsC_first (i j : Fin 128) : (C.withPrev kp vp).dsC i j = C.dsC i j := by
  unfold dsC; rw [C.den_first h, C.dden_first h, C.pC_first h]; rfl
/-- In the first block the keys and values before it do not matter. -/
theorem dvC_first (j : Fin 128) (e : Fin 64) : (C.withPrev kp vp).dvC j e = C.dvC j e :=
  Finset.sum_congr rfl fun i _ => by rw [C.wC_first h]; rfl
/-- In the first block the keys and values before it do not matter. -/
theorem dkC_first (j : Fin 128) (e : Fin 64) : (C.withPrev kp vp).dkC j e = C.dkC j e :=
  Finset.sum_congr rfl fun i _ => by rw [C.dsC_first h]; rfl
/-- In the first block the keys and values before it do not matter. -/
theorem dq_first (i : Fin 128) (e : Fin 64) : (C.withPrev kp vp).dq i e = C.dq i e := by
  unfold dq; congr 1
  · exact Finset.sum_congr rfl fun j _ => by
      rw [C.dsP_first h, (C.withPrev kp vp).dsP_first h, zero_mul, zero_mul]
  · exact Finset.sum_congr rfl fun j _ => by rw [C.dsC_first h]; rfl

end First

end Cell

end Cert.Att
-- ==== Proof.Att.KPay.lean ====
module

public import proofs.«01_k».proof.Proof.Gen.KernelIdeal.Skeleton
public import proofs.«01_k».proof.Proof.Att.Spec
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Gen

open Idealize.ShloMosaic Cert.Att Cert.KernelIdeal

/-! The values of the kernel's stages, over real inputs: each stage's element is the real number the specification names. -/

/-- A constant of the program. -/
theorem c64 : Ideal.ofBits .f32 0x42800000#32 = ((64 : ℝ) : EReal) := by
  simp [Ideal.ofBits, Ideal.ieee, -EReal.coe_mul]; norm_num
/-- A constant of the program. -/
theorem ceps : Ideal.ofBits .f32 0x358637BD#32 = ((eps : ℝ) : EReal) := by
  simp [Ideal.ofBits, Ideal.ieee, -EReal.coe_mul, eps]; norm_num
/-- A constant of the program. -/
theorem cmhalf : Ideal.ofBits .f32 0xBF000000#32 = ((-(1/2) : ℝ) : EReal) := by
  simp [Ideal.ofBits, Ideal.ieee, -EReal.coe_mul]; norm_num
/-- A constant of the program. -/
theorem ceighth : Ideal.ofBits .f32 0x3E000000#32 = ((1/8 : ℝ) : EReal) := by
  simp [Ideal.ofBits, Ideal.ieee, -EReal.coe_mul]; norm_num
/-- A constant of the program. -/
theorem cslope : Ideal.ofBits .f32 0xBEEC9820#32 = ((-(484545 / 1048576) : ℝ) : EReal) := by
  simp [Ideal.ofBits, Ideal.ieee, -EReal.coe_mul]; norm_num
/-- A constant of the program. -/
theorem cninf : Ideal.ofBits .f32 0xFF800000#32 = ⊥ := by
  simp [Ideal.ofBits, Ideal.ieee]
/-- A constant of the program. -/
theorem cone : Ideal.ofBits .f32 0x3F800000#32 = ((1 : ℝ) : EReal) := by
  simp [Ideal.ofBits, Ideal.ieee, -EReal.coe_mul]; norm_num
/-- Sixty-four is not zero. -/
theorem h64 : (64 : ℝ) ≠ 0 := by norm_num

/-- The reciprocal root of a positive real. -/
theorem rsqrt_pos {r : ℝ} (h : 0 < r) : Ideal.rsqrt (r : EReal) = (((Real.sqrt r)⁻¹ : ℝ) : EReal) := by
  rw [Ideal.rsqrt_coe, if_neg (not_lt.2 h.le), if_neg h.ne']

/-- A head's 64 columns of a block of 256. -/
def hd (X : Fin 128 → Fin 256 → ℝ) (h : Fin 4) (i : Fin 128) (e : Fin 64) : ℝ := X i ⟨64 * h.val + e.val, by omega⟩

/-- A selection by a proposition's bit. -/
theorem sel_ofBool {α : Type} (p : Prop) [Decidable p] (a b : α) :
    Scalar.select (BitVec.ofBool (decide p)) a b = if p then a else b := by
  by_cases h : p
  · rw [decide_eq_true h, if_pos h]; rfl
  · rw [decide_eq_false h, if_neg h]; rfl

/-- The slopes. -/
theorem l4 (h : Fin 4) : k0_pay4 (F := Ideal) (ix3 h 0 0) = (slope h : EReal) := by
  pointwise [k0_pay4]
  have e : (IntOp.addi (BitVec.ofNat 32 h.val) 5#32).toInt = 5 + (h.val : ℤ) := by
    fin_cases h <;> rfl
  have e2 : (FloatOps.sitofp FTy.f32 (IntOp.addi (BitVec.ofNat 32 h.val) 5#32) : Ideal .f32)
      = ((5 + (h.val : ℝ) : ℝ) : EReal) := by
    change (((IntOp.addi (BitVec.ofNat 32 h.val) 5#32).toInt : ℝ) : EReal) = _
    rw [e]; push_cast; rfl
  rw [e2, cslope, ← EReal.coe_mul, Ideal.exp_coe]; rfl

/-- The distances to the keys of the block before. -/
theorem d17 (i j : Fin 128) : (FloatOps.sitofp FTy.f32 (IntOp.muli (IntOp.subi (IntOp.addi (BitVec.ofNat 32 i.val) 128#32) (BitVec.ofNat 32 j.val)) 4#32) : Ideal .f32)
    = ((((i.val : ℝ) + 128 - j.val) * 4 : ℝ) : EReal) := by
  have e : (IntOp.muli (IntOp.subi (IntOp.addi (BitVec.ofNat 32 i.val) 128#32) (BitVec.ofNat 32 j.val)) 4#32).toInt
      = ((i.val : ℤ) + 128 - j.val) * 4 := by
    have hi := i.isLt; have hj := j.isLt
    simp only [IntOp.muli, IntOp.subi, IntOp.addi]
    rw [BitVec.toInt_eq_toNat_bmod]
    simp [Int.bmod]
    omega
  change (((IntOp.muli _ _).toInt : ℝ) : EReal) = _
  rw [e]; push_cast; rfl

/-- The distances to the keys of the own block. -/
theorem d18 (i j : Fin 128) : (FloatOps.sitofp FTy.f32 (IntOp.muli (IntOp.subi (BitVec.ofNat 32 i.val) (BitVec.ofNat 32 j.val)) 4#32) : Ideal .f32)
    = ((((i.val : ℝ) - j.val) * 4 : ℝ) : EReal) := by
  have e : (IntOp.muli (IntOp.subi (BitVec.ofNat 32 i.val) (BitVec.ofNat 32 j.val)) 4#32).toInt
      = ((i.val : ℤ) - j.val) * 4 := by
    have hi := i.isLt; have hj := j.isLt
    simp only [IntOp.muli, IntOp.subi]
    rw [BitVec.toInt_eq_toNat_bmod]
    simp [Int.bmod]
    omega
  change (((IntOp.muli _ _).toInt : ℝ) : EReal) = _
  rw [e]; push_cast; rfl

/-- The comparison of a row and a key, as a word. -/
theorem m17 (i j : Fin 128) : IntOp.cmpi .sle (IntOp.subi (IntOp.addi (BitVec.ofNat 32 i.val) 128#32) (BitVec.ofNat 32 j.val)) 128#32
    = BitVec.ofBool (decide (i.val ≤ j.val)) := by
  have hi := i.isLt; have hj := j.isLt
  change BitVec.ofBool (decide (_ ≤ (128#32).toInt)) = _; congr 2
  have e : (IntOp.subi (IntOp.addi (BitVec.ofNat 32 i.val) 128#32) (BitVec.ofNat 32 j.val)).toInt = (i.val : ℤ) + 128 - j.val := by
    simp only [IntOp.subi, IntOp.addi]
    rw [BitVec.toInt_eq_toNat_bmod]
    simp [Int.bmod]
    omega
  rw [e]; apply propext; change _ ≤ (128 : ℤ) ↔ _; omega

/-- The comparison of a row and a key, as a word. -/
theorem m18 (i j : Fin 128) : IntOp.cmpi .sge (IntOp.subi (BitVec.ofNat 32 i.val) (BitVec.ofNat 32 j.val)) 0#32
    = BitVec.ofBool (decide (Cell.vC i j)) := by
  have hi := i.isLt; have hj := j.isLt
  change BitVec.ofBool (decide ((0#32).toInt ≤ _)) = _; congr 1
  have e : (IntOp.subi (BitVec.ofNat 32 i.val) (BitVec.ofNat 32 j.val)).toInt = (i.val : ℤ) - j.val := by
    simp only [IntOp.subi]
    rw [BitVec.toInt_eq_toNat_bmod]
    simp [Int.bmod]
    omega
  rw [e]; unfold Cell.vC
  by_cases h : j.val ≤ i.val
  · rw [decide_eq_true h, decide_eq_true]; change (0 : ℤ) ≤ _; omega
  · rw [decide_eq_false h, decide_eq_false]; change ¬ (0 : ℤ) ≤ _; omega

/-- The four heads of a block, stacked. -/
theorem l5 (x : Vec Ideal S128x256 .f32) (X : Fin 128 → Fin 256 → ℝ) (hx : ∀ i l, x (ix2 i l) = (X i l : EReal))
    (h : Fin 4) (i : Fin 128) (e : Fin 64) : k0_pay5 x (ix3 h i e) = (hd X h i e : EReal) := by
  pointwise [k0_pay5]
  simp only [hx, hd]
  fin_cases h <;> simp

/-- The four heads of a block, stacked. -/
theorem l6 (x : Vec Ideal S128x256 .f32) (X : Fin 128 → Fin 256 → ℝ) (hx : ∀ i l, x (ix2 i l) = (X i l : EReal))
    (h : Fin 4) (i : Fin 128) (e : Fin 64) : k0_pay6 x (ix3 h i e) = (hd X h i e : EReal) := by
  pointwise [k0_pay6]
  simp only [hx, hd]
  fin_cases h <;> simp

/-- The four heads of a block, stacked. -/
theorem l9 (x : Vec Ideal S128x256 .f32) (X : Fin 128 → Fin 256 → ℝ) (hx : ∀ i l, x (ix2 i l) = (X i l : EReal))
    (h : Fin 4) (i : Fin 128) (e : Fin 64) : k0_pay9 (k0_pay1 x) (k0_pay7 x) (k0_pay8 x) (ix3 h i e) = (hd X h i e : EReal) := by
  pointwise [k0_pay9, k0_pay1, k0_pay7, k0_pay8]
  simp only [hx, hd]
  fin_cases h <;> simp

/-- The four heads of a block, stacked. -/
theorem l10 (x : Vec Ideal S128x256 .f32) (X : Fin 128 → Fin 256 → ℝ) (hx : ∀ i l, x (ix2 i l) = (X i l : EReal))
    (h : Fin 4) (i : Fin 128) (e : Fin 64) : k0_pay10 (k0_pay2 x) (ix3 h i e) = (hd X h i e : EReal) := by
  pointwise [k0_pay10, k0_pay2]
  simp only [hx, hd]
  fin_cases h <;> simp

/-- The four heads of a block, stacked. -/
theorem l11 (x : Vec Ideal S128x256 .f32) (X : Fin 128 → Fin 256 → ℝ) (hx : ∀ i l, x (ix2 i l) = (X i l : EReal))
    (h : Fin 4) (i : Fin 128) (e : Fin 64) : k0_pay11 (k0_pay3 x) (ix3 h i e) = (hd X h i e : EReal) := by
  pointwise [k0_pay11, k0_pay3]
  simp only [hx, hd]
  fin_cases h <;> simp

/-- The four heads of a block, stacked. -/
theorem l50 (x : Vec Ideal S128x256 .f32) (X : Fin 128 → Fin 256 → ℝ) (hx : ∀ i l, x (ix2 i l) = (X i l : EReal))
    (h : Fin 4) (i : Fin 128) (e : Fin 64) : k0_pay50 (k0_pay45 x) (ix3 h i e) = (hd X h i e : EReal) := by
  pointwise [k0_pay50, k0_pay45]
  simp only [hx, hd]
  fin_cases h <;> simp

section Norm
variable (v : FVec Ideal S4x128x64 .f32) (x : Fin 4 → Fin 128 → Fin 64 → ℝ)
  (hx : ∀ h i e, v (ix3 h i e) = (x h i e : EReal)) (w : Vec Ideal S4x1x64 .f32) (g : Fin 4 → Fin 64 → ℝ)
  (hg : ∀ h e, w (ix3 h 0 e) = (g h e : EReal))
include hx

/-- A payload of the body read at an index, where its operands hold real arrays. -/
theorem l12 (h : Fin 4) (i : Fin 128) : k0_pay12 v (ix3 h i 0) = (ms (x h i) : EReal) := by
  pointwise [k0_pay12]
  simp only [hx, c64, ceps, ← EReal.coe_mul, coe_sum, ← EReal.coe_add, ← EReal.coe_sub, div_real h64]
  rfl
/-- A payload of the body read at an index, where its operands hold real arrays. -/
theorem l13 (h : Fin 4) (i : Fin 128) : k0_pay13 v (ix3 h i 0) = (rr (x h i) : EReal) := by
  pointwise [k0_pay13]
  rw [l12 v x hx, rsqrt_pos (ms_pos _)]; rfl
/-- A payload of the body read at an index, where its operands hold real arrays. -/
theorem l14 (h : Fin 4) (i : Fin 128) : k0_pay14 v (ix3 h i 0) = (rd (x h i) : EReal) := by
  pointwise [k0_pay14]
  rw [l12 v x hx, l13 v x hx, div_real (ms_pos _).ne', cmhalf, ← EReal.coe_mul]; rfl
/-- A payload of the body read at an index, where its operands hold real arrays. -/
theorem l15 (h : Fin 4) (i : Fin 128) (e : Fin 64) : k0_pay15 v (ix3 h i e) = (nrm (x h i) e : EReal) := by
  pointwise [k0_pay15]
  rw [l13 v x hx, hx, ← EReal.coe_mul]; rfl

/-- A payload of the body read at an index, where its operands hold real arrays. -/
theorem l20 (h : Fin 4) (i : Fin 128) : k0_pay20 (k0_pay19 v) (ix3 h i 0) = (ms (x h i) : EReal) := by
  pointwise [k0_pay20, k0_pay19]
  simp only [hx, c64, ceps, ← EReal.coe_mul, coe_sum, ← EReal.coe_add, ← EReal.coe_sub, div_real h64]
  rfl
/-- A payload of the body read at an index, where its operands hold real arrays. -/
theorem l21 (h : Fin 4) (i : Fin 128) : k0_pay21 (k0_pay19 v) (ix3 h i 0) = (rr (x h i) : EReal) := by
  pointwise [k0_pay21]
  rw [l20 v x hx, rsqrt_pos (ms_pos _)]; rfl
/-- A payload of the body read at an index, where its operands hold real arrays. -/
theorem l22 (h : Fin 4) (i : Fin 128) : k0_pay22 (k0_pay19 v) (ix3 h i 0) = (rd (x h i) : EReal) := by
  pointwise [k0_pay22]
  rw [l20 v x hx, l21 v x hx, div_real (ms_pos _).ne', cmhalf, ← EReal.coe_mul]; rfl
/-- A payload of the body read at an index, where its operands hold real arrays. -/
theorem l23 (h : Fin 4) (i : Fin 128) (e : Fin 64) : k0_pay23 v (k0_pay19 v) (ix3 h i e) = (nrm (x h i) e : EReal) := by
  pointwise [k0_pay23]
  rw [l21 v x hx, hx, ← EReal.coe_mul]; rfl

/-- A payload of the body read at an index, where its operands hold real arrays. -/
theorem l26 (h : Fin 4) (i : Fin 128) : k0_pay26 v (ix3 h i 0) = (ms (x h i) : EReal) := by
  pointwise [k0_pay26]
  simp only [hx, c64, ceps, ← EReal.coe_mul, coe_sum, ← EReal.coe_add, ← EReal.coe_sub, div_real h64]
  rfl
/-- A payload of the body read at an index, where its operands hold real arrays. -/
theorem l27 (h : Fin 4) (i : Fin 128) : k0_pay27 v (ix3 h i 0) = (rr (x h i) : EReal) := by
  pointwise [k0_pay27]
  rw [l26 v x hx, rsqrt_pos (ms_pos _)]; rfl
/-- A payload of the body read at an index, where its operands hold real arrays. -/
theorem l28 (h : Fin 4) (i : Fin 128) : k0_pay28 v (ix3 h i 0) = (rd (x h i) : EReal) := by
  pointwise [k0_pay28]
  rw [l26 v x hx, l27 v x hx, div_real (ms_pos _).ne', cmhalf, ← EReal.coe_mul]; rfl
/-- A payload of the body read at an index, where its operands hold real arrays. -/
theorem l29 (h : Fin 4) (i : Fin 128) (e : Fin 64) : k0_pay29 v (ix3 h i e) = (nrm (x h i) e : EReal) := by
  pointwise [k0_pay29]
  rw [l27 v x hx, hx, ← EReal.coe_mul]; rfl

include hg
/-- A payload of the body read at an index, where its operands hold real arrays. -/
theorem l16 (h : Fin 4) (i : Fin 128) (e : Fin 64) : k0_pay16 w v (ix3 h i e) = ((nrm (x h i) e * g h e * (1 / 8) : ℝ) : EReal) := by
  pointwise [k0_pay16]
  rw [l15 v x hx, hg, ceighth, ← EReal.coe_mul, ← EReal.coe_mul]
/-- A payload of the body read at an index, where its operands hold real arrays. -/
theorem l24 (h : Fin 4) (i : Fin 128) (e : Fin 64) : k0_pay24 w v (k0_pay19 v) (ix3 h i e) = ((nrm (x h i) e * g h e : ℝ) : EReal) := by
  pointwise [k0_pay24]
  rw [l23 v x hx, hg, ← EReal.coe_mul]
/-- A payload of the body read at an index, where its operands hold real arrays. -/
theorem l30 (h : Fin 4) (i : Fin 128) (e : Fin 64) : k0_pay30 w v (ix3 h i e) = ((nrm (x h i) e * g h e : ℝ) : EReal) := by
  pointwise [k0_pay30]
  rw [l29 v x hx, hg, ← EReal.coe_mul]
end Norm

section Soft
variable (C : Fin 4 → Cell)

/-- The biased scores with the keys of the block before. -/
theorem l25 (v11 : Vec Ideal S4x1x64 .f32) (v18 : FVec Ideal S4x1x1 .f32) (v36 v80 : FVec Ideal S4x128x64 .f32) (v91 : FVec Ideal S4x128x1 .f32)
    (hq : ∀ h i e, v80 (ix3 h i e) = ((C h).qf i e : EReal)) (hk : ∀ h i e, k0_pay24 v11 v36 v91 (ix3 h i e) = ((C h).kp i e : EReal))
    (hs : ∀ h, v18 (ix3 h 0 0) = ((C h).sg : EReal)) (h : Fin 4) (i j : Fin 128) :
    k0_pay25 v11 v18 v36 v80 k0_pay17 v91 (ix3 h i j) = ((C h).sP i j : EReal) := by
  pointwise [k0_pay25, k0_pay17]
  simp only [hq, hk, hs, d17, ← EReal.coe_mul, coe_sum, ← EReal.coe_add, ← EReal.coe_sub]
  rfl
/-- The biased scores with the keys of the own block. -/
theorem l31 (v11 : Vec Ideal S4x1x64 .f32) (v18 : FVec Ideal S4x1x1 .f32) (v45 v80 : FVec Ideal S4x128x64 .f32)
    (hq : ∀ h i e, v80 (ix3 h i e) = ((C h).qf i e : EReal)) (hk : ∀ h i e, k0_pay30 v11 v45 (ix3 h i e) = ((C h).kc i e : EReal))
    (hs : ∀ h, v18 (ix3 h 0 0) = ((C h).sg : EReal)) (h : Fin 4) (i j : Fin 128) :
    k0_pay31 v11 v18 v45 v80 k0_pay18 (ix3 h i j) = ((C h).sC i j : EReal) := by
  pointwise [k0_pay31, k0_pay18]
  simp only [hq, hk, hs, d18, ← EReal.coe_mul, coe_sum, ← EReal.coe_add, ← EReal.coe_sub]
  rfl

variable (a1 : BitVec 32) (ha : ∀ h, Scalar.cmpi .sgt a1 0#32 = BitVec.ofBool (C h).has)

include ha in
/-- The mask of the keys of the block before. -/
theorem l33 (h : Fin 4) (i j : Fin 128) : k0_pay33 a1 (k0_pay32 k0_pay17) (ix3 h i j) = BitVec.ofBool (decide ((C h).vP i j)) := by
  pointwise [k0_pay33, k0_pay32, k0_pay17]
  rw [m17, ha h]
  have e : decide ((C h).vP i j) = (decide (i.val ≤ j.val) && (C h).has) := by
    by_cases h1 : i.val ≤ j.val <;> cases h2 : (C h).has <;> simp [Cell.vP, h1, h2]
  rw [e]; cases decide (i.val ≤ j.val) <;> cases (C h).has <;> rfl

/-- The mask of the keys of the own block. -/
theorem l35 (h : Fin 4) (i j : Fin 128) : k0_pay35 k0_pay18 (ix3 h i j) = BitVec.ofBool (decide (Cell.vC i j)) := by
  pointwise [k0_pay35, k0_pay18]
  rw [m18]

variable (s t : FVec Ideal S4x128x128 .f32) (hs : ∀ h i j, s (ix3 h i j) = ((C h).sP i j : EReal))
  (ht : ∀ h i j, t (ix3 h i j) = ((C h).sC i j : EReal))
include ha hs
/-- A payload of the body read at an index, where its operands hold real arrays. -/
theorem l34 (h : Fin 4) (i j : Fin 128) : k0_pay34 a1 s (k0_pay32 k0_pay17) (ix3 h i j) = (C h).mP i j := by
  pointwise [k0_pay34]
  rw [l33 C a1 ha, sel_ofBool, hs]; rfl
include ht
omit ha hs in
/-- A payload of the body read at an index, where its operands hold real arrays. -/
theorem l36 (h : Fin 4) (i j : Fin 128) : k0_pay36 k0_pay18 t (ix3 h i j) = (C h).mC i j := by
  pointwise [k0_pay36]
  rw [l35, sel_ofBool, ht]; rfl
/-- A payload of the body read at an index, where its operands hold real arrays. -/
theorem l37 (h : Fin 4) (i : Fin 128) : k0_pay37 a1 k0_pay18 s t (k0_pay32 k0_pay17) (ix3 h i 0) = ((C h).m i : EReal) := by
  pointwise [k0_pay37]
  simp only [l34 C a1 ha s hs, l36 C t ht, cninf]
  exact (C h).mx_eq i
/-- A payload of the body read at an index, where its operands hold real arrays. -/
theorem l38 (h : Fin 4) (i j : Fin 128) : k0_pay38 a1 k0_pay18 s t (k0_pay32 k0_pay17) (ix3 h i j) = ((C h).pP i j : EReal) := by
  pointwise [k0_pay38]
  rw [l34 C a1 ha s hs, l37 C a1 ha s t hs ht, Cell.exp_mP]
/-- A payload of the body read at an index, where its operands hold real arrays. -/
theorem l39 (h : Fin 4) (i j : Fin 128) : k0_pay39 a1 k0_pay18 s t (k0_pay32 k0_pay17) (ix3 h i j) = ((C h).pC i j : EReal) := by
  pointwise [k0_pay39]
  rw [l36 C t ht, l37 C a1 ha s t hs ht, Cell.exp_mC]
/-- A payload of the body read at an index, where its operands hold real arrays. -/
theorem l40 (h : Fin 4) (i : Fin 128) : k0_pay40 a1 k0_pay18 s t (k0_pay32 k0_pay17) (ix3 h i 0) = ((C h).den i : EReal) := by
  pointwise [k0_pay40]
  simp only [l38 C a1 ha s t hs ht, l39 C a1 ha s t hs ht, ← EReal.coe_mul, coe_sum, ← EReal.coe_add, ← EReal.coe_sub]
  rfl
/-- A payload of the body read at an index, where its operands hold real arrays. -/
theorem l41 (h : Fin 4) (i j : Fin 128) : k0_pay41 a1 k0_pay18 s t (k0_pay32 k0_pay17) (ix3 h i j) = ((C h).wP i j : EReal) := by
  pointwise [k0_pay41]
  rw [l38 C a1 ha s t hs ht, l40 C a1 ha s t hs ht, div_real ((C h).den_ne i)]; rfl
/-- A payload of the body read at an index, where its operands hold real arrays. -/
theorem l42 (h : Fin 4) (i : Fin 128) : k0_pay42 a1 k0_pay18 s t (k0_pay32 k0_pay17) (ix3 h i 0) = ((C h).iv i : EReal) := by
  pointwise [k0_pay42]
  rw [l40 C a1 ha s t hs ht, ← EReal.coe_mul, ← EReal.coe_one, div_real (mul_ne_zero ((C h).den_ne i) ((C h).den_ne i))]; rfl
/-- A payload of the body read at an index, where its operands hold real arrays. -/
theorem l43 (h : Fin 4) (i j : Fin 128) : k0_pay43 a1 k0_pay18 s t (k0_pay32 k0_pay17) (ix3 h i j) = ((C h).wC i j : EReal) := by
  pointwise [k0_pay43]
  rw [l39 C a1 ha s t hs ht, l40 C a1 ha s t hs ht, div_real ((C h).den_ne i)]; rfl
/-- A payload of the body read at an index, where its operands hold real arrays. -/
theorem l44 (h : Fin 4) (i : Fin 128) : k0_pay44 a1 k0_pay18 s t (k0_pay32 k0_pay17) (ix3 h i 0) = ((C h).iv i : EReal) := by
  pointwise [k0_pay44]
  rw [l40 C a1 ha s t hs ht, ← EReal.coe_mul, ← EReal.coe_one, div_real (mul_ne_zero ((C h).den_ne i) ((C h).den_ne i))]; rfl
end Soft

section Grad
variable (C : Fin 4 → Cell) (v54 v63 v80 v229 v127 v101 : FVec Ideal S4x128x64 .f32) (v161 v164 v171 v176 : FVec Ideal S4x128x128 .f32)
  (v169 v174 v179 v232 : FVec Ideal S4x128x1 .f32) (v145 v151 : IVec S4x128x128 1)
  (hvp : ∀ h i e, v54 (ix3 h i e) = ((C h).vp i e : EReal)) (hvc : ∀ h i e, v63 (ix3 h i e) = ((C h).vc i e : EReal))
  (hdo : ∀ h i e, v229 (ix3 h i e) = ((C h).dO i e : EReal))
  (hq : ∀ h i e, v80 (ix3 h i e) = ((C h).qf i e : EReal))
  (hkc : ∀ h i e, v127 (ix3 h i e) = ((C h).kc i e : EReal)) (hkp : ∀ h i e, v101 (ix3 h i e) = ((C h).kp i e : EReal))
  (hpP : ∀ h i j, v161 (ix3 h i j) = ((C h).pP i j : EReal)) (hpC : ∀ h i j, v164 (ix3 h i j) = ((C h).pC i j : EReal))
  (hwP : ∀ h i j, v171 (ix3 h i j) = ((C h).wP i j : EReal)) (hwC : ∀ h i j, v176 (ix3 h i j) = ((C h).wC i j : EReal))
  (hden : ∀ h i, v169 (ix3 h i 0) = ((C h).den i : EReal)) (hiv : ∀ h i, v174 (ix3 h i 0) = ((C h).iv i : EReal))
  (hiv' : ∀ h i, v179 (ix3 h i 0) = ((C h).iv i : EReal)) (hdl : ∀ h i, v232 (ix3 h i 0) = (((C h).dl i / (C h).den i : ℝ) : EReal))
  (hmP : ∀ h i j, v145 (ix3 h i j) = BitVec.ofBool (decide ((C h).vP i j)))
  (hmC : ∀ h i j, v151 (ix3 h i j) = BitVec.ofBool (decide (Cell.vC i j)))

include hden in
/-- The cotangent of the log-sum-exp over the normaliser. -/
theorem l51 (x : Vec Ideal S128x256 .f32) (X : Fin 128 → Fin 256 → ℝ) (hx : ∀ i l, x (ix2 i l) = (X i l : EReal))
    (hX : ∀ h i, (C h).dl i = ∑ e, hd X h i e) (h : Fin 4) (i : Fin 128) :
    k0_pay51 v169 (k0_pay46 x) (k0_pay47 x) (k0_pay48 x) (k0_pay49 x) (ix3 h i 0) = (((C h).dl i / (C h).den i : ℝ) : EReal) := by
  pointwise [k0_pay51, k0_pay46, k0_pay47, k0_pay48, k0_pay49]
  rw [hden, ← div_real ((C h).den_ne i), hX, ← coe_sum]
  congr 1
  refine Finset.sum_congr rfl fun e _ => ?_
  simp only [hx, hd]
  fin_cases h <;> simp

include hdo hvc in
/-- A payload of the body read at an index, where its operands hold real arrays. -/
theorem l52 (x : Vec Ideal S128x256 .f32) (hx : k0_pay50 (k0_pay45 x) = v229) (h : Fin 4) (i j : Fin 128) :
    k0_pay52 v63 (k0_pay45 x) (ix3 h i j) = ((C h).dwC i j : EReal) := by
  pointwise [k0_pay52]
  simp only [hx, hdo, hvc, ← EReal.coe_mul, coe_sum, ← EReal.coe_add, ← EReal.coe_sub]
  rfl
include hdo hvp in
/-- A payload of the body read at an index, where its operands hold real arrays. -/
theorem l55 (h : Fin 4) (i j : Fin 128) : k0_pay55 v54 v229 (ix3 h i j) = ((C h).dwP i j : EReal) := by
  pointwise [k0_pay55]
  simp only [hdo, hvp, ← EReal.coe_mul, coe_sum, ← EReal.coe_add, ← EReal.coe_sub]
  rfl
include hdo hwC in
/-- A payload of the body read at an index, where its operands hold real arrays. -/
theorem l54 (h : Fin 4) (j : Fin 128) (e : Fin 64) : k0_pay54 v229 (k0_pay53 v176) (ix3 h j e) = ((C h).dvC j e : EReal) := by
  pointwise [k0_pay54, k0_pay53]
  simp only [hdo, hwC, ← EReal.coe_mul, coe_sum, ← EReal.coe_add, ← EReal.coe_sub]
  rfl
include hdo hwP in
/-- A payload of the body read at an index, where its operands hold real arrays. -/
theorem l56 (h : Fin 4) (j : Fin 128) (e : Fin 64) : k0_pay56 v171 v229 (ix3 h j e) = ((C h).dvP j e : EReal) := by
  pointwise [k0_pay56]
  simp only [hdo, hwP, ← EReal.coe_mul, coe_sum, ← EReal.coe_add, ← EReal.coe_sub]
  rfl

variable (v235 : FVec Ideal S4x128x128 .f32) (hdw : ∀ h i j, v235 (ix3 h i j) = ((C h).dwC i j : EReal))
include hvp hdo hpP hpC hiv hiv' hdl hdw
/-- The cotangent of the normaliser. -/
theorem l57 (h : Fin 4) (i : Fin 128) : k0_pay57 v54 v161 v164 v174 v179 v229 v232 v235 (ix3 h i 0) = ((C h).dden i : EReal) := by
  pointwise [k0_pay57]
  simp only [l55 C v54 v229 hvp hdo, hpP, hpC, hiv, hiv', hdl, hdw, ← EReal.coe_mul, coe_sum, ← EReal.coe_add, ← EReal.coe_sub, zero_sub, ← EReal.coe_neg]
  rw [EReal.coe_eq_coe_iff]
  unfold Cell.dden; ring
include hden
include hmC in
/-- The cotangents of the scores, own block. -/
theorem l58 (h : Fin 4) (i j : Fin 128) : k0_pay58 v54 v151 v161 v164 v169 v174 v179 v229 v232 v235 (ix3 h i j) = ((C h).dsC i j : EReal) := by
  pointwise [k0_pay58]
  simp only [Finset.univ_unique, Finset.sum_singleton, Fin.default_eq_zero]
  rw [l57 C v54 v229 v161 v164 v174 v179 v232 hvp hdo hpP hpC hiv hiv' hdl v235 hdw, hmC, sel_ofBool, hdw, hpC, hden, div_real ((C h).den_ne i), ← EReal.coe_add, ← EReal.coe_mul]
  split
  · rfl
  · rename_i hn; unfold Cell.dsC Cell.pC; rw [if_neg hn, mul_zero]; rfl
include hmP in
/-- The cotangents of the scores, block before. -/
theorem l59 (h : Fin 4) (i j : Fin 128) : k0_pay59 v54 v145 v161 v164 v169 v174 v179 v229 v232 v235 (ix3 h i j) = ((C h).dsP i j : EReal) := by
  pointwise [k0_pay59]
  simp only [Finset.univ_unique, Finset.sum_singleton, Fin.default_eq_zero]
  rw [l57 C v54 v229 v161 v164 v174 v179 v232 hvp hdo hpP hpC hiv hiv' hdl v235 hdw, hmP, sel_ofBool, l55 C v54 v229 hvp hdo, hpP, hden, div_real ((C h).den_ne i), ← EReal.coe_add, ← EReal.coe_mul]
  split
  · rfl
  · rename_i hn; unfold Cell.dsP Cell.pP; rw [if_neg hn, mul_zero]; rfl
include hmC
include hkc in
/-- A payload of the body read at an index, where its operands hold real arrays. -/
theorem l60 (h : Fin 4) (i : Fin 128) (e : Fin 64) : k0_pay60 v54 v127 v151 v161 v164 v169 v174 v179 v229 v232 v235 (ix3 h i e)
    = ((∑ j, (C h).dsC i j * (C h).kc j e : ℝ) : EReal) := by
  pointwise [k0_pay60]
  simp only [l58 C v54 v229 v161 v164 v169 v174 v179 v232 v151 hvp hdo hpP hpC hden hiv hiv' hdl hmC v235 hdw, hkc, ← EReal.coe_mul, coe_sum, ← EReal.coe_add, ← EReal.coe_sub]
include hq in
/-- The gradient of the keys of the own block. -/
theorem l63 (h : Fin 4) (j : Fin 128) (e : Fin 64) :
    k0_pay63 (k0_pay61 v54 v151 v161 v164 v169 v174 v179 v229 v232 v235) (k0_pay62 v80) (constant S4x128x64 .f32 0x00000000#32) (ix3 h j e)
    = ((C h).dkC j e : EReal) := by
  pointwise [k0_pay63, k0_pay61, k0_pay62]
  simp only [l58 C v54 v229 v161 v164 v169 v174 v179 v232 v151 hvp hdo hpP hpC hden hiv hiv' hdl hmC v235 hdw, hq, ← EReal.coe_mul, coe_sum, ← EReal.coe_add, ← EReal.coe_sub]
  rfl
end Grad

section Tail
variable (C : Fin 4 → Cell)

/-- The gradient of the keys of the block before. -/
theorem l65 (v80 : FVec Ideal S4x128x64 .f32) (v278 : FVec Ideal S4x128x128 .f32)
    (hq : ∀ h i e, v80 (ix3 h i e) = ((C h).qf i e : EReal)) (hds : ∀ h i j, v278 (ix3 h i j) = ((C h).dsP i j : EReal))
    (h : Fin 4) (j : Fin 128) (e : Fin 64) : k0_pay65 v80 v278 (ix3 h j e) = ((C h).dkP j e : EReal) := by
  pointwise [k0_pay65]
  simp only [hq, hds, ← EReal.coe_mul, coe_sum, ← EReal.coe_add, ← EReal.coe_sub]
  rfl
/-- The gradient of the queries. -/
theorem l66 (v101 v281 : FVec Ideal S4x128x64 .f32) (v278 : FVec Ideal S4x128x128 .f32)
    (hkp : ∀ h i e, v101 (ix3 h i e) = ((C h).kp i e : EReal)) (hds : ∀ h i j, v278 (ix3 h i j) = ((C h).dsP i j : EReal))
    (h281 : ∀ h i e, v281 (ix3 h i e) = ((∑ j, (C h).dsC i j * (C h).kc j e : ℝ) : EReal))
    (h : Fin 4) (i : Fin 128) (e : Fin 64) : k0_pay66 v101 v278 v281 (ix3 h i e) = ((C h).dq i e : EReal) := by
  pointwise [k0_pay66]
  simp only [hkp, hds, h281, ← EReal.coe_mul, coe_sum, ← EReal.coe_add, ← EReal.coe_sub]
  rw [add_comm]; rfl

variable (x d : Fin 4 → Fin 128 → Fin 64 → ℝ) (g : Fin 4 → Fin 64 → ℝ) (w : Vec Ideal S4x1x64 .f32)
  (v : FVec Ideal S4x128x64 .f32) (r s : FVec Ideal S4x128x1 .f32)
  (hw : ∀ h e, w (ix3 h 0 e) = (g h e : EReal)) (hv : ∀ h i e, v (ix3 h i e) = (x h i e : EReal))
  (hr : ∀ h i, r (ix3 h i 0) = (rr (x h i) : EReal)) (hs : ∀ h i, s (ix3 h i 0) = (rd (x h i) : EReal))
include hw hv hr hs
/-- The gradient of the normalisation of the keys, own block. -/
theorem l64 (v282 : FVec Ideal S4x128x128 .bf16) (v283 : FVec Ideal S4x128x64 .bf16) (z : FVec Ideal S4x128x64 .f32)
    (hd : ∀ h i e, k0_pay63 v282 v283 z (ix3 h i e) = (d h i e : EReal)) (h : Fin 4) (i : Fin 128) (e : Fin 64) :
    k0_pay64 w v r s v282 v283 z (ix3 h i e) = (nb (x h i) (fun e => d h i e * g h e) e : EReal) := by
  pointwise [k0_pay64]
  simp only [Finset.univ_unique, Finset.sum_singleton, Fin.default_eq_zero]
  simp only [hd, hw, hv, hr, hs, c64, ← EReal.coe_mul, coe_sum, ← EReal.coe_add, ← EReal.coe_sub, div_real h64]
  rfl
/-- The gradient of the normalisation of the keys, block before. -/
theorem l68 (v80 : FVec Ideal S4x128x64 .f32) (v278 : FVec Ideal S4x128x128 .f32)
    (hd : ∀ h i e, k0_pay65 v80 v278 (ix3 h i e) = (d h i e : EReal)) (h : Fin 4) (i : Fin 128) (e : Fin 64) :
    k0_pay68 w v v80 r s v278 (ix3 h i e) = (nb (x h i) (fun e => d h i e * g h e) e : EReal) := by
  pointwise [k0_pay68]
  simp only [Finset.univ_unique, Finset.sum_singleton, Fin.default_eq_zero]
  simp only [hd, hw, hv, hr, hs, c64, ← EReal.coe_mul, coe_sum, ← EReal.coe_add, ← EReal.coe_sub, div_real h64]
  rfl
/-- The gradient of the normalisation of the queries. -/
theorem l71 (v311 : FVec Ideal S4x128x64 .f32)
    (hd : ∀ h i e, v311 (ix3 h i e) = (d h i e : EReal)) (h : Fin 4) (i : Fin 128) (e : Fin 64) :
    k0_pay71 w v r s v311 (Scalar.ofBits .f32 0x3E000000#32) (ix3 h i e) = (nb (x h i) (fun e => d h i e * (1 / 8) * g h e) e : EReal) := by
  pointwise [k0_pay71, k0_pay69]
  simp only [Finset.univ_unique, Finset.sum_singleton, Fin.default_eq_zero]
  simp only [hd, hw, hv, hr, hs, c64, ceighth, ← EReal.coe_mul, coe_sum, ← EReal.coe_add, ← EReal.coe_sub, div_real h64]
  rfl
omit hw hv hr hs
/-- The gain's gradient of the queries, of one block. -/
theorem l70 (v76 v311 : FVec Ideal S4x128x64 .f32) (hv : ∀ h i e, v76 (ix3 h i e) = (x h i e : EReal))
    (hd : ∀ h i e, v311 (ix3 h i e) = (d h i e : EReal)) (h : Fin 4) (e : Fin 64) :
    k0_pay70 v76 v311 (Scalar.ofBits .f32 0x3E000000#32) (ix3 h 0 e) = ((∑ i, x h i e * (d h i e * (1 / 8)) : ℝ) : EReal) := by
  pointwise [k0_pay70, k0_pay69]
  simp only [hd, hv, ceighth, ← EReal.coe_mul, coe_sum, ← EReal.coe_add, ← EReal.coe_sub]
/-- The gain's gradient of the keys, of one block. -/
theorem l67 (y d' : Fin 4 → Fin 128 → Fin 64 → ℝ) (v80 v99 v125 : FVec Ideal S4x128x64 .f32) (v278 : FVec Ideal S4x128x128 .f32)
    (v282 : FVec Ideal S4x128x128 .bf16) (v283 : FVec Ideal S4x128x64 .bf16) (z : FVec Ideal S4x128x64 .f32)
    (hx : ∀ h i e, v125 (ix3 h i e) = (x h i e : EReal)) (hy : ∀ h i e, v99 (ix3 h i e) = (y h i e : EReal))
    (hd : ∀ h i e, k0_pay63 v282 v283 z (ix3 h i e) = (d h i e : EReal))
    (hd' : ∀ h i e, k0_pay65 v80 v278 (ix3 h i e) = (d' h i e : EReal)) (h : Fin 4) (e : Fin 64) :
    k0_pay67 v80 v99 v125 v278 v282 v283 z (ix3 h 0 e) = (((∑ i, x h i e * d h i e) + ∑ i, y h i e * d' h i e : ℝ) : EReal) := by
  pointwise [k0_pay67]
  simp only [hx, hy, hd, hd', ← EReal.coe_mul, coe_sum, ← EReal.coe_add, ← EReal.coe_sub]
end Tail

/-! Four heads, put side by side again. -/

/-- A payload of the body read at an index, where its operands hold real arrays. -/
theorem l72 (v : FVec Ideal S4x128x64 .f32) (x : Fin 4 → Fin 128 → Fin 64 → ℝ)
    (hx : ∀ h i e, v (ix3 h i e) = (x h i e : EReal)) (i : Fin 128) (h : Fin 4) (e : Fin 64) :
    k0_pay72 v (ix2 i (⟨64 * h.val + e.val, by omega⟩ : Fin 256)) = (x h i e : EReal) := by
  pointwise [k0_pay72]
  have he := e.isLt
  fin_cases h <;> simp [hx] <;> (repeat' split) <;> first | omega | simp

/-- A payload of the body read at an index, where its operands hold real arrays. -/
theorem l76 (v : FVec Ideal S4x128x64 .f32) (x : Fin 4 → Fin 128 → Fin 64 → ℝ)
    (hx : ∀ h i e, v (ix3 h i e) = (x h i e : EReal)) (i : Fin 128) (h : Fin 4) (e : Fin 64) :
    k0_pay76 v (k0_pay73 v) (k0_pay74 v) (k0_pay75 v) (ix2 i (⟨64 * h.val + e.val, by omega⟩ : Fin 256)) = (x h i e : EReal) := by
  pointwise [k0_pay76, k0_pay73, k0_pay74, k0_pay75]
  have he := e.isLt
  fin_cases h <;> simp [hx] <;> (repeat' split) <;> first | omega | simp

/-- A payload of the body read at an index, where its operands hold real arrays. -/
theorem l77 (v : FVec Ideal S4x128x64 .f32) (x : Fin 4 → Fin 128 → Fin 64 → ℝ)
    (hx : ∀ h i e, v (ix3 h i e) = (x h i e : EReal)) (i : Fin 128) (h : Fin 4) (e : Fin 64) :
    k0_pay77 v (ix2 i (⟨64 * h.val + e.val, by omega⟩ : Fin 256)) = (x h i e : EReal) := by
  pointwise [k0_pay77]
  have he := e.isLt
  fin_cases h <;> simp [hx] <;> (repeat' split) <;> first | omega | simp

/-- A payload of the body read at an index, where its operands hold real arrays. -/
theorem l79 (v : FVec Ideal S4x128x64 .f32) (x : Fin 4 → Fin 128 → Fin 64 → ℝ)
    (hx : ∀ h i e, v (ix3 h i e) = (x h i e : EReal)) (i : Fin 128) (h : Fin 4) (e : Fin 64) :
    k0_pay79 v (k0_pay78 v) (ix2 i (⟨64 * h.val + e.val, by omega⟩ : Fin 256)) = (x h i e : EReal) := by
  pointwise [k0_pay79, k0_pay78]
  have he := e.isLt
  fin_cases h <;> simp [hx] <;> (repeat' split) <;> first | omega | simp

/-- A payload of the body read at an index, where its operands hold real arrays. -/
theorem l82 (v : FVec Ideal S4x128x64 .f32) (x : Fin 4 → Fin 128 → Fin 64 → ℝ)
    (hx : ∀ h i e, v (ix3 h i e) = (x h i e : EReal)) (i : Fin 128) (h : Fin 4) (e : Fin 64) :
    k0_pay82 (k0_pay80 v) (k0_pay81 v) (ix2 i (⟨64 * h.val + e.val, by omega⟩ : Fin 256)) = (x h i e : EReal) := by
  pointwise [k0_pay82, k0_pay81, k0_pay80]
  have he := e.isLt
  fin_cases h <;> simp [hx] <;> (repeat' split) <;> first | omega | simp

end Cert.KernelIdeal.Gen
-- ==== Proof.Att.KBlk.lean ====
module

public import proofs.«01_k».proof.Proof.Gen.KernelIdeal.Skeleton
public import proofs.«01_k».proof.Proof.Att.KPay
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Gen

open Idealize.ShloMosaic Cert.Att Cert.KernelIdeal

/-! One grid point of the kernel: the stages composed, over real blocks. -/

/-- The real blocks a grid point reads. -/
structure RB where
  /-- whether a block precedes -/
  has : Bool
  /-- queries -/
  q : Fin 128 → Fin 256 → ℝ
  /-- keys of the block before -/
  kp : Fin 128 → Fin 256 → ℝ
  /-- keys -/
  kc : Fin 128 → Fin 256 → ℝ
  /-- values of the block before -/
  vp : Fin 128 → Fin 256 → ℝ
  /-- values -/
  vc : Fin 128 → Fin 256 → ℝ
  /-- the cotangent of the output -/
  dO : Fin 128 → Fin 256 → ℝ
  /-- the cotangent of the log-sum-exp -/
  dl : Fin 128 → Fin 256 → ℝ
  /-- the queries' gain -/
  gq : Fin 4 → Fin 64 → ℝ
  /-- the keys' gain -/
  gk : Fin 4 → Fin 64 → ℝ

/-- The attention cell of one head of a grid point. -/
def RB.cell (b : RB) (h : Fin 4) : Cell where
  has := b.has
  sg := slope h
  qf i e := nrm (hd b.q h i) e * b.gq h e * (1 / 8)
  kp j e := nrm (hd b.kp h j) e * b.gk h e
  kc j e := nrm (hd b.kc h j) e * b.gk h e
  vp j e := hd b.vp h j e
  vc j e := hd b.vc h j e
  dO i e := hd b.dO h i e
  dl i := ∑ e, hd b.dl h i e

/-- The queries' gradient. -/
def RB.oq (b : RB) (h : Fin 4) (i : Fin 128) (e : Fin 64) : ℝ :=
  nb (hd b.q h i) (fun e => (b.cell h).dq i e * (1 / 8) * b.gq h e) e
/-- The gradient of the keys of the block before. -/
def RB.okp (b : RB) (h : Fin 4) (i : Fin 128) (e : Fin 64) : ℝ :=
  nb (hd b.kp h i) (fun e => (b.cell h).dkP i e * b.gk h e) e
/-- The gradient of the keys. -/
def RB.okc (b : RB) (h : Fin 4) (i : Fin 128) (e : Fin 64) : ℝ :=
  nb (hd b.kc h i) (fun e => (b.cell h).dkC i e * b.gk h e) e
/-- The gradient of the queries' gain. -/
def RB.ogq (b : RB) (h : Fin 4) (e : Fin 64) : ℝ := ∑ i, nrm (hd b.q h i) e * ((b.cell h).dq i e * (1 / 8))
/-- The gradient of the keys' gain. -/
def RB.ogk (b : RB) (h : Fin 4) (e : Fin 64) : ℝ :=
  (∑ i, nrm (hd b.kc h i) e * (b.cell h).dkC i e) + ∑ i, nrm (hd b.kp h i) e * (b.cell h).dkP i e

/-- What the windows of a grid point hold. -/
structure Win where
  /-- the block's number -/
  a1 : BitVec 32
  /-- queries -/
  x0 : Vec Ideal S128x256 .f32
  /-- keys of the block before -/
  x1 : Vec Ideal S128x256 .f32
  /-- keys -/
  x2 : Vec Ideal S128x256 .f32
  /-- values of the block before -/
  x3 : Vec Ideal S128x256 .f32
  /-- values -/
  x4 : Vec Ideal S128x256 .f32
  /-- the queries' gain -/
  x5 : Vec Ideal S4x1x64 .f32
  /-- the keys' gain -/
  x6 : Vec Ideal S4x1x64 .f32
  /-- the cotangent of the output -/
  x7 : Vec Ideal S128x256 .f32
  /-- the cotangent of the log-sum-exp -/
  x8 : Vec Ideal S128x256 .f32

/-- The windows hold these real blocks. -/
structure Holds (w : Win) (b : RB) : Prop where
  a1 : Scalar.cmpi .sgt w.a1 0#32 = BitVec.ofBool b.has
  x0 : ∀ i l, w.x0 (ix2 i l) = (b.q i l : EReal)
  x1 : ∀ i l, w.x1 (ix2 i l) = (b.kp i l : EReal)
  x2 : ∀ i l, w.x2 (ix2 i l) = (b.kc i l : EReal)
  x3 : ∀ i l, w.x3 (ix2 i l) = (b.vp i l : EReal)
  x4 : ∀ i l, w.x4 (ix2 i l) = (b.vc i l : EReal)
  x5 : ∀ h e, w.x5 (ix3 h 0 e) = (b.gq h e : EReal)
  x6 : ∀ h e, w.x6 (ix3 h 0 e) = (b.gk h e : EReal)
  x7 : ∀ i l, w.x7 (ix2 i l) = (b.dO i l : EReal)
  x8 : ∀ i l, w.x8 (ix2 i l) = (b.dl i l : EReal)

namespace Win
variable (w : Win)
/-- A stage. -/
abbrev v27 := k0_pay5 w.x0
/-- A stage. -/
abbrev v36 := k0_pay6 w.x1
/-- A stage. -/
abbrev v45 := k0_pay9 (k0_pay1 w.x2) (k0_pay7 w.x2) (k0_pay8 w.x2)
/-- A stage. -/
abbrev v54 := k0_pay10 (k0_pay2 w.x3)
/-- A stage. -/
abbrev v63 := k0_pay11 (k0_pay3 w.x4)
/-- A stage. -/
abbrev v80 := k0_pay16 w.x5 w.v27
/-- A stage. -/
abbrev v91 := k0_pay19 w.v36
/-- A stage. -/
abbrev v101 := k0_pay24 w.x6 w.v36 w.v91
/-- A stage. -/
abbrev v127 := k0_pay30 w.x6 w.v45
/-- A stage. -/
abbrev v112 := k0_pay25 w.x6 k0_pay4 w.v36 w.v80 k0_pay17 w.v91
/-- A stage. -/
abbrev v138 := k0_pay31 w.x6 k0_pay4 w.v45 w.v80 k0_pay18
/-- A stage. -/
abbrev v229 := k0_pay50 (k0_pay45 w.x7)
/-- A stage. -/
abbrev v161 := k0_pay38 w.a1 k0_pay18 w.v112 w.v138 (k0_pay32 k0_pay17)
/-- A stage. -/
abbrev v164 := k0_pay39 w.a1 k0_pay18 w.v112 w.v138 (k0_pay32 k0_pay17)
/-- A stage. -/
abbrev v169 := k0_pay40 w.a1 k0_pay18 w.v112 w.v138 (k0_pay32 k0_pay17)
/-- A stage. -/
abbrev v171 := k0_pay41 w.a1 k0_pay18 w.v112 w.v138 (k0_pay32 k0_pay17)
/-- A stage. -/
abbrev v174 := k0_pay42 w.a1 k0_pay18 w.v112 w.v138 (k0_pay32 k0_pay17)
/-- A stage. -/
abbrev v176 := k0_pay43 w.a1 k0_pay18 w.v112 w.v138 (k0_pay32 k0_pay17)
/-- A stage. -/
abbrev v179 := k0_pay44 w.a1 k0_pay18 w.v112 w.v138 (k0_pay32 k0_pay17)
/-- A stage. -/
abbrev v145 := k0_pay33 w.a1 (k0_pay32 k0_pay17)
/-- A stage. -/
abbrev v232 := k0_pay51 w.v169 (k0_pay46 w.x8) (k0_pay47 w.x8) (k0_pay48 w.x8) (k0_pay49 w.x8)
/-- A stage. -/
abbrev v235 := k0_pay52 w.v63 (k0_pay45 w.x7)
/-- A stage. -/
abbrev v278 := k0_pay59 w.v54 w.v145 w.v161 w.v164 w.v169 w.v174 w.v179 w.v229 w.v232 w.v235
/-- A stage. -/
abbrev v281 := k0_pay60 w.v54 w.v127 (k0_pay35 k0_pay18) w.v161 w.v164 w.v169 w.v174 w.v179 w.v229 w.v232 w.v235
/-- A stage. -/
abbrev v282 := k0_pay61 w.v54 (k0_pay35 k0_pay18) w.v161 w.v164 w.v169 w.v174 w.v179 w.v229 w.v232 w.v235
/-- A stage. -/
abbrev v283 := k0_pay62 w.v80
/-- A stage. -/
abbrev v304 := k0_pay64 w.x6 w.v45 (k0_pay27 w.v45) (k0_pay28 w.v45) w.v282 w.v283 (constant S4x128x64 .f32 0x00000000#32)
/-- A stage. -/
abbrev v311 := k0_pay66 w.v101 w.v278 w.v281
/-- A stage. -/
abbrev v332 := k0_pay68 w.x6 w.v36 w.v80 (k0_pay21 w.v91) (k0_pay22 w.v91) w.v278
/-- A stage. -/
abbrev v354 := k0_pay71 w.x5 w.v27 (k0_pay13 w.v27) (k0_pay14 w.v27) w.v311 (Scalar.ofBits .f32 0x3E000000#32)
/-- A stage. -/
abbrev v238 := k0_pay54 w.v229 (k0_pay53 w.v176)
/-- A stage. -/
abbrev v254 := k0_pay56 w.v171 w.v229
/-- A stage. -/
abbrev o9 := k0_pay82 (k0_pay80 w.v354) (k0_pay81 w.v354)
/-- A stage. -/
abbrev o10 := k0_pay79 w.v332 (k0_pay78 w.v332)
/-- A stage. -/
abbrev o11 := k0_pay77 w.v304
/-- A stage. -/
abbrev o12 := k0_pay76 w.v254 (k0_pay73 w.v254) (k0_pay74 w.v254) (k0_pay75 w.v254)
/-- A stage. -/
abbrev o13 := k0_pay72 w.v238
/-- A stage. -/
abbrev o14 := k0_pay70 (k0_pay15 w.v27) w.v311 (Scalar.ofBits .f32 0x3E000000#32)
/-- A stage. -/
abbrev o15 := k0_pay67 w.v80 (k0_pay23 w.v36 w.v91) (k0_pay29 w.v45) w.v278 w.v282 w.v283 (constant S4x128x64 .f32 0x00000000#32)

variable {w} {b : RB} (H : Holds w b)
include H
/-- A value of the body at a grid point, over the real numbers. -/
theorem h27 (h : Fin 4) (i : Fin 128) (e : Fin 64) : w.v27 (ix3 h i e) = (hd b.q h i e : EReal) := l5 _ _ H.x0 h i e
/-- A value of the body at a grid point, over the real numbers. -/
theorem h36 (h : Fin 4) (i : Fin 128) (e : Fin 64) : w.v36 (ix3 h i e) = (hd b.kp h i e : EReal) := l6 _ _ H.x1 h i e
/-- A value of the body at a grid point, over the real numbers. -/
theorem h45 (h : Fin 4) (i : Fin 128) (e : Fin 64) : w.v45 (ix3 h i e) = (hd b.kc h i e : EReal) := l9 _ _ H.x2 h i e
/-- A value of the body at a grid point, over the real numbers. -/
theorem h54 (h : Fin 4) (i : Fin 128) (e : Fin 64) : w.v54 (ix3 h i e) = ((b.cell h).vp i e : EReal) := l10 _ _ H.x3 h i e
/-- A value of the body at a grid point, over the real numbers. -/
theorem h63 (h : Fin 4) (i : Fin 128) (e : Fin 64) : w.v63 (ix3 h i e) = ((b.cell h).vc i e : EReal) := l11 _ _ H.x4 h i e
/-- A value of the body at a grid point, over the real numbers. -/
theorem h229 (h : Fin 4) (i : Fin 128) (e : Fin 64) : w.v229 (ix3 h i e) = ((b.cell h).dO i e : EReal) := l50 _ _ H.x7 h i e
/-- A value of the body at a grid point, over the real numbers. -/
theorem h80 (h : Fin 4) (i : Fin 128) (e : Fin 64) : w.v80 (ix3 h i e) = ((b.cell h).qf i e : EReal) := l16 _ _ (h27 H) _ _ H.x5 h i e
/-- A value of the body at a grid point, over the real numbers. -/
theorem h101 (h : Fin 4) (i : Fin 128) (e : Fin 64) : w.v101 (ix3 h i e) = ((b.cell h).kp i e : EReal) := l24 _ _ (h36 H) _ _ H.x6 h i e
/-- A value of the body at a grid point, over the real numbers. -/
theorem h127 (h : Fin 4) (i : Fin 128) (e : Fin 64) : w.v127 (ix3 h i e) = ((b.cell h).kc i e : EReal) := l30 _ _ (h45 H) _ _ H.x6 h i e
/-- A value of the body at a grid point, over the real numbers. -/
theorem h112 (h : Fin 4) (i j : Fin 128) : w.v112 (ix3 h i j) = ((b.cell h).sP i j : EReal) :=
  l25 b.cell _ _ _ _ _ (h80 H) (h101 H) l4 h i j
/-- A value of the body at a grid point, over the real numbers. -/
theorem h138 (h : Fin 4) (i j : Fin 128) : w.v138 (ix3 h i j) = ((b.cell h).sC i j : EReal) :=
  l31 b.cell _ _ _ _ (h80 H) (h127 H) l4 h i j
/-- The scalar that tells whether there is a block before. -/
theorem ha (h : Fin 4) : Scalar.cmpi .sgt w.a1 0#32 = BitVec.ofBool (b.cell h).has := H.a1
/-- A value of the body at a grid point, over the real numbers. -/
theorem h161 (h : Fin 4) (i j : Fin 128) : w.v161 (ix3 h i j) = ((b.cell h).pP i j : EReal) := l38 b.cell _ (ha H) _ _ (h112 H) (h138 H) h i j
/-- A value of the body at a grid point, over the real numbers. -/
theorem h164 (h : Fin 4) (i j : Fin 128) : w.v164 (ix3 h i j) = ((b.cell h).pC i j : EReal) := l39 b.cell _ (ha H) _ _ (h112 H) (h138 H) h i j
/-- A value of the body at a grid point, over the real numbers. -/
theorem h171 (h : Fin 4) (i j : Fin 128) : w.v171 (ix3 h i j) = ((b.cell h).wP i j : EReal) := l41 b.cell _ (ha H) _ _ (h112 H) (h138 H) h i j
/-- A value of the body at a grid point, over the real numbers. -/
theorem h176 (h : Fin 4) (i j : Fin 128) : w.v176 (ix3 h i j) = ((b.cell h).wC i j : EReal) := l43 b.cell _ (ha H) _ _ (h112 H) (h138 H) h i j
/-- A value of the body at a grid point, over the real numbers. -/
theorem h169 (h : Fin 4) (i : Fin 128) : w.v169 (ix3 h i 0) = ((b.cell h).den i : EReal) := l40 b.cell _ (ha H) _ _ (h112 H) (h138 H) h i
/-- A value of the body at a grid point, over the real numbers. -/
theorem h174 (h : Fin 4) (i : Fin 128) : w.v174 (ix3 h i 0) = ((b.cell h).iv i : EReal) := l42 b.cell _ (ha H) _ _ (h112 H) (h138 H) h i
/-- A value of the body at a grid point, over the real numbers. -/
theorem h179 (h : Fin 4) (i : Fin 128) : w.v179 (ix3 h i 0) = ((b.cell h).iv i : EReal) := l44 b.cell _ (ha H) _ _ (h112 H) (h138 H) h i
/-- A value of the body at a grid point, over the real numbers. -/
theorem h145 (h : Fin 4) (i j : Fin 128) : w.v145 (ix3 h i j) = BitVec.ofBool (decide ((b.cell h).vP i j)) := l33 b.cell _ (ha H) h i j
omit H in
/-- A value of the body at a grid point, over the real numbers. -/
theorem h151 (h : Fin 4) (i j : Fin 128) : (k0_pay35 k0_pay18) (ix3 h i j) = BitVec.ofBool (decide (Cell.vC i j)) := l35 h i j
/-- A value of the body at a grid point, over the real numbers. -/
theorem h232 (h : Fin 4) (i : Fin 128) : w.v232 (ix3 h i 0) = (((b.cell h).dl i / (b.cell h).den i : ℝ) : EReal) :=
  l51 b.cell _ (h169 H) _ _ H.x8 (fun _ _ => rfl) h i
/-- A value of the body at a grid point, over the real numbers. -/
theorem h235 (h : Fin 4) (i j : Fin 128) : w.v235 (ix3 h i j) = ((b.cell h).dwC i j : EReal) :=
  l52 b.cell _ _ (h63 H) (h229 H) _ rfl h i j
/-- A value of the body at a grid point, over the real numbers. -/
theorem h238 (h : Fin 4) (j : Fin 128) (e : Fin 64) : w.v238 (ix3 h j e) = ((b.cell h).dvC j e : EReal) :=
  l54 b.cell _ _ (h229 H) (h176 H) h j e
/-- A value of the body at a grid point, over the real numbers. -/
theorem h254 (h : Fin 4) (j : Fin 128) (e : Fin 64) : w.v254 (ix3 h j e) = ((b.cell h).dvP j e : EReal) :=
  l56 b.cell _ _ (h229 H) (h171 H) h j e
/-- A value of the body at a grid point, over the real numbers. -/
theorem h278 (h : Fin 4) (i j : Fin 128) : w.v278 (ix3 h i j) = ((b.cell h).dsP i j : EReal) :=
  l59 (C := b.cell) (hvp := h54 H) (hdo := h229 H) (hpP := h161 H) (hpC := h164 H) (hden := h169 H) (hiv := h174 H) (hiv' := h179 H)
    (hdl := h232 H) (hmP := h145 H) (hdw := h235 H) (h := h) (i := i) (j := j)
/-- A value of the body at a grid point, over the real numbers. -/
theorem h281 (h : Fin 4) (i : Fin 128) (e : Fin 64) : w.v281 (ix3 h i e) = ((∑ j, (b.cell h).dsC i j * (b.cell h).kc j e : ℝ) : EReal) :=
  l60 (C := b.cell) (hvp := h54 H) (hdo := h229 H) (hpP := h161 H) (hpC := h164 H) (hden := h169 H) (hiv := h174 H) (hiv' := h179 H)
    (hdl := h232 H) (hmC := h151) (hdw := h235 H) (hkc := h127 H) (h := h) (i := i) (e := e)
/-- A value of the body at a grid point, over the real numbers. -/
theorem hkC (h : Fin 4) (i : Fin 128) (e : Fin 64) :
    k0_pay63 w.v282 w.v283 (constant S4x128x64 .f32 0x00000000#32) (ix3 h i e) = ((b.cell h).dkC i e : EReal) :=
  l63 (C := b.cell) (hvp := h54 H) (hdo := h229 H) (hpP := h161 H) (hpC := h164 H) (hden := h169 H) (hiv := h174 H) (hiv' := h179 H)
    (hdl := h232 H) (hmC := h151) (hdw := h235 H) (hq := h80 H) (h := h) (j := i) (e := e)
/-- A value of the body at a grid point, over the real numbers. -/
theorem hkP (h : Fin 4) (i : Fin 128) (e : Fin 64) : k0_pay65 w.v80 w.v278 (ix3 h i e) = ((b.cell h).dkP i e : EReal) :=
  l65 b.cell _ _ (h80 H) (h278 H) h i e
/-- A value of the body at a grid point, over the real numbers. -/
theorem h311 (h : Fin 4) (i : Fin 128) (e : Fin 64) : w.v311 (ix3 h i e) = ((b.cell h).dq i e : EReal) :=
  l66 b.cell _ _ _ (h101 H) (h278 H) (h281 H) h i e
/-- A value of the body at a grid point, over the real numbers. -/
theorem h304 (h : Fin 4) (i : Fin 128) (e : Fin 64) : w.v304 (ix3 h i e) = (b.okc h i e : EReal) :=
  l64 _ _ _ _ _ _ _ H.x6 (h45 H) (l27 _ _ (h45 H)) (l28 _ _ (h45 H)) _ _ _ (hkC H) h i e
/-- A value of the body at a grid point, over the real numbers. -/
theorem h332 (h : Fin 4) (i : Fin 128) (e : Fin 64) : w.v332 (ix3 h i e) = (b.okp h i e : EReal) :=
  l68 _ _ _ _ _ _ _ H.x6 (h36 H) (l21 _ _ (h36 H)) (l22 _ _ (h36 H)) _ _ (hkP H) h i e
/-- A value of the body at a grid point, over the real numbers. -/
theorem h354 (h : Fin 4) (i : Fin 128) (e : Fin 64) : w.v354 (ix3 h i e) = (b.oq h i e : EReal) :=
  l71 _ _ _ _ _ _ _ H.x5 (h27 H) (l13 _ _ (h27 H)) (l14 _ _ (h27 H)) _ (h311 H) h i e
/-- An output block of the grid point. -/
theorem ho9 (i : Fin 128) (h : Fin 4) (e : Fin 64) : w.o9 (ix2 i (⟨64 * h.val + e.val, by omega⟩ : Fin 256)) = (b.oq h i e : EReal) :=
  l82 _ _ (h354 H) i h e
/-- An output block of the grid point. -/
theorem ho10 (i : Fin 128) (h : Fin 4) (e : Fin 64) : w.o10 (ix2 i (⟨64 * h.val + e.val, by omega⟩ : Fin 256)) = (b.okp h i e : EReal) :=
  l79 _ _ (h332 H) i h e
/-- An output block of the grid point. -/
theorem ho11 (i : Fin 128) (h : Fin 4) (e : Fin 64) : w.o11 (ix2 i (⟨64 * h.val + e.val, by omega⟩ : Fin 256)) = (b.okc h i e : EReal) :=
  l77 _ _ (h304 H) i h e
/-- An output block of the grid point. -/
theorem ho12 (i : Fin 128) (h : Fin 4) (e : Fin 64) : w.o12 (ix2 i (⟨64 * h.val + e.val, by omega⟩ : Fin 256)) = ((b.cell h).dvP i e : EReal) :=
  l76 _ _ (h254 H) i h e
/-- An output block of the grid point. -/
theorem ho13 (i : Fin 128) (h : Fin 4) (e : Fin 64) : w.o13 (ix2 i (⟨64 * h.val + e.val, by omega⟩ : Fin 256)) = ((b.cell h).dvC i e : EReal) :=
  l72 _ _ (h238 H) i h e
/-- The gain's gradient of the grid point, queries. -/
theorem ho14 (h : Fin 4) (e : Fin 64) : w.o14 (ix3 h 0 e) = (b.ogq h e : EReal) :=
  l70 _ _ _ _ (l15 _ _ (h27 H)) (h311 H) h e
/-- The gain's gradient of the grid point, keys. -/
theorem ho15 (h : Fin 4) (e : Fin 64) : w.o15 (ix3 h 0 e) = (b.ogk h e : EReal) :=
  l67 _ _ _ _ _ _ _ _ _ _ _ (l29 _ _ (h45 H)) (l23 _ _ (h36 H)) (hkC H) (hkP H) h e
end Win

end Cert.KernelIdeal.Gen
-- ==== Proof.Att.KWord.lean ====
module

public import proofs.«01_k».proof.Proof.Gen.KernelIdeal.Skeleton
public import proofs.«01_k».proof.Proof.Att.KBlk
public import proofs.«01_k».proof.Proof.Gen.KernelIdeal.Frame
public import Idealize.ShloMosaic.Lib.Pipeline.ValueKit
public import Idealize.ShloMosaic.Lib.StableHlo.Run
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Gen

open Idealize.ShloMosaic Idealize.ShloMosaic.TcCoe Idealize.SL.Sem Cert.Att Cert.KernelIdeal
open Idealize.ShloMosaic.Pipeline (Dat)

/-! The values a run of the body names are the stages of `Win`, one by one. -/

/-- A grid point and its windows. -/
structure Args where
  /-- the core -/
  c : Dev nD
  /-- the point -/
  i : grid0.Coords
  /-- window 0 -/
  arg2 : Memref sig .tc .vmem S128x256 .f32
  /-- whole -/
  harg2 : arg2.IsWhole
  /-- window 1 -/
  arg3 : Memref sig .tc .vmem S128x256 .f32
  /-- whole -/
  harg3 : arg3.IsWhole
  /-- window 2 -/
  arg4 : Memref sig .tc .vmem S128x256 .f32
  /-- whole -/
  harg4 : arg4.IsWhole
  /-- window 3 -/
  arg5 : Memref sig .tc .vmem S128x256 .f32
  /-- whole -/
  harg5 : arg5.IsWhole
  /-- window 4 -/
  arg6 : Memref sig .tc .vmem S128x256 .f32
  /-- whole -/
  harg6 : arg6.IsWhole
  /-- window 5 -/
  arg7 : Memref sig .tc .vmem S4x1x64 .f32
  /-- whole -/
  harg7 : arg7.IsWhole
  /-- window 6 -/
  arg8 : Memref sig .tc .vmem S4x1x64 .f32
  /-- whole -/
  harg8 : arg8.IsWhole
  /-- window 7 -/
  arg9 : Memref sig .tc .vmem S128x256 .f32
  /-- whole -/
  harg9 : arg9.IsWhole
  /-- window 8 -/
  arg10 : Memref sig .tc .vmem S128x256 .f32
  /-- whole -/
  harg10 : arg10.IsWhole
  /-- contents of window 0 -/
  x0 : Vec Ideal S128x256 .f32
  /-- contents of window 1 -/
  x1 : Vec Ideal S128x256 .f32
  /-- contents of window 2 -/
  x2 : Vec Ideal S128x256 .f32
  /-- contents of window 3 -/
  x3 : Vec Ideal S128x256 .f32
  /-- contents of window 4 -/
  x4 : Vec Ideal S128x256 .f32
  /-- contents of window 5 -/
  x5 : Vec Ideal S4x1x64 .f32
  /-- contents of window 6 -/
  x6 : Vec Ideal S4x1x64 .f32
  /-- contents of window 7 -/
  x7 : Vec Ideal S128x256 .f32
  /-- contents of window 8 -/
  x8 : Vec Ideal S128x256 .f32

/-- The windows' contents as a grid point reads them. -/
abbrev rawW (a : Args) : Win :=
  ⟨BitVec.ofNat 32 (a.i 1).val, (View.readAt (Elt Ideal) a.arg2.view (Rect.unit ![0, 0] S128x256.size inb_S128x256_S128x256_0_0) (a.harg2.unread a.x0)), (View.readAt (Elt Ideal) a.arg3.view (Rect.unit ![0, 0] S128x256.size inb_S128x256_S128x256_0_0) (a.harg3.unread a.x1)), (View.readAt (Elt Ideal) a.arg4.view (Rect.unit ![0, 0] S128x256.size inb_S128x256_S128x256_0_0) (a.harg4.unread a.x2)), (View.readAt (Elt Ideal) a.arg5.view (Rect.unit ![0, 0] S128x256.size inb_S128x256_S128x256_0_0) (a.harg5.unread a.x3)), (View.readAt (Elt Ideal) a.arg6.view (Rect.unit ![0, 0] S128x256.size inb_S128x256_S128x256_0_0) (a.harg6.unread a.x4)), (View.readAt (Elt Ideal) a.arg7.view (Rect.unit ![0, 0, 0] S4x1x64.size inb_S4x1x64_S4x1x64_0_0_0) (a.harg7.unread a.x5)), (View.readAt (Elt Ideal) a.arg8.view (Rect.unit ![0, 0, 0] S4x1x64.size inb_S4x1x64_S4x1x64_0_0_0) (a.harg8.unread a.x6)), (View.readAt (Elt Ideal) a.arg9.view (Rect.unit ![0, 0] S128x256.size inb_S128x256_S128x256_0_0) (a.harg9.unread a.x7)), (View.readAt (Elt Ideal) a.arg10.view (Rect.unit ![0, 0] S128x256.size inb_S128x256_S128x256_0_0) (a.harg10.unread a.x8))⟩

section
/-- This value of a run is the stage of the same name. -/
theorem A27 (a : Args) :
    (kernelRun0_A.sl.v27 (F := Ideal) a.c a.arg2 a.harg2 a.x0) = (rawW a).v27 := rfl
/-- This value of a run is the stage of the same name. -/
theorem A36 (a : Args) :
    (kernelRun0_A.sl.v36 (F := Ideal) a.c a.arg3 a.harg3 a.x1) = (rawW a).v36 := rfl
/-- This value of a run is the stage of the same name. -/
theorem A45 (a : Args) :
    (kernelRun0_A.sl.v45 (F := Ideal) a.c a.arg4 a.harg4 a.x2) = (rawW a).v45 := rfl
/-- This value of a run is the stage of the same name. -/
theorem A54 (a : Args) :
    (kernelRun0_A.sl.v54 (F := Ideal) a.c a.arg5 a.harg5 a.x3) = (rawW a).v54 := rfl
/-- This value of a run is the stage of the same name. -/
theorem A63 (a : Args) :
    (kernelRun0_A.sl.v63 (F := Ideal) a.c a.arg6 a.harg6 a.x4) = (rawW a).v63 := rfl
/-- This value of a run is the stage of the same name. -/
theorem A80 (a : Args) :
    (kernelRun0_A.sl.v80 (F := Ideal) a.c a.arg2 a.harg2 a.arg7 a.harg7 a.x0 a.x5) = (rawW a).v80 := by
  have e : (kernelRun0_A.sl.v80 (F := Ideal) a.c a.arg2 a.harg2 a.arg7 a.harg7 a.x0 a.x5) = k0_pay16 (View.readAt (Elt Ideal) a.arg7.view (Rect.unit ![0, 0, 0] S4x1x64.size inb_S4x1x64_S4x1x64_0_0_0) (a.harg7.unread a.x5)) (kernelRun0_A.sl.v27 (F := Ideal) a.c a.arg2 a.harg2 a.x0) := rfl
  rw [e, A27 a]
/-- This value of a run is the stage of the same name. -/
theorem A91 (a : Args) :
    (kernelRun0_A.sl.v91 (F := Ideal) a.c a.arg3 a.harg3 a.x1) = (rawW a).v91 := by
  have e : (kernelRun0_A.sl.v91 (F := Ideal) a.c a.arg3 a.harg3 a.x1) = k0_pay19 (kernelRun0_A.sl.v36 (F := Ideal) a.c a.arg3 a.harg3 a.x1) := rfl
  rw [e, A36 a]
/-- This value of a run is the stage of the same name. -/
theorem A101 (a : Args) :
    (kernelRun0_A.sl.v101 (F := Ideal) a.c a.arg3 a.harg3 a.arg8 a.harg8 a.x1 a.x6) = (rawW a).v101 := by
  have e : (kernelRun0_A.sl.v101 (F := Ideal) a.c a.arg3 a.harg3 a.arg8 a.harg8 a.x1 a.x6) = k0_pay24 (View.readAt (Elt Ideal) a.arg8.view (Rect.unit ![0, 0, 0] S4x1x64.size inb_S4x1x64_S4x1x64_0_0_0) (a.harg8.unread a.x6)) (kernelRun0_A.sl.v36 (F := Ideal) a.c a.arg3 a.harg3 a.x1) (kernelRun0_A.sl.v91 (F := Ideal) a.c a.arg3 a.harg3 a.x1) := rfl
  rw [e, A36 a, A91 a]
/-- This value of a run is the stage of the same name. -/
theorem A127 (a : Args) :
    (kernelRun0_A.sl.v127 (F := Ideal) a.c a.arg4 a.harg4 a.arg8 a.harg8 a.x2 a.x6) = (rawW a).v127 := by
  have e : (kernelRun0_A.sl.v127 (F := Ideal) a.c a.arg4 a.harg4 a.arg8 a.harg8 a.x2 a.x6) = k0_pay30 (View.readAt (Elt Ideal) a.arg8.view (Rect.unit ![0, 0, 0] S4x1x64.size inb_S4x1x64_S4x1x64_0_0_0) (a.harg8.unread a.x6)) (kernelRun0_A.sl.v45 (F := Ideal) a.c a.arg4 a.harg4 a.x2) := rfl
  rw [e, A45 a]
/-- This value of a run is the stage of the same name. -/
theorem A112 (a : Args) :
    (kernelRun0_A.sl.v112 (F := Ideal) a.c a.arg2 a.harg2 a.arg3 a.harg3 a.arg7 a.harg7 a.arg8 a.harg8 a.x0 a.x1 a.x5 a.x6) = (rawW a).v112 := by
  have e : (kernelRun0_A.sl.v112 (F := Ideal) a.c a.arg2 a.harg2 a.arg3 a.harg3 a.arg7 a.harg7 a.arg8 a.harg8 a.x0 a.x1 a.x5 a.x6) = k0_pay25 (View.readAt (Elt Ideal) a.arg8.view (Rect.unit ![0, 0, 0] S4x1x64.size inb_S4x1x64_S4x1x64_0_0_0) (a.harg8.unread a.x6)) k0_pay4 (kernelRun0_A.sl.v36 (F := Ideal) a.c a.arg3 a.harg3 a.x1) (kernelRun0_A.sl.v80 (F := Ideal) a.c a.arg2 a.harg2 a.arg7 a.harg7 a.x0 a.x5) k0_pay17 (kernelRun0_A.sl.v91 (F := Ideal) a.c a.arg3 a.harg3 a.x1) := rfl
  rw [e, A36 a, A80 a, A91 a]
/-- This value of a run is the stage of the same name. -/
theorem A138 (a : Args) :
    (kernelRun0_A.sl.v138 (F := Ideal) a.c a.arg2 a.harg2 a.arg4 a.harg4 a.arg7 a.harg7 a.arg8 a.harg8 a.x0 a.x2 a.x5 a.x6) = (rawW a).v138 := by
  have e : (kernelRun0_A.sl.v138 (F := Ideal) a.c a.arg2 a.harg2 a.arg4 a.harg4 a.arg7 a.harg7 a.arg8 a.harg8 a.x0 a.x2 a.x5 a.x6) = k0_pay31 (View.readAt (Elt Ideal) a.arg8.view (Rect.unit ![0, 0, 0] S4x1x64.size inb_S4x1x64_S4x1x64_0_0_0) (a.harg8.unread a.x6)) k0_pay4 (kernelRun0_A.sl.v45 (F := Ideal) a.c a.arg4 a.harg4 a.x2) (kernelRun0_A.sl.v80 (F := Ideal) a.c a.arg2 a.harg2 a.arg7 a.harg7 a.x0 a.x5) k0_pay18 := rfl
  rw [e, A45 a, A80 a]
/-- This value of a run is the stage of the same name. -/
theorem A229 (a : Args) :
    (kernelRun0_A.sl.v229 (F := Ideal) a.c a.arg9 a.harg9 a.x7) = (rawW a).v229 := rfl
/-- This value of a run is the stage of the same name. -/
theorem A161 (a : Args) :
    (kernelRun0_A.sl.r_3 (F := Ideal) a.c a.i a.arg2 a.harg2 a.arg3 a.harg3 a.arg4 a.harg4 a.arg7 a.harg7 a.arg8 a.harg8 a.x0 a.x1 a.x2 a.x5 a.x6) = (rawW a).v161 := by
  have e : (kernelRun0_A.sl.r_3 (F := Ideal) a.c a.i a.arg2 a.harg2 a.arg3 a.harg3 a.arg4 a.harg4 a.arg7 a.harg7 a.arg8 a.harg8 a.x0 a.x1 a.x2 a.x5 a.x6) = k0_pay38 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A164 (a : Args) :
    (kernelRun0_A.sl.r_4 (F := Ideal) a.c a.i a.arg2 a.harg2 a.arg3 a.harg3 a.arg4 a.harg4 a.arg7 a.harg7 a.arg8 a.harg8 a.x0 a.x1 a.x2 a.x5 a.x6) = (rawW a).v164 := by
  have e : (kernelRun0_A.sl.r_4 (F := Ideal) a.c a.i a.arg2 a.harg2 a.arg3 a.harg3 a.arg4 a.harg4 a.arg7 a.harg7 a.arg8 a.harg8 a.x0 a.x1 a.x2 a.x5 a.x6) = k0_pay39 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A169 (a : Args) :
    (kernelRun0_A.sl.r_5 (F := Ideal) a.c a.i a.arg2 a.harg2 a.arg3 a.harg3 a.arg4 a.harg4 a.arg7 a.harg7 a.arg8 a.harg8 a.x0 a.x1 a.x2 a.x5 a.x6) = (rawW a).v169 := by
  have e : (kernelRun0_A.sl.r_5 (F := Ideal) a.c a.i a.arg2 a.harg2 a.arg3 a.harg3 a.arg4 a.harg4 a.arg7 a.harg7 a.arg8 a.harg8 a.x0 a.x1 a.x2 a.x5 a.x6) = k0_pay40 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A171 (a : Args) :
    (kernelRun0_A.sl.r_6 (F := Ideal) a.c a.i a.arg2 a.harg2 a.arg3 a.harg3 a.arg4 a.harg4 a.arg7 a.harg7 a.arg8 a.harg8 a.x0 a.x1 a.x2 a.x5 a.x6) = (rawW a).v171 := by
  have e : (kernelRun0_A.sl.r_6 (F := Ideal) a.c a.i a.arg2 a.harg2 a.arg3 a.harg3 a.arg4 a.harg4 a.arg7 a.harg7 a.arg8 a.harg8 a.x0 a.x1 a.x2 a.x5 a.x6) = k0_pay41 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A174 (a : Args) :
    (kernelRun0_A.sl.r_7 (F := Ideal) a.c a.i a.arg2 a.harg2 a.arg3 a.harg3 a.arg4 a.harg4 a.arg7 a.harg7 a.arg8 a.harg8 a.x0 a.x1 a.x2 a.x5 a.x6) = (rawW a).v174 := by
  have e : (kernelRun0_A.sl.r_7 (F := Ideal) a.c a.i a.arg2 a.harg2 a.arg3 a.harg3 a.arg4 a.harg4 a.arg7 a.harg7 a.arg8 a.harg8 a.x0 a.x1 a.x2 a.x5 a.x6) = k0_pay42 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A176 (a : Args) :
    (kernelRun0_A.sl.r_8 (F := Ideal) a.c a.i a.arg2 a.harg2 a.arg3 a.harg3 a.arg4 a.harg4 a.arg7 a.harg7 a.arg8 a.harg8 a.x0 a.x1 a.x2 a.x5 a.x6) = (rawW a).v176 := by
  have e : (kernelRun0_A.sl.r_8 (F := Ideal) a.c a.i a.arg2 a.harg2 a.arg3 a.harg3 a.arg4 a.harg4 a.arg7 a.harg7 a.arg8 a.harg8 a.x0 a.x1 a.x2 a.x5 a.x6) = k0_pay43 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A179 (a : Args) :
    (kernelRun0_A.sl.r_9 (F := Ideal) a.c a.i a.arg2 a.harg2 a.arg3 a.harg3 a.arg4 a.harg4 a.arg7 a.harg7 a.arg8 a.harg8 a.x0 a.x1 a.x2 a.x5 a.x6) = (rawW a).v179 := by
  have e : (kernelRun0_A.sl.r_9 (F := Ideal) a.c a.i a.arg2 a.harg2 a.arg3 a.harg3 a.arg4 a.harg4 a.arg7 a.harg7 a.arg8 a.harg8 a.x0 a.x1 a.x2 a.x5 a.x6) = k0_pay44 (BitVec.ofNat 32 (a.i 1).val) k0_pay18 (kernelRun0_A.sl.v112 (F := Ideal) a.c a.arg2 a.harg2 a.arg3 a.harg3 a.arg7 a.harg7 a.arg8 a.harg8 a.x0 a.x1 a.x5 a.x6) (kernelRun0_A.sl.v138 (F := Ideal) a.c a.arg2 a.harg2 a.arg4 a.harg4 a.arg7 a.harg7 a.arg8 a.harg8 a.x0 a.x2 a.x5 a.x6) (k0_pay32 k0_pay17) := rfl
  rw [e, A112 a, A138 a]
/-- This value of a run is the stage of the same name. -/
theorem A145 (a : Args) :
    (kernelRun0_A.sl.r_2 a.i) = (rawW a).v145 := rfl
/-- This value of a run is the stage of the same name. -/
theorem A232 (a : Args) :
    (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) = (rawW a).v232 := by
  have e : (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) = k0_pay51 (kernelRun0_A.sl.r_5 (F := Ideal) a.c a.i a.arg2 a.harg2 a.arg3 a.harg3 a.arg4 a.harg4 a.arg7 a.harg7 a.arg8 a.harg8 a.x0 a.x1 a.x2 a.x5 a.x6) (k0_pay46 (View.readAt (Elt Ideal) a.arg10.view (Rect.unit ![0, 0] S128x256.size inb_S128x256_S128x256_0_0) (a.harg10.unread a.x8))) (k0_pay47 (View.readAt (Elt Ideal) a.arg10.view (Rect.unit ![0, 0] S128x256.size inb_S128x256_S128x256_0_0) (a.harg10.unread a.x8))) (k0_pay48 (View.readAt (Elt Ideal) a.arg10.view (Rect.unit ![0, 0] S128x256.size inb_S128x256_S128x256_0_0) (a.harg10.unread a.x8))) (k0_pay49 (View.readAt (Elt Ideal) a.arg10.view (Rect.unit ![0, 0] S128x256.size inb_S128x256_S128x256_0_0) (a.harg10.unread a.x8))) := rfl
  rw [e, A169 a]
/-- This value of a run is the stage of the same name. -/
theorem A235 (a : Args) :
    (kernelRun0_A.sl.v235 (F := Ideal) a.c a.arg6 a.harg6 a.arg9 a.harg9 a.x4 a.x7) = (rawW a).v235 := by
  have e : (kernelRun0_A.sl.v235 (F := Ideal) a.c a.arg6 a.harg6 a.arg9 a.harg9 a.x4 a.x7) = k0_pay52 (kernelRun0_A.sl.v63 (F := Ideal) a.c a.arg6 a.harg6 a.x4) (k0_pay45 (View.readAt (Elt Ideal) a.arg9.view (Rect.unit ![0, 0] S128x256.size inb_S128x256_S128x256_0_0) (a.harg9.unread a.x7))) := rfl
  rw [e, A63 a]
/-- This value of a run is the stage of the same name. -/
theorem A278 (a : Args) :
    (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v278 := by
  have e : (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay59 (kernelRun0_A.sl.v54 (F := Ideal) a.c a.arg5 a.harg5 a.x3) (kernelRun0_A.sl.r_2 a.i) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7) := rfl
  rw [e, A54 a, A145 a, A161 a, A164 a, A169 a, A174 a, A179 a, A229 a, A232 a, A235 a]
/-- This value of a run is the stage of the same name. -/
theorem A281 (a : Args) :
    (kernelRun0_A.sl.v281 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v281 := by
  have e : (kernelRun0_A.sl.v281 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay60 (kernelRun0_A.sl.v54 (F := Ideal) a.c a.arg5 a.harg5 a.x3) (kernelRun0_A.sl.v127 (F := Ideal) a.c a.arg4 a.harg4 a.arg8 a.harg8 a.x2 a.x6) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7) := rfl
  rw [e, A54 a, A127 a, A161 a, A164 a, A169 a, A174 a, A179 a, A229 a, A232 a, A235 a]
/-- This value of a run is the stage of the same name. -/
theorem A282 (a : Args) :
    (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) = (rawW a).v282 := by
  have e : (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) = k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7) := rfl
  rw [e, A54 a, A161 a, A164 a, A169 a, A174 a, A179 a, A229 a, A232 a, A235 a]
/-- This value of a run is the stage of the same name. -/
theorem A283 (a : Args) :
    (k0_pay62 (kernelRun0_A.sl.v80 (F := Ideal) a.c a.arg2 a.harg2 a.arg7 a.harg7 a.x0 a.x5)) = (rawW a).v283 := by
  have e : (k0_pay62 (kernelRun0_A.sl.v80 (F := Ideal) a.c a.arg2 a.harg2 a.arg7 a.harg7 a.x0 a.x5)) = k0_pay62 (kernelRun0_A.sl.v80 (F := Ideal) a.c a.arg2 a.harg2 a.arg7 a.harg7 a.x0 a.x5) := rfl
  rw [e, A80 a]
/-- This value of a run is the stage of the same name. -/
theorem A304 (a : Args) :
    (kernelRun0_A.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v304 := by
  have e : (kernelRun0_A.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay64 (View.readAt (Elt Ideal) a.arg8.view (Rect.unit ![0, 0, 0] S4x1x64.size inb_S4x1x64_S4x1x64_0_0_0) (a.harg8.unread a.x6)) (kernelRun0_A.sl.v45 (F := Ideal) a.c a.arg4 a.harg4 a.x2) (k0_pay27 (kernelRun0_A.sl.v45 (F := Ideal) a.c a.arg4 a.harg4 a.x2)) (k0_pay28 (kernelRun0_A.sl.v45 (F := Ideal) a.c a.arg4 a.harg4 a.x2)) (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) (k0_pay62 (kernelRun0_A.sl.v80 (F := Ideal) a.c a.arg2 a.harg2 a.arg7 a.harg7 a.x0 a.x5)) (constant S4x128x64 .f32 0x00000000#32) := rfl
  rw [e, A282 a, A283 a, A45 a]
/-- This value of a run is the stage of the same name. -/
theorem A311 (a : Args) :
    (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v311 := by
  have e : (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay66 (kernelRun0_A.sl.v101 (F := Ideal) a.c a.arg3 a.harg3 a.arg8 a.harg8 a.x1 a.x6) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (kernelRun0_A.sl.v281 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) := rfl
  rw [e, A101 a, A278 a, A281 a]
/-- This value of a run is the stage of the same name. -/
theorem A332 (a : Args) :
    (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v332 := by
  have e : (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay68 (View.readAt (Elt Ideal) a.arg8.view (Rect.unit ![0, 0, 0] S4x1x64.size inb_S4x1x64_S4x1x64_0_0_0) (a.harg8.unread a.x6)) (kernelRun0_A.sl.v36 (F := Ideal) a.c a.arg3 a.harg3 a.x1) (kernelRun0_A.sl.v80 (F := Ideal) a.c a.arg2 a.harg2 a.arg7 a.harg7 a.x0 a.x5) (k0_pay21 (kernelRun0_A.sl.v91 (F := Ideal) a.c a.arg3 a.harg3 a.x1)) (k0_pay22 (kernelRun0_A.sl.v91 (F := Ideal) a.c a.arg3 a.harg3 a.x1)) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) := rfl
  rw [e, A36 a, A80 a, A91 a, A278 a]
/-- This value of a run is the stage of the same name. -/
theorem A354 (a : Args) :
    (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v354 := by
  have e : (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay71 (View.readAt (Elt Ideal) a.arg7.view (Rect.unit ![0, 0, 0] S4x1x64.size inb_S4x1x64_S4x1x64_0_0_0) (a.harg7.unread a.x5)) (kernelRun0_A.sl.v27 (F := Ideal) a.c a.arg2 a.harg2 a.x0) (k0_pay13 (kernelRun0_A.sl.v27 (F := Ideal) a.c a.arg2 a.harg2 a.x0)) (k0_pay14 (kernelRun0_A.sl.v27 (F := Ideal) a.c a.arg2 a.harg2 a.x0)) (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (Scalar.ofBits .f32 0x3E000000#32) := rfl
  rw [e, A27 a, A311 a]
/-- This value of a run is the stage of the same name. -/
theorem A238 (a : Args) :
    (kernelRun0_A.sl.v238 (F := Ideal) a.c a.i a.arg2 a.harg2 a.arg3 a.harg3 a.arg4 a.harg4 a.arg7 a.harg7 a.arg8 a.harg8 a.arg9 a.harg9 a.x0 a.x1 a.x2 a.x5 a.x6 a.x7) = (rawW a).v238 := by
  have e : (kernelRun0_A.sl.v238 (F := Ideal) a.c a.i a.arg2 a.harg2 a.arg3 a.harg3 a.arg4 a.harg4 a.arg7 a.harg7 a.arg8 a.harg8 a.arg9 a.harg9 a.x0 a.x1 a.x2 a.x5 a.x6 a.x7) = k0_pay54 (kernelRun0_A.sl.v229 (F := Ideal) a.c a.arg9 a.harg9 a.x7) (k0_pay53 (kernelRun0_A.sl.r_8 (F := Ideal) a.c a.i a.arg2 a.harg2 a.arg3 a.harg3 a.arg4 a.harg4 a.arg7 a.harg7 a.arg8 a.harg8 a.x0 a.x1 a.x2 a.x5 a.x6)) := rfl
  rw [e, A229 a, A176 a]
/-- This value of a run is the stage of the same name. -/
theorem A254 (a : Args) :
    (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7) = (rawW a).v254 := by
  have e : (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7) = k0_pay56 (kernelRun0_A.sl.r_6 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) := rfl
  rw [e, A171 a, A229 a]
/-- This value of a run is the stage of the same name. -/
theorem Ao9 (a : Args) :
    (k0_pay82 (k0_pay80 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) (k0_pay81 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = (rawW a).o9 := by
  have e : (k0_pay82 (k0_pay80 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) (k0_pay81 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = k0_pay82 (k0_pay80 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) (k0_pay81 (kernelRun0_A.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) := rfl
  rw [e, A354 a]
/-- This value of a run is the stage of the same name. -/
theorem Ao10 (a : Args) :
    (k0_pay79 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay78 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = (rawW a).o10 := by
  have e : (k0_pay79 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay78 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = k0_pay79 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay78 (kernelRun0_A.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) := rfl
  rw [e, A332 a]
/-- This value of a run is the stage of the same name. -/
theorem Ao11 (a : Args) :
    (k0_pay77 (kernelRun0_A.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) = (rawW a).o11 := by
  have e : (k0_pay77 (kernelRun0_A.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) = k0_pay77 (kernelRun0_A.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) := rfl
  rw [e, A304 a]
/-- This value of a run is the stage of the same name. -/
theorem Ao12 (a : Args) :
    (k0_pay76 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7) (k0_pay73 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay74 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay75 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7))) = (rawW a).o12 := by
  have e : (k0_pay76 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7) (k0_pay73 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay74 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay75 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7))) = k0_pay76 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7) (k0_pay73 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay74 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay75 (kernelRun0_A.sl.v254 (F := Ideal) a.c a.i a.arg2 a.harg2 a.arg3 a.harg3 a.arg4 a.harg4 a.arg7 a.harg7 a.arg8 a.harg8 a.arg9 a.harg9 a.x0 a.x1 a.x2 a.x5 a.x6 a.x7)) := rfl
  rw [e, A254 a]
/-- This value of a run is the stage of the same name. -/
theorem Ao13 (a : Args) :
    (k0_pay72 (kernelRun0_A.sl.v238 (F := Ideal) a.c a.i a.arg2 a.harg2 a.arg3 a.harg3 a.arg4 a.harg4 a.arg7 a.harg7 a.arg8 a.harg8 a.arg9 a.harg9 a.x0 a.x1 a.x2 a.x5 a.x6 a.x7)) = (rawW a).o13 := by
  have e : (k0_pay72 (kernelRun0_A.sl.v238 (F := Ideal) a.c a.i a.arg2 a.harg2 a.arg3 a.harg3 a.arg4 a.harg4 a.arg7 a.harg7 a.arg8 a.harg8 a.arg9 a.harg9 a.x0 a.x1 a.x2 a.x5 a.x6 a.x7)) = k0_pay72 (kernelRun0_A.sl.v238 (F := Ideal) a.c a.i a.arg2 a.harg2 a.arg3 a.harg3 a.arg4 a.harg4 a.arg7 a.harg7 a.arg8 a.harg8 a.arg9 a.harg9 a.x0 a.x1 a.x2 a.x5 a.x6 a.x7) := rfl
  rw [e, A238 a]
/-- This value of a run is the stage of the same name. -/
theorem Ao14 (a : Args) :
    (k0_pay70 (k0_pay15 (kernelRun0_A.sl.v27 (F := Ideal) a.c a.arg2 a.harg2 a.x0)) (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (Scalar.ofBits .f32 0x3E000000#32)) = (rawW a).o14 := by
  have e : (k0_pay70 (k0_pay15 (kernelRun0_A.sl.v27 (F := Ideal) a.c a.arg2 a.harg2 a.x0)) (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (Scalar.ofBits .f32 0x3E000000#32)) = k0_pay70 (k0_pay15 (kernelRun0_A.sl.v27 (F := Ideal) a.c a.arg2 a.harg2 a.x0)) (kernelRun0_A.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (Scalar.ofBits .f32 0x3E000000#32) := rfl
  rw [e, A27 a, A311 a]
/-- This value of a run is the stage of the same name. -/
theorem Ao15 (a : Args) :
    (k0_pay67 (kernelRun0_A.sl.v80 (F := Ideal) a.c a.arg2 a.harg2 a.arg7 a.harg7 a.x0 a.x5) (k0_pay23 (kernelRun0_A.sl.v36 (F := Ideal) a.c a.arg3 a.harg3 a.x1) (kernelRun0_A.sl.v91 (F := Ideal) a.c a.arg3 a.harg3 a.x1)) (k0_pay29 (kernelRun0_A.sl.v45 (F := Ideal) a.c a.arg4 a.harg4 a.x2)) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) (k0_pay62 (kernelRun0_A.sl.v80 (F := Ideal) a.c a.arg2 a.harg2 a.arg7 a.harg7 a.x0 a.x5)) (constant S4x128x64 .f32 0x00000000#32)) = (rawW a).o15 := by
  have e : (k0_pay67 (kernelRun0_A.sl.v80 (F := Ideal) a.c a.arg2 a.harg2 a.arg7 a.harg7 a.x0 a.x5) (k0_pay23 (kernelRun0_A.sl.v36 (F := Ideal) a.c a.arg3 a.harg3 a.x1) (kernelRun0_A.sl.v91 (F := Ideal) a.c a.arg3 a.harg3 a.x1)) (k0_pay29 (kernelRun0_A.sl.v45 (F := Ideal) a.c a.arg4 a.harg4 a.x2)) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) (k0_pay62 (kernelRun0_A.sl.v80 (F := Ideal) a.c a.arg2 a.harg2 a.arg7 a.harg7 a.x0 a.x5)) (constant S4x128x64 .f32 0x00000000#32)) = k0_pay67 (kernelRun0_A.sl.v80 (F := Ideal) a.c a.arg2 a.harg2 a.arg7 a.harg7 a.x0 a.x5) (k0_pay23 (kernelRun0_A.sl.v36 (F := Ideal) a.c a.arg3 a.harg3 a.x1) (kernelRun0_A.sl.v91 (F := Ideal) a.c a.arg3 a.harg3 a.x1)) (k0_pay29 (kernelRun0_A.sl.v45 (F := Ideal) a.c a.arg4 a.harg4 a.x2)) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7)) (k0_pay62 (kernelRun0_A.sl.v80 (F := Ideal) a.c a.arg2 a.harg2 a.arg7 a.harg7 a.x0 a.x5)) (constant S4x128x64 .f32 0x00000000#32) := rfl
  rw [e, A282 a, A283 a, A80 a, A36 a, A91 a, A45 a, A278 a]
/-- The rounded cotangents of the scores. -/
theorem A279 (a : Args) : (kernelRun0_A.sl.v279 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = (rawW a).v282 := by
  have e : (kernelRun0_A.sl.v279 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) = k0_pay61 (kernelRun0_A.sl.v54 (F := Ideal) a.c a.arg5 a.harg5 a.x3) (k0_pay35 k0_pay18) (kernelRun0_A.sl.r_3 (F := Ideal) a.c a.i a.arg2 a.harg2 a.arg3 a.harg3 a.arg4 a.harg4 a.arg7 a.harg7 a.arg8 a.harg8 a.x0 a.x1 a.x2 a.x5 a.x6) (kernelRun0_A.sl.r_4 (F := Ideal) a.c a.i a.arg2 a.harg2 a.arg3 a.harg3 a.arg4 a.harg4 a.arg7 a.harg7 a.arg8 a.harg8 a.x0 a.x1 a.x2 a.x5 a.x6) (kernelRun0_A.sl.r_5 (F := Ideal) a.c a.i a.arg2 a.harg2 a.arg3 a.harg3 a.arg4 a.harg4 a.arg7 a.harg7 a.arg8 a.harg8 a.x0 a.x1 a.x2 a.x5 a.x6) (kernelRun0_A.sl.r_7 (F := Ideal) a.c a.i a.arg2 a.harg2 a.arg3 a.harg3 a.arg4 a.harg4 a.arg7 a.harg7 a.arg8 a.harg8 a.x0 a.x1 a.x2 a.x5 a.x6) (kernelRun0_A.sl.r_9 (F := Ideal) a.c a.i a.arg2 a.harg2 a.arg3 a.harg3 a.arg4 a.harg4 a.arg7 a.harg7 a.arg8 a.harg8 a.x0 a.x1 a.x2 a.x5 a.x6) (kernelRun0_A.sl.v229 (F := Ideal) a.c a.arg9 a.harg9 a.x7) (kernelRun0_A.sl.v232 (F := Ideal) a.c a.i a.arg2 a.harg2 a.arg3 a.harg3 a.arg4 a.harg4 a.arg7 a.harg7 a.arg8 a.harg8 a.arg10 a.harg10 a.x0 a.x1 a.x2 a.x5 a.x6 a.x8) (kernelRun0_A.sl.v235 (F := Ideal) a.c a.arg6 a.harg6 a.arg9 a.harg9 a.x4 a.x7) := rfl
  rw [e, A54 a, A161 a, A164 a, A169 a, A174 a, A179 a, A229 a, A232 a, A235 a]
/-- A grid point's part of the gradient of the keys' gain. -/
theorem A315 (a : Args) : kernelRun0_A.sl.v315 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8 = (rawW a).o15 := by
  have e : kernelRun0_A.sl.v315 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8 = k0_pay67 (kernelRun0_A.sl.v80 (F := Ideal) a.c a.arg2 a.harg2 a.arg7 a.harg7 a.x0 a.x5) (k0_pay23 (kernelRun0_A.sl.v36 (F := Ideal) a.c a.arg3 a.harg3 a.x1) (kernelRun0_A.sl.v91 (F := Ideal) a.c a.arg3 a.harg3 a.x1)) (k0_pay29 (kernelRun0_A.sl.v45 (F := Ideal) a.c a.arg4 a.harg4 a.x2)) (kernelRun0_A.sl.v278 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (kernelRun0_A.sl.v279 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay62 (kernelRun0_A.sl.v80 (F := Ideal) a.c a.arg2 a.harg2 a.arg7 a.harg7 a.x0 a.x5)) (constant S4x128x64 .f32 0x00000000#32) := rfl
  rw [e, A279 a, A283 a, A80 a, A36 a, A91 a, A45 a, A278 a]
end
section
/-- The same of the run at a later grid point: its values are those of the run at the first. -/
theorem Bo9 (a : Args) :
    (k0_pay82 (k0_pay80 (kernelRun0_B.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) (k0_pay81 (kernelRun0_B.sl.v354 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = (rawW a).o9 :=
  Ao9 a
/-- The same of the run at a later grid point: its values are those of the run at the first. -/
theorem Bo10 (a : Args) :
    (k0_pay79 (kernelRun0_B.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (k0_pay78 (kernelRun0_B.sl.v332 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8))) = (rawW a).o10 :=
  Ao10 a
/-- The same of the run at a later grid point: its values are those of the run at the first. -/
theorem Bo11 (a : Args) :
    (k0_pay77 (kernelRun0_B.sl.v304 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8)) = (rawW a).o11 :=
  Ao11 a
/-- The same of the run at a later grid point: its values are those of the run at the first. -/
theorem Bo12 (a : Args) :
    (k0_pay76 (kernelRun0_B.sl.v254 (F := Ideal) a.c a.i a.arg2 a.harg2 a.arg3 a.harg3 a.arg4 a.harg4 a.arg7 a.harg7 a.arg8 a.harg8 a.arg9 a.harg9 a.x0 a.x1 a.x2 a.x5 a.x6 a.x7) (k0_pay73 (kernelRun0_B.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay74 (kernelRun0_B.sl.v254 (F := Ideal) a.c a.i a.arg2 a.harg2 a.arg3 a.harg3 a.arg4 a.harg4 a.arg7 a.harg7 a.arg8 a.harg8 a.arg9 a.harg9 a.x0 a.x1 a.x2 a.x5 a.x6 a.x7)) (k0_pay75 (kernelRun0_B.sl.v254 (F := Ideal) a.c a.i a.arg2 a.harg2 a.arg3 a.harg3 a.arg4 a.harg4 a.arg7 a.harg7 a.arg8 a.harg8 a.arg9 a.harg9 a.x0 a.x1 a.x2 a.x5 a.x6 a.x7))) = (rawW a).o12 :=
  Ao12 a
/-- The same of the run at a later grid point: its values are those of the run at the first. -/
theorem Bo13 (a : Args) :
    (k0_pay72 (kernelRun0_B.sl.v238 (F := Ideal) a.c a.i a.arg2 a.harg2 a.arg3 a.harg3 a.arg4 a.harg4 a.arg7 a.harg7 a.arg8 a.harg8 a.arg9 a.harg9 a.x0 a.x1 a.x2 a.x5 a.x6 a.x7)) = (rawW a).o13 :=
  Ao13 a
/-- The same of the run at a later grid point: its values are those of the run at the first. -/
theorem Bo14 (a : Args) :
    (k0_pay70 (k0_pay15 (kernelRun0_B.sl.v27 (F := Ideal) a.c a.arg2 a.harg2 a.x0)) (kernelRun0_B.sl.v311 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8) (Scalar.ofBits .f32 0x3E000000#32)) = (rawW a).o14 :=
  Ao14 a
/-- The same of the run at a later grid point: its values are those of the run at the first. -/
theorem B315 (a : Args) : kernelRun0_B.sl.v315 (F := Ideal) a.c a.i a.arg2 a.harg2 a.arg3 a.harg3 a.arg4 a.harg4 a.arg5 a.harg5 a.arg6 a.harg6 a.arg7 a.harg7 a.arg8 a.harg8 a.arg9 a.harg9 a.arg10 a.harg10 a.x0 a.x1 a.x2 a.x3 a.x4 a.x5 a.x6 a.x7 a.x8 = (rawW a).o15 :=
  A315 a
end

end Cert.KernelIdeal.Gen
-- ==== Proof.Att.KVal.lean ====
module

public import proofs.«01_k».proof.Proof.Gen.KernelIdeal.Skeleton
public import proofs.«01_k».proof.Proof.Att.KWord
public import proofs.«01_k».proof.Proof.Gen.KernelIdeal.Frame
public import Idealize.ShloMosaic.Lib.Pipeline.ValueKit
public import Idealize.ShloMosaic.Lib.StableHlo.Run
public import Idealize.ShloMosaic.Lib.Pointwise
public import Idealize.ShloMosaic.Lib.WordCmp
public import Idealize.ShloMosaic.Lib.Tactic.WordOmega

@[expose] public section

set_option maxRecDepth 16384

noncomputable section

namespace Cert.KernelIdeal.Gen

open Idealize.ShloMosaic Idealize.ShloMosaic.TcCoe Idealize.SL.Sem Cert.Att Cert.KernelIdeal
open Idealize.ShloMosaic.Pipeline (Dat)

/-! What the kernel's windows end with. -/

variable (m : (ℓ : Loc nD τ sig) → Buf (Elt Ideal) ℓ)

/-- What the windows hold at grid point `t`. -/
abbrev winAt (c : Dev nD) (t : Fin cfg0.N) : Win :=
  ⟨BitVec.ofNat 32 (grid0.coords t 1).val, iblk m c 0 t, iblk m c 1 t, iblk m c 2 t, iblk m c 3 t, iblk m c 4 t, iblk m c 5 t, iblk m c 6 t, iblk m c 7 t, iblk m c 8 t⟩

/-- Grid point `t` and its windows. -/
abbrev argsAt (c : Dev nD) (t : Fin cfg0.N) : Args :=
  ⟨c, grid0.coords t, ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, iblk m c 0 t, iblk m c 1 t, iblk m c 2 t, iblk m c 3 t, iblk m c 4 t, iblk m c 5 t, iblk m c 6 t, iblk m c 7 t, iblk m c 8 t⟩

/-- The words a grid point hands to the body. -/
theorem raw_eq (c : Dev nD) (t : Fin cfg0.N) : rawW (argsAt m c t) = winAt m c t := by
  unfold rawW winAt argsAt
  congr 1 <;> simp (disch := decide) only [View.readAt_eq_ld, View.ld_unit_lit', Memref.IsWhole.read_unread]

/-- The output block 9 of grid point `t`. -/
theorem out_9 (c : Dev nD) (t : Fin cfg0.N) : (outsAt0 m c t.val t.isLt).1 = (winAt m c t).o9 := by
  rw [← raw_eq]
  by_cases h : t.val % 16 = 0
  · rw [outsAt0_A m c t h]; dsimp only
    unfold out0_A_9
    rw [View.read_writes_junk_eq_canon]
    exact (View.canon_cons_unit_lit' inb_S128x256_S128x256_0_0 _ _ (by decide)).trans (Ao9 (argsAt m c t))
  · rw [outsAt0_B m c t h]; dsimp only
    unfold out0_B_9
    rw [View.read_writes_junk_eq_canon]
    exact (View.canon_cons_unit_lit' inb_S128x256_S128x256_0_0 _ _ (by decide)).trans (Bo9 (argsAt m c t))

/-- The output block 10 of grid point `t`. -/
theorem out_10 (c : Dev nD) (t : Fin cfg0.N) : (outsAt0 m c t.val t.isLt).2.1 = (winAt m c t).o10 := by
  rw [← raw_eq]
  by_cases h : t.val % 16 = 0
  · rw [outsAt0_A m c t h]; dsimp only
    unfold out0_A_10
    rw [View.read_writes_junk_eq_canon]
    exact (View.canon_cons_unit_lit' inb_S128x256_S128x256_0_0 _ _ (by decide)).trans (Ao10 (argsAt m c t))
  · rw [outsAt0_B m c t h]; dsimp only
    unfold out0_B_10
    rw [View.read_writes_junk_eq_canon]
    exact (View.canon_cons_unit_lit' inb_S128x256_S128x256_0_0 _ _ (by decide)).trans (Bo10 (argsAt m c t))

/-- The output block 11 of grid point `t`. -/
theorem out_11 (c : Dev nD) (t : Fin cfg0.N) : (outsAt0 m c t.val t.isLt).2.2.1 = (winAt m c t).o11 := by
  rw [← raw_eq]
  by_cases h : t.val % 16 = 0
  · rw [outsAt0_A m c t h]; dsimp only
    unfold out0_A_11
    rw [View.read_writes_junk_eq_canon]
    exact (View.canon_cons_unit_lit' inb_S128x256_S128x256_0_0 _ _ (by decide)).trans (Ao11 (argsAt m c t))
  · rw [outsAt0_B m c t h]; dsimp only
    unfold out0_B_11
    rw [View.read_writes_junk_eq_canon]
    exact (View.canon_cons_unit_lit' inb_S128x256_S128x256_0_0 _ _ (by decide)).trans (Bo11 (argsAt m c t))

/-- The output block 12 of grid point `t`. -/
theorem out_12 (c : Dev nD) (t : Fin cfg0.N) : (outsAt0 m c t.val t.isLt).2.2.2.1 = (winAt m c t).o12 := by
  rw [← raw_eq]
  by_cases h : t.val % 16 = 0
  · rw [outsAt0_A m c t h]; dsimp only
    unfold out0_A_12
    rw [View.read_writes_junk_eq_canon]
    exact (View.canon_cons_unit_lit' inb_S128x256_S128x256_0_0 _ _ (by decide)).trans (Ao12 (argsAt m c t))
  · rw [outsAt0_B m c t h]; dsimp only
    unfold out0_B_12
    rw [View.read_writes_junk_eq_canon]
    exact (View.canon_cons_unit_lit' inb_S128x256_S128x256_0_0 _ _ (by decide)).trans (Bo12 (argsAt m c t))

/-- The output block 13 of grid point `t`. -/
theorem out_13 (c : Dev nD) (t : Fin cfg0.N) : (outsAt0 m c t.val t.isLt).2.2.2.2.1 = (winAt m c t).o13 := by
  rw [← raw_eq]
  by_cases h : t.val % 16 = 0
  · rw [outsAt0_A m c t h]; dsimp only
    unfold out0_A_13
    rw [View.read_writes_junk_eq_canon]
    exact (View.canon_cons_unit_lit' inb_S128x256_S128x256_0_0 _ _ (by decide)).trans (Ao13 (argsAt m c t))
  · rw [outsAt0_B m c t h]; dsimp only
    unfold out0_B_13
    rw [View.read_writes_junk_eq_canon]
    exact (View.canon_cons_unit_lit' inb_S128x256_S128x256_0_0 _ _ (by decide)).trans (Bo13 (argsAt m c t))

/-- The gain's block starts at zero. -/
theorem hzero_14 (j : S4x1x64.Idx) : k0_pay83 (F := Ideal) j = 0 := by
  pointwise! [k0_pay83]
/-- What is added to the gain's block. -/
theorem hpay_14 (v : FVec Ideal S4x1x64 .f32) (w : Vec Ideal S4x1x64 .f32) (j : S4x1x64.Idx) :
    k0_pay85 v w j = w j + v j := by
  pointwise [k0_pay85]
/-- The gain's block after a grid point: the first point starts it, the others add to it. -/
theorem outA_14 (c : Dev nD) (t : Fin cfg0.N) (h : t.val % 16 = 0) : (outsAt0 m c t.val t.isLt).2.2.2.2.2.1 = k0_pay85 (winAt m c t).o14 (k0_pay83 (F := Ideal)) := by
  rw [← raw_eq]
  rw [outsAt0_A m c t h]; dsimp only
  unfold out0_A_14
  rw [View.read_writes_junk_eq_canon]
  refine (View.canon_cons_unit_lit' inb_S4x1x64_S4x1x64_0_0_0 _ _ (by decide)).trans ?_
  rw [← Ao14]
  refine congr (congrArg _ rfl) ?_
  unfold kernelRun0_A.sl.v480
  unfold kernelRun0_A.sl.H14_1
  simp (disch := decide) only [View.readCov_unit_lit', View.readAt_eq_ld, View.ld_unit_lit', Memref.IsWhole.read_unread]
/-- The gain's block after a grid point: the first point starts it, the others add to it. -/
theorem outB_14 (c : Dev nD) (t : Fin cfg0.N) (h : ¬ t.val % 16 = 0) : (outsAt0 m c t.val t.isLt).2.2.2.2.2.1 = k0_pay85 (winAt m c t).o14 (outsAt0 m c (t.val - 1) (Nat.lt_of_le_of_lt (Nat.sub_le _ _) t.isLt)).2.2.2.2.2.1 := by
  rw [← raw_eq]
  rw [outsAt0_B m c t h]; dsimp only
  unfold out0_B_14
  rw [View.read_writes_junk_eq_canon]
  refine (View.canon_cons_unit_lit' inb_S4x1x64_S4x1x64_0_0_0 _ _ (by decide)).trans ?_
  rw [← Bo14]
  refine congr (congrArg _ rfl) ?_
  simp (disch := decide) only [View.readAt_eq_ld, View.ld_unit_lit', Memref.IsWhole.read_unread]
/-- The accumulated output 14: the sum over the grid points. -/
theorem final_14 (c : Dev nD) : (dats m 0 c).arrAt 14 (cfgs 0).N = fun j => ∑ t : Fin cfg0.N, (winAt m c t).o14 j := by
  refine (dats m 0 c).arrAt_eq_of_after_last 14 t0_15 (by decide +kernel) _ fun j => ?_
  blk_simp
  rw [after0_14, Pipeline.eq_sum_fin_of_reset_step_apply_last (fun n h => (outsAt0 m c n h).2.2.2.2.2.1) 16 (fun _ => 0) (fun t j => (winAt m c t).o14 j)
    (fun t h j => by rw [outA_14 m c t h, hpay_14, hzero_14])
    (fun t h j => by rw [outB_14 m c t h, hpay_14])
    (le_of_eq N_0) t0_15 rfl j, zero_add]

/-- The gain's block starts at zero. -/
theorem hzero_15 (j : S4x1x64.Idx) : k0_pay84 (F := Ideal) j = 0 := by
  pointwise! [k0_pay84]
/-- What is added to the gain's block. -/
theorem hpay_15 (v : FVec Ideal S4x1x64 .f32) (w : Vec Ideal S4x1x64 .f32) (j : S4x1x64.Idx) :
    k0_pay86 v w j = w j + v j := by
  pointwise [k0_pay86]
/-- The gain's block after a grid point: the first point starts it, the others add to it. -/
theorem outA_15 (c : Dev nD) (t : Fin cfg0.N) (h : t.val % 16 = 0) : (outsAt0 m c t.val t.isLt).2.2.2.2.2.2 = k0_pay86 (winAt m c t).o15 (k0_pay84 (F := Ideal)) := by
  rw [← raw_eq]
  rw [outsAt0_A m c t h]; dsimp only
  unfold out0_A_15
  rw [View.read_writes_junk_eq_canon]
  refine (View.canon_cons_unit_lit' inb_S4x1x64_S4x1x64_0_0_0 _ _ (by decide)).trans ?_
  unfold kernelRun0_A.sl.r_15
  refine congr (congrArg _ (A315 (argsAt m c t))) ?_
  unfold kernelRun0_A.sl.v484
  unfold kernelRun0_A.sl.H15_1
  simp (disch := decide) only [View.readCov_unit_lit', View.readAt_eq_ld, View.ld_unit_lit', Memref.IsWhole.read_unread]
/-- The gain's block after a grid point: the first point starts it, the others add to it. -/
theorem outB_15 (c : Dev nD) (t : Fin cfg0.N) (h : ¬ t.val % 16 = 0) : (outsAt0 m c t.val t.isLt).2.2.2.2.2.2 = k0_pay86 (winAt m c t).o15 (outsAt0 m c (t.val - 1) (Nat.lt_of_le_of_lt (Nat.sub_le _ _) t.isLt)).2.2.2.2.2.2 := by
  rw [← raw_eq]
  rw [outsAt0_B m c t h]; dsimp only
  unfold out0_B_15
  rw [View.read_writes_junk_eq_canon]
  refine (View.canon_cons_unit_lit' inb_S4x1x64_S4x1x64_0_0_0 _ _ (by decide)).trans ?_
  unfold kernelRun0_B.sl.r_15
  refine congr (congrArg _ (B315 (argsAt m c t))) ?_
  simp (disch := decide) only [View.readAt_eq_ld, View.ld_unit_lit', Memref.IsWhole.read_unread]
/-- The accumulated output 15: the sum over the grid points. -/
theorem final_15 (c : Dev nD) : (dats m 0 c).arrAt 15 (cfgs 0).N = fun j => ∑ t : Fin cfg0.N, (winAt m c t).o15 j := by
  refine (dats m 0 c).arrAt_eq_of_after_last 15 t0_15 (by decide +kernel) _ fun j => ?_
  blk_simp
  rw [after0_15, Pipeline.eq_sum_fin_of_reset_step_apply_last (fun n h => (outsAt0 m c n h).2.2.2.2.2.2) 16 (fun _ => 0) (fun t j => (winAt m c t).o15 j)
    (fun t h j => by rw [outA_15 m c t h, hpay_15, hzero_15])
    (fun t h j => by rw [outB_15 m c t h, hpay_15])
    (le_of_eq N_0) t0_15 rfl j, zero_add]

end Cert.KernelIdeal.Gen
-- ==== Proof.Att.Glob.lean ====
module

public import proofs.«01_k».proof.Proof.Att.KBlk

/-!
# The whole group, over the real numbers

The arguments of the attention's backward as real arrays, the blocks cut out of them, and the gradients that both programs
compute, as functions of residue, block, head, row and lane.
-/

@[expose] public section

noncomputable section

namespace Cert.Att

open Idealize.ShloMosaic Cert.KernelIdeal.Gen

/-- The arguments: the projections, the two gains, the cotangents of the output and of the log-sum-exp. -/
structure Glob where
  /-- projections -/
  x : Fin 2048 → Fin 2304 → ℝ
  /-- the queries' gain -/
  gq : Fin 4 → Fin 64 → ℝ
  /-- the keys' gain -/
  gk : Fin 4 → Fin 64 → ℝ
  /-- the cotangent of the output -/
  dO : Fin 2048 → Fin 256 → ℝ
  /-- the cotangent of the log-sum-exp -/
  dl : Fin 2048 → Fin 256 → ℝ

/-- Row `i` of block `n` of residue `r`, as a token. -/
def tok (r n : Fin 4) (i : Fin 128) : Fin 2048 := ⟨512 * n.val + 4 * i.val + r.val, by omega⟩
/-- Lane `e` of head `h`. -/
def lane (h : Fin 4) (e : Fin 64) : Fin 256 := ⟨64 * h.val + e.val, by omega⟩
/-- The block before, clamped. -/
def prev (n : Fin 4) : Fin 4 := ⟨n.val - 1, by omega⟩

namespace Glob
variable (G : Glob)

/-- The block of a grid point. -/
def rb (r n : Fin 4) : RB where
  has := decide (0 < n.val)
  q i l := G.x (tok r n i) ⟨256 + l.val, by omega⟩
  kp i l := G.x (tok r (prev n) i) ⟨1024 + l.val, by omega⟩
  kc i l := G.x (tok r n i) ⟨1024 + l.val, by omega⟩
  vp i l := G.x (tok r (prev n) i) ⟨1792 + l.val, by omega⟩
  vc i l := G.x (tok r n i) ⟨1792 + l.val, by omega⟩
  dO i l := G.dO (tok r n i) l
  dl i l := G.dl (tok r n i) l
  gq := G.gq
  gk := G.gk

/-- The gradient of the queries. -/
def dq (r n h : Fin 4) (i : Fin 128) (e : Fin 64) : ℝ := (G.rb r n).oq h i e
/-- The part of the keys' gradient that a block finds for the block before. -/
def dkp (r n h : Fin 4) (i : Fin 128) (e : Fin 64) : ℝ := (G.rb r n).okp h i e
/-- The part of the keys' gradient that a block finds for itself. -/
def dkc (r n h : Fin 4) (i : Fin 128) (e : Fin 64) : ℝ := (G.rb r n).okc h i e
/-- The part of the values' gradient that a block finds for the block before. -/
def dvp (r n h : Fin 4) (i : Fin 128) (e : Fin 64) : ℝ := ((G.rb r n).cell h).dvP i e
/-- The part of the values' gradient that a block finds for itself. -/
def dvc (r n h : Fin 4) (i : Fin 128) (e : Fin 64) : ℝ := ((G.rb r n).cell h).dvC i e

/-- What the block after adds to block `n`. -/
def next (f : Fin 4 → Fin 4 → Fin 4 → Fin 128 → Fin 64 → ℝ) (r n h : Fin 4) (i : Fin 128) (e : Fin 64) : ℝ :=
  if hn : n.val + 1 < 4 then f r ⟨n.val + 1, hn⟩ h i e else 0

/-- The gradient of the keys. -/
def dk (r n h : Fin 4) (i : Fin 128) (e : Fin 64) : ℝ := G.dkc r n h i e + next G.dkp r n h i e
/-- The gradient of the values. -/
def dv (r n h : Fin 4) (i : Fin 128) (e : Fin 64) : ℝ := G.dvc r n h i e + next G.dvp r n h i e
/-- The gradient of the queries' gain. -/
def dgq (h : Fin 4) (e : Fin 64) : ℝ := ∑ r, ∑ n, (G.rb r n).ogq h e
/-- The gradient of the keys' gain. -/
def dgk (h : Fin 4) (e : Fin 64) : ℝ := ∑ r, ∑ n, (G.rb r n).ogk h e

end Glob

/-- The tokens are the rows of the blocks of the residues. -/
theorem tok_cover (t : Fin 2048) : ∃ r n i, t = tok r n i :=
  ⟨⟨t.val % 4, by omega⟩, ⟨t.val / 512, by omega⟩, ⟨t.val / 4 % 128, by omega⟩, Fin.ext (by simp only [tok]; omega)⟩
/-- The lanes are those of the heads. -/
theorem lane_cover (l : Fin 256) : ∃ h e, l = lane h e :=
  ⟨⟨l.val / 64, by omega⟩, ⟨l.val % 64, by omega⟩, Fin.ext (by simp only [lane]; omega)⟩

end Cert.Att

end
-- ==== Proof.Att.KArr.lean ====
module

public import proofs.«01_k».proof.Proof.Gen.KernelIdeal.Skeleton
public import proofs.«01_k».proof.Proof.Att.KVal
public import proofs.«01_k».proof.Proof.Gen.KernelIdeal.Frame
public import Idealize.ShloMosaic.Lib.Pipeline.ValueKit
public import Idealize.ShloMosaic.Lib.StableHlo.Run
public import Idealize.ShloMosaic.Lib.Pointwise
public import Idealize.ShloMosaic.Lib.StableHlo.ReadAt
public import proofs.«01_k».proof.Proof.Att.Glob
public import Idealize.ShloMosaic.Lib.WordCmp
public import Idealize.ShloMosaic.Lib.Tactic.WordOmega

@[expose] public section

set_option maxRecDepth 16384

noncomputable section

namespace Cert.KernelIdeal.Gen

open Idealize.ShloMosaic Idealize.ShloMosaic.TcCoe Idealize.SL.Sem Cert.Att Cert.KernelIdeal
open Idealize.ShloMosaic.Pipeline (Dat)

/-! The arrays the kernel's program leaves, in closed form. -/

variable (m : (ℓ : Loc nD τ sig) → Buf (Elt Ideal) ℓ)

/-- The argument arrays of core `c` hold the real arrays of `G`. -/
structure Inp (c : Dev nD) (G : Glob) : Prop where
  a0 : ∀ t l, (m ((c.tc : Thread nD τ).loc main_arg0) : FVec Ideal S2048x2304 .f32) (ix2 t l) = (G.x t l : EReal)
  a1 : ∀ h e, (m ((c.tc : Thread nD τ).loc main_arg1) : FVec Ideal S4x1x64 .f32) (ix3 h 0 e) = (G.gq h e : EReal)
  a2 : ∀ h e, (m ((c.tc : Thread nD τ).loc main_arg2) : FVec Ideal S4x1x64 .f32) (ix3 h 0 e) = (G.gk h e : EReal)
  a3 : ∀ t l, (m ((c.tc : Thread nD τ).loc main_arg3) : FVec Ideal S2048x256 .f32) (ix2 t l) = (G.dO t l : EReal)
  a4 : ∀ t l, (m ((c.tc : Thread nD τ).loc main_arg4) : FVec Ideal S2048x256 .f32) (ix2 t l) = (G.dl t l : EReal)

/-- The window index maps, at every grid point. -/
theorem idx_val : ∀ t : Fin cfg0.N, win0_0.index t = ![t.val % 4, (t.val / 4) * 9 + 1]
    ∧ win0_1.index t = ![t.val % 4 - 1, (t.val / 4) * 9 + 3 + 1]
    ∧ win0_2.index t = ![t.val % 4, (t.val / 4) * 9 + 3 + 1]
    ∧ win0_3.index t = ![t.val % 4 - 1, (t.val / 4) * 9 + 6 + 1]
    ∧ win0_4.index t = ![t.val % 4, (t.val / 4) * 9 + 6 + 1]
    ∧ win0_5.index t = ![0, 0, 0]
    ∧ win0_6.index t = ![0, 0, 0]
    ∧ win0_7.index t = ![t.val % 4, t.val / 4]
    ∧ win0_8.index t = ![t.val % 4, t.val / 4]
    ∧ win0_9.index t = ![t.val % 4, t.val / 4]
    ∧ win0_10.index t = ![t.val % 4, t.val / 4]
    ∧ win0_11.index t = ![t.val % 4, t.val / 4]
    ∧ win0_12.index t = ![t.val % 4, t.val / 4]
    ∧ win0_13.index t = ![t.val % 4, t.val / 4] :=
  (by decide +kernel : ∀ t : Fin grid0.N, _)

/-- Whether a block precedes, as the body computes it. -/
theorem has_val : ∀ t : Fin cfg0.N, Scalar.cmpi .sgt (BitVec.ofNat 32 (grid0.coords t 1).val) 0#32 = BitVec.ofBool (decide (0 < t.val % 4)) :=
  (by decide +kernel : ∀ t : Fin grid0.N, _)

/-- The residue of a grid point. -/
abbrev rOf (t : Fin cfg0.N) : Fin 4 := ⟨t.val / 4, by have := t.isLt; have : cfg0.N = 16 := N_0; omega⟩
/-- The block of a grid point. -/
abbrev nOf (t : Fin cfg0.N) : Fin 4 := ⟨t.val % 4, by omega⟩

/-- The projections, seen as rows of four tokens. -/
theorem v0_read (c : Dev nD) (p : Fin 512) (q : Fin 9216) :
    V m c main_v0 (ix2 p q) = m ((c.tc : Thread nD τ).loc main_arg0) (ix2 (⟨p.val * 4 + q.val / 2304, by omega⟩ : Fin 2048) (⟨q.val % 2304, by omega⟩ : Fin 2304)) := by
  unfold V
  after_reads_at
/-- The cotangent, seen as rows of four tokens. -/
theorem v1_read (c : Dev nD) (p : Fin 512) (q : Fin 1024) :
    V m c main_v1 (ix2 p q) = m ((c.tc : Thread nD τ).loc main_arg3) (ix2 (⟨p.val * 4 + q.val / 256, by omega⟩ : Fin 2048) (⟨q.val % 256, by omega⟩ : Fin 256)) := by
  unfold V
  after_reads_at
/-- The cotangent, seen as rows of four tokens. -/
theorem v2_read (c : Dev nD) (p : Fin 512) (q : Fin 1024) :
    V m c main_v2 (ix2 p q) = m ((c.tc : Thread nD τ).loc main_arg4) (ix2 (⟨p.val * 4 + q.val / 256, by omega⟩ : Fin 2048) (⟨q.val % 256, by omega⟩ : Fin 256)) := by
  unfold V
  after_reads_at

variable {m}
variable {c : Dev nD} {G : Glob} (H : Inp m c G)
include H
/-- What window 0 holds. -/
theorem rd0 (t : Fin cfg0.N) (i : Fin 128) (l : Fin 256) : iblk m c 0 t (ix2 i l) = ((G.rb (rOf t) (nOf t)).q i l : EReal) := by
  have e : iblk m c 0 t (ix2 i l) = V m c main_v0 (ix2 (⟨128 * (t.val % 4) + i.val, by omega⟩ : Fin 512) (⟨2304 * (t.val / 4) + 256 + l.val, by have := t.isLt; have : cfg0.N = 16 := N_0; omega⟩ : Fin 9216)) := by
    unfold iblk
    blk_ext [idx_val t]
  rw [e, v0_read, H.a0]
  refine congrArg (fun z : ℝ => (z : EReal)) (congrArg₂ G.x (Fin.ext ?_) (Fin.ext ?_)) <;> simp only [tok, prev] <;> omega
/-- What window 1 holds. -/
theorem rd1 (t : Fin cfg0.N) (i : Fin 128) (l : Fin 256) : iblk m c 1 t (ix2 i l) = ((G.rb (rOf t) (nOf t)).kp i l : EReal) := by
  have e : iblk m c 1 t (ix2 i l) = V m c main_v0 (ix2 (⟨128 * (t.val % 4 - 1) + i.val, by omega⟩ : Fin 512) (⟨2304 * (t.val / 4) + 1024 + l.val, by have := t.isLt; have : cfg0.N = 16 := N_0; omega⟩ : Fin 9216)) := by
    unfold iblk
    blk_ext [idx_val t]
  rw [e, v0_read, H.a0]
  refine congrArg (fun z : ℝ => (z : EReal)) (congrArg₂ G.x (Fin.ext ?_) (Fin.ext ?_)) <;> simp only [tok, prev] <;> omega
/-- What window 2 holds. -/
theorem rd2 (t : Fin cfg0.N) (i : Fin 128) (l : Fin 256) : iblk m c 2 t (ix2 i l) = ((G.rb (rOf t) (nOf t)).kc i l : EReal) := by
  have e : iblk m c 2 t (ix2 i l) = V m c main_v0 (ix2 (⟨128 * (t.val % 4) + i.val, by omega⟩ : Fin 512) (⟨2304 * (t.val / 4) + 1024 + l.val, by have := t.isLt; have : cfg0.N = 16 := N_0; omega⟩ : Fin 9216)) := by
    unfold iblk
    blk_ext [idx_val t]
  rw [e, v0_read, H.a0]
  refine congrArg (fun z : ℝ => (z : EReal)) (congrArg₂ G.x (Fin.ext ?_) (Fin.ext ?_)) <;> simp only [tok, prev] <;> omega
/-- What window 3 holds. -/
theorem rd3 (t : Fin cfg0.N) (i : Fin 128) (l : Fin 256) : iblk m c 3 t (ix2 i l) = ((G.rb (rOf t) (nOf t)).vp i l : EReal) := by
  have e : iblk m c 3 t (ix2 i l) = V m c main_v0 (ix2 (⟨128 * (t.val % 4 - 1) + i.val, by omega⟩ : Fin 512) (⟨2304 * (t.val / 4) + 1792 + l.val, by have := t.isLt; have : cfg0.N = 16 := N_0; omega⟩ : Fin 9216)) := by
    unfold iblk
    blk_ext [idx_val t]
  rw [e, v0_read, H.a0]
  refine congrArg (fun z : ℝ => (z : EReal)) (congrArg₂ G.x (Fin.ext ?_) (Fin.ext ?_)) <;> simp only [tok, prev] <;> omega
/-- What window 4 holds. -/
theorem rd4 (t : Fin cfg0.N) (i : Fin 128) (l : Fin 256) : iblk m c 4 t (ix2 i l) = ((G.rb (rOf t) (nOf t)).vc i l : EReal) := by
  have e : iblk m c 4 t (ix2 i l) = V m c main_v0 (ix2 (⟨128 * (t.val % 4) + i.val, by omega⟩ : Fin 512) (⟨2304 * (t.val / 4) + 1792 + l.val, by have := t.isLt; have : cfg0.N = 16 := N_0; omega⟩ : Fin 9216)) := by
    unfold iblk
    blk_ext [idx_val t]
  rw [e, v0_read, H.a0]
  refine congrArg (fun z : ℝ => (z : EReal)) (congrArg₂ G.x (Fin.ext ?_) (Fin.ext ?_)) <;> simp only [tok, prev] <;> omega
/-- What window 5 holds. -/
theorem rd5 (t : Fin cfg0.N) (h : Fin 4) (e : Fin 64) : iblk m c 5 t (ix3 h 0 e) = ((G.rb (rOf t) (nOf t)).gq h e : EReal) := by
  refine Eq.trans ?_ (H.a1 h e)
  unfold iblk
  entry_read
  blk_ext [idx_val t]
/-- What window 6 holds. -/
theorem rd6 (t : Fin cfg0.N) (h : Fin 4) (e : Fin 64) : iblk m c 6 t (ix3 h 0 e) = ((G.rb (rOf t) (nOf t)).gk h e : EReal) := by
  refine Eq.trans ?_ (H.a2 h e)
  unfold iblk
  entry_read
  blk_ext [idx_val t]
/-- What window 7 holds. -/
theorem rd7 (t : Fin cfg0.N) (i : Fin 128) (l : Fin 256) : iblk m c 7 t (ix2 i l) = ((G.rb (rOf t) (nOf t)).dO i l : EReal) := by
  have e : iblk m c 7 t (ix2 i l) = V m c main_v1 (ix2 (⟨128 * (t.val % 4) + i.val, by omega⟩ : Fin 512) (⟨256 * (t.val / 4) + l.val, by have := t.isLt; have : cfg0.N = 16 := N_0; omega⟩ : Fin 1024)) := by
    unfold iblk
    blk_ext [idx_val t]
  rw [e, v1_read, H.a3]
  refine congrArg (fun z : ℝ => (z : EReal)) (congrArg₂ G.dO (Fin.ext ?_) (Fin.ext ?_)) <;> simp only [tok] <;> omega
/-- What window 8 holds. -/
theorem rd8 (t : Fin cfg0.N) (i : Fin 128) (l : Fin 256) : iblk m c 8 t (ix2 i l) = ((G.rb (rOf t) (nOf t)).dl i l : EReal) := by
  have e : iblk m c 8 t (ix2 i l) = V m c main_v2 (ix2 (⟨128 * (t.val % 4) + i.val, by omega⟩ : Fin 512) (⟨256 * (t.val / 4) + l.val, by have := t.isLt; have : cfg0.N = 16 := N_0; omega⟩ : Fin 1024)) := by
    unfold iblk
    blk_ext [idx_val t]
  rw [e, v2_read, H.a4]
  refine congrArg (fun z : ℝ => (z : EReal)) (congrArg₂ G.dl (Fin.ext ?_) (Fin.ext ?_)) <;> simp only [tok] <;> omega

/-- The windows of a grid point hold its block. -/
theorem holdsAt (t : Fin cfg0.N) : Holds (winAt m c t) (G.rb (rOf t) (nOf t)) where
  a1 := has_val t
  x0 := rd0 H t
  x1 := rd1 H t
  x2 := rd2 H t
  x3 := rd3 H t
  x4 := rd4 H t
  x5 := rd5 H t
  x6 := rd6 H t
  x7 := rd7 H t
  x8 := rd8 H t

omit H in
/-- A sum over the grid points is a sum over residues and blocks. -/
theorem sum_points (g : Fin 4 → Fin 4 → ℝ) : ∑ t : Fin cfg0.N, g (rOf t) (nOf t) = ∑ r, ∑ n, g r n := by
  rw [← Fintype.sum_prod_type']
  exact Equiv.sum_comp ((finCongr (N_0 : cfg0.N = 4 * 4)).trans (finProdFinEquiv (m := 4) (n := 4)).symm) (fun p : Fin 4 × Fin 4 => g p.1 p.2)

omit H in
/-- A function of residue, block, head, row and lane, laid out in the 512 rows of 1024 lanes of a result. -/
def put (f : Fin 4 → Fin 4 → Fin 4 → Fin 128 → Fin 64 → ℝ) (p q : ℕ) : ℝ :=
  if h : p < 512 ∧ q < 1024 then
    f ⟨q / 256, by omega⟩ ⟨p / 128, by omega⟩ ⟨q % 256 / 64, by omega⟩ ⟨p % 128, by omega⟩ ⟨q % 64, by omega⟩ else 0
omit H in
/-- `put` at a block's row and lane. -/
theorem put_at (f : Fin 4 → Fin 4 → Fin 4 → Fin 128 → Fin 64 → ℝ) (p q : ℕ) (r n h : Fin 4) (i : Fin 128) (e : Fin 64)
    (hp : p = 128 * n.val + i.val) (hq : q = 256 * r.val + 64 * h.val + e.val) : put f p q = f r n h i e := by
  unfold put
  rw [dif_pos (by omega)]
  congr 1 <;> apply Fin.ext <;> simp only <;> omega
omit H in
/-- A block laid out by `put`. -/
theorem put_blk (f : Fin 4 → Fin 4 → Fin 4 → Fin 128 → Fin 64 → ℝ) (w : FVec Ideal S128x256 .f32) (r n : Fin 4)
    (h : ∀ h i e, w (ix2 i ⟨64 * h.val + e.val, by omega⟩) = (f r n h i e : EReal)) (y : S128x256.Idx) :
    w y = (put f (n.val * 128 + (y 0).val) (r.val * 256 + (y 1).val) : EReal) := by
  obtain ⟨y0, y1, rfl⟩ : ∃ (a : Fin 128) (b : Fin 256), y = ix2 a b := ⟨y 0, y 1, eq_ix2 y⟩
  have e := h ⟨y1.val / 64, by omega⟩ y0 ⟨y1.val % 64, by omega⟩
  refine Eq.trans ?_ (congrArg (fun z : ℝ => (z : EReal)) (put_at f _ _ r n ⟨y1.val / 64, by omega⟩ y0 ⟨y1.val % 64, by omega⟩ (show n.val * 128 + y0.val = _ by omega) (show r.val * 256 + y1.val = _ by simp only; omega))).symm
  rw [← e]
  congr 2
  apply Fin.ext; simp only; omega
/-- The array of window 9. -/
theorem arr_9 : (dats m 0 c).arrAt 9 (cfgs 0).N = fun j => (put G.dq (j 0).val (j 1).val : EReal) := by
  refine (dats m 0 c).arrAt_eq_of_covers 9 _ (by decide +kernel) fun t hf y => ?_
  rw [after0_9, out_9]
  blk_simp [idx_val t]
  exact put_blk G.dq _ (rOf t) (nOf t) (fun h i e => Win.ho9 (holdsAt H t) i h e) y
/-- The array of window 10. -/
theorem arr_10 : (dats m 0 c).arrAt 10 (cfgs 0).N = fun j => (put G.dkp (j 0).val (j 1).val : EReal) := by
  refine (dats m 0 c).arrAt_eq_of_covers 10 _ (by decide +kernel) fun t hf y => ?_
  rw [after0_10, out_10]
  blk_simp [idx_val t]
  exact put_blk G.dkp _ (rOf t) (nOf t) (fun h i e => Win.ho10 (holdsAt H t) i h e) y
/-- The array of window 11. -/
theorem arr_11 : (dats m 0 c).arrAt 11 (cfgs 0).N = fun j => (put G.dkc (j 0).val (j 1).val : EReal) := by
  refine (dats m 0 c).arrAt_eq_of_covers 11 _ (by decide +kernel) fun t hf y => ?_
  rw [after0_11, out_11]
  blk_simp [idx_val t]
  exact put_blk G.dkc _ (rOf t) (nOf t) (fun h i e => Win.ho11 (holdsAt H t) i h e) y
/-- The array of window 12. -/
theorem arr_12 : (dats m 0 c).arrAt 12 (cfgs 0).N = fun j => (put G.dvp (j 0).val (j 1).val : EReal) := by
  refine (dats m 0 c).arrAt_eq_of_covers 12 _ (by decide +kernel) fun t hf y => ?_
  rw [after0_12, out_12]
  blk_simp [idx_val t]
  exact put_blk G.dvp _ (rOf t) (nOf t) (fun h i e => Win.ho12 (holdsAt H t) i h e) y
/-- The array of window 13. -/
theorem arr_13 : (dats m 0 c).arrAt 13 (cfgs 0).N = fun j => (put G.dvc (j 0).val (j 1).val : EReal) := by
  refine (dats m 0 c).arrAt_eq_of_covers 13 _ (by decide +kernel) fun t hf y => ?_
  rw [after0_13, out_13]
  blk_simp [idx_val t]
  exact put_blk G.dvc _ (rOf t) (nOf t) (fun h i e => Win.ho13 (holdsAt H t) i h e) y
/-- The array of window 14. -/
theorem arr_14 (h : Fin 4) (e : Fin 64) : ((dats m 0 c).arrAt 14 (cfgs 0).N : FVec Ideal S4x1x64 .f32) (ix3 h 0 e) = (G.dgq h e : EReal) := by
  rw [final_14]
  refine (Finset.sum_congr rfl fun t _ => Win.ho14 (holdsAt H t) h e).trans ?_
  rw [coe_sum]
  exact congrArg (fun z : ℝ => (z : EReal)) (sum_points fun r n => (G.rb r n).ogq h e)
/-- The array of window 15. -/
theorem arr_15 (h : Fin 4) (e : Fin 64) : ((dats m 0 c).arrAt 15 (cfgs 0).N : FVec Ideal S4x1x64 .f32) (ix3 h 0 e) = (G.dgk h e : EReal) := by
  rw [final_15]
  refine (Finset.sum_congr rfl fun t _ => Win.ho15 (holdsAt H t) h e).trans ?_
  rw [coe_sum]
  exact congrArg (fun z : ℝ => (z : EReal)) (sum_points fun r n => (G.rb r n).ogk h e)

omit H
variable (m c)
/-- What core `c`'s buffers hold when the region ends. -/
abbrev Wv : Valuation τ sig (Elt Ideal) := Pipeline.withArrays (cfgs 0).spec c (V0 m c) fun w => (dats m 0 c).arrAt w (cfgs 0).N
/-- A window's array when the region ends. -/
theorem Wv_arr (w : Fin 16) : Wv m c (Proc.devRef .tc (Pipeline.arrRef (cfgs 0).spec w)) = (dats m 0 c).arrAt w (cfgs 0).N :=
  Pipeline.withArrays_arr_shared _ c _ _ (Pipeline.Dat.arrAt_sharedIn (dats m 0 c) launch₀0.sharedIn _ (A_eq m c) _) w
/-- What the buffer behind a window's array holds when the region ends. -/
theorem Wv_9 : Wv m c (Proc.devRef .tc main_v3_0) = (dats m 0 c).arrAt 9 (cfgs 0).N := Wv_arr m c 9
/-- What the buffer behind a window's array holds when the region ends. -/
theorem Wv_10 : Wv m c (Proc.devRef .tc main_v3_1) = (dats m 0 c).arrAt 10 (cfgs 0).N := Wv_arr m c 10
/-- What the buffer behind a window's array holds when the region ends. -/
theorem Wv_11 : Wv m c (Proc.devRef .tc main_v3_2) = (dats m 0 c).arrAt 11 (cfgs 0).N := Wv_arr m c 11
/-- What the buffer behind a window's array holds when the region ends. -/
theorem Wv_12 : Wv m c (Proc.devRef .tc main_v3_3) = (dats m 0 c).arrAt 12 (cfgs 0).N := Wv_arr m c 12
/-- What the buffer behind a window's array holds when the region ends. -/
theorem Wv_13 : Wv m c (Proc.devRef .tc main_v3_4) = (dats m 0 c).arrAt 13 (cfgs 0).N := Wv_arr m c 13
/-- What the buffer behind a window's array holds when the region ends. -/
theorem Wv_14 : Wv m c (Proc.devRef .tc main_v3_5) = (dats m 0 c).arrAt 14 (cfgs 0).N := Wv_arr m c 14
/-- What the buffer behind a window's array holds when the region ends. -/
theorem Wv_15 : Wv m c (Proc.devRef .tc main_v3_6) = (dats m 0 c).arrAt 15 (cfgs 0).N := Wv_arr m c 15
/-- The zero that the shifted part is padded with. -/
theorem sitofp_zero : (FloatOps.sitofp (F := Ideal) FTy.f32 (0#32)) = ((0 : ℝ) : EReal) := by
  change (((0#32 : BitVec 32).toInt : ℝ) : EReal) = _
  simp
/-- What the program's last line makes of the arrays, at a token and a lane. -/
theorem tail_v4 (W : Valuation τ sig (Elt Ideal)) (t : Fin 2048) (l : Fin 256) : (StableHlo.after ([hostOps1, hostOps1_1, hostOps1_2, hostOps1_3, hostOps1_4] : List (List (HloOp τ sig (Elt Ideal)))).flatten W (Proc.devRef .tc main_v4) : FVec Ideal S2048x256 .f32) (ix2 t l) = W (Proc.devRef .tc main_v3_0) (ix2 (⟨t.val / 4, by omega⟩ : Fin 512) (⟨t.val % 4 * 256 + l.val, by omega⟩ : Fin 1024)) := by
  after_reads_at
/-- What the program's last line makes of the arrays, at a token and a lane. -/
theorem tail_v8 (W : Valuation τ sig (Elt Ideal)) (t : Fin 2048) (l : Fin 256) : (StableHlo.after ([hostOps1, hostOps1_1, hostOps1_2, hostOps1_3, hostOps1_4] : List (List (HloOp τ sig (Elt Ideal)))).flatten W (Proc.devRef .tc main_v8) : FVec Ideal S2048x256 .f32) (ix2 t l) = @HAdd.hAdd EReal EReal EReal instHAdd ((W (Proc.devRef .tc main_v3_2) : FVec Ideal S512x1024 .f32) (ix2 (⟨t.val / 4, by omega⟩ : Fin 512) (⟨t.val % 4 * 256 + l.val, by omega⟩ : Fin 1024))) (if h : t.val / 4 < 384 ∧ t.val % 4 * 256 + l.val < 1024 then (W (Proc.devRef .tc main_v3_1) : FVec Ideal S512x1024 .f32) (ix2 (⟨128 + t.val / 4, by omega⟩ : Fin 512) (⟨t.val % 4 * 256 + l.val, by omega⟩ : Fin 1024)) else FloatOps.sitofp (F := Ideal) FTy.f32 (0#32)) := by
  after_reads_at
/-- What the program's last line makes of the arrays, at a token and a lane. -/
theorem tail_v12 (W : Valuation τ sig (Elt Ideal)) (t : Fin 2048) (l : Fin 256) : (StableHlo.after ([hostOps1, hostOps1_1, hostOps1_2, hostOps1_3, hostOps1_4] : List (List (HloOp τ sig (Elt Ideal)))).flatten W (Proc.devRef .tc main_v12) : FVec Ideal S2048x256 .f32) (ix2 t l) = @HAdd.hAdd EReal EReal EReal instHAdd ((W (Proc.devRef .tc main_v3_4) : FVec Ideal S512x1024 .f32) (ix2 (⟨t.val / 4, by omega⟩ : Fin 512) (⟨t.val % 4 * 256 + l.val, by omega⟩ : Fin 1024))) (if h : t.val / 4 < 384 ∧ t.val % 4 * 256 + l.val < 1024 then (W (Proc.devRef .tc main_v3_3) : FVec Ideal S512x1024 .f32) (ix2 (⟨128 + t.val / 4, by omega⟩ : Fin 512) (⟨t.val % 4 * 256 + l.val, by omega⟩ : Fin 1024)) else FloatOps.sitofp (F := Ideal) FTy.f32 (0#32)) := by
  after_reads_at

variable {m c}
include H
/-- The queries' gradient, as the program leaves it. -/
theorem fin_q (r n h : Fin 4) (i : Fin 128) (e : Fin 64) : (Pipeline.afterTail₀ cfgs (dats m) 0 (V0 m) [hostOps1, hostOps1_1, hostOps1_2, hostOps1_3, hostOps1_4] c main_v4 : FVec Ideal S2048x256 .f32) (ix2 (tok r n i) (lane h e)) = (G.dq r n h i e : EReal) := by
  refine (tail_v4 (Wv m c) _ _).trans ?_
  rw [Wv_9, arr_9 H]
  exact congrArg (fun z : ℝ => (z : EReal)) (put_at G.dq _ _ r n h i e (show (512 * n.val + 4 * i.val + r.val) / 4 = _ by omega) (show (512 * n.val + 4 * i.val + r.val) % 4 * 256 + (64 * h.val + e.val) = _ by omega))
/-- The gradient of the keys or the values, as the program leaves it: what the block finds for itself and what the block after adds. -/
theorem fin_k (r n h : Fin 4) (i : Fin 128) (e : Fin 64) : (Pipeline.afterTail₀ cfgs (dats m) 0 (V0 m) [hostOps1, hostOps1_1, hostOps1_2, hostOps1_3, hostOps1_4] c main_v8 : FVec Ideal S2048x256 .f32) (ix2 (tok r n i) (lane h e)) = (G.dk r n h i e : EReal) := by
  refine (tail_v8 (Wv m c) _ _).trans ?_
  rw [Wv_11, arr_11 H, Wv_10, arr_10 H]
  have ht : (tok r n i).val = 512 * n.val + 4 * i.val + r.val := rfl
  have hl : (lane h e).val = 64 * h.val + e.val := rfl
  have e1 : put G.dkc ((tok r n i).val / 4) ((tok r n i).val % 4 * 256 + (lane h e).val) = G.dkc r n h i e :=
    put_at _ _ _ r n h i e (by omega) (by omega)
  unfold Glob.dk Glob.next
  rw [EReal.coe_add]
  refine congrArg₂ (fun a b : EReal => a + b) (congrArg (fun z : ℝ => (z : EReal)) e1) ?_
  by_cases hn : n.val + 1 < 4
  · rw [dif_pos hn, dif_pos (by omega)]
    exact congrArg (fun z : ℝ => (z : EReal)) (put_at G.dkp _ _ r ⟨n.val + 1, hn⟩ h i e (show 128 + (tok r n i).val / 4 = 128 * (n.val + 1) + i.val by omega) (show (tok r n i).val % 4 * 256 + (lane h e).val = _ by omega))
  · rw [dif_neg hn, dif_neg (by omega), sitofp_zero]
/-- The gradient of the keys or the values, as the program leaves it: what the block finds for itself and what the block after adds. -/
theorem fin_v (r n h : Fin 4) (i : Fin 128) (e : Fin 64) : (Pipeline.afterTail₀ cfgs (dats m) 0 (V0 m) [hostOps1, hostOps1_1, hostOps1_2, hostOps1_3, hostOps1_4] c main_v12 : FVec Ideal S2048x256 .f32) (ix2 (tok r n i) (lane h e)) = (G.dv r n h i e : EReal) := by
  refine (tail_v12 (Wv m c) _ _).trans ?_
  rw [Wv_13, arr_13 H, Wv_12, arr_12 H]
  have ht : (tok r n i).val = 512 * n.val + 4 * i.val + r.val := rfl
  have hl : (lane h e).val = 64 * h.val + e.val := rfl
  have e1 : put G.dvc ((tok r n i).val / 4) ((tok r n i).val % 4 * 256 + (lane h e).val) = G.dvc r n h i e :=
    put_at _ _ _ r n h i e (by omega) (by omega)
  unfold Glob.dv Glob.next
  rw [EReal.coe_add]
  refine congrArg₂ (fun a b : EReal => a + b) (congrArg (fun z : ℝ => (z : EReal)) e1) ?_
  by_cases hn : n.val + 1 < 4
  · rw [dif_pos hn, dif_pos (by omega)]
    exact congrArg (fun z : ℝ => (z : EReal)) (put_at G.dvp _ _ r ⟨n.val + 1, hn⟩ h i e (show 128 + (tok r n i).val / 4 = 128 * (n.val + 1) + i.val by omega) (show (tok r n i).val % 4 * 256 + (lane h e).val = _ by omega))
  · rw [dif_neg hn, dif_neg (by omega), sitofp_zero]

end Cert.KernelIdeal.Gen
-- ==== Proof.Att.RCell.lean ====
module

public import proofs.«01_k».proof.Proof.Att.Glob

/-!
# The reference's cells, over the real numbers

The reference takes keys and values that are zero before a residue's first block, where the kernel takes that block's own
ones again; the first block sees neither, so the gradients agree. A window's 256 keys are the 128 of the block before and
the block's own 128.
-/

@[expose] public section

noncomputable section

namespace Cert.Att

open Idealize.ShloMosaic Cert.KernelIdeal.Gen

/-- Key `j` of the block before, in the window. -/
def jL (j : Fin 128) : Fin 256 := ⟨j.val, by omega⟩
/-- Key `j` of the own block, in the window. -/
def jR (j : Fin 128) : Fin 256 := ⟨128 + j.val, by omega⟩

/-- A window's key is of the block before or of the own block. -/
theorem key_cases (k : Fin 256) : (∃ j, k = jL j) ∨ ∃ j, k = jR j := by
  by_cases h : k.val < 128
  · exact .inl ⟨⟨k.val, h⟩, rfl⟩
  · exact .inr ⟨⟨k.val - 128, by omega⟩, Fin.ext (by simp only [jR]; omega)⟩

/-- A sum over the window. -/
theorem sum_keys {M : Type*} [AddCommMonoid M] (f : Fin 256 → M) : ∑ k, f k = (∑ j, f (jL j)) + ∑ j, f (jR j) :=
  Fin.sum_univ_add (a := 128) (b := 128) f

/-- A maximum over the window. -/
theorem sup_keys (f : Fin 256 → EReal) :
    (Finset.univ : Finset (Fin 256)).fold max ⊥ f = max (Finset.univ.sup fun j => f (jL j)) (Finset.univ.sup fun j => f (jR j)) := by
  change Finset.univ.sup f = _
  apply le_antisymm
  · refine Finset.sup_le fun k _ => ?_
    rcases key_cases k with ⟨j, rfl⟩ | ⟨j, rfl⟩
    · exact le_max_of_le_left (Finset.le_sup (f := fun j => f (jL j)) (Finset.mem_univ j))
    · exact le_max_of_le_right (Finset.le_sup (f := fun j => f (jR j)) (Finset.mem_univ j))
  · exact max_le (Finset.sup_le fun j _ => Finset.le_sup (f := f) (Finset.mem_univ _))
      (Finset.sup_le fun j _ => Finset.le_sup (f := f) (Finset.mem_univ _))

/-- A sum over the tokens. -/
theorem sum_tok {M : Type*} [AddCommMonoid M] (f : Fin 2048 → M) : ∑ t, f t = ∑ r, ∑ n, ∑ i, f (tok r n i) := by
  rw [← Fintype.sum_bijective (fun p : Fin 4 × Fin 4 × Fin 128 => tok p.1 p.2.1 p.2.2) ?_ (fun p => f (tok p.1 p.2.1 p.2.2)) f (fun _ => rfl)]
  · simp only [Fintype.sum_prod_type]
  · constructor
    · rintro ⟨r, n, i⟩ ⟨r', n', i'⟩ h
      have h := congrArg Fin.val h
      simp only [tok] at h
      refine Prod.ext (Fin.ext ?_) (Prod.ext (Fin.ext ?_) (Fin.ext ?_)) <;> simp only <;> omega
    · intro t
      obtain ⟨r, n, i, rfl⟩ := tok_cover t
      exact ⟨(r, n, i), rfl⟩

namespace Glob
variable (G : Glob)

/-- The reference's cell: the keys and values before the first block are zero. -/
def rc (r n h : Fin 4) : Cell := ((G.rb r n).cell h).withPrev
  (fun j e => if 0 < n.val then ((G.rb r n).cell h).kp j e else 0) (fun j e => if 0 < n.val then ((G.rb r n).cell h).vp j e else 0)

variable (r n h : Fin 4)

/-- After the first block a row's cell is the kernel's. -/
theorem rc_pos (hn : 0 < n.val) : G.rc r n h = (G.rb r n).cell h := by
  unfold rc Cell.withPrev; simp only [hn, if_true]
/-- The first block has no block before it. -/
theorem has_first (hn : ¬ 0 < n.val) : ((G.rb r n).cell h).has = false := by
  show decide (0 < n.val) = false; simpa using hn

/-- The queries' gradient does not see the difference. -/
theorem rc_dq (i : Fin 128) (e : Fin 64) : (G.rc r n h).dq i e = ((G.rb r n).cell h).dq i e := by
  by_cases hn : 0 < n.val
  · rw [rc_pos G r n h hn]
  · exact Cell.dq_first _ (has_first G r n h hn) _ _ i e
/-- Nor does the own keys' part. -/
theorem rc_dkC (i : Fin 128) (e : Fin 64) : (G.rc r n h).dkC i e = ((G.rb r n).cell h).dkC i e := by
  by_cases hn : 0 < n.val
  · rw [rc_pos G r n h hn]
  · exact Cell.dkC_first _ (has_first G r n h hn) _ _ i e
/-- Nor does the own values' part. -/
theorem rc_dvC (i : Fin 128) (e : Fin 64) : (G.rc r n h).dvC i e = ((G.rb r n).cell h).dvC i e := by
  by_cases hn : 0 < n.val
  · rw [rc_pos G r n h hn]
  · exact Cell.dvC_first _ (has_first G r n h hn) _ _ i e
/-- Nor does the part for the keys before. -/
theorem rc_dkP (i : Fin 128) (e : Fin 64) : (G.rc r n h).dkP i e = ((G.rb r n).cell h).dkP i e := by
  by_cases hn : 0 < n.val
  · rw [rc_pos G r n h hn]
  · rw [Cell.dkP_first _ (has_first G r n h hn)]
    exact Cell.dkP_first (G.rc r n h) (has_first G r n h hn) i e
/-- Nor does the part for the values before. -/
theorem rc_dvP (i : Fin 128) (e : Fin 64) : (G.rc r n h).dvP i e = ((G.rb r n).cell h).dvP i e := by
  by_cases hn : 0 < n.val
  · rw [rc_pos G r n h hn]
  · rw [Cell.dvP_first _ (has_first G r n h hn)]
    exact Cell.dvP_first (G.rc r n h) (has_first G r n h hn) i e

/-- The cotangent of the normalised and scaled keys: a block's own part and what the block after adds. -/
def dkn (i : Fin 128) (e : Fin 64) : ℝ := (G.rc r n h).dkC i e + next (fun r n h i e => (G.rc r n h).dkP i e) r n h i e

/-- The keys' gradient, from the cotangent of the whole normalised key. -/
theorem nb_dkn (i : Fin 128) (e : Fin 64) : nb (hd (G.rb r n).kc h i) (fun e => G.dkn r n h i e * G.gk h e) e = G.dk r n h i e := by
  have h1 : (fun e => G.dkn r n h i e * G.gk h e) = fun e => ((G.rb r n).cell h).dkC i e * G.gk h e
      + next (fun r n h i e => (G.rc r n h).dkP i e) r n h i e * G.gk h e := by
    funext e; unfold dkn; rw [rc_dkC, add_mul]
  rw [h1, nb_add]
  unfold dk dkc RB.okc
  congr 1
  unfold next
  split
  · rename_i hn
    unfold dkp RB.okp
    have h2 : (fun e => (G.rc r ⟨n.val + 1, hn⟩ h).dkP i e * G.gk h e) = fun e => ((G.rb r ⟨n.val + 1, hn⟩).cell h).dkP i e * (G.rb r ⟨n.val + 1, hn⟩).gk h e := by
      funext e; rw [rc_dkP]; rfl
    rw [h2]; rfl
  · exact nb_zero _ _ (fun e => by rw [zero_mul]) e

/-- The parts for the values before, as functions. -/
theorem fun_dvP : (fun r n h i e => (G.rc r n h).dvP i e) = G.dvp := by
  funext r n h i e; exact rc_dvP G r n h i e

/-- The values' gradient. -/
theorem dvn_eq (i : Fin 128) (e : Fin 64) :
    (G.rc r n h).dvC i e + next (fun r n h i e => (G.rc r n h).dvP i e) r n h i e = G.dv r n h i e := by
  unfold dv dvc
  rw [rc_dvC, fun_dvP]

/-- The gradient of the keys' gain: the sum over the tokens. -/
theorem dgk_eq (e : Fin 64) : ∑ r, ∑ n, ∑ i, nrm (hd (G.rb r n).kc h i) e * G.dkn r n h i e = G.dgk h e := by
  unfold dgk RB.ogk
  refine Finset.sum_congr rfl fun r _ => ?_
  simp only [dkn, mul_add, Finset.sum_add_distrib, rc_dkC]
  congr 1
  have h0 : ∑ i, nrm (hd (G.rb r 0).kp h i) e * ((G.rb r 0).cell h).dkP i e = 0 :=
    Finset.sum_eq_zero fun i _ => by rw [Cell.dkP_first _ (has_first G r 0 h (by decide)), mul_zero]
  have h3 : ∑ i, nrm (hd (G.rb r 3).kc h i) e * next (fun r n h i e => (G.rc r n h).dkP i e) r 3 h i e = 0 :=
    Finset.sum_eq_zero fun i _ => by
      have : next (fun r n h i e => (G.rc r n h).dkP i e) r 3 h i e = 0 := dif_neg (by decide)
      rw [this, mul_zero]
  rw [Fin.sum_univ_four, Fin.sum_univ_four, h0, h3, zero_add, add_zero]
  have hs : ∀ (n n' : Fin 4) (hn : n.val + 1 < 4) (hn' : n' = ⟨n.val + 1, hn⟩),
      ∑ i, nrm (hd (G.rb r n).kc h i) e * next (fun r n h i e => (G.rc r n h).dkP i e) r n h i e
        = ∑ i, nrm (hd (G.rb r n').kp h i) e * ((G.rb r n').cell h).dkP i e := by
    intro n n' hn hn'
    subst hn'
    refine Finset.sum_congr rfl fun i _ => ?_
    have : next (fun r n h i e => (G.rc r n h).dkP i e) r n h i e = ((G.rb r ⟨n.val + 1, hn⟩).cell h).dkP i e := by
      unfold next; rw [dif_pos hn]; exact rc_dkP G r _ h i e
    rw [this]; rfl
  rw [hs 0 1 (by decide) rfl, hs 1 2 (by decide) rfl, hs 2 3 (by decide) rfl]

/-- The gradient of the queries' gain: the sum over the tokens. -/
theorem dgq_eq (e : Fin 64) : ∑ r, ∑ n, ∑ i, nrm (hd (G.rb r n).q h i) e * ((G.rc r n h).dq i e * (1 / 8)) = G.dgq h e := by
  unfold dgq RB.ogq
  simp only [rc_dq]

end Glob

end Cert.Att

end
-- ==== Proof.Att.RDot.lean ====
module

public import proofs.«01_k».proof.Proof.Gen.ReferenceIdeal
public import Idealize.ShloMosaic.Lib.Pointwise
public import Idealize.ShloMosaic.Lib.MatmulPlain

/-! The reference's matrix products and its sums over unit axes, read at an index: one sum over one coordinate each. -/

@[expose] public section

set_option maxRecDepth 16384

noncomputable section

namespace Cert.ReferenceIdeal.Value

open Idealize.ShloMosaic Cert.ReferenceIdeal Cert.ReferenceIdeal.Gen Cert.ReferenceIdeal.Facts₀

/-- The product for the scores: queries by keys, at an index. -/
theorem dot_score (A : FVec Ideal S1x4x4x128x4x64 .f32) (B : FVec Ideal S1x4x4x256x4x64 .f32) (r : Fin 4) (n : Fin 4) (h : Fin 4) (i : Fin 128) (k : Fin 256) :
    (Host.dotGeneral dot_S1x4x4x128x4x64_S1x4x4x256x4x64_S1x4x4x4x128x256_5_5_3_3_0124_0124 none A B : FVec Ideal S1x4x4x4x128x256 .f32) (ix6 0 r n h i k) = ∑ e : Fin 64, A (ix6 0 r n i h e) * B (ix6 0 r n k h e) := by
  show FloatOps.dotGeneral _ none _ A B _ = _
  rw [Ideal.dotGeneral_apply, ← Equiv.sum_comp (ValueIdx.contrEquiv1 dot_S1x4x4x128x4x64_S1x4x4x256x4x64_S1x4x4x4x128x256_5_5_3_3_0124_0124 64 rfl rfl).symm]
  refine Finset.sum_congr rfl fun e _ => ?_
  have hc := ValueIdx.contrEquiv1_symm_val dot_S1x4x4x128x4x64_S1x4x4x256x4x64_S1x4x4x4x128x256_5_5_3_3_0124_0124 64 rfl rfl e
  have el : dot_S1x4x4x128x4x64_S1x4x4x256x4x64_S1x4x4x4x128x256_5_5_3_3_0124_0124.lhsIdx (ix6 0 r n h i k) ((ValueIdx.contrEquiv1 dot_S1x4x4x128x4x64_S1x4x4x256x4x64_S1x4x4x4x128x256_5_5_3_3_0124_0124 64 rfl rfl).symm e) = ix6 0 r n i h e := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact hc
  have er : dot_S1x4x4x128x4x64_S1x4x4x256x4x64_S1x4x4x4x128x256_5_5_3_3_0124_0124.rhsIdx (ix6 0 r n h i k) ((ValueIdx.contrEquiv1 dot_S1x4x4x128x4x64_S1x4x4x256x4x64_S1x4x4x4x128x256_5_5_3_3_0124_0124 64 rfl rfl).symm e) = ix6 0 r n k h e := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact hc
  rw [el, er]

/-- The product for the cotangents of the weights, at an index. -/
theorem dot_dweight (A : FVec Ideal S1x4x4x4x64x128 .f32) (B : FVec Ideal S1x4x4x256x4x64 .f32) (r : Fin 4) (n : Fin 4) (h : Fin 4) (i : Fin 128) (k : Fin 256) :
    (Host.dotGeneral dot_S1x4x4x4x64x128_S1x4x4x256x4x64_S1x4x4x4x128x256_4_5_5_3_0123_0124 none A B : FVec Ideal S1x4x4x4x128x256 .f32) (ix6 0 r n h i k) = ∑ e : Fin 64, A (ix6 0 r n h e i) * B (ix6 0 r n k h e) := by
  show FloatOps.dotGeneral _ none _ A B _ = _
  rw [Ideal.dotGeneral_apply, ← Equiv.sum_comp (ValueIdx.contrEquiv1 dot_S1x4x4x4x64x128_S1x4x4x256x4x64_S1x4x4x4x128x256_4_5_5_3_0123_0124 64 rfl rfl).symm]
  refine Finset.sum_congr rfl fun e _ => ?_
  have hc := ValueIdx.contrEquiv1_symm_val dot_S1x4x4x4x64x128_S1x4x4x256x4x64_S1x4x4x4x128x256_4_5_5_3_0123_0124 64 rfl rfl e
  have el : dot_S1x4x4x4x64x128_S1x4x4x256x4x64_S1x4x4x4x128x256_4_5_5_3_0123_0124.lhsIdx (ix6 0 r n h i k) ((ValueIdx.contrEquiv1 dot_S1x4x4x4x64x128_S1x4x4x256x4x64_S1x4x4x4x128x256_4_5_5_3_0123_0124 64 rfl rfl).symm e) = ix6 0 r n h e i := by
    funext ax; apply Fin.ext
    match ax with
    | ⟨0, _⟩ => rfl
    | ⟨1, _⟩ => rfl
    | ⟨2, _⟩ => rfl
    | ⟨3, _⟩ => rfl
    | ⟨4, _⟩ => exact hc
    | ⟨5, _⟩ => rfl
  have er : dot_S1x4x4x4x64x128_S1x4x4x256x4x64_S1x4x4x4x128x256_4_5_5_3_0123_0124.rhsIdx (ix6 0 r n h i k) ((ValueIdx.contrEquiv1 dot_S1x4x4x4x64x128_S1x4x4x256x4x64_S1x4x4x4x128x256_4_5_5_3_0123_0124 64 rfl rfl).symm e) = ix6 0 r n k h e := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact hc
  rw [el, er]

/-- The product for the gradient of the values, at an index. -/
theorem dot_dvalue (A : FVec Ideal S1x4x4x4x64x128 .f32) (B : FVec Ideal S1x4x4x4x128x256 .f32) (r : Fin 4) (n : Fin 4) (h : Fin 4) (e : Fin 64) (k : Fin 256) :
    (Host.dotGeneral dot_S1x4x4x4x64x128_S1x4x4x4x128x256_S1x4x4x4x64x256_5_4_4_5_0123_0123 none A B : FVec Ideal S1x4x4x4x64x256 .f32) (ix6 0 r n h e k) = ∑ i : Fin 128, A (ix6 0 r n h e i) * B (ix6 0 r n h i k) := by
  show FloatOps.dotGeneral _ none _ A B _ = _
  rw [Ideal.dotGeneral_apply, ← Equiv.sum_comp (ValueIdx.contrEquiv1 dot_S1x4x4x4x64x128_S1x4x4x4x128x256_S1x4x4x4x64x256_5_4_4_5_0123_0123 128 rfl rfl).symm]
  refine Finset.sum_congr rfl fun i _ => ?_
  have hc := ValueIdx.contrEquiv1_symm_val dot_S1x4x4x4x64x128_S1x4x4x4x128x256_S1x4x4x4x64x256_5_4_4_5_0123_0123 128 rfl rfl i
  have el : dot_S1x4x4x4x64x128_S1x4x4x4x128x256_S1x4x4x4x64x256_5_4_4_5_0123_0123.lhsIdx (ix6 0 r n h e k) ((ValueIdx.contrEquiv1 dot_S1x4x4x4x64x128_S1x4x4x4x128x256_S1x4x4x4x64x256_5_4_4_5_0123_0123 128 rfl rfl).symm i) = ix6 0 r n h e i := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact hc
  have er : dot_S1x4x4x4x64x128_S1x4x4x4x128x256_S1x4x4x4x64x256_5_4_4_5_0123_0123.rhsIdx (ix6 0 r n h e k) ((ValueIdx.contrEquiv1 dot_S1x4x4x4x64x128_S1x4x4x4x128x256_S1x4x4x4x64x256_5_4_4_5_0123_0123 128 rfl rfl).symm i) = ix6 0 r n h i k := by
    funext ax; apply Fin.ext
    match ax with
    | ⟨0, _⟩ => rfl
    | ⟨1, _⟩ => rfl
    | ⟨2, _⟩ => rfl
    | ⟨3, _⟩ => rfl
    | ⟨4, _⟩ => exact hc
    | ⟨5, _⟩ => rfl
  rw [el, er]

/-- The product for the gradient of the keys, at an index. -/
theorem dot_dkey (A : FVec Ideal S1x4x4x4x128x256 .f32) (B : FVec Ideal S1x4x4x128x4x64 .f32) (r : Fin 4) (n : Fin 4) (h : Fin 4) (k : Fin 256) (e : Fin 64) :
    (Host.dotGeneral dot_S1x4x4x4x128x256_S1x4x4x128x4x64_S1x4x4x4x256x64_4_3_5_5_0123_0124 none A B : FVec Ideal S1x4x4x4x256x64 .f32) (ix6 0 r n h k e) = ∑ i : Fin 128, A (ix6 0 r n h i k) * B (ix6 0 r n i h e) := by
  show FloatOps.dotGeneral _ none _ A B _ = _
  rw [Ideal.dotGeneral_apply, ← Equiv.sum_comp (ValueIdx.contrEquiv1 dot_S1x4x4x4x128x256_S1x4x4x128x4x64_S1x4x4x4x256x64_4_3_5_5_0123_0124 128 rfl rfl).symm]
  refine Finset.sum_congr rfl fun i _ => ?_
  have hc := ValueIdx.contrEquiv1_symm_val dot_S1x4x4x4x128x256_S1x4x4x128x4x64_S1x4x4x4x256x64_4_3_5_5_0123_0124 128 rfl rfl i
  have el : dot_S1x4x4x4x128x256_S1x4x4x128x4x64_S1x4x4x4x256x64_4_3_5_5_0123_0124.lhsIdx (ix6 0 r n h k e) ((ValueIdx.contrEquiv1 dot_S1x4x4x4x128x256_S1x4x4x128x4x64_S1x4x4x4x256x64_4_3_5_5_0123_0124 128 rfl rfl).symm i) = ix6 0 r n h i k := by
    funext ax; apply Fin.ext
    match ax with
    | ⟨0, _⟩ => rfl
    | ⟨1, _⟩ => rfl
    | ⟨2, _⟩ => rfl
    | ⟨3, _⟩ => rfl
    | ⟨4, _⟩ => exact hc
    | ⟨5, _⟩ => rfl
  have er : dot_S1x4x4x4x128x256_S1x4x4x128x4x64_S1x4x4x4x256x64_4_3_5_5_0123_0124.rhsIdx (ix6 0 r n h k e) ((ValueIdx.contrEquiv1 dot_S1x4x4x4x128x256_S1x4x4x128x4x64_S1x4x4x4x256x64_4_3_5_5_0123_0124 128 rfl rfl).symm i) = ix6 0 r n i h e := by
    funext ax; apply Fin.ext
    match ax with
    | ⟨0, _⟩ => rfl
    | ⟨1, _⟩ => rfl
    | ⟨2, _⟩ => rfl
    | ⟨3, _⟩ => exact hc
    | ⟨4, _⟩ => rfl
    | ⟨5, _⟩ => rfl
  rw [el, er]

/-- The product for the gradient of the queries, at an index. -/
theorem dot_dquery (A : FVec Ideal S1x4x4x4x128x256 .f32) (B : FVec Ideal S1x4x4x256x4x64 .f32) (r : Fin 4) (n : Fin 4) (h : Fin 4) (i : Fin 128) (e : Fin 64) :
    (Host.dotGeneral dot_S1x4x4x4x128x256_S1x4x4x256x4x64_S1x4x4x4x128x64_5_3_4_5_0123_0124 none A B : FVec Ideal S1x4x4x4x128x64 .f32) (ix6 0 r n h i e) = ∑ k : Fin 256, A (ix6 0 r n h i k) * B (ix6 0 r n k h e) := by
  show FloatOps.dotGeneral _ none _ A B _ = _
  rw [Ideal.dotGeneral_apply, ← Equiv.sum_comp (ValueIdx.contrEquiv1 dot_S1x4x4x4x128x256_S1x4x4x256x4x64_S1x4x4x4x128x64_5_3_4_5_0123_0124 256 rfl rfl).symm]
  refine Finset.sum_congr rfl fun k _ => ?_
  have hc := ValueIdx.contrEquiv1_symm_val dot_S1x4x4x4x128x256_S1x4x4x256x4x64_S1x4x4x4x128x64_5_3_4_5_0123_0124 256 rfl rfl k
  have el : dot_S1x4x4x4x128x256_S1x4x4x256x4x64_S1x4x4x4x128x64_5_3_4_5_0123_0124.lhsIdx (ix6 0 r n h i e) ((ValueIdx.contrEquiv1 dot_S1x4x4x4x128x256_S1x4x4x256x4x64_S1x4x4x4x128x64_5_3_4_5_0123_0124 256 rfl rfl).symm k) = ix6 0 r n h i k := by
    funext ax; apply Fin.ext
    match ax with
    | ⟨0, _⟩ => rfl
    | ⟨1, _⟩ => rfl
    | ⟨2, _⟩ => rfl
    | ⟨3, _⟩ => rfl
    | ⟨4, _⟩ => rfl
    | ⟨5, _⟩ => exact hc
  have er : dot_S1x4x4x4x128x256_S1x4x4x256x4x64_S1x4x4x4x128x64_5_3_4_5_0123_0124.rhsIdx (ix6 0 r n h i e) ((ValueIdx.contrEquiv1 dot_S1x4x4x4x128x256_S1x4x4x256x4x64_S1x4x4x4x128x64_5_3_4_5_0123_0124 256 rfl rfl).symm k) = ix6 0 r n k h e := by
    funext ax; apply Fin.ext
    match ax with
    | ⟨0, _⟩ => rfl
    | ⟨1, _⟩ => rfl
    | ⟨2, _⟩ => rfl
    | ⟨3, _⟩ => exact hc
    | ⟨4, _⟩ => rfl
    | ⟨5, _⟩ => rfl
  rw [el, er]

/-- The sum over the window's keys: the source indices that drop to an index. -/
theorem fiber_keys (hR : S1x4x4x4x128x256.ReducesTo [5] S1x4x4x4x128) (r : Fin 4) (n : Fin 4) (h : Fin 4) (i : Fin 128) (iv : S1x4x4x4x128x256.Idx) :
    hR.drop iv = (ix5 0 r n h i : S1x4x4x4x128.Idx) ↔ ∃ k : Fin 256, (ix6 0 r n h i k : S1x4x4x4x128x256.Idx) = iv := by
  constructor
  · intro e
    refine ⟨iv 5, ?_⟩
    funext a; apply Fin.ext
    match a with
    | ⟨0, _⟩ => exact (congrArg Fin.val (Subsingleton.elim (α := Fin 1) (0 : Fin 1) (iv 0)))
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b; apply Fin.ext
    match b with
    | ⟨0, _⟩ => rfl
    | ⟨1, _⟩ => rfl
    | ⟨2, _⟩ => rfl
    | ⟨3, _⟩ => rfl
    | ⟨4, _⟩ => rfl

/-- The sum over the window's keys, at an index. -/
theorem sum_keys (hR : S1x4x4x4x128x256.ReducesTo [5] S1x4x4x4x128) (v : S1x4x4x4x128x256.Idx → EReal) (init : EReal) (r : Fin 4) (n : Fin 4) (h : Fin 4) (i : Fin 128) :
    Ideal.hostReduceAdd hR v init (ix5 0 r n h i : S1x4x4x4x128.Idx) = init + ∑ k : Fin 256, v (ix6 0 r n h i k) :=
  congrArg (init + ·) (Finset.sum_filter_eq_sum_of_fiber _ (fun k : Fin 256 => (ix6 0 r n h i k : S1x4x4x4x128x256.Idx))
    (fun _ _ e => congrFun e 5) (fiber_keys hR r n h i) v)

/-- The maximum over the window's keys, at an index. -/
theorem max_keys (hR : S1x4x4x4x128x256.ReducesTo [5] S1x4x4x4x128) (h_ : 0 < S_.numel) (v : FVec Ideal S1x4x4x4x128x256 .f32) (init : FVec Ideal S_ .f32) (r : Fin 4) (n : Fin 4) (h : Fin 4) (i : Fin 128) :
    (Host.reduce FloatOps.maximumf v init hR h_ : FVec Ideal S1x4x4x4x128 .f32) (ix5 0 r n h i) = (Finset.univ : Finset (Fin 256)).fold max (init (Shape.Idx.first h_)) (fun k => v (ix6 0 r n h i k)) := by
  rw [Host.reduce_eq_fold]
  exact Finset.fold_filter_eq_fold_of_fiber _ _ (fun k : Fin 256 => (ix6 0 r n h i k : S1x4x4x4x128x256.Idx))
    (fun _ _ e => congrFun e 5) (fiber_keys hR r n h i) _ v

/-- The sum over the two unit axes of a row statistic: the source indices that drop to an index. -/
theorem fiber_unit6 (hR : S1x4x4x4x128x1.ReducesTo [0, 5] S4x4x4x128) (r : Fin 4) (n : Fin 4) (h : Fin 4) (i : Fin 128) (iv : S1x4x4x4x128x1.Idx) :
    hR.drop iv = (ix4 r n h i : S4x4x4x128.Idx) ↔ ∃ z : Fin 1, (ix6 0 r n h i z : S1x4x4x4x128x1.Idx) = iv := by
  constructor
  · intro e
    refine ⟨iv 5, ?_⟩
    funext a; apply Fin.ext
    match a with
    | ⟨0, _⟩ => exact (congrArg Fin.val (Subsingleton.elim (α := Fin 1) (0 : Fin 1) (iv 0)))
    | ⟨1, _⟩ => exact (congrArg Fin.val (congrFun e 0)).symm
    | ⟨2, _⟩ => exact (congrArg Fin.val (congrFun e 1)).symm
    | ⟨3, _⟩ => exact (congrArg Fin.val (congrFun e 2)).symm
    | ⟨4, _⟩ => exact (congrArg Fin.val (congrFun e 3)).symm
    | ⟨5, _⟩ => rfl
  · rintro ⟨z, rfl⟩
    funext b; apply Fin.ext
    match b with
    | ⟨0, _⟩ => rfl
    | ⟨1, _⟩ => rfl
    | ⟨2, _⟩ => rfl
    | ⟨3, _⟩ => rfl

/-- The sum over the two unit axes of a row statistic, at an index. -/
theorem sum_unit6 (hR : S1x4x4x4x128x1.ReducesTo [0, 5] S4x4x4x128) (v : S1x4x4x4x128x1.Idx → EReal) (init : EReal) (r : Fin 4) (n : Fin 4) (h : Fin 4) (i : Fin 128) :
    Ideal.hostReduceAdd hR v init (ix4 r n h i : S4x4x4x128.Idx) = init + ∑ z : Fin 1, v (ix6 0 r n h i z) :=
  congrArg (init + ·) (Finset.sum_filter_eq_sum_of_fiber _ (fun z : Fin 1 => (ix6 0 r n h i z : S1x4x4x4x128x1.Idx))
    (fun _ _ e => congrFun e 5) (fiber_unit6 hR r n h i) v)

/-- The sum over a head's lanes and the unit axis: the source indices that drop to an index. -/
theorem fiber_lanes (hR : S1x2048x4x64.ReducesTo [0, 3] S2048x4) (t : Fin 2048) (h : Fin 4) (iv : S1x2048x4x64.Idx) :
    hR.drop iv = (ix2 t h : S2048x4.Idx) ↔ ∃ e : Fin 64, (ix4 0 t h e : S1x2048x4x64.Idx) = iv := by
  constructor
  · intro e
    refine ⟨iv 3, ?_⟩
    funext a; apply Fin.ext
    match a with
    | ⟨0, _⟩ => exact (congrArg Fin.val (Subsingleton.elim (α := Fin 1) (0 : Fin 1) (iv 0)))
    | ⟨1, _⟩ => exact (congrArg Fin.val (congrFun e 0)).symm
    | ⟨2, _⟩ => exact (congrArg Fin.val (congrFun e 1)).symm
    | ⟨3, _⟩ => rfl
  · rintro ⟨e, rfl⟩
    funext b; apply Fin.ext
    match b with
    | ⟨0, _⟩ => rfl
    | ⟨1, _⟩ => rfl

/-- The sum over a head's lanes and the unit axis, at an index. -/
theorem sum_lanes (hR : S1x2048x4x64.ReducesTo [0, 3] S2048x4) (v : S1x2048x4x64.Idx → EReal) (init : EReal) (t : Fin 2048) (h : Fin 4) :
    Ideal.hostReduceAdd hR v init (ix2 t h : S2048x4.Idx) = init + ∑ e : Fin 64, v (ix4 0 t h e) :=
  congrArg (init + ·) (Finset.sum_filter_eq_sum_of_fiber _ (fun e : Fin 64 => (ix4 0 t h e : S1x2048x4x64.Idx))
    (fun _ _ e => congrFun e 3) (fiber_lanes hR t h) v)

/-- The sum over the two unit axes of a token statistic: the source indices that drop to an index. -/
theorem fiber_unit4 (hR : S1x2048x4x1.ReducesTo [0, 3] S2048x4) (t : Fin 2048) (h : Fin 4) (iv : S1x2048x4x1.Idx) :
    hR.drop iv = (ix2 t h : S2048x4.Idx) ↔ ∃ z : Fin 1, (ix4 0 t h z : S1x2048x4x1.Idx) = iv := by
  constructor
  · intro e
    refine ⟨iv 3, ?_⟩
    funext a; apply Fin.ext
    match a with
    | ⟨0, _⟩ => exact (congrArg Fin.val (Subsingleton.elim (α := Fin 1) (0 : Fin 1) (iv 0)))
    | ⟨1, _⟩ => exact (congrArg Fin.val (congrFun e 0)).symm
    | ⟨2, _⟩ => exact (congrArg Fin.val (congrFun e 1)).symm
    | ⟨3, _⟩ => rfl
  · rintro ⟨z, rfl⟩
    funext b; apply Fin.ext
    match b with
    | ⟨0, _⟩ => rfl
    | ⟨1, _⟩ => rfl

/-- The sum over the two unit axes of a token statistic, at an index. -/
theorem sum_unit4 (hR : S1x2048x4x1.ReducesTo [0, 3] S2048x4) (v : S1x2048x4x1.Idx → EReal) (init : EReal) (t : Fin 2048) (h : Fin 4) :
    Ideal.hostReduceAdd hR v init (ix2 t h : S2048x4.Idx) = init + ∑ z : Fin 1, v (ix4 0 t h z) :=
  congrArg (init + ·) (Finset.sum_filter_eq_sum_of_fiber _ (fun z : Fin 1 => (ix4 0 t h z : S1x2048x4x1.Idx))
    (fun _ _ e => congrFun e 3) (fiber_unit4 hR t h) v)

/-- The sum over the two unit axes of a gain: the source indices that drop to an index. -/
theorem fiber_gain (hR : S1x1x4x64.ReducesTo [0, 1] S4x64) (h : Fin 4) (e : Fin 64) (iv : S1x1x4x64.Idx) :
    hR.drop iv = (ix2 h e : S4x64.Idx) ↔ ∃ z : Fin 1, (ix4 0 z h e : S1x1x4x64.Idx) = iv := by
  constructor
  · intro e
    refine ⟨iv 1, ?_⟩
    funext a; apply Fin.ext
    match a with
    | ⟨0, _⟩ => exact (congrArg Fin.val (Subsingleton.elim (α := Fin 1) (0 : Fin 1) (iv 0)))
    | ⟨1, _⟩ => rfl
    | ⟨2, _⟩ => exact (congrArg Fin.val (congrFun e 0)).symm
    | ⟨3, _⟩ => exact (congrArg Fin.val (congrFun e 1)).symm
  · rintro ⟨z, rfl⟩
    funext b; apply Fin.ext
    match b with
    | ⟨0, _⟩ => rfl
    | ⟨1, _⟩ => rfl

/-- The sum over the two unit axes of a gain, at an index. -/
theorem sum_gain (hR : S1x1x4x64.ReducesTo [0, 1] S4x64) (v : S1x1x4x64.Idx → EReal) (init : EReal) (h : Fin 4) (e : Fin 64) :
    Ideal.hostReduceAdd hR v init (ix2 h e : S4x64.Idx) = init + ∑ z : Fin 1, v (ix4 0 z h e) :=
  congrArg (init + ·) (Finset.sum_filter_eq_sum_of_fiber _ (fun z : Fin 1 => (ix4 0 z h e : S1x1x4x64.Idx))
    (fun _ _ e => congrFun e 1) (fiber_gain hR h e) v)

end Cert.ReferenceIdeal.Value
-- ==== Proof.Att.RFwd.lean ====
module

public import proofs.«01_k».proof.Proof.Gen.ReferenceIdeal.Run
public import proofs.«01_k».proof.Proof.Att.RCell
public import proofs.«01_k».proof.Proof.Att.RDot
public import Idealize.ShloMosaic.Lib.StableHlo.ReadAt
public import Idealize.ShloMosaic.Lib.Pointwise
public import Idealize.ShloMosaic.Lib.WordCmp
public import Idealize.ShloMosaic.Lib.Tactic.WordOmega

/-!
# The reference's scores, weights and their cotangents are those of its cells

Every named intermediate array of the reference, read at an index, is the real number that the cell's definition gives.
-/

@[expose] public section

set_option maxRecDepth 16384

noncomputable section

namespace Cert.ReferenceIdeal.Value

open Cert.ReferenceIdeal Cert.ReferenceIdeal.Gen Cert.Att Idealize.ShloMosaic Idealize.ShloMosaic.TcCoe Idealize.SL.Sem Idealize.ShloMosaic.StableHlo

open Cert.KernelIdeal.Gen

variable (V0 : Valuation τ sig (Elt Ideal)) (G : Glob)

/-- The reference's arguments hold these real arrays. -/
structure RInp : Prop where
  a0 : ∀ t l, (V0 (Proc.devRef .tc main_arg0) : FVec Ideal S2048x2304 .f32) (ix2 t l) = (G.x t l : EReal)
  a1 : ∀ h e, (V0 (Proc.devRef .tc main_arg1) : FVec Ideal S4x1x64 .f32) (ix3 h 0 e) = (G.gq h e : EReal)
  a2 : ∀ h e, (V0 (Proc.devRef .tc main_arg2) : FVec Ideal S4x1x64 .f32) (ix3 h 0 e) = (G.gk h e : EReal)
  a3 : ∀ t l, (V0 (Proc.devRef .tc main_arg3) : FVec Ideal S2048x256 .f32) (ix2 t l) = (G.dO t l : EReal)
  a4 : ∀ t l, (V0 (Proc.devRef .tc main_arg4) : FVec Ideal S2048x256 .f32) (ix2 t l) = (G.dl t l : EReal)

variable {V0 G} (H : RInp V0 G)

/-- A row of a block of a residue, as a token. -/
theorem blk_tok (r n : Fin 4) (i : Fin 128) (hh : (n.val * 128 + i.val) * 4 + r.val < 2048) :
    (⟨(n.val * 128 + i.val) * 4 + r.val, hh⟩ : Fin 2048) = tok r n i := Fin.ext (by simp only [tok]; omega)

/-- The ln 2 of the slopes. -/
theorem cln2 : Ideal.ofBits .f32 1060205080#32 = ((11629080 / 16777216 : ℝ) : EReal) := by
  simp [Ideal.ofBits, Ideal.ieee, -EReal.coe_mul]; norm_num
/-- A constant of the program. -/
theorem cm8 : Ideal.ofBits .f32 3238002688#32 = ((-8 : ℝ) : EReal) := by
  simp [Ideal.ofBits, Ideal.ieee, -EReal.coe_mul]; norm_num
/-- A constant of the program. -/
theorem c5 : Ideal.ofBits .f32 1084227584#32 = ((5 : ℝ) : EReal) := by
  simp [Ideal.ofBits, Ideal.ieee, -EReal.coe_mul]; norm_num
/-- A constant of the program. -/
theorem c12 : Ideal.ofBits .f32 1094713344#32 = ((12 : ℝ) : EReal) := by
  simp [Ideal.ofBits, Ideal.ieee, -EReal.coe_mul]; norm_num

include H

/-- The queries. -/
theorem R3 (r n h : Fin 4) (i : Fin 128) (e : Fin 64) : (res_main_v3 V0 : FVec Ideal S1x2048x4x64 .f32) (ix4 0 (tok r n i) h e) = (hd (G.rb r n).q h i e : EReal) := by
  unfold res_main_v3
  clean_types
  pointwise [dot_score, dot_dweight, dot_dvalue, dot_dkey, dot_dquery, sum_keys, sum_unit6, sum_lanes, sum_unit4, sum_gain]
  refine (H.a0 _ _).trans (congrArg (fun l => (G.x (tok r n i) l : EReal)) (Fin.ext ?_))
  simp only; omega

/-- Their mean squares. -/
theorem R11 (r n h : Fin 4) (i : Fin 128) : (res_main_v11 V0 : FVec Ideal S1x2048x4x1 .f32) (ix4 0 (tok r n i) h 0) = (ms (hd (G.rb r n).q h i) : EReal) := by
  unfold res_main_v11
  clean_types
  pointwise [dot_score, dot_dweight, dot_dvalue, dot_dkey, dot_dquery, sum_keys, sum_unit6, sum_lanes, sum_unit4, sum_gain]
  simp only [R3 H, ← EReal.coe_mul, coe_sum]
  rw [c64, ceps, div_real h64, ← EReal.coe_add]; rfl

/-- The reciprocal roots. -/
theorem R12 (r n h : Fin 4) (i : Fin 128) : (res_main_v12 V0 : FVec Ideal S1x2048x4x1 .f32) (ix4 0 (tok r n i) h 0) = (rr (hd (G.rb r n).q h i) : EReal) := by
  unfold res_main_v12
  clean_types
  pointwise [dot_score, dot_dweight, dot_dvalue, dot_dkey, dot_dquery, sum_keys, sum_unit6, sum_lanes, sum_unit4, sum_gain]
  rw [R11 H]
  exact rsqrt_pos (ms_pos _)

/-- The normalised rows. -/
theorem R17 (r n h : Fin 4) (i : Fin 128) (e : Fin 64) : (res_main_v17 V0 : FVec Ideal S1x2048x4x64 .f32) (ix4 0 (tok r n i) h e) = (nrm (hd (G.rb r n).q h i) e : EReal) := by
  unfold res_main_v17
  clean_types
  pointwise [dot_score, dot_dweight, dot_dvalue, dot_dkey, dot_dquery, sum_keys, sum_unit6, sum_lanes, sum_unit4, sum_gain]
  rw [R3 H, R12 H, ← EReal.coe_mul, mul_comm]; rfl

/-- The gain. -/
theorem R18 (h : Fin 4) (e : Fin 64) : (res_main_v18 V0 : FVec Ideal S1x1x4x64 .f32) (ix4 0 0 h e) = (G.gq h e : EReal) := by
  unfold res_main_v18
  clean_types
  pointwise [dot_score, dot_dweight, dot_dvalue, dot_dkey, dot_dquery, sum_keys, sum_unit6, sum_lanes, sum_unit4, sum_gain]
  exact H.a1 h e

/-- The keys. -/
theorem R23 (r n h : Fin 4) (i : Fin 128) (e : Fin 64) : (res_main_v23 V0 : FVec Ideal S1x2048x4x64 .f32) (ix4 0 (tok r n i) h e) = (hd (G.rb r n).kc h i e : EReal) := by
  unfold res_main_v23
  clean_types
  pointwise [dot_score, dot_dweight, dot_dvalue, dot_dkey, dot_dquery, sum_keys, sum_unit6, sum_lanes, sum_unit4, sum_gain]
  refine (H.a0 _ _).trans (congrArg (fun l => (G.x (tok r n i) l : EReal)) (Fin.ext ?_))
  simp only; omega

/-- Their mean squares. -/
theorem R31 (r n h : Fin 4) (i : Fin 128) : (res_main_v31 V0 : FVec Ideal S1x2048x4x1 .f32) (ix4 0 (tok r n i) h 0) = (ms (hd (G.rb r n).kc h i) : EReal) := by
  unfold res_main_v31
  clean_types
  pointwise [dot_score, dot_dweight, dot_dvalue, dot_dkey, dot_dquery, sum_keys, sum_unit6, sum_lanes, sum_unit4, sum_gain]
  simp only [R23 H, ← EReal.coe_mul, coe_sum]
  rw [c64, ceps, div_real h64, ← EReal.coe_add]; rfl

/-- The reciprocal roots. -/
theorem R32 (r n h : Fin 4) (i : Fin 128) : (res_main_v32 V0 : FVec Ideal S1x2048x4x1 .f32) (ix4 0 (tok r n i) h 0) = (rr (hd (G.rb r n).kc h i) : EReal) := by
  unfold res_main_v32
  clean_types
  pointwise [dot_score, dot_dweight, dot_dvalue, dot_dkey, dot_dquery, sum_keys, sum_unit6, sum_lanes, sum_unit4, sum_gain]
  rw [R31 H]
  exact rsqrt_pos (ms_pos _)

/-- The normalised rows. -/
theorem R37 (r n h : Fin 4) (i : Fin 128) (e : Fin 64) : (res_main_v37 V0 : FVec Ideal S1x2048x4x64 .f32) (ix4 0 (tok r n i) h e) = (nrm (hd (G.rb r n).kc h i) e : EReal) := by
  unfold res_main_v37
  clean_types
  pointwise [dot_score, dot_dweight, dot_dvalue, dot_dkey, dot_dquery, sum_keys, sum_unit6, sum_lanes, sum_unit4, sum_gain]
  rw [R23 H, R32 H, ← EReal.coe_mul, mul_comm]; rfl

/-- The gain. -/
theorem R38 (h : Fin 4) (e : Fin 64) : (res_main_v38 V0 : FVec Ideal S1x1x4x64 .f32) (ix4 0 0 h e) = (G.gk h e : EReal) := by
  unfold res_main_v38
  clean_types
  pointwise [dot_score, dot_dweight, dot_dvalue, dot_dkey, dot_dquery, sum_keys, sum_unit6, sum_lanes, sum_unit4, sum_gain]
  exact H.a2 h e

/-- The scaled queries, by blocks. -/
theorem R55 (r n h : Fin 4) (i : Fin 128) (e : Fin 64) : (res_main_v55 V0 : FVec Ideal S1x4x4x128x4x64 .f32) (ix6 0 r n i h e) = ((G.rc r n h).qf i e : EReal) := by
  unfold res_main_v55
  clean_types
  pointwise [dot_score, dot_dweight, dot_dvalue, dot_dkey, dot_dquery, sum_keys, sum_unit6, sum_lanes, sum_unit4, sum_gain]
  rw [dif_pos (by omega), blk_tok, R17 H, R18 H, ceighth, ← EReal.coe_mul, ← EReal.coe_mul]; rfl

/-- The keys, by blocks. -/
theorem R59 (r n h : Fin 4) (i : Fin 128) (e : Fin 64) : (res_main_v59 V0 : FVec Ideal S1x4x4x128x4x64 .f32) (ix6 0 r n i h e) = ((G.rc r n h).kc i e : EReal) := by
  unfold res_main_v59
  clean_types
  pointwise [dot_score, dot_dweight, dot_dvalue, dot_dkey, dot_dquery, sum_keys, sum_unit6, sum_lanes, sum_unit4, sum_gain]
  rw [dif_pos (by omega), blk_tok, R37 H, R38 H, ← EReal.coe_mul]; rfl

/-- The values, by blocks. -/
theorem R69 (r n h : Fin 4) (i : Fin 128) (e : Fin 64) : (res_main_v69 V0 : FVec Ideal S1x4x4x128x4x64 .f32) (ix6 0 r n i h e) = ((G.rc r n h).vc i e : EReal) := by
  unfold res_main_v69
  clean_types
  pointwise [dot_score, dot_dweight, dot_dvalue, dot_dkey, dot_dquery, sum_keys, sum_unit6, sum_lanes, sum_unit4, sum_gain]
  rw [dif_pos (by omega), blk_tok]
  refine (H.a0 _ _).trans (congrArg (fun l => (G.x (tok r n i) l : EReal)) (Fin.ext ?_))
  simp only; omega

/-- The window's keys: the block before. -/
theorem R65L (r n h : Fin 4) (j : Fin 128) (e : Fin 64) : (res_main_v65 V0 : FVec Ideal S1x4x4x256x4x64 .f32) (ix6 0 r n (jL j) h e) = ((G.rc r n h).kp j e : EReal) := by
  unfold res_main_v65
  clean_types
  pointwise [dot_score, dot_dweight, dot_dvalue, dot_dkey, dot_dquery, sum_keys, sum_unit6, sum_lanes, sum_unit4, sum_gain]
  rw [dif_pos (show (jL j).val < 128 from j.isLt)]
  by_cases hn : n.val < 1
  · rw [dif_pos hn]
    have : (G.rc r n h).kp j e = 0 := if_neg (by omega)
    rw [this, EReal.coe_zero]
  · rw [dif_neg hn]
    have : (G.rc r n h).kp j e = (G.rc r (prev n) h).kc j e := if_pos (by omega)
    rw [this]
    exact R59 H r (prev n) h j e

/-- The window's keys: the own block. -/
theorem R65R (r n h : Fin 4) (j : Fin 128) (e : Fin 64) : (res_main_v65 V0 : FVec Ideal S1x4x4x256x4x64 .f32) (ix6 0 r n (jR j) h e) = ((G.rc r n h).kc j e : EReal) := by
  unfold res_main_v65
  clean_types
  pointwise [dot_score, dot_dweight, dot_dvalue, dot_dkey, dot_dquery, sum_keys, sum_unit6, sum_lanes, sum_unit4, sum_gain]
  rw [dif_neg (show ¬ (jR j).val < 128 by simp only [jR]; omega)]
  have hj : (⟨(jR j).val - 128, by simp only [jR]; omega⟩ : Fin 128) = j := Fin.ext (by simp only [jR]; omega)
  refine (congrArg (fun q => (res_main_v59 V0 : FVec Ideal S1x4x4x128x4x64 .f32) (ix6 0 r n q h e)) hj).trans (R59 H r n h j e)

/-- The window's values: the block before. -/
theorem R75L (r n h : Fin 4) (j : Fin 128) (e : Fin 64) : (res_main_v75 V0 : FVec Ideal S1x4x4x256x4x64 .f32) (ix6 0 r n (jL j) h e) = ((G.rc r n h).vp j e : EReal) := by
  unfold res_main_v75
  clean_types
  pointwise [dot_score, dot_dweight, dot_dvalue, dot_dkey, dot_dquery, sum_keys, sum_unit6, sum_lanes, sum_unit4, sum_gain]
  rw [dif_pos (show (jL j).val < 128 from j.isLt)]
  by_cases hn : n.val < 1
  · rw [dif_pos hn]
    have : (G.rc r n h).vp j e = 0 := if_neg (by omega)
    rw [this, EReal.coe_zero]
  · rw [dif_neg hn]
    have : (G.rc r n h).vp j e = (G.rc r (prev n) h).vc j e := if_pos (by omega)
    rw [this]
    exact R69 H r (prev n) h j e

/-- The window's values: the own block. -/
theorem R75R (r n h : Fin 4) (j : Fin 128) (e : Fin 64) : (res_main_v75 V0 : FVec Ideal S1x4x4x256x4x64 .f32) (ix6 0 r n (jR j) h e) = ((G.rc r n h).vc j e : EReal) := by
  unfold res_main_v75
  clean_types
  pointwise [dot_score, dot_dweight, dot_dvalue, dot_dkey, dot_dquery, sum_keys, sum_unit6, sum_lanes, sum_unit4, sum_gain]
  rw [dif_neg (show ¬ (jR j).val < 128 by simp only [jR]; omega)]
  have hj : (⟨(jR j).val - 128, by simp only [jR]; omega⟩ : Fin 128) = j := Fin.ext (by simp only [jR]; omega)
  refine (congrArg (fun q => (res_main_v69 V0 : FVec Ideal S1x4x4x128x4x64 .f32) (ix6 0 r n q h e)) hj).trans (R69 H r n h j e)

omit H in
/-- The distance of a query to a key of the window. -/
theorem R85 (i : Fin 128) (k : Fin 256) : (res_main_v85 V0 : IVec S128x256 32) (ix2 i k)
    = IntOp.subi (IntOp.addi (BitVec.ofNat 32 i.val) 128#32) (BitVec.ofNat 32 k.val) := by
  unfold res_main_v85 res_main_v80
  clean_types
  pointwise

omit H in
/-- The distance to a key of the block before, as a word. -/
theorem distL (i j : Fin 128) : (IntOp.subi (IntOp.addi (BitVec.ofNat 32 i.val) 128#32) (BitVec.ofNat 32 (jL j).val)).toInt
    = (i.val : ℤ) + 128 - j.val := by
  have hi := i.isLt; have hj := j.isLt
  simp only [IntOp.subi, IntOp.addi, jL]
  rw [BitVec.toInt_eq_toNat_bmod]
  simp [Int.bmod]
  omega

omit H in
/-- The distance to a key of the own block, as a word. -/
theorem distR (i j : Fin 128) : (IntOp.subi (IntOp.addi (BitVec.ofNat 32 i.val) 128#32) (BitVec.ofNat 32 (jR j).val)).toInt
    = (i.val : ℤ) - j.val := by
  have hi := i.isLt; have hj := j.isLt
  simp only [IntOp.subi, IntOp.addi, jR]
  rw [BitVec.toInt_eq_toNat_bmod]
  simp [Int.bmod]
  omega

omit H in
/-- Four times a small word. -/
theorem mul4 (w : BitVec 32) (h1 : -512 ≤ w.toInt) (h2 : w.toInt ≤ 512) : (IntOp.muli w 4#32).toInt = w.toInt * 4 := by
  simp only [IntOp.muli]
  rw [BitVec.toInt_mul]
  have : (4#32 : BitVec 32).toInt = 4 := rfl
  rw [this]
  simp only [Int.bmod]
  omega

omit H in
/-- The conjunction of two bits. -/
theorem andi_bool (a b : Bool) : IntOp.andi (BitVec.ofBool a) (BitVec.ofBool b) = BitVec.ofBool (a && b) := by cases a <;> cases b <;> rfl
omit H in
/-- The disjunction of two bits. -/
theorem ori_bool (a b : Bool) : IntOp.ori (BitVec.ofBool a) (BitVec.ofBool b) = BitVec.ofBool (a || b) := by cases a <;> cases b <;> rfl

omit H in
/-- A query sees a key of the block before. -/
theorem R118_1L (r n h : Fin 4) (i j : Fin 128) : (res_main_v118_1 V0 : IVec S1x4x4x4x128x256 1) (ix6 0 r n h i (jL j))
    = BitVec.ofBool (decide ((G.rc r n h).vP i j)) := by
  unfold res_main_v118_1 res_main_v80
  clean_types
  pointwise
  rw [R85]
  have hd' := distL i j
  generalize IntOp.subi (IntOp.addi (BitVec.ofNat 32 i.val) 128#32) (BitVec.ofNat 32 (jL j).val) = w at hd' ⊢
  have c1 : IntOp.cmpi .sge w 0#32 = BitVec.ofBool (decide ((0#32 : BitVec 32).toInt ≤ w.toInt)) := rfl
  have c2 : IntOp.cmpi .sle w 128#32 = BitVec.ofBool (decide (w.toInt ≤ (128#32 : BitVec 32).toInt)) := rfl
  have c3 : IntOp.cmpi .sgt (BitVec.ofNat 32 n.val) 0#32 = BitVec.ofBool (decide (0 < n.val)) := by fin_cases n <;> rfl
  have c4 : IntOp.cmpi .sge (BitVec.ofNat 32 (jL j).val) 128#32 = BitVec.ofBool (decide ((128#32 : BitVec 32).toInt ≤ (BitVec.ofNat 32 (jL j).val).toInt)) := rfl
  have t1 : (0#32 : BitVec 32).toInt = 0 := rfl
  have t2 : (128#32 : BitVec 32).toInt = 128 := rfl
  have t3 : (BitVec.ofNat 32 (jL j).val).toInt = (j.val : ℤ) := by
    have hj := j.isLt
    simp only [jL]
    rw [BitVec.toInt_eq_toNat_bmod]
    simp [Int.bmod]
    omega
  rw [c1, c2, c3, c4, t1, t2, t3, hd', andi_bool, ori_bool, andi_bool]
  congr 1
  have hi := i.isLt; have hj := j.isLt
  rw [← Bool.decide_and, ← Bool.decide_or, ← Bool.decide_and]
  refine decide_eq_decide.2 ?_
  have hv : (G.rc r n h).vP i j ↔ (0 < n.val ∧ i.val ≤ j.val) := by
    show (decide (0 < n.val) = true ∧ _) ↔ _
    rw [decide_eq_true_iff]
  rw [hv]
  omega

omit H in
/-- A query sees a key of its own block. -/
theorem R118_1R (r n h : Fin 4) (i j : Fin 128) : (res_main_v118_1 V0 : IVec S1x4x4x4x128x256 1) (ix6 0 r n h i (jR j))
    = BitVec.ofBool (decide (Cell.vC i j)) := by
  unfold res_main_v118_1 res_main_v80
  clean_types
  pointwise
  rw [R85]
  have hd' := distR i j
  generalize IntOp.subi (IntOp.addi (BitVec.ofNat 32 i.val) 128#32) (BitVec.ofNat 32 (jR j).val) = w at hd' ⊢
  have c1 : IntOp.cmpi .sge w 0#32 = BitVec.ofBool (decide ((0#32 : BitVec 32).toInt ≤ w.toInt)) := rfl
  have c2 : IntOp.cmpi .sle w 128#32 = BitVec.ofBool (decide (w.toInt ≤ (128#32 : BitVec 32).toInt)) := rfl
  have c3 : IntOp.cmpi .sgt (BitVec.ofNat 32 n.val) 0#32 = BitVec.ofBool (decide (0 < n.val)) := by fin_cases n <;> rfl
  have c4 : IntOp.cmpi .sge (BitVec.ofNat 32 (jR j).val) 128#32 = BitVec.ofBool (decide ((128#32 : BitVec 32).toInt ≤ (BitVec.ofNat 32 (jR j).val).toInt)) := rfl
  have t1 : (0#32 : BitVec 32).toInt = 0 := rfl
  have t2 : (128#32 : BitVec 32).toInt = 128 := rfl
  have t3 : (BitVec.ofNat 32 (jR j).val).toInt = (j.val : ℤ) + 128 := by
    have hj := j.isLt
    simp only [jR]
    rw [BitVec.toInt_eq_toNat_bmod]
    simp [Int.bmod]
    omega
  rw [c1, c2, c3, c4, t1, t2, t3, hd', andi_bool, ori_bool, andi_bool]
  congr 1
  have hi := i.isLt; have hj := j.isLt
  rw [← Bool.decide_and, ← Bool.decide_or, ← Bool.decide_and]
  refine decide_eq_decide.2 ?_
  show _ ↔ j.val ≤ i.val
  omega

omit H in
/-- The bias of a head at a distance. -/
theorem bias (h : Fin 4) : -Ideal.exp (Ideal.ofBits .f32 1060205080#32 * Ideal.div (Ideal.ofBits .f32 3238002688#32 *
      (Ideal.ofBits .f32 1084227584#32 + (FloatOps.sitofp (F := Ideal) .f32 (BitVec.ofNat 32 h.val) : EReal))) (Ideal.ofBits .f32 1094713344#32))
    = ((-Cert.Att.slope h : ℝ) : EReal) := by
  have e1 : (BitVec.ofNat 32 h.val).toInt = (h.val : ℤ) := by fin_cases h <;> rfl
  have e2 : (FloatOps.sitofp (F := Ideal) .f32 (BitVec.ofNat 32 h.val) : EReal) = ((h.val : ℝ) : EReal) := by
    change (((BitVec.ofNat 32 h.val).toInt : ℝ) : EReal) = _
    rw [e1]; push_cast; rfl
  rw [e2, cln2, cm8, c5, c12, ← EReal.coe_add, ← EReal.coe_mul, div_real (by norm_num), ← EReal.coe_mul, Ideal.exp_coe, ← EReal.coe_neg]
  congr 2
  unfold Cert.Att.slope
  congr 1
  ring

/-- The masked scores. -/
theorem R118_0L (r n h : Fin 4) (i j : Fin 128) : (res_main_v118_0 V0 : FVec Ideal S1x4x4x4x128x256 .f32) (ix6 0 r n h i (jL j)) = (G.rc r n h).mP i j := by
  unfold res_main_v118_0
  clean_types
  pointwise [dot_score, dot_dweight, dot_dvalue, dot_dkey, dot_dquery, sum_keys, sum_unit6, sum_lanes, sum_unit4, sum_gain]
  rw [R118_1L (G := G), sel_ofBool, bias, R85]
  have hd' : (FloatOps.sitofp (F := Ideal) .f32 (IntOp.muli (IntOp.subi (IntOp.addi (BitVec.ofNat 32 i.val) 128#32) (BitVec.ofNat 32 (jL j).val)) 4#32) : EReal)
      = ((((i.val : ℝ) + 128 - j.val) * 4 : ℝ) : EReal) := by
    change (((IntOp.muli _ 4#32).toInt : ℝ) : EReal) = _
    rw [mul4 _ (by rw [distL]; have := i.isLt; have := j.isLt; omega) (by rw [distL]; have := i.isLt; have := j.isLt; omega), distL]
    push_cast; rfl
  rw [hd']
  simp only [R55 H, R65L H, ← EReal.coe_mul, coe_sum]
  rw [← EReal.coe_add]
  have hz : (id (constant (F := Ideal) S_ FTy.f32 4286578688#32) ix0 : EReal) = ⊥ := cninf
  unfold Cell.mP
  by_cases hv : (G.rc r n h).vP i j
  · rw [if_pos hv, if_pos hv]
    unfold Cell.sP
    congr 1
    have : (G.rc r n h).sg = Cert.Att.slope h := rfl
    rw [this]; ring
  · rw [if_neg hv, if_neg hv]; exact hz

/-- The masked scores. -/
theorem R118_0R (r n h : Fin 4) (i j : Fin 128) : (res_main_v118_0 V0 : FVec Ideal S1x4x4x4x128x256 .f32) (ix6 0 r n h i (jR j)) = (G.rc r n h).mC i j := by
  unfold res_main_v118_0
  clean_types
  pointwise [dot_score, dot_dweight, dot_dvalue, dot_dkey, dot_dquery, sum_keys, sum_unit6, sum_lanes, sum_unit4, sum_gain]
  rw [R118_1R, sel_ofBool, bias, R85]
  have hd' : (FloatOps.sitofp (F := Ideal) .f32 (IntOp.muli (IntOp.subi (IntOp.addi (BitVec.ofNat 32 i.val) 128#32) (BitVec.ofNat 32 (jR j).val)) 4#32) : EReal)
      = ((((i.val : ℝ) - j.val) * 4 : ℝ) : EReal) := by
    change (((IntOp.muli _ 4#32).toInt : ℝ) : EReal) = _
    rw [mul4 _ (by rw [distR]; have := i.isLt; have := j.isLt; omega) (by rw [distR]; have := i.isLt; have := j.isLt; omega), distR]
    push_cast; rfl
  rw [hd']
  simp only [R55 H, R65R H, ← EReal.coe_mul, coe_sum]
  rw [← EReal.coe_add]
  have hz : (id (constant (F := Ideal) S_ FTy.f32 4286578688#32) ix0 : EReal) = ⊥ := cninf
  unfold Cell.mC
  by_cases hv : Cell.vC i j
  · rw [if_pos hv, if_pos hv]
    unfold Cell.sC
    congr 1
    have : (G.rc r n h).sg = Cert.Att.slope h := rfl
    rw [this]; ring
  · rw [if_neg hv, if_neg hv]; exact hz

/-- The row maximum. -/
theorem R119 (r n h : Fin 4) (i : Fin 128) : (res_main_v119 V0 : FVec Ideal S1x4x4x4x128 .f32) (ix5 0 r n h i) = ((G.rc r n h).m i : EReal) := by
  unfold res_main_v119
  clean_types
  rw [max_keys]
  have hz : (constant (F := Ideal) Cert.ReferenceIdeal.S_ FTy.f32 0xFF800000#32 (Shape.Idx.first Cert.ReferenceIdeal.Gen.h_S_) : EReal) = ⊥ := cninf
  rw [hz]
  refine (sup_keys _).trans ?_
  simp only [R118_0L H, R118_0R H]
  exact Cell.mx_eq _ i

/-- The row maximum, with a unit axis. -/
theorem R125 (r n h : Fin 4) (i : Fin 128) : (res_main_v125 V0 : FVec Ideal S1x4x4x4x128x1 .f32) (ix6 0 r n h i 0) = ((G.rc r n h).m i : EReal) := by
  unfold res_main_v125
  clean_types
  pointwise [dot_score, dot_dweight, dot_dvalue, dot_dkey, dot_dquery, sum_keys, sum_unit6, sum_lanes, sum_unit4, sum_gain]
  exact R119 H r n h i

/-- The exponentials. -/
theorem R128L (r n h : Fin 4) (i j : Fin 128) : (res_main_v128 V0 : FVec Ideal S1x4x4x4x128x256 .f32) (ix6 0 r n h i (jL j)) = ((G.rc r n h).pP i j : EReal) := by
  unfold res_main_v128
  clean_types
  pointwise [dot_score, dot_dweight, dot_dvalue, dot_dkey, dot_dquery, sum_keys, sum_unit6, sum_lanes, sum_unit4, sum_gain]
  rw [R118_0L H, R125 H]
  exact Cell.exp_mP _ i j

/-- The exponentials. -/
theorem R128R (r n h : Fin 4) (i j : Fin 128) : (res_main_v128 V0 : FVec Ideal S1x4x4x4x128x256 .f32) (ix6 0 r n h i (jR j)) = ((G.rc r n h).pC i j : EReal) := by
  unfold res_main_v128
  clean_types
  pointwise [dot_score, dot_dweight, dot_dvalue, dot_dkey, dot_dquery, sum_keys, sum_unit6, sum_lanes, sum_unit4, sum_gain]
  rw [R118_0R H, R125 H]
  exact Cell.exp_mC _ i j

/-- The normaliser. -/
theorem R130 (r n h : Fin 4) (i : Fin 128) (u : Fin 1) : (res_main_v130 V0 : FVec Ideal S1x4x4x4x128x1 .f32) (ix6 0 r n h i u) = ((G.rc r n h).den i : EReal) := by
  unfold res_main_v130
  clean_types
  pointwise [dot_score, dot_dweight, dot_dvalue, dot_dkey, dot_dquery, sum_keys, sum_unit6, sum_lanes, sum_unit4, sum_gain]
  rw [Cert.Att.sum_keys]
  simp only [R128L H, R128R H, coe_sum]
  rw [← EReal.coe_add]; rfl

/-- The weights. -/
theorem R132L (r n h : Fin 4) (i j : Fin 128) : (res_main_v132 V0 : FVec Ideal S1x4x4x4x128x256 .f32) (ix6 0 r n h i (jL j)) = ((G.rc r n h).wP i j : EReal) := by
  unfold res_main_v132
  clean_types
  pointwise [dot_score, dot_dweight, dot_dvalue, dot_dkey, dot_dquery, sum_keys, sum_unit6, sum_lanes, sum_unit4, sum_gain]
  rw [R128L H, R130 H, div_real (Cell.den_ne _ i)]; rfl

/-- The weights. -/
theorem R132R (r n h : Fin 4) (i j : Fin 128) : (res_main_v132 V0 : FVec Ideal S1x4x4x4x128x256 .f32) (ix6 0 r n h i (jR j)) = ((G.rc r n h).wC i j : EReal) := by
  unfold res_main_v132
  clean_types
  pointwise [dot_score, dot_dweight, dot_dvalue, dot_dkey, dot_dquery, sum_keys, sum_unit6, sum_lanes, sum_unit4, sum_gain]
  rw [R128R H, R130 H, div_real (Cell.den_ne _ i)]; rfl

/-- The cotangent of a row's log-sum-exp. -/
theorem R165 (r n h : Fin 4) (i : Fin 128) (u : Fin 1) : (res_main_v165 V0 : FVec Ideal S1x4x4x4x128x1 .f32) (ix6 0 r n h i u) = ((G.rc r n h).dl i : EReal) := by
  unfold res_main_v165
  clean_types
  pointwise [dot_score, dot_dweight, dot_dvalue, dot_dkey, dot_dquery, sum_keys, sum_unit6, sum_lanes, sum_unit4, sum_gain]
  rw [Fin.sum_univ_one]
  simp only [blk_tok]
  rw [← show (((∑ e, hd (G.rb r n).dl h i e : ℝ)) : EReal) = ((G.rc r n h).dl i : EReal) from rfl, ← coe_sum]
  refine Finset.sum_congr rfl fun e _ => ?_
  refine (H.a4 _ _).trans (congrArg (fun l => (G.dl (tok r n i) l : EReal)) (Fin.ext ?_))
  simp only; omega

/-- The cotangent of the output, by blocks. -/
theorem R167 (r n h : Fin 4) (i : Fin 128) (e : Fin 64) : (res_main_v167 V0 : FVec Ideal S1x4x4x4x64x128 .f32) (ix6 0 r n h e i) = ((G.rc r n h).dO i e : EReal) := by
  unfold res_main_v167
  clean_types
  pointwise [dot_score, dot_dweight, dot_dvalue, dot_dkey, dot_dquery, sum_keys, sum_unit6, sum_lanes, sum_unit4, sum_gain]
  rw [blk_tok]
  refine (H.a3 _ _).trans (congrArg (fun l => (G.dO (tok r n i) l : EReal)) (Fin.ext ?_))
  simp only; omega

/-- The cotangents of the weights. -/
theorem R168L (r n h : Fin 4) (i j : Fin 128) : (res_main_v168 V0 : FVec Ideal S1x4x4x4x128x256 .f32) (ix6 0 r n h i (jL j)) = ((G.rc r n h).dwP i j : EReal) := by
  unfold res_main_v168
  clean_types
  pointwise [dot_score, dot_dweight, dot_dvalue, dot_dkey, dot_dquery, sum_keys, sum_unit6, sum_lanes, sum_unit4, sum_gain]
  simp only [R167 H, R75L H, ← EReal.coe_mul, coe_sum]; rfl

/-- The cotangents of the weights. -/
theorem R168R (r n h : Fin 4) (i j : Fin 128) : (res_main_v168 V0 : FVec Ideal S1x4x4x4x128x256 .f32) (ix6 0 r n h i (jR j)) = ((G.rc r n h).dwC i j : EReal) := by
  unfold res_main_v168
  clean_types
  pointwise [dot_score, dot_dweight, dot_dvalue, dot_dkey, dot_dquery, sum_keys, sum_unit6, sum_lanes, sum_unit4, sum_gain]
  simp only [R167 H, R75R H, ← EReal.coe_mul, coe_sum]; rfl

/-- The cotangents of the scores, before the maximum's share. -/
theorem R184L (r n h : Fin 4) (i j : Fin 128) : (res_main_v184 V0 : FVec Ideal S1x4x4x4x128x256 .f32) (ix6 0 r n h i (jL j)) = ((G.rc r n h).dsP i j : EReal) := by
  unfold res_main_v184
  clean_types
  pointwise [dot_score, dot_dweight, dot_dvalue, dot_dkey, dot_dquery, sum_keys, sum_unit6, sum_lanes, sum_unit4, sum_gain]
  rw [Fin.sum_univ_one, Cert.Att.sum_keys]
  simp only [R168L H, R168R H, R128L H, R128R H, R130 H, R165 H, ← EReal.coe_mul]
  rw [← EReal.coe_one, div_real (mul_ne_zero (Cell.den_ne _ i) (Cell.den_ne _ i))]
  simp only [div_real (Cell.den_ne _ i), ← EReal.coe_mul, coe_sum]
  rw [← EReal.coe_add, ← EReal.coe_neg, ← EReal.coe_add, ← EReal.coe_add, ← EReal.coe_mul]
  unfold Cell.dsP Cell.dden
  congr 2
  simp only [Cell.iv]
  ring

/-- The cotangents of the scores, before the maximum's share. -/
theorem R184R (r n h : Fin 4) (i j : Fin 128) : (res_main_v184 V0 : FVec Ideal S1x4x4x4x128x256 .f32) (ix6 0 r n h i (jR j)) = ((G.rc r n h).dsC i j : EReal) := by
  unfold res_main_v184
  clean_types
  pointwise [dot_score, dot_dweight, dot_dvalue, dot_dkey, dot_dquery, sum_keys, sum_unit6, sum_lanes, sum_unit4, sum_gain]
  rw [Fin.sum_univ_one, Cert.Att.sum_keys]
  simp only [R168L H, R168R H, R128L H, R128R H, R130 H, R165 H, ← EReal.coe_mul]
  rw [← EReal.coe_one, div_real (mul_ne_zero (Cell.den_ne _ i) (Cell.den_ne _ i))]
  simp only [div_real (Cell.den_ne _ i), ← EReal.coe_mul, coe_sum]
  rw [← EReal.coe_add, ← EReal.coe_neg, ← EReal.coe_add, ← EReal.coe_add, ← EReal.coe_mul]
  unfold Cell.dsC Cell.dden
  congr 2
  simp only [Cell.iv]
  ring

end Cert.ReferenceIdeal.Value
-- ==== Proof.Att.RBwd.lean ====
module

public import proofs.«01_k».proof.Proof.Gen.ReferenceIdeal.Run
public import proofs.«01_k».proof.Proof.Att.RCell
public import proofs.«01_k».proof.Proof.Att.RFwd
public import Idealize.ShloMosaic.Lib.StableHlo.ReadAt
public import Idealize.ShloMosaic.Lib.Pointwise
public import Idealize.ShloMosaic.Lib.WordCmp
public import Idealize.ShloMosaic.Lib.Tactic.WordOmega

/-!
# The reference's gradients

The share of the row's maximum in the cotangent of the scores is zero, because a row's cotangents add up to that of its
log-sum-exp. With that, each of the five results, read at an index, is the gradient that `Glob` defines.
-/

@[expose] public section

set_option maxRecDepth 16384

noncomputable section

namespace Cert.ReferenceIdeal.Value

open Cert.ReferenceIdeal Cert.ReferenceIdeal.Gen Cert.Att Idealize.ShloMosaic Idealize.ShloMosaic.TcCoe Idealize.SL.Sem Idealize.ShloMosaic.StableHlo

open Cert.KernelIdeal.Gen

variable {V0 : Valuation τ sig (Elt Ideal)} {G : Glob} (H : RInp V0 G)

/-- The keys that attain a row's maximum are at least one. -/
theorem tie_pos (C : Cell) (i : Fin 128) : 0 < (∑ j, if C.mP i j = (C.m i : EReal) then (1 : ℝ) else 0)
    + ∑ j, if C.mC i j = (C.m i : EReal) then (1 : ℝ) else 0 := by
  have hx := C.mx_eq i
  unfold Cell.mx at hx
  obtain ⟨jP, -, hP⟩ := Finset.exists_mem_eq_sup (Finset.univ : Finset (Fin 128)) ⟨0, Finset.mem_univ _⟩ (fun j => C.mP i j)
  obtain ⟨jC, -, hC⟩ := Finset.exists_mem_eq_sup (Finset.univ : Finset (Fin 128)) ⟨0, Finset.mem_univ _⟩ (fun j => C.mC i j)
  have nn : ∀ (f : Fin 128 → EReal), ∀ j ∈ Finset.univ, (0 : ℝ) ≤ if f j = (C.m i : EReal) then (1 : ℝ) else 0 :=
    fun f j _ => by split <;> norm_num
  have one : ∀ (f : Fin 128 → EReal) (j : Fin 128), f j = (C.m i : EReal) → 0 < ∑ j, if f j = (C.m i : EReal) then (1 : ℝ) else 0 :=
    fun f j hj => Finset.sum_pos' (nn f) ⟨j, Finset.mem_univ j, by rw [if_pos hj]; norm_num⟩
  rcases max_choice (Finset.univ.sup fun j => C.mP i j) (Finset.univ.sup fun j => C.mC i j) with hm | hm
  · exact add_pos_of_pos_of_nonneg (one _ jP (by rw [← hP, ← hm]; exact hx)) (Finset.sum_nonneg (nn _))
  · exact add_pos_of_nonneg_of_pos (Finset.sum_nonneg (nn _)) (one _ jC (by rw [← hC, ← hm]; exact hx))

/-- A token's residue. -/
theorem tok_r (r n : Fin 4) (i : Fin 128) (hh) : (⟨(tok r n i).val % 4, hh⟩ : Fin 4) = r := Fin.ext (by simp only [tok]; omega)
/-- A token's block. -/
theorem tok_n (r n : Fin 4) (i : Fin 128) (hh) : (⟨(tok r n i).val / 4 / 128, hh⟩ : Fin 4) = n := Fin.ext (by simp only [tok]; omega)
/-- A token's row. -/
theorem tok_i (r n : Fin 4) (i : Fin 128) (hh) : (⟨(tok r n i).val / 4 % 128, hh⟩ : Fin 128) = i := Fin.ext (by simp only [tok]; omega)
/-- A token's key in its own block's window. -/
theorem tok_iR (r n : Fin 4) (i : Fin 128) (hh) : (⟨128 + (tok r n i).val / 4 % 128, hh⟩ : Fin 256) = jR i :=
  Fin.ext (by simp only [tok, jR]; omega)
/-- A lane's head. -/
theorem lane_h (h : Fin 4) (e : Fin 64) (hh) : (⟨(lane h e).val / 64, hh⟩ : Fin 4) = h := Fin.ext (by simp only [lane]; omega)
/-- A lane's channel in its head. -/
theorem lane_e (h : Fin 4) (e : Fin 64) (hh) : (⟨(lane h e).val % 64, hh⟩ : Fin 64) = e := Fin.ext (by simp only [lane]; omega)
/-- The block after a token's. -/
theorem tok_next (r n : Fin 4) (i : Fin 128) (hh) (hn : n.val + 1 < 4) : (⟨1 + (tok r n i).val / 4 / 128, hh⟩ : Fin 4) = ⟨n.val + 1, hn⟩ :=
  Fin.ext (by simp only [tok]; omega)

/-- What the block after a token's adds, as the program selects it. -/
theorem next_dite (f : Fin 4 → Fin 4 → Fin 4 → Fin 128 → Fin 64 → ℝ) (r n h : Fin 4) (i : Fin 128) (e : Fin 64) {P : Prop} [Decidable P]
    (hP : P ↔ n.val + 1 < 4) (g : P → EReal) (hg : ∀ (hp : P) (hn : n.val + 1 < 4), g hp = (f r ⟨n.val + 1, hn⟩ h i e : EReal)) :
    (if hp : P then g hp else 0) = (Glob.next f r n h i e : EReal) := by
  unfold Glob.next
  by_cases hn : n.val + 1 < 4
  · rw [dif_pos (hP.mpr hn), dif_pos hn, hg _ hn]
  · rw [dif_neg (fun hp => hn (hP.mp hp)), dif_neg hn, EReal.coe_zero]

include H

/-- Whether a key attains the maximum. -/
theorem R123L (r n h : Fin 4) (i j : Fin 128) : (res_main_v123 V0 : FVec Ideal S1x4x4x4x128x256 .f32) (ix6 0 r n h i (jL j)) = (((if (G.rc r n h).mP i j = ((G.rc r n h).m i : EReal) then 1 else 0 : ℝ)) : EReal) := by
  unfold res_main_v123
  clean_types
  pointwise [dot_score, dot_dweight, dot_dvalue, dot_dkey, dot_dquery, sum_keys, sum_unit6, sum_lanes, sum_unit4, sum_gain]
  rw [R118_0L H, R119 H]
  by_cases hm : (G.rc r n h).mP i j = ((G.rc r n h).m i : EReal)
  · rw [if_pos hm, decide_eq_true hm]
    change (((BitVec.ofBool true).toNat : ℝ) : EReal) = _
    simp
  · rw [if_neg hm, decide_eq_false hm]
    change (((BitVec.ofBool false).toNat : ℝ) : EReal) = _
    simp

/-- Whether a key attains the maximum. -/
theorem R123R (r n h : Fin 4) (i j : Fin 128) : (res_main_v123 V0 : FVec Ideal S1x4x4x4x128x256 .f32) (ix6 0 r n h i (jR j)) = (((if (G.rc r n h).mC i j = ((G.rc r n h).m i : EReal) then 1 else 0 : ℝ)) : EReal) := by
  unfold res_main_v123
  clean_types
  pointwise [dot_score, dot_dweight, dot_dvalue, dot_dkey, dot_dquery, sum_keys, sum_unit6, sum_lanes, sum_unit4, sum_gain]
  rw [R118_0R H, R119 H]
  by_cases hm : (G.rc r n h).mC i j = ((G.rc r n h).m i : EReal)
  · rw [if_pos hm, decide_eq_true hm]
    change (((BitVec.ofBool true).toNat : ℝ) : EReal) = _
    simp
  · rw [if_neg hm, decide_eq_false hm]
    change (((BitVec.ofBool false).toNat : ℝ) : EReal) = _
    simp

/-- The cotangents of the scores: the maximum has no share. -/
theorem R195L (r n h : Fin 4) (i j : Fin 128) : (res_main_v195 V0 : FVec Ideal S1x4x4x4x128x256 .f32) (ix6 0 r n h i (jL j)) = ((G.rc r n h).dsP i j : EReal) := by
  unfold res_main_v195
  clean_types
  pointwise [dot_score, dot_dweight, dot_dvalue, dot_dkey, dot_dquery, sum_keys, sum_unit6, sum_lanes, sum_unit4, sum_gain]
  rw [Fin.sum_univ_one, Cert.Att.sum_keys, Cert.Att.sum_keys]
  simp only [R184L H, R184R H, R123L H, R123R H, R165 H, R118_1L (G := G), sel_ofBool, ← EReal.coe_neg, coe_sum]
  rw [← EReal.coe_add, ← EReal.coe_add, ← EReal.coe_add, div_real (tie_pos _ i).ne', ← EReal.coe_mul, ← EReal.coe_add]
  have hz : (G.rc r n h).dl i + ((∑ j, -(G.rc r n h).dsP i j) + ∑ j, -(G.rc r n h).dsC i j) = 0 := by
    rw [Finset.sum_neg_distrib, Finset.sum_neg_distrib, ← Cell.sum_ds]; ring
  rw [hz, zero_div, zero_mul, add_zero]
  by_cases hv : (G.rc r n h).vP i j
  · rw [if_pos hv]
  · rw [if_neg hv]
    have : (G.rc r n h).dsP i j = 0 := by
      unfold Cell.dsP Cell.pP; rw [if_neg hv, mul_zero]
    rw [this, EReal.coe_zero]

/-- The cotangents of the scores: the maximum has no share. -/
theorem R195R (r n h : Fin 4) (i j : Fin 128) : (res_main_v195 V0 : FVec Ideal S1x4x4x4x128x256 .f32) (ix6 0 r n h i (jR j)) = ((G.rc r n h).dsC i j : EReal) := by
  unfold res_main_v195
  clean_types
  pointwise [dot_score, dot_dweight, dot_dvalue, dot_dkey, dot_dquery, sum_keys, sum_unit6, sum_lanes, sum_unit4, sum_gain]
  rw [Fin.sum_univ_one, Cert.Att.sum_keys, Cert.Att.sum_keys]
  simp only [R184L H, R184R H, R123L H, R123R H, R165 H, R118_1R, sel_ofBool, ← EReal.coe_neg, coe_sum]
  rw [← EReal.coe_add, ← EReal.coe_add, ← EReal.coe_add, div_real (tie_pos _ i).ne', ← EReal.coe_mul, ← EReal.coe_add]
  have hz : (G.rc r n h).dl i + ((∑ j, -(G.rc r n h).dsP i j) + ∑ j, -(G.rc r n h).dsC i j) = 0 := by
    rw [Finset.sum_neg_distrib, Finset.sum_neg_distrib, ← Cell.sum_ds]; ring
  rw [hz, zero_div, zero_mul, add_zero]
  by_cases hv : Cell.vC i j
  · rw [if_pos hv]
  · rw [if_neg hv]
    have : (G.rc r n h).dsC i j = 0 := by
      unfold Cell.dsC Cell.pC; rw [if_neg hv, mul_zero]
    rw [this, EReal.coe_zero]

/-- The gradient of a window's values. -/
theorem R170L (r n h : Fin 4) (j : Fin 128) (e : Fin 64) : (res_main_v170 V0 : FVec Ideal S1x4x4x256x4x64 .f32) (ix6 0 r n (jL j) h e) = ((G.rc r n h).dvP j e : EReal) := by
  unfold res_main_v170
  clean_types
  pointwise [dot_score, dot_dweight, dot_dvalue, dot_dkey, dot_dquery, sum_keys, sum_unit6, sum_lanes, sum_unit4, sum_gain]
  simp only [R167 H, R132L H, ← EReal.coe_mul, coe_sum]
  unfold Cell.dvP
  congr 1
  exact Finset.sum_congr rfl fun i _ => mul_comm _ _

/-- The gradient of a window's values. -/
theorem R170R (r n h : Fin 4) (j : Fin 128) (e : Fin 64) : (res_main_v170 V0 : FVec Ideal S1x4x4x256x4x64 .f32) (ix6 0 r n (jR j) h e) = ((G.rc r n h).dvC j e : EReal) := by
  unfold res_main_v170
  clean_types
  pointwise [dot_score, dot_dweight, dot_dvalue, dot_dkey, dot_dquery, sum_keys, sum_unit6, sum_lanes, sum_unit4, sum_gain]
  simp only [R167 H, R132R H, ← EReal.coe_mul, coe_sum]
  unfold Cell.dvC
  congr 1
  exact Finset.sum_congr rfl fun i _ => mul_comm _ _

/-- The gradient of a window's keys. -/
theorem R197L (r n h : Fin 4) (j : Fin 128) (e : Fin 64) : (res_main_v197 V0 : FVec Ideal S1x4x4x256x4x64 .f32) (ix6 0 r n (jL j) h e) = ((G.rc r n h).dkP j e : EReal) := by
  unfold res_main_v197
  clean_types
  pointwise [dot_score, dot_dweight, dot_dvalue, dot_dkey, dot_dquery, sum_keys, sum_unit6, sum_lanes, sum_unit4, sum_gain]
  simp only [R195L H, R55 H, ← EReal.coe_mul, coe_sum]; rfl

/-- The gradient of a window's keys. -/
theorem R197R (r n h : Fin 4) (j : Fin 128) (e : Fin 64) : (res_main_v197 V0 : FVec Ideal S1x4x4x256x4x64 .f32) (ix6 0 r n (jR j) h e) = ((G.rc r n h).dkC j e : EReal) := by
  unfold res_main_v197
  clean_types
  pointwise [dot_score, dot_dweight, dot_dvalue, dot_dkey, dot_dquery, sum_keys, sum_unit6, sum_lanes, sum_unit4, sum_gain]
  simp only [R195R H, R55 H, ← EReal.coe_mul, coe_sum]; rfl

/-- Its part for the block before: values. -/
theorem R200 (r n h : Fin 4) (i : Fin 128) (e : Fin 64) : (res_main_v200 V0 : FVec Ideal S1x4x4x128x4x64 .f32) (ix6 0 r n i h e) = ((G.rc r n h).dvP i e : EReal) := by
  unfold res_main_v200
  clean_types
  pointwise [dot_score, dot_dweight, dot_dvalue, dot_dkey, dot_dquery, sum_keys, sum_unit6, sum_lanes, sum_unit4, sum_gain]
  exact R170L H r n h i e

/-- Its part for the block before: keys. -/
theorem R210 (r n h : Fin 4) (i : Fin 128) (e : Fin 64) : (res_main_v210 V0 : FVec Ideal S1x4x4x128x4x64 .f32) (ix6 0 r n i h e) = ((G.rc r n h).dkP i e : EReal) := by
  unfold res_main_v210
  clean_types
  pointwise [dot_score, dot_dweight, dot_dvalue, dot_dkey, dot_dquery, sum_keys, sum_unit6, sum_lanes, sum_unit4, sum_gain]
  exact R197L H r n h i e

/-- The cotangent of the normalised keys with their gain, by tokens. -/
theorem R219 (r n h : Fin 4) (i : Fin 128) (e : Fin 64) : (res_main_v219 V0 : FVec Ideal S1x2048x4x64 .f32) (ix4 0 (tok r n i) h e) = (G.dkn r n h i e : EReal) := by
  unfold res_main_v219
  clean_types
  pointwise [dot_score, dot_dweight, dot_dvalue, dot_dkey, dot_dquery, sum_keys, sum_unit6, sum_lanes, sum_unit4, sum_gain]
  unfold Glob.dkn
  have hb : (tok r n i).val % 4 < 4 ∧ (tok r n i).val / 4 < 512 := by have := (tok r n i).isLt; omega
  have hv : (tok r n i).val / 4 / 128 = n.val := by simp only [tok]; omega
  have hl := (lane h e).isLt
  rw [dif_pos hb]
  simp only [tok_r, tok_n, tok_i, tok_iR]
  exact (congrArg₂ (fun a b : EReal => a + b) (R197R H r n h i e) (next_dite (fun r n h i e => (G.rc r n h).dkP i e) r n h i e
    (by omega) _ (fun hp hn => by rw [tok_next r n i _ hn]; exact R210 H r ⟨n.val + 1, hn⟩ h i e))).trans (EReal.coe_add _ _).symm

/-- The cotangent of the normalised keys. -/
theorem R229 (r n h : Fin 4) (i : Fin 128) (e : Fin 64) : (res_main_v229 V0 : FVec Ideal S1x2048x4x64 .f32) (ix4 0 (tok r n i) h e) = ((G.dkn r n h i e * G.gk h e : ℝ) : EReal) := by
  unfold res_main_v229
  clean_types
  pointwise [dot_score, dot_dweight, dot_dvalue, dot_dkey, dot_dquery, sum_keys, sum_unit6, sum_lanes, sum_unit4, sum_gain]
  rw [R219 H, R38 H, ← EReal.coe_mul]

/-- The coefficient in the gradient of the keys' normalisation. -/
theorem R241 (r n h : Fin 4) (i : Fin 128) (e : Fin 64) : (res_main_v241 V0 : FVec Ideal S1x2048x4x64 .f32) (ix4 0 (tok r n i) h e) = (nc (hd (G.rb r n).kc h i) (fun e => G.dkn r n h i e * G.gk h e) : EReal) := by
  unfold res_main_v241
  clean_types
  pointwise [dot_score, dot_dweight, dot_dvalue, dot_dkey, dot_dquery, sum_keys, sum_unit6, sum_lanes, sum_unit4, sum_gain]
  rw [Fin.sum_univ_one]
  simp only [R229 H, R23 H, R32 H, R31 H, ← EReal.coe_mul, coe_sum]
  rw [div_real (ms_pos _).ne', cmhalf, c64, ← EReal.coe_mul, ← EReal.coe_mul, div_real h64]
  unfold nc rd
  congr 3
  exact Finset.sum_congr rfl fun e _ => mul_comm _ _

/-- The cotangent of the normalised queries with their gain, by tokens. -/
theorem R249 (r n h : Fin 4) (i : Fin 128) (e : Fin 64) : (res_main_v249 V0 : FVec Ideal S1x2048x4x64 .f32) (ix4 0 (tok r n i) h e) = (((G.rc r n h).dq i e * (1 / 8) : ℝ) : EReal) := by
  unfold res_main_v249
  clean_types
  pointwise [dot_score, dot_dweight, dot_dvalue, dot_dkey, dot_dquery, sum_keys, sum_unit6, sum_lanes, sum_unit4, sum_gain]
  have hb : (tok r n i).val % 4 < 4 ∧ (tok r n i).val / 4 < 512 := by have := (tok r n i).isLt; omega
  rw [dif_pos hb, Cert.Att.sum_keys]
  simp only [tok_r, tok_n, tok_i, R195L H, R195R H, R65L H, R65R H, ← EReal.coe_mul, coe_sum]
  rw [← EReal.coe_add, ceighth, ← EReal.coe_mul]; rfl

/-- The cotangent of the normalised queries. -/
theorem R254 (r n h : Fin 4) (i : Fin 128) (e : Fin 64) : (res_main_v254 V0 : FVec Ideal S1x2048x4x64 .f32) (ix4 0 (tok r n i) h e) = (((G.rc r n h).dq i e * (1 / 8) * G.gq h e : ℝ) : EReal) := by
  unfold res_main_v254
  clean_types
  pointwise [dot_score, dot_dweight, dot_dvalue, dot_dkey, dot_dquery, sum_keys, sum_unit6, sum_lanes, sum_unit4, sum_gain]
  rw [R249 H, R18 H, ← EReal.coe_mul]

/-- The coefficient in the gradient of the queries' normalisation. -/
theorem R266 (r n h : Fin 4) (i : Fin 128) (e : Fin 64) : (res_main_v266 V0 : FVec Ideal S1x2048x4x64 .f32) (ix4 0 (tok r n i) h e) = (nc (hd (G.rb r n).q h i) (fun e => (G.rc r n h).dq i e * (1 / 8) * G.gq h e) : EReal) := by
  unfold res_main_v266
  clean_types
  pointwise [dot_score, dot_dweight, dot_dvalue, dot_dkey, dot_dquery, sum_keys, sum_unit6, sum_lanes, sum_unit4, sum_gain]
  rw [Fin.sum_univ_one]
  simp only [R254 H, R3 H, R12 H, R11 H, ← EReal.coe_mul, coe_sum]
  rw [div_real (ms_pos _).ne', cmhalf, c64, ← EReal.coe_mul, ← EReal.coe_mul, div_real h64]
  unfold nc rd
  congr 3
  exact Finset.sum_congr rfl fun e _ => mul_comm _ _

/-- The gradient of the values. -/
theorem result_224 (r n h : Fin 4) (i : Fin 128) (e : Fin 64) : (val6 V0 (Proc.devRef .tc main_v224) : FVec Ideal S2048x256 .f32) (ix2 (tok r n i) (lane h e)) = (G.dv r n h i e : EReal) := by
  rw [val6_main_v224]
  clean_types
  pointwise [sum_gain]
  have hb : (tok r n i).val % 4 < 4 ∧ (tok r n i).val / 4 < 512 ∧ (lane h e).val / 64 < 4 ∧ (lane h e).val % 64 < 64 := by have := (tok r n i).isLt; have hl := (lane h e).isLt; omega
  have hv : (tok r n i).val / 4 / 128 = n.val := by simp only [tok]; omega
  have hl := (lane h e).isLt
  rw [dif_pos hb]
  simp only [tok_r, tok_n, tok_i, tok_iR, lane_h, lane_e]
  exact ((congrArg₂ (fun a b : EReal => a + b) (R170R H r n h i e) (next_dite (fun r n h i e => (G.rc r n h).dvP i e) r n h i e
    (by omega) _ (fun hp hn => by rw [tok_next r n i _ hn]; exact R200 H r ⟨n.val + 1, hn⟩ h i e))).trans (EReal.coe_add _ _).symm).trans (congrArg (fun x : ℝ => (x : EReal)) (G.dvn_eq r n h i e))

/-- The gradient of the keys. -/
theorem result_247 (r n h : Fin 4) (i : Fin 128) (e : Fin 64) : (val6 V0 (Proc.devRef .tc main_v247) : FVec Ideal S2048x256 .f32) (ix2 (tok r n i) (lane h e)) = (G.dk r n h i e : EReal) := by
  rw [val6_main_v247]
  clean_types
  pointwise [sum_gain]
  simp only [lane_h, lane_e]
  rw [R229 H, R32 H, R23 H, R241 H, ← EReal.coe_mul, ← EReal.coe_mul, ← EReal.coe_mul, ← EReal.coe_add, ← EReal.coe_add, ← Glob.nb_dkn]
  unfold nb
  congr 1
  ring

/-- The gradient of the queries. -/
theorem result_272 (r n h : Fin 4) (i : Fin 128) (e : Fin 64) : (val6 V0 (Proc.devRef .tc main_v272) : FVec Ideal S2048x256 .f32) (ix2 (tok r n i) (lane h e)) = (G.dq r n h i e : EReal) := by
  rw [val6_main_v272]
  clean_types
  pointwise [sum_gain]
  simp only [lane_h, lane_e]
  rw [R254 H, R12 H, R3 H, R266 H, ← EReal.coe_mul, ← EReal.coe_mul, ← EReal.coe_mul, ← EReal.coe_add, ← EReal.coe_add]
  have hq : (fun e => (G.rc r n h).dq i e * (1 / 8) * G.gq h e) = fun e => ((G.rb r n).cell h).dq i e * (1 / 8) * (G.rb r n).gq h e := by
    funext e; rw [Glob.rc_dq]; rfl
  unfold Glob.dq RB.oq nb
  rw [← hq]
  congr 1
  ring

/-- The gradient of the keys' gain. -/
theorem result_246 (h : Fin 4) (e : Fin 64) : (val6 V0 (Proc.devRef .tc main_v246) : FVec Ideal S4x1x64 .f32) (ix3 h 0 e) = (G.dgk h e : EReal) := by
  rw [val6_main_v246]
  clean_types
  pointwise [sum_gain]
  rw [Fin.sum_univ_one, sum_tok]
  simp only [R37 H, R219 H, ← EReal.coe_mul, coe_sum]
  rw [Glob.dgk_eq]

/-- The gradient of the queries' gain. -/
theorem result_271 (h : Fin 4) (e : Fin 64) : (val6 V0 (Proc.devRef .tc main_v271) : FVec Ideal S4x1x64 .f32) (ix3 h 0 e) = (G.dgq h e : EReal) := by
  rw [val6_main_v271]
  clean_types
  pointwise [sum_gain]
  rw [Fin.sum_univ_one, sum_tok]
  simp only [R17 H, R249 H, ← EReal.coe_mul, coe_sum]
  rw [Glob.dgq_eq]

end Cert.ReferenceIdeal.Value
-- ==== Proof.Att.Fin.lean ====
module

public import proofs.«01_k».proof.Defs
public import Idealize.ShloMosaic.Lib.ReduceAll
public import Idealize.ShloMosaic.Lib.Pointwise
public import proofs.«01_k».proof.Proof.Att.Spec

/-!
# Finite arguments

The precondition says that every argument is finite. At the extended reals that is: every element is a real number.
-/

@[expose] public section

noncomputable section

namespace Cert.Att

open Idealize.ShloMosaic

/-- The shape relations of the precondition's operations. -/
theorem pre_facts : Cert.Pre_finite.Facts where
  bcast_S_S2048x2304 := by decide
  reducesTo_S2048x2304_S_d0_1 := by decide
  h_S_ := by decide
  bcast_S_S4x1x64 := by decide
  reducesTo_S4x1x64_S_d0_1_2 := by decide
  bcast_S_S2048x256 := by decide
  reducesTo_S2048x256_S_d0_1 := by decide

/-- An extended real whose absolute value is below infinity is a real number. -/
theorem real_of_abs (x : EReal) (h : Ideal.cmp .olt (max x (-x)) (Ideal.ofBits .f32 0x7F800000#32) = 1#1) : x = (x.toReal : EReal) := by
  have ht : Ideal.ofBits .f32 0x7F800000#32 = ⊤ := by simp [Ideal.ofBits, Ideal.ieee]
  rw [ht] at h
  have hlt : max x (-x) < ⊤ := by
    by_contra hn
    simp [Ideal.cmp, hn] at h
  refine (EReal.coe_toReal ?_ ?_).symm
  · rintro rfl
    simp at hlt
  · rintro rfl
    simp at hlt

/-- The one index of a scalar. -/
instance : Subsingleton Cert.Pre_finite.S_.Idx := ⟨fun _ _ => funext fun k => k.elim0⟩

/-- A conjunction of one-bit words that is one has two ones. -/
theorem and_one (a b : IVec Cert.Pre_finite.S_ 1) (j : Cert.Pre_finite.S_.Idx) (h : andi a b j = 1#1) : a j = 1#1 ∧ b j = 1#1 :=
  IntOp.andi_eq_one.1 h

/-- Under the precondition, every element of every argument is a real number. -/
theorem args_real [Cert.Pre_finite.Facts] (a0 : FVec Ideal Cert.Pre_finite.S2048x2304 .f32) (a1 a2 : FVec Ideal Cert.Pre_finite.S4x1x64 .f32)
    (a3 a4 : FVec Ideal Cert.Pre_finite.S2048x256 .f32) (h : Cert.Pre_finite.fn (F := Ideal) a0 a1 a2 a3 a4 = fun _ => 1#1) :
    (∀ i, (a0 i : EReal) = ((a0 i : EReal).toReal : EReal)) ∧ (∀ i, (a1 i : EReal) = ((a1 i : EReal).toReal : EReal))
      ∧ (∀ i, (a2 i : EReal) = ((a2 i : EReal).toReal : EReal)) ∧ (∀ i, (a3 i : EReal) = ((a3 i : EReal).toReal : EReal))
      ∧ ∀ i, (a4 i : EReal) = ((a4 i : EReal).toReal : EReal) := by
  have e := congrFun h (Shape.Idx.first Cert.Pre_finite.Facts.h_S_)
  obtain ⟨e, e4⟩ := and_one _ _ _ e
  obtain ⟨e, e3⟩ := and_one _ _ _ e
  obtain ⟨e, e2⟩ := and_one _ _ _ e
  obtain ⟨e0, e1⟩ := and_one _ _ _ e
  exact ⟨fun i => real_of_abs _ (Host.reduce_andi_all _ _ _ _ _ e0 i), fun i => real_of_abs _ (Host.reduce_andi_all _ _ _ _ _ e1 i),
    fun i => real_of_abs _ (Host.reduce_andi_all _ _ _ _ _ e2 i), fun i => real_of_abs _ (Host.reduce_andi_all _ _ _ _ _ e3 i),
    fun i => real_of_abs _ (Host.reduce_andi_all _ _ _ _ _ e4 i)⟩

end Cert.Att

end
-- ==== Proof.Att.Alg.lean ====
module

public import proofs.«01_k».proof.Proof.Att.KArr
public import proofs.«01_k».proof.Proof.Att.RBwd
public import proofs.«01_k».proof.Proof.Att.Fin
public import Idealize.ShloMosaic.Lib.Quiescent

/-!
# Equality of the two programs

From memories that agree on finite arguments, the kernel's program and the reference leave the same five results: both are
the gradients that `Glob` defines, of the real arrays that the arguments hold.
-/

@[expose] public section

set_option maxRecDepth 16384

noncomputable section

namespace Cert.Att

open Idealize.ShloMosaic Idealize.ShloMosaic.TcCoe Idealize.SL.Sem Idealize.ShloMosaic.StableHlo

/-- The real arrays that a core's arguments hold. -/
def globOf (m : (ℓ : Loc Cert.KernelIdeal.nD Cert.KernelIdeal.τ Cert.KernelIdeal.sig) → Buf (Elt Ideal) ℓ) (c : Dev Cert.KernelIdeal.nD) : Glob where
  x t l := ((m ((c.tc : Thread Cert.KernelIdeal.nD Cert.KernelIdeal.τ).loc Cert.KernelIdeal.main_arg0) : FVec Ideal Cert.KernelIdeal.S2048x2304 .f32) (ix2 t l) : EReal).toReal
  gq h e := ((m ((c.tc : Thread Cert.KernelIdeal.nD Cert.KernelIdeal.τ).loc Cert.KernelIdeal.main_arg1) : FVec Ideal Cert.KernelIdeal.S4x1x64 .f32) (ix3 h 0 e) : EReal).toReal
  gk h e := ((m ((c.tc : Thread Cert.KernelIdeal.nD Cert.KernelIdeal.τ).loc Cert.KernelIdeal.main_arg2) : FVec Ideal Cert.KernelIdeal.S4x1x64 .f32) (ix3 h 0 e) : EReal).toReal
  dO t l := ((m ((c.tc : Thread Cert.KernelIdeal.nD Cert.KernelIdeal.τ).loc Cert.KernelIdeal.main_arg3) : FVec Ideal Cert.KernelIdeal.S2048x256 .f32) (ix2 t l) : EReal).toReal
  dl t l := ((m ((c.tc : Thread Cert.KernelIdeal.nD Cert.KernelIdeal.τ).loc Cert.KernelIdeal.main_arg4) : FVec Ideal Cert.KernelIdeal.S2048x256 .f32) (ix2 t l) : EReal).toReal

attribute [local instance] pre_facts

/-- Under the precondition the kernel's arguments hold the real arrays. -/
theorem inp_of (m : (ℓ : Loc Cert.KernelIdeal.nD Cert.KernelIdeal.τ Cert.KernelIdeal.sig) → Buf (Elt Ideal) ℓ) (h : Cert.Pre_KernelIdeal_finite m)
    (c : Dev Cert.KernelIdeal.nD) : Cert.KernelIdeal.Gen.Inp m c (globOf m c) := by
  obtain ⟨h0, h1, h2, h3, h4⟩ := args_real _ _ _ _ _ (h c)
  exact ⟨fun t l => h0 (ix2 t l), fun a e => h1 (ix3 a 0 e), fun a e => h2 (ix3 a 0 e), fun t l => h3 (ix2 t l), fun t l => h4 (ix2 t l)⟩

/-- An array of tokens and lanes is known from its values at the tokens of the blocks and the lanes of the heads. -/
theorem ext_tok {f g : (⟨2, ![2048, 256]⟩ : Shape).Idx → EReal}
    (h : ∀ r n a i e, f (ix2 (tok r n i) (lane a e)) = g (ix2 (tok r n i) (lane a e))) : f = g := by
  funext j
  obtain ⟨r, n, i, ht⟩ := tok_cover (j 0)
  obtain ⟨a, e, hl⟩ := lane_cover (j 1)
  have hj : j = ix2 (tok r n i) (lane a e) := by rw [← ht, ← hl]; exact eq_ix2 j
  rw [hj]
  exact h r n a i e

/-- An array of gains is known from its values at the heads and channels. -/
theorem ext_gain {f g : (⟨3, ![4, 1, 64]⟩ : Shape).Idx → EReal} (h : ∀ a e, f (ix3 a 0 e) = g (ix3 a 0 e)) : f = g := by
  funext j
  have h1 : @Eq (Fin 1) (j 1) 0 := Subsingleton.elim (α := Fin 1) _ _
  have hj : j = ix3 (j 0 : Fin 4) 0 (j 2 : Fin 64) := (eq_ix3 j).trans (congrArg (fun z : Fin 1 => ix3 (j 0 : Fin 4) z (j 2 : Fin 64)) h1)
  rw [hj]
  exact h _ _

end Cert.Att

open Idealize.ShloMosaic Idealize.ShloMosaic.TcCoe Idealize.SL.Sem Idealize.ShloMosaic.StableHlo Cert.Att

/-- The five results of the kernel's program and of the reference are equal, from finite arguments. -/
theorem Cert.Att.algebraic : @Cert.algebraic_KernelIdeal_ReferenceIdeal_pre_finite Cert.KernelIdeal.Gen.facts Cert.ReferenceIdeal.Gen.facts pre_facts := by
  intro m ρ m' ρ' hpre hag
  have HK := fun c => inp_of m hpre c
  have HR : ∀ c, Cert.ReferenceIdeal.Value.RInp (launchContents m' c) (globOf m c) := fun c => by
    obtain ⟨e0, e1, e2, e3, e4⟩ := hag c
    exact ⟨fun t l => (congrFun e0 (ix2 t l)).trans ((HK c).a0 t l), fun h e => (congrFun e1 (ix3 h 0 e)).trans ((HK c).a1 h e),
      fun h e => (congrFun e2 (ix3 h 0 e)).trans ((HK c).a2 h e), fun t l => (congrFun e3 (ix2 t l)).trans ((HK c).a3 t l),
      fun t l => (congrFun e4 (ix2 t l)).trans ((HK c).a4 t l)⟩
  refine ⟨fun c => Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2, Cert.KernelIdeal.Gen.hostOps1_3, Cert.KernelIdeal.Gen.hostOps1_4] c Cert.KernelIdeal.main_v4,
    fun c => Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2, Cert.KernelIdeal.Gen.hostOps1_3, Cert.KernelIdeal.Gen.hostOps1_4] c Cert.KernelIdeal.main_v8,
    fun c => Pipeline.afterTail₀ Cert.KernelIdeal.cfgs (Cert.KernelIdeal.Gen.dats m) 0 (Cert.KernelIdeal.Gen.V0 m) [Cert.KernelIdeal.Gen.hostOps1, Cert.KernelIdeal.Gen.hostOps1_1, Cert.KernelIdeal.Gen.hostOps1_2, Cert.KernelIdeal.Gen.hostOps1_3, Cert.KernelIdeal.Gen.hostOps1_4] c Cert.KernelIdeal.main_v12,
    fun c => (Cert.KernelIdeal.Gen.dats m 0 c).arrAt 14 (Cert.KernelIdeal.cfgs 0).N, fun c => (Cert.KernelIdeal.Gen.dats m 0 c).arrAt 15 (Cert.KernelIdeal.cfgs 0).N, ?_, ?_⟩
  · refine (θ_run _ _ _).mono (fun r h c => ?_) (θ_run_and (Cert.KernelIdeal.Gen.run_main m ρ) (Cert.KernelIdeal.Gen.unchanged m ρ))
    obtain ⟨hp, hu⟩ := h
    exact ⟨(hp c).2 Cert.KernelIdeal.main_v4 (Pipeline.mem_restRefs_of Cert.KernelIdeal.main_v4 (by decide) (by decide)),
      (hp c).2 Cert.KernelIdeal.main_v8 (Pipeline.mem_restRefs_of Cert.KernelIdeal.main_v8 (by decide) (by decide)),
      (hp c).2 Cert.KernelIdeal.main_v12 (Pipeline.mem_restRefs_of Cert.KernelIdeal.main_v12 (by decide) (by decide)),
      (hp c).1 14, (hp c).1 15, hu c⟩
  · refine (θ_run _ _ _).mono (fun r h c => ?_) (Cert.ReferenceIdeal.Value.run m' ρ')
    obtain ⟨r0, r1, r2, r3, r4, hu⟩ := h c
    refine ⟨?_, ?_, ?_, ?_, ?_, hu⟩
    · refine (r0.trans (Cert.ReferenceIdeal.Value.val6_main_v272 (launchContents m' c)).symm).trans (ext_tok fun r n a i e => ?_)
      exact (Cert.ReferenceIdeal.Value.result_272 (HR c) r n a i e).trans (Cert.KernelIdeal.Gen.fin_q (HK c) r n a i e).symm
    · refine (r1.trans (Cert.ReferenceIdeal.Value.val6_main_v247 (launchContents m' c)).symm).trans (ext_tok fun r n a i e => ?_)
      exact (Cert.ReferenceIdeal.Value.result_247 (HR c) r n a i e).trans (Cert.KernelIdeal.Gen.fin_k (HK c) r n a i e).symm
    · refine (r2.trans (Cert.ReferenceIdeal.Value.val6_main_v224 (launchContents m' c)).symm).trans (ext_tok fun r n a i e => ?_)
      exact (Cert.ReferenceIdeal.Value.result_224 (HR c) r n a i e).trans (Cert.KernelIdeal.Gen.fin_v (HK c) r n a i e).symm
    · refine (r3.trans (Cert.ReferenceIdeal.Value.val6_main_v271 (launchContents m' c)).symm).trans (ext_gain fun a e => ?_)
      exact (Cert.ReferenceIdeal.Value.result_271 (HR c) a e).trans (Cert.KernelIdeal.Gen.arr_14 (HK c) a e).symm
    · refine (r4.trans (Cert.ReferenceIdeal.Value.val6_main_v246 (launchContents m' c)).symm).trans (ext_gain fun a e => ?_)
      exact (Cert.ReferenceIdeal.Value.result_246 (HR c) a e).trans (Cert.KernelIdeal.Gen.arr_15 (HK c) a e).symm

/-- The reference runs to the end, leaves its arguments as they were and every counter at zero: it has no counters. -/
theorem Cert.Att.reference_frame (m : (ℓ : Loc Cert.ReferenceIdeal.nD Cert.ReferenceIdeal.τ Cert.ReferenceIdeal.sig) → Buf (Elt Ideal) ℓ)
    (ρ : Dev Cert.ReferenceIdeal.nD → PrngReg) : θ_run (Cert.ReferenceIdeal.defs (F := Ideal)) (onTc (τ := Cert.ReferenceIdeal.τ) (Cert.ReferenceIdeal.main (F := Ideal))) ⟨m, fun _ => 0, ρ⟩ (fun r =>
      (∀ c : Dev Cert.ReferenceIdeal.nD, r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun _ h => ⟨fun c => (h c).2.2.2.2.2, sem_eq_zero_of_no_sems rfl _⟩) (Cert.ReferenceIdeal.Value.run m ρ)

end
-- ==== Proof.Ffn.Dots.lean ====
module

public import Idealize.ShloMosaic.Lib.MatmulPlain
public import Idealize.ShloMosaic.Lib.Pointwise

/-!
# Matrix products at an index

The feed-forward programs multiply matrices in three ways: rows by columns, rows by rows, and columns by columns. Each product,
read at an index of its result, is one sum over the contracted coordinate.
-/

@[expose] public section

noncomputable section

namespace Cert.Ffn

open Idealize.ShloMosaic
open scoped BigOperators

/-- The product of the columns of a `K` by `M` matrix with the columns of a `K` by `N` matrix. -/
def colsDims (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, (by decide : ([] ++ [1] ++ [0] : List (Fin 2)).Perm (List.finRange 2)), (by decide : ([] ++ [1] ++ [0] : List (Fin 2)).Perm (List.finRange 2)), rfl, Nat.two_pos,
    fun b => by fin_cases b <;> rfl⟩

/-- The contracted coordinate of a product of columns. -/
def colsContr (K M N : ℕ) : (colsDims K M N).contr.Idx ≃ Fin K := ValueIdx.contrEquiv1 _ K rfl rfl

/-- The left index of a product of columns. -/
theorem cols_lhs {K M N : ℕ} (r : Fin M) (c : Fin N) (k : Fin K) :
    (colsDims K M N).lhsIdx (ix2 r c) ((colsContr K M N).symm k) = ix2 k r := by
  funext a; apply Fin.ext
  match a with
  | ⟨0, _⟩ => exact ValueIdx.contrEquiv1_symm_val (colsDims K M N) K rfl rfl k
  | ⟨1, _⟩ => rfl

/-- The right index of a product of columns. -/
theorem cols_rhs {K M N : ℕ} (r : Fin M) (c : Fin N) (k : Fin K) :
    (colsDims K M N).rhsIdx (ix2 r c) ((colsContr K M N).symm k) = ix2 k c := by
  funext a; apply Fin.ext
  match a with
  | ⟨0, _⟩ => exact ValueIdx.contrEquiv1_symm_val (colsDims K M N) K rfl rfl k
  | ⟨1, _⟩ => rfl

/-- The host's product of columns, at an index. -/
theorem dot_cols {K M N : ℕ} {φ₁ φ₂ : FTy} (prec : Option ContractPrecision) (A : FVec Ideal ⟨2, ![K, M]⟩ φ₁) (B : FVec Ideal ⟨2, ![K, N]⟩ φ₂)
    (r : Fin M) (c : Fin N) :
    (Host.dotGeneral (colsDims K M N) prec A B : FVec Ideal ⟨2, ![M, N]⟩ .f32) (ix2 r c) = ∑ k : Fin K, A (ix2 k r) * B (ix2 k c) := by
  show FloatOps.dotGeneral _ prec _ A B _ = _
  rw [Ideal.dotGeneral_apply, ← Equiv.sum_comp (colsContr K M N).symm]
  refine Finset.sum_congr rfl fun k _ => ?_
  rw [cols_lhs, cols_rhs]

/-- The host's product of rows, at an index. -/
theorem dot_rows {M K N : ℕ} {φ₁ φ₂ : FTy} (prec : Option ContractPrecision) (A : FVec Ideal ⟨2, ![M, K]⟩ φ₁) (B : FVec Ideal ⟨2, ![N, K]⟩ φ₂)
    (r : Fin M) (c : Fin N) :
    (Host.dotGeneral (DotDims.transposedRhs M K N) prec A B : FVec Ideal ⟨2, ![M, N]⟩ .f32) (ix2 r c) = ∑ k : Fin K, A (ix2 r k) * B (ix2 c k) := by
  show FloatOps.dotGeneral _ prec _ A B _ = _
  rw [Ideal.dotGeneral_apply, ← Equiv.sum_comp (DotDims.transposedRhsContr M K N).symm]
  refine Finset.sum_congr rfl fun k _ => ?_
  have hk := ValueIdx.contrEquiv1_symm_val _ K (DotDims.transposedRhs_contr_rank M K N) (DotDims.transposedRhs_contr_size M K N) k
  have el : (DotDims.transposedRhs M K N).lhsIdx (ix2 r c) ((DotDims.transposedRhsContr M K N).symm k) = ix2 r k := by
    funext a; apply Fin.ext
    match a with
    | ⟨0, _⟩ => rfl
    | ⟨1, _⟩ => exact hk
  have er : (DotDims.transposedRhs M K N).rhsIdx (ix2 r c) ((DotDims.transposedRhsContr M K N).symm k) = ix2 c k := by
    funext a; apply Fin.ext
    match a with
    | ⟨0, _⟩ => rfl
    | ⟨1, _⟩ => exact hk
  rw [el, er]

/-- The logistic function. -/
def sig (x : EReal) : EReal := Ideal.div 1 (1 + Ideal.exp (-x))
/-- The logistic function with its argument's opposite written as a difference. -/
theorem sig_sub (x : EReal) : Ideal.div 1 (1 + Ideal.exp (0 - x)) = sig x := by
  rw [sig, sub_eq_add_neg, zero_add]
/-- The gate: the argument times its logistic. -/
def silu (x : EReal) : EReal := x * sig x

/-- A hidden channel: its shard and its place in the shard. -/
abbrev chan (b : Fin 4) (j : Fin 704) : Fin 2816 := ⟨b.val * 704 + j.val, by omega⟩

/-- A sum over all hidden channels is a sum over the shards of sums over their channels. -/
theorem sum_chan (f : Fin 2816 → EReal) : ∑ k, f k = ∑ b : Fin 4, ∑ j : Fin 704, f (chan b j) := by
  rw [← Fintype.sum_prod_type' (fun b j => f (chan b j))]
  refine (Fintype.sum_equiv (finProdFinEquiv (m := 4) (n := 704)) _ _ fun p => ?_).symm
  refine congrArg f (Fin.ext ?_)
  simp [finProdFinEquiv, chan]
  omega

/-- The sharded activations seen as one row of channels per token, at a channel of a shard. -/
theorem rows_apply {α : Type} (A : (⟨3, ![4, 2048, 704]⟩ : Shape).Idx → α) (h₁ : (⟨3, ![4, 2048, 704]⟩ : Shape).Transposes [1, 0, 2] ⟨3, ![2048, 4, 704]⟩)
    (h₂ : (⟨3, ![2048, 4, 704]⟩ : Shape).ShapeCasts ⟨2, ![2048, 2816]⟩) (t : Fin 2048) (b : Fin 4) (j : Fin 704) :
    shapeCast ⟨2, ![2048, 2816]⟩ (transpose ⟨3, ![2048, 4, 704]⟩ [1, 0, 2] A h₁) h₂ (ix2 t (chan b j)) = A (ix3 b t j) := by
  pointwise []
  rw [show (⟨(b.val * 704 + j.val) / 704, _⟩ : Fin 4) = b from Fin.ext (by simp only; omega), show (⟨(b.val * 704 + j.val) % 704, _⟩ : Fin 704) = j from Fin.ext (by simp only; omega)]

/-- The sharded weights seen as one matrix with a row per channel, at a channel of a shard. -/
theorem weight_apply {α : Type} (A : (⟨3, ![4, 704, 1024]⟩ : Shape).Idx → α) (h : (⟨3, ![4, 704, 1024]⟩ : Shape).ShapeCasts ⟨2, ![2816, 1024]⟩)
    (b : Fin 4) (j : Fin 704) (k : Fin 1024) : shapeCast ⟨2, ![2816, 1024]⟩ A h (ix2 (chan b j) k) = A (ix3 b j k) := by
  pointwise []
  rw [show (⟨(b.val * 704 + j.val) / 704, _⟩ : Fin 4) = b from Fin.ext (by simp only; omega), show (⟨(b.val * 704 + j.val) % 704, _⟩ : Fin 704) = j from Fin.ext (by simp only; omega)]

end Cert.Ffn

end
-- ==== Proof.Ffn.UpDw.lean ====
module

public import proofs.«01_k».proof.Proof.Gen.Kernel2Ideal.Value
public import proofs.«01_k».proof.Proof.Gen.Reference2Ideal.Run
public import proofs.«01_k».proof.Proof.Ffn.Dots
public import proofs.«01_k».proof.Defs
public import Idealize.ShloMosaic.Lib.Pipeline.ValueKit
public import Idealize.ShloMosaic.Lib.Quiescent

/-!
# The weight gradient of an up projection

Both programs leave, for every shard `b`, hidden channel `j` of the shard and input channel `k`, the sum over the tokens of the
cotangent at `(b, j)` times the input at `k`.
-/

@[expose] public section

set_option maxRecDepth 16384

noncomputable section

namespace Cert.Kernel2Ideal.Gen

open Idealize.ShloMosaic Idealize.ShloMosaic.TcCoe Idealize.SL.Sem Cert.Ffn Cert.Kernel2Ideal
open Idealize.ShloMosaic.Pipeline (Dat)

/-- What the body stores, at an index. -/
theorem pay_apply (x0 : Vec Ideal S1x2048x704 .f32) (x1 : Vec Ideal S2048x1024 .f32) (j : Fin 704) (k : Fin 1024) :
    k0_pay1 (F := Ideal) x0 x1 (ix3 0 j k) = ∑ t : Fin 2048, x0 (ix3 0 t j) * x1 (ix2 t k) := by
  pointwise [k0_pay1]

/-- The window index maps, at every grid point. -/
theorem idx_val : ∀ t : Fin cfg0.N, win0_0.index t = ![t.val, 0, 0] ∧ win0_1.index t = ![0, 0] ∧ win0_2.index t = ![t.val, 0, 0] :=
  (by decide +kernel : ∀ t : Fin grid0.N, _)

variable (m : (ℓ : Loc nD τ sig) → Buf (Elt Ideal) ℓ)

/-- The cotangent. -/
abbrev dyOf (c : Dev nD) : FVec Ideal S4x2048x704 .f32 := m ((c.tc : Thread nD τ).loc main_arg0)
/-- The input of the projection. -/
abbrev hOf (c : Dev nD) : FVec Ideal S2048x1024 .f32 := m ((c.tc : Thread nD τ).loc main_arg1)

/-- The gradient. -/
def grad (dy : FVec Ideal S4x2048x704 .f32) (h : FVec Ideal S2048x1024 .f32) : FVec Ideal S4x704x1024 .bf16 :=
  fun i => ∑ t : Fin 2048, dy (ix3 (i 0 : Fin 4) t (i 1 : Fin 704)) * h (ix2 t (i 2 : Fin 1024))

/-- What window 0 holds. -/
theorem rd0 (c : Dev nD) (t : Fin cfg0.N) (s : Fin 2048) (j : Fin 704) :
    iblk m c 0 t (ix3 0 s j) = dyOf m c (ix3 (⟨t.val, t.isLt⟩ : Fin 4) s j) := by
  unfold iblk
  blk_ext [idx_val t]
/-- What window 1 holds. -/
theorem rd1 (c : Dev nD) (t : Fin cfg0.N) (s : Fin 2048) (k : Fin 1024) :
    iblk m c 1 t (ix2 s k) = hOf m c (ix2 s k) := by
  unfold iblk
  blk_ext [idx_val t]

/-- The zero offset of two coordinates. -/
theorem hz2 : (![0, 0] : Fin 2 → Nat) = fun _ => 0 := funext fun a => by fin_cases a <;> rfl
/-- The zero offset of three coordinates. -/
theorem hz3 : (![0, 0, 0] : Fin 3 → Nat) = fun _ => 0 := funext fun a => by fin_cases a <;> rfl

/-- The block a grid point leaves. -/
theorem out_eq (x0 : Vec Ideal S1x2048x704 .f32) (x1 : Vec Ideal S2048x1024 .f32) : out0_2 x0 x1 = k0_pay1 x0 x1 := by
  unfold out0_2
  rw [View.canon_unit_zero hz3]
  simp only [View.ld_unit_zero (S := S1x2048x704) hz3, View.ld_unit_zero (S := S2048x1024) hz2]

/-- The kernel's result. -/
theorem arr (c : Dev nD) : (dats m 0 c).arrAt 2 (cfgs 0).N = grad (dyOf m c) (hOf m c) := by
  refine (dats m 0 c).arrAt_eq_of_covers 2 _ (by decide +kernel) fun t hf y => ?_
  rw [after0_2, out_eq]
  have hy : y = ix3 (0 : Fin 1) (y 1 : Fin 704) (y 2 : Fin 1024) := by
    refine (eq_ix3 y).trans (congrArg (fun z : Fin 1 => ix3 z (y 1 : Fin 704) (y 2 : Fin 1024)) (Subsingleton.elim (α := Fin 1) _ _))
  have h0 : ((win0_2.blk t).view.emb y 0).val = t.val := by blk_simp [idx_val t]
  have h1 : ((win0_2.blk t).view.emb y 1).val = (y 1).val := by blk_simp [idx_val t]
  have h2 : ((win0_2.blk t).view.emb y 2).val = (y 2).val := by blk_simp [idx_val t]
  have he : (win0_2.blk t).view.emb y = ix3 (⟨t.val, t.isLt⟩ : Fin 4) (y 1 : Fin 704) (y 2 : Fin 1024) := by
    funext a; apply Fin.ext
    match a with
    | ⟨0, _⟩ => exact h0
    | ⟨1, _⟩ => exact h1
    | ⟨2, _⟩ => exact h2
  blk_simp [idx_val t]
  refine (congrArg (k0_pay1 (iblk m c 0 t) (iblk m c 1 t)) hy).trans ((pay_apply _ _ _ _).trans ?_)
  refine Eq.trans (Finset.sum_congr rfl fun s _ => ?_) (congrArg (grad (dyOf m c) (hOf m c)) he).symm
  exact congrArg₂ (· * ·) (rd0 m c t s _) (rd1 m c t s _)

end Cert.Kernel2Ideal.Gen

namespace Cert.Reference2Ideal.Value

open Idealize.ShloMosaic Idealize.ShloMosaic.TcCoe Idealize.SL.Sem Cert.Ffn Cert.Reference2Ideal Cert.Reference2Ideal.Gen

/-- The reference's result, at an index. -/
theorem result (dy : FVec Ideal S4x2048x704 .f32) (h : FVec Ideal S2048x1024 .f32) (b : Fin 4) (j : Fin 704) (k : Fin 1024) :
    (truncf .bf16 (shapeCast S4x704x1024 (transpose S2816x1024 [1, 0] (transpose S1024x2816 [1, 0] (Host.dotGeneral dot_S2048x2816_S2048x1024_S2816x1024_0_0_1_1_n_n none (shapeCast S2048x2816 (transpose S2048x4x704 [1, 0, 2] dy transposes_S4x2048x704_S2048x4x704_1_0_2) shapeCasts_S2048x4x704_S2048x2816) h) transposes_S2816x1024_S1024x2816_1_0) transposes_S1024x2816_S2816x1024_1_0) shapeCasts_S2816x1024_S4x704x1024) bitsLt_bf16_f32 : FVec Ideal S4x704x1024 .bf16) (ix3 b j k)
      = ∑ t : Fin 2048, dy (ix3 b t j) * h (ix2 t k) := by
  have e : ∀ A : FVec Ideal S2816x1024 .f32, (truncf .bf16 (shapeCast S4x704x1024 (transpose S2816x1024 [1, 0] (transpose S1024x2816 [1, 0] A transposes_S2816x1024_S1024x2816_1_0) transposes_S1024x2816_S2816x1024_1_0) shapeCasts_S2816x1024_S4x704x1024) bitsLt_bf16_f32 : FVec Ideal S4x704x1024 .bf16) (ix3 b j k) = A (ix2 (chan b j) k) := by
    intro A
    pointwise []
  rw [e]
  refine (dot_cols none _ _ _ _).trans (Finset.sum_congr rfl fun t _ => ?_)
  rw [rows_apply]

end Cert.Reference2Ideal.Value

open Idealize.ShloMosaic Idealize.ShloMosaic.TcCoe Idealize.SL.Sem Idealize.ShloMosaic.StableHlo

/-- From equal arguments the kernel's call and the reference leave the same gradient. -/
theorem Cert.Ffn.upDw_algebraic : @Cert.algebraic_Kernel2Ideal_Reference2Ideal Cert.Kernel2Ideal.Gen.facts Cert.Reference2Ideal.Gen.facts := by
  intro m ρ m' ρ' _ hag
  refine ⟨fun c => (Cert.Kernel2Ideal.Gen.dats m 0 c).arrAt 2 Cert.Kernel2Ideal.cfg0.N, Cert.Kernel2Ideal.Value.run_blocks m ρ, ?_⟩
  refine (θ_run _ _ _).mono (fun r h c => ?_) (Cert.Reference2Ideal.Value.run m' ρ')
  obtain ⟨hr, hu⟩ := h c
  refine ⟨hr.trans ?_, hu⟩
  obtain ⟨e0, e1⟩ := hag c
  rw [e0, e1]
  refine Eq.trans ?_ (Cert.Kernel2Ideal.Gen.arr m c).symm
  funext i
  rw [eq_ix3 i]
  exact Cert.Reference2Ideal.Value.result _ _ _ _ _

/-- The reference runs to the end, leaves its arguments as they were and every counter at zero: it has no counters. -/
theorem Cert.Ffn.upDw_reference_frame (m : (ℓ : Loc Cert.Reference2Ideal.nD Cert.Reference2Ideal.τ Cert.Reference2Ideal.sig) → Buf (Elt Ideal) ℓ)
    (ρ : Dev Cert.Reference2Ideal.nD → PrngReg) : θ_run (Cert.Reference2Ideal.defs (F := Ideal)) (onTc (τ := Cert.Reference2Ideal.τ) (Cert.Reference2Ideal.main (F := Ideal))) ⟨m, fun _ => 0, ρ⟩ (fun r =>
      (∀ c : Dev Cert.Reference2Ideal.nD, r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0) :=
  (θ_run _ _ _).mono (fun _ h => ⟨fun c => (h c).2, sem_eq_zero_of_no_sems rfl _⟩) (Cert.Reference2Ideal.Value.run m ρ)

end
-- ==== Proof.Ffn.DownDw.lean ====
module

public import proofs.«01_k».proof.Proof.Gen.Kernel3Ideal.Value
public import proofs.«01_k».proof.Proof.Gen.Reference3Ideal.Run
public import proofs.«01_k».proof.Proof.Ffn.Dots
public import proofs.«01_k».proof.Defs
public import Idealize.ShloMosaic.Lib.Pipeline.ValueKit
public import Idealize.ShloMosaic.Lib.Quiescent

/-!
# The weight gradient of the down projection

Both programs leave, for every shard `b`, hidden channel `j` of the shard and output channel `k`, the sum over the tokens of the
gated activation at `(b, j)` times the cotangent at `k`. The gated activation is `silu g * u`.
-/

@[expose] public section

set_option maxRecDepth 16384

noncomputable section

namespace Cert.Kernel3Ideal.Gen

open Idealize.ShloMosaic Idealize.ShloMosaic.TcCoe Idealize.SL.Sem Cert.Ffn Cert.Kernel3Ideal
open Idealize.ShloMosaic.Pipeline (Dat)

/-- What the body stores, at an index. -/
theorem pay_apply (x0 x1 : Vec Ideal S1x2048x704 .f32) (x2 : Vec Ideal S2048x1024 .f32) (j : Fin 704) (k : Fin 1024) :
    k0_pay1 (F := Ideal) x0 x1 x2 (ix3 0 j k) = ∑ t : Fin 2048, (silu (x0 (ix3 0 t j)) * x1 (ix3 0 t j)) * x2 (ix2 t k) := by
  pointwise [k0_pay1]
  simp only [sig_sub]
  rfl

/-- The window index maps, at every grid point. -/
theorem idx_val : ∀ t : Fin cfg0.N, win0_0.index t = ![t.val, 0, 0] ∧ win0_1.index t = ![t.val, 0, 0] ∧ win0_2.index t = ![0, 0] ∧ win0_3.index t = ![t.val, 0, 0] :=
  (by decide +kernel : ∀ t : Fin grid0.N, _)

variable (m : (ℓ : Loc nD τ sig) → Buf (Elt Ideal) ℓ)

/-- The gate's activation. -/
abbrev gOf (c : Dev nD) : FVec Ideal S4x2048x704 .f32 := m ((c.tc : Thread nD τ).loc main_arg0)
/-- The other up projection's activation. -/
abbrev uOf (c : Dev nD) : FVec Ideal S4x2048x704 .f32 := m ((c.tc : Thread nD τ).loc main_arg1)
/-- The cotangent. -/
abbrev dyOf (c : Dev nD) : FVec Ideal S2048x1024 .f32 := m ((c.tc : Thread nD τ).loc main_arg2)

/-- The gradient. -/
def grad (g u : FVec Ideal S4x2048x704 .f32) (dy : FVec Ideal S2048x1024 .f32) : FVec Ideal S4x704x1024 .bf16 :=
  fun i => ∑ t : Fin 2048, (silu (g (ix3 (i 0 : Fin 4) t (i 1 : Fin 704))) * u (ix3 (i 0 : Fin 4) t (i 1 : Fin 704))) * dy (ix2 t (i 2 : Fin 1024))

/-- What window 0 holds. -/
theorem rd0 (c : Dev nD) (t : Fin cfg0.N) (s : Fin 2048) (j : Fin 704) :
    iblk m c 0 t (ix3 0 s j) = gOf m c (ix3 (⟨t.val, t.isLt⟩ : Fin 4) s j) := by
  unfold iblk
  blk_ext [idx_val t]
/-- What window 1 holds. -/
theorem rd1 (c : Dev nD) (t : Fin cfg0.N) (s : Fin 2048) (j : Fin 704) :
    iblk m c 1 t (ix3 0 s j) = uOf m c (ix3 (⟨t.val, t.isLt⟩ : Fin 4) s j) := by
  unfold iblk
  blk_ext [idx_val t]
/-- What window 2 holds. -/
theorem rd2 (c : Dev nD) (t : Fin cfg0.N) (s : Fin 2048) (k : Fin 1024) :
    iblk m c 2 t (ix2 s k) = dyOf m c (ix2 s k) := by
  unfold iblk
  blk_ext [idx_val t]

/-- The zero offset of two coordinates. -/
theorem hz2 : (![0, 0] : Fin 2 → Nat) = fun _ => 0 := funext fun a => by fin_cases a <;> rfl
/-- The zero offset of three coordinates. -/
theorem hz3 : (![0, 0, 0] : Fin 3 → Nat) = fun _ => 0 := funext fun a => by fin_cases a <;> rfl

/-- The block a grid point leaves. -/
theorem out_eq (x0 x1 : Vec Ideal S1x2048x704 .f32) (x2 : Vec Ideal S2048x1024 .f32) : out0_3 x0 x1 x2 = k0_pay1 x0 x1 x2 := by
  unfold out0_3
  rw [View.canon_unit_zero hz3]
  simp only [View.ld_unit_zero (S := S1x2048x704) hz3, View.ld_unit_zero (S := S2048x1024) hz2]

/-- The kernel's result. -/
theorem arr (c : Dev nD) : (dats m 0 c).arrAt 3 (cfgs 0).N = grad (gOf m c) (uOf m c) (dyOf m c) := by
  refine (dats m 0 c).arrAt_eq_of_covers 3 _ (by decide +kernel) fun t hf y => ?_
  rw [after0_3, out_eq]
  have hy : y = ix3 (0 : Fin 1) (y 1 : Fin 704) (y 2 : Fin 1024) := by
    refine (eq_ix3 y).trans (congrArg (fun z : Fin 1 => ix3 z (y 1 : Fin 704) (y 2 : Fin 1024)) (Subsingleton.elim (α := Fin 1) _ _))
  have h0 : ((win0_3.blk t).view.emb y 0).val = t.val := by blk_simp [idx_val t]
  have h1 : ((win0_3.blk t).view.emb y 1).val = (y 1).val := by blk_simp [idx_val t]
  have h2 : ((win0_3.blk t).view.emb y 2).val = (y 2).val := by blk_simp [idx_val t]
  have he : (win0_3.blk t).view.emb y = ix3 (⟨t.val, t.isLt⟩ : Fin 4) (y 1 : Fin 704) (y 2 : Fin 1024) := by
    funext a; apply Fin.ext
    match a with
    | ⟨0, _⟩ => exact h0
    | ⟨1, _⟩ => exact h1
    | ⟨2, _⟩ => exact h2
  blk_simp [idx_val t]
  refine (congrArg (k0_pay1 (iblk m c 0 t) (iblk m c 1 t) (iblk m c 2 t)) hy).trans ((pay_apply _ _ _ _ _).trans ?_)
  refine Eq.trans (Finset.sum_congr rfl fun s _ => ?_) (congrArg (grad (gOf m c) (uOf m c) (dyOf m c)) he).symm
  exact congrArg₂ (· * ·) (congrArg₂ (fun a b => silu a * b) (rd0 m c t s _) (rd1 m c t s _)) (rd2 m c t s _)

end Cert.Kernel3Ideal.Gen

namespace Cert.Reference3Ideal.Value

open Idealize.ShloMosaic Idealize.ShloMosaic.TcCoe Idealize.SL.Sem Cert.Ffn Cert.Reference3Ideal Cert.Reference3Ideal.Gen

/-- The gated activation, as the reference computes it. -/
def gated (g u : FVec Ideal S4x2048x704 .f32) : FVec Ideal S2048x2816 .f32 :=
  mulf (mulf (shapeCast S2048x2816 (transpose S2048x4x704 [1, 0, 2] g transposes_S4x2048x704_S2048x4x704_1_0_2) shapeCasts_S2048x4x704_S2048x2816) (Host.divf (broadcastInDim S2048x2816 ![] bcast_S_S2048x2816 (constant S_ .f32 0x3F800000#32)) (addf (broadcastInDim S2048x2816 ![] bcast_S_S2048x2816 (constant S_ .f32 0x3F800000#32)) (Host.exp (Host.negf (shapeCast S2048x2816 (transpose S2048x4x704 [1, 0, 2] g transposes_S4x2048x704_S2048x4x704_1_0_2) shapeCasts_S2048x4x704_S2048x2816)))))) (shapeCast S2048x2816 (transpose S2048x4x704 [1, 0, 2] u transposes_S4x2048x704_S2048x4x704_1_0_2) shapeCasts_S2048x4x704_S2048x2816)

/-- The gated activation, at an index. -/
theorem gated_apply (g u : FVec Ideal S4x2048x704 .f32) (t : Fin 2048) (b : Fin 4) (j : Fin 704) :
    gated g u (ix2 t (chan b j)) = silu (g (ix3 b t j)) * u (ix3 b t j) := by
  rw [← rows_apply g transposes_S4x2048x704_S2048x4x704_1_0_2 shapeCasts_S2048x4x704_S2048x2816, ← rows_apply u transposes_S4x2048x704_S2048x4x704_1_0_2 shapeCasts_S2048x4x704_S2048x2816]
  unfold gated
  generalize shapeCast S2048x2816 (transpose S2048x4x704 [1, 0, 2] g transposes_S4x2048x704_S2048x4x704_1_0_2) shapeCasts_S2048x4x704_S2048x2816 = G
  generalize shapeCast S2048x2816 (transpose S2048x4x704 [1, 0, 2] u transposes_S4x2048x704_S2048x4x704_1_0_2) shapeCasts_S2048x4x704_S2048x2816 = U
  pointwise []
  rfl

/-- The reference's result, at an index. -/
theorem result (g u : FVec Ideal S4x2048x704 .f32) (dy : FVec Ideal S2048x1024 .f32) (b : Fin 4) (j : Fin 704) (k : Fin 1024) :
    (truncf .bf16 (shapeCast S4x704x1024 (transpose S2816x1024 [1, 0] (Host.dotGeneral dot_S2048x1024_S2048x2816_S1024x2816_0_0_1_1_n_n none dy (gated g u)) transposes_S1024x2816_S2816x1024_1_0) shapeCasts_S2816x1024_S4x704x1024) bitsLt_bf16_f32 : FVec Ideal S4x704x1024 .bf16) (ix3 b j k)
      = ∑ t : Fin 2048, (silu (g (ix3 b t j)) * u (ix3 b t j)) * dy (ix2 t k) := by
  have e : ∀ A : FVec Ideal S1024x2816 .f32, (truncf .bf16 (shapeCast S4x704x1024 (transpose S2816x1024 [1, 0] A transposes_S1024x2816_S2816x1024_1_0) shapeCasts_S2816x1024_S4x704x1024) bitsLt_bf16_f32 : FVec Ideal S4x704x1024 .bf16) (ix3 b j k) = A (ix2 k (chan b j)) := by
    intro A
    pointwise []
  rw [e]
  refine (dot_cols none _ _ _ _).trans (Finset.sum_congr rfl fun t _ => ?_)
  rw [gated_apply, mul_comm]

end Cert.Reference3Ideal.Value

open Idealize.ShloMosaic Idealize.ShloMosaic.TcCoe Idealize.SL.Sem Idealize.ShloMosaic.StableHlo

/-- From equal arguments the kernel's call and the reference leave the same gradient. -/
theorem Cert.Ffn.downDw_algebraic : @Cert.algebraic_Kernel3Ideal_Reference3Ideal Cert.Kernel3Ideal.Gen.facts Cert.Reference3Ideal.Gen.facts := by
  intro m ρ m' ρ' _ hag
  refine ⟨fun c => (Cert.Kernel3Ideal.Gen.dats m 0 c).arrAt 3 Cert.Kernel3Ideal.cfg0.N, Cert.Kernel3Ideal.Value.run_blocks m ρ, ?_⟩
  refine (θ_run _ _ _).mono (fun r h c => ?_) (Cert.Reference3Ideal.Value.run m' ρ')
  obtain ⟨hr, hu⟩ := h c
  refine ⟨hr.trans ?_, hu⟩
  obtain ⟨e0, e1, e2⟩ := hag c
  rw [e0, e1, e2]
  refine Eq.trans ?_ (Cert.Kernel3Ideal.Gen.arr m c).symm
  funext i
  rw [eq_ix3 i]
  exact Cert.Reference3Ideal.Value.result _ _ _ _ _ _

/-- The reference runs to the end, leaves its arguments as they were and every counter at zero: it has no counters. -/
theorem Cert.Ffn.downDw_reference_frame (m : (ℓ : Loc Cert.Reference3Ideal.nD Cert.Reference3Ideal.τ Cert.Reference3Ideal.sig) → Buf (Elt Ideal) ℓ)
    (ρ : Dev Cert.Reference3Ideal.nD → PrngReg) : θ_run (Cert.Reference3Ideal.defs (F := Ideal)) (onTc (τ := Cert.Reference3Ideal.τ) (Cert.Reference3Ideal.main (F := Ideal))) ⟨m, fun _ => 0, ρ⟩ (fun r =>
      (∀ c : Dev Cert.Reference3Ideal.nD, r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0) :=
  (θ_run _ _ _).mono (fun _ h => ⟨fun c => (h c).2, sem_eq_zero_of_no_sems rfl _⟩) (Cert.Reference3Ideal.Value.run m ρ)

end
-- ==== Proof.Ffn.UpDh.lean ====
module

public import proofs.«01_k».proof.Proof.Gen.Kernel4Ideal.Value
public import proofs.«01_k».proof.Proof.Gen.Reference4Ideal.Run
public import proofs.«01_k».proof.Proof.Ffn.Dots
public import proofs.«01_k».proof.Defs
public import Idealize.ShloMosaic.Lib.Pipeline.ValueKit
public import Idealize.ShloMosaic.Lib.Quiescent

/-!
# The input gradient of the two up projections

Both programs leave, for every token `s` and input channel `k`, the sum over the shards and their hidden channels of the gate's
cotangent times the gate's weight plus the other projection's cotangent times its weight. The kernel adds one shard after the
other to the same block; the reference adds the two products over all the shards at once.
-/

@[expose] public section

set_option maxRecDepth 16384

noncomputable section

namespace Cert.Kernel4Ideal.Gen

open Idealize.ShloMosaic Idealize.ShloMosaic.TcCoe Idealize.SL.Sem Cert.Ffn Cert.Kernel4Ideal
open Idealize.ShloMosaic.Pipeline (Dat)

/-- One shard's part of a block, at an index. -/
theorem pay1_apply (x0 : Vec Ideal S1x1024x704 .f32) (x2 : Vec Ideal S1x704x1024 .bf16) (x1 : Vec Ideal S1x1024x704 .f32) (x3 : Vec Ideal S1x704x1024 .bf16)
    (s : Fin 1024) (k : Fin 1024) :
    k0_pay1 (F := Ideal) x0 x2 x1 x3 (ix2 s k) = (∑ j : Fin 704, x0 (ix3 0 s j) * x2 (ix3 0 j k)) + ∑ j : Fin 704, x1 (ix3 0 s j) * x3 (ix3 0 j k) := by
  pointwise [k0_pay1]

/-- The block after one more shard: what it held plus the shard's part. -/
theorem pay2_apply (x0 : Vec Ideal S1x1024x704 .f32) (x2 : Vec Ideal S1x704x1024 .bf16) (x1 : Vec Ideal S1x1024x704 .f32) (x3 : Vec Ideal S1x704x1024 .bf16)
    (x4 : Vec Ideal S1024x1024 .f32) (i : S1024x1024.Idx) :
    k0_pay2 (F := Ideal) x0 x2 x1 x3 x4 i = x4 i + k0_pay1 (F := Ideal) x0 x2 x1 x3 i := by
  unfold k0_pay2
  rw [shapeCast_self]
  rfl

/-- The window index maps, at every grid point. -/
theorem idx_val : ∀ t : Fin cfg0.N, win0_0.index t = ![t.val % 4, t.val / 4, 0] ∧ win0_1.index t = ![t.val % 4, t.val / 4, 0]
    ∧ win0_2.index t = ![t.val % 4, 0, 0] ∧ win0_3.index t = ![t.val % 4, 0, 0] ∧ win0_4.index t = ![t.val / 4, 0] :=
  (by decide +kernel : ∀ t : Fin grid0.N, _)

/-- The block is written back after the last shard. -/
theorem flush_val : ∀ t : Fin cfg0.N, (cfg0.win 4).flush t = true → t.val % 4 = 3 :=
  (by decide +kernel : ∀ t : Fin grid0.N, _)

variable (m : (ℓ : Loc nD τ sig) → Buf (Elt Ideal) ℓ)

/-- The gate's cotangent. -/
abbrev dgOf (c : Dev nD) : FVec Ideal S4x2048x704 .f32 := m ((c.tc : Thread nD τ).loc main_arg0)
/-- The other projection's cotangent. -/
abbrev duOf (c : Dev nD) : FVec Ideal S4x2048x704 .f32 := m ((c.tc : Thread nD τ).loc main_arg1)
/-- The gate's weights. -/
abbrev wgOf (c : Dev nD) : FVec Ideal S4x704x1024 .bf16 := m ((c.tc : Thread nD τ).loc main_arg2)
/-- The other projection's weights. -/
abbrev wuOf (c : Dev nD) : FVec Ideal S4x704x1024 .bf16 := m ((c.tc : Thread nD τ).loc main_arg3)

/-- One shard's part of the gradient. -/
def part (dg du : FVec Ideal S4x2048x704 .f32) (wg wu : FVec Ideal S4x704x1024 .bf16) (s : Fin 2048) (k : Fin 1024) (b : Fin 4) : EReal :=
  (∑ j : Fin 704, dg (ix3 b s j) * wg (ix3 b j k)) + ∑ j : Fin 704, du (ix3 b s j) * wu (ix3 b j k)

/-- The gradient. -/
def grad (dg du : FVec Ideal S4x2048x704 .f32) (wg wu : FVec Ideal S4x704x1024 .bf16) : FVec Ideal S2048x1024 .f32 :=
  fun i => ∑ b : Fin 4, part dg du wg wu (i 0 : Fin 2048) (i 1 : Fin 1024) b

/-- A grid point's shard. -/
abbrev shardOf (t : Fin cfg0.N) : Fin 4 := ⟨t.val % 4, by omega⟩
/-- A token of a grid point's block. -/
abbrev tokOf (t : Fin cfg0.N) (s : Fin 1024) : Fin 2048 := ⟨1024 * (t.val / 4) + s.val, by have := t.isLt; have : cfg0.N = 8 := N_0; omega⟩

/-- What window 0 holds. -/
theorem rd0 (c : Dev nD) (t : Fin cfg0.N) (s : Fin 1024) (j : Fin 704) :
    iblk m c 0 t (ix3 0 s j) = dgOf m c (ix3 (shardOf t) (tokOf t s) j) := by
  unfold iblk
  blk_ext [idx_val t]
/-- What window 1 holds. -/
theorem rd1 (c : Dev nD) (t : Fin cfg0.N) (s : Fin 1024) (j : Fin 704) :
    iblk m c 1 t (ix3 0 s j) = duOf m c (ix3 (shardOf t) (tokOf t s) j) := by
  unfold iblk
  blk_ext [idx_val t]
/-- What window 2 holds. -/
theorem rd2 (c : Dev nD) (t : Fin cfg0.N) (j : Fin 704) (k : Fin 1024) :
    iblk m c 2 t (ix3 0 j k) = wgOf m c (ix3 (shardOf t) j k) := by
  unfold iblk
  blk_ext [idx_val t]
/-- What window 3 holds. -/
theorem rd3 (c : Dev nD) (t : Fin cfg0.N) (j : Fin 704) (k : Fin 1024) :
    iblk m c 3 t (ix3 0 j k) = wuOf m c (ix3 (shardOf t) j k) := by
  unfold iblk
  blk_ext [idx_val t]

/-- What a grid point adds to its block, at an index. -/
theorem pay_at (c : Dev nD) (t : Fin cfg0.N) (s k : Fin 1024) :
    k0_pay1 (F := Ideal) (iblk m c 0 t) (iblk m c 2 t) (iblk m c 1 t) (iblk m c 3 t) (ix2 s k)
      = part (dgOf m c) (duOf m c) (wgOf m c) (wuOf m c) (tokOf t s) k (shardOf t) := by
  rw [pay1_apply]
  exact congrArg₂ (· + ·) (Finset.sum_congr rfl fun j _ => congrArg₂ (· * ·) (rd0 m c t s j) (rd2 m c t j k))
    (Finset.sum_congr rfl fun j _ => congrArg₂ (· * ·) (rd1 m c t s j) (rd3 m c t j k))

/-- The zero offset of two coordinates. -/
theorem hz2 : (![0, 0] : Fin 2 → Nat) = fun _ => 0 := funext fun a => by fin_cases a <;> rfl
/-- The zero offset of three coordinates. -/
theorem hz3 : (![0, 0, 0] : Fin 3 → Nat) = fun _ => 0 := funext fun a => by fin_cases a <;> rfl

/-- The first shard's point leaves its part. -/
theorem out_A (c : Dev nD) (t : Fin cfg0.N) (h0 : t.val % 4 = 0) :
    outsAt0 m c t.val t.isLt = k0_pay1 (iblk m c 0 t) (iblk m c 2 t) (iblk m c 1 t) (iblk m c 3 t) := by
  rw [outsAt0_A m c t h0 (by omega)]
  unfold out0_A_4
  rw [View.read_writes_eq_canon _ _ _ (cover0_A_4 c _ _ _ _ _ _ _ _ _ _ _ _ _ _ _ _ _)]
  unfold kernelRun0_A
  dsimp only
  rw [View.canon_unit_zero hz2]
  simp only [View.readAt_eq_ld, (hs0_0 t).read_unread, (hs0_1 t).read_unread, (hs0_2 t).read_unread, (hs0_3 t).read_unread,
    View.ld_unit_zero (S := S1x1024x704) hz3, View.ld_unit_zero (S := S1x704x1024) hz3]

/-- A later shard's point adds its part. -/
theorem out_B (c : Dev nD) (t : Fin cfg0.N) (h0 : ¬t.val % 4 = 0) :
    outsAt0 m c t.val t.isLt = k0_pay2 (iblk m c 0 t) (iblk m c 2 t) (iblk m c 1 t) (iblk m c 3 t) (outsAt0 m c (t.val - 1) (Nat.lt_of_le_of_lt (Nat.sub_le _ _) t.isLt)) := by
  rw [outsAt0_B m c t h0 (by omega)]
  unfold out0_B_4
  rw [View.read_writes_eq_canon _ _ _ (cover0_B_4 c _ _ _ _ _ _ _ _ _ _ _ _ _ _ _ _ _ _)]
  unfold kernelRun0_B
  dsimp only
  rw [View.canon_unit_zero hz2]
  simp only [View.readAt_eq_ld, (hs0_0 t).read_unread, (hs0_1 t).read_unread, (hs0_2 t).read_unread, (hs0_3 t).read_unread, (hs0_4 t).read_unread,
    View.ld_unit_zero (S := S1x1024x704) hz3, View.ld_unit_zero (S := S1x704x1024) hz3, View.ld_unit_zero (S := S1024x1024) hz2]

/-- What a block holds after a grid point: the parts of the shards so far. -/
theorem outs_eq (c : Dev nD) (s k : Fin 1024) : ∀ n (hn : n < cfg0.N), outsAt0 m c n hn (ix2 s k)
    = ∑ b ∈ Finset.range (n % 4 + 1), part (dgOf m c) (duOf m c) (wgOf m c) (wuOf m c) (tokOf ⟨n, hn⟩ s) k (Fin.ofNat 4 b)
  | 0, hn => by
    rw [out_A m c ⟨0, hn⟩ rfl, pay_at]
    simp
    rfl
  | n + 1, hn => by
    by_cases h0 : (n + 1) % 4 = 0
    · rw [out_A m c ⟨n + 1, hn⟩ h0, pay_at]
      simp only [h0, zero_add, Finset.sum_range_one]
      refine congrArg _ (Fin.ext ?_)
      simpa using h0
    · rw [out_B m c ⟨n + 1, hn⟩ h0, pay2_apply, pay_at]
      have ih := outs_eq c s k n (Nat.lt_of_succ_lt hn)
      have e4 : (n + 1) % 4 = n % 4 + 1 := by omega
      have ed : (n + 1) / 4 = n / 4 := by omega
      rw [e4, Finset.sum_range_succ]
      refine congrArg₂ (· + ·) (ih.trans (Finset.sum_congr rfl fun b _ => ?_)) (congrArg _ (Fin.ext ?_))
      · exact congrArg (fun z => part _ _ _ _ z k _) (Fin.ext (by simp only [ed]))
      · simp only [Fin.ofNat]
        omega

/-- The block a grid point writes back. -/
theorem outs_last (c : Dev nD) (t : Fin cfg0.N) (h : t.val % 4 = 3) (s k : Fin 1024) :
    outsAt0 m c t.val t.isLt (ix2 s k) = grad (dgOf m c) (duOf m c) (wgOf m c) (wuOf m c) (ix2 (tokOf t s) k) := by
  rw [outs_eq m c s k t.val t.isLt, h, Finset.sum_range]
  exact Finset.sum_congr rfl fun b _ => congrArg (part (dgOf m c) (duOf m c) (wgOf m c) (wuOf m c) (tokOf t s) k) (Fin.ext (Nat.mod_eq_of_lt b.isLt))

/-- The kernel's result. -/
theorem arr (c : Dev nD) : (dats m 0 c).arrAt 4 (cfgs 0).N = grad (dgOf m c) (duOf m c) (wgOf m c) (wuOf m c) := by
  refine (dats m 0 c).arrAt_eq_of_covers 4 _ (by decide +kernel) fun t hf y => ?_
  have key := outs_last m c t (flush_val t hf)
  rw [after0_4]
  generalize outsAt0 m c t.val t.isLt = O at key
  generalize grad (dgOf m c) (duOf m c) (wgOf m c) (wuOf m c) = G at key
  have hy : y = ix2 (y 0 : Fin 1024) (y 1 : Fin 1024) := eq_ix2 y
  have h0 : ((win0_4.blk t).view.emb y 0).val = 1024 * (t.val / 4) + (y 0).val := by blk_simp [idx_val t]; omega
  have h1 : ((win0_4.blk t).view.emb y 1).val = (y 1).val := by blk_simp [idx_val t]
  have he : (win0_4.blk t).view.emb y = ix2 (tokOf t (y 0)) (y 1 : Fin 1024) := by
    funext a; apply Fin.ext
    match a with
    | ⟨0, _⟩ => exact h0
    | ⟨1, _⟩ => exact h1
  blk_simp [idx_val t]
  exact (congrArg O hy).trans ((key _ _).trans (congrArg G he).symm)

end Cert.Kernel4Ideal.Gen

namespace Cert.Reference4Ideal.Value

open Idealize.ShloMosaic Idealize.ShloMosaic.TcCoe Idealize.SL.Sem Cert.Ffn Cert.Reference4Ideal Cert.Reference4Ideal.Gen

/-- One of the reference's two products, at an index. -/
theorem product (d : FVec Ideal S4x2048x704 .f32) (w : FVec Ideal S4x704x1024 .bf16) (s : Fin 2048) (k : Fin 1024) :
    (Host.dotGeneral dot_S2048x2816_S1024x2816_S2048x1024_1_1_0_0_n_n none (shapeCast S2048x2816 (transpose S2048x4x704 [1, 0, 2] d transposes_S4x2048x704_S2048x4x704_1_0_2) shapeCasts_S2048x4x704_S2048x2816) (transpose S1024x2816 [1, 0] (shapeCast S2816x1024 (extf .f32 w bitsLt_bf16_f32) shapeCasts_S4x704x1024_S2816x1024) transposes_S2816x1024_S1024x2816_1_0) : FVec Ideal S2048x1024 .f32) (ix2 s k)
      = ∑ b : Fin 4, ∑ j : Fin 704, d (ix3 b s j) * w (ix3 b j k) := by
  refine (dot_rows none _ _ _ _).trans ((sum_chan _).trans (Finset.sum_congr rfl fun b _ => Finset.sum_congr rfl fun j _ => congrArg₂ (· * ·) (rows_apply _ _ _ _ _ _) ?_))
  refine Eq.trans ?_ (weight_apply (extf .f32 w bitsLt_bf16_f32) shapeCasts_S4x704x1024_S2816x1024 b j k)
  generalize shapeCast S2816x1024 (extf .f32 w bitsLt_bf16_f32) shapeCasts_S4x704x1024_S2816x1024 = W
  pointwise []

end Cert.Reference4Ideal.Value

open Idealize.ShloMosaic Idealize.ShloMosaic.TcCoe Idealize.SL.Sem Idealize.ShloMosaic.StableHlo

/-- From equal arguments the kernel's call and the reference leave the same gradient. -/
theorem Cert.Ffn.upDh_algebraic : @Cert.algebraic_Kernel4Ideal_Reference4Ideal Cert.Kernel4Ideal.Gen.facts Cert.Reference4Ideal.Gen.facts := by
  intro m ρ m' ρ' _ hag
  refine ⟨fun c => (Cert.Kernel4Ideal.Gen.dats m 0 c).arrAt 4 Cert.Kernel4Ideal.cfg0.N, Cert.Kernel4Ideal.Value.run_blocks m ρ, ?_⟩
  refine (θ_run _ _ _).mono (fun r h c => ?_) (Cert.Reference4Ideal.Value.run m' ρ')
  obtain ⟨hr, hu⟩ := h c
  refine ⟨hr.trans ?_, hu⟩
  obtain ⟨e0, e1, e2, e3⟩ := hag c
  rw [e0, e1, e2, e3]
  refine Eq.trans ?_ (Cert.Kernel4Ideal.Gen.arr m c).symm
  funext i
  rw [eq_ix2 i]
  refine (congrArg₂ (· + ·) (Cert.Reference4Ideal.Value.product _ _ _ _) (Cert.Reference4Ideal.Value.product _ _ _ _)).trans ?_
  exact (add_comm _ _).trans Finset.sum_add_distrib.symm

/-- The reference runs to the end, leaves its arguments as they were and every counter at zero: it has no counters. -/
theorem Cert.Ffn.upDh_reference_frame (m : (ℓ : Loc Cert.Reference4Ideal.nD Cert.Reference4Ideal.τ Cert.Reference4Ideal.sig) → Buf (Elt Ideal) ℓ)
    (ρ : Dev Cert.Reference4Ideal.nD → PrngReg) : θ_run (Cert.Reference4Ideal.defs (F := Ideal)) (onTc (τ := Cert.Reference4Ideal.τ) (Cert.Reference4Ideal.main (F := Ideal))) ⟨m, fun _ => 0, ρ⟩ (fun r =>
      (∀ c : Dev Cert.Reference4Ideal.nD, r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run _ _ _).mono (fun _ h => ⟨fun c => (h c).2, sem_eq_zero_of_no_sems rfl _⟩) (Cert.Reference4Ideal.Value.run m ρ)

end
-- ==== Proof.Ffn.DownBwd.lean ====
module

public import proofs.«01_k».proof.Proof.Gen.Kernel5Ideal.Value
public import proofs.«01_k».proof.Proof.Gen.Reference5Ideal.Run
public import proofs.«01_k».proof.Proof.Ffn.Dots
public import proofs.«01_k».proof.Proof.Att.Fin
public import proofs.«01_k».proof.Defs
public import Idealize.ShloMosaic.Lib.Pipeline.ValueKit
public import Idealize.ShloMosaic.Lib.Quiescent

/-!
# The activation gradients of the down projection

With `d` the product of the cotangent's row with the weight's row, both programs leave `d * silu g` for the up projection and, for
the gate, `d * u` times the derivative of `silu` at `g`. The kernel writes that derivative as `σ * (1 + g * (1 - σ))`, the
reference as the sum of `σ` and `g * (σ * (1 - σ))`, each times `d * u`. They agree where `d * u` is a real number, which finite
cotangents, weights and `u` give; `g` may be infinite.
-/

@[expose] public section

set_option maxRecDepth 16384

noncomputable section

namespace Cert.Ffn

open Idealize.ShloMosaic
open scoped BigOperators

/-- The logistic of a real number. -/
theorem sig_coe (g : ℝ) : sig (g : EReal) = (((1 + Real.exp (-g))⁻¹ : ℝ) : EReal) := by
  have h : (1 : ℝ) + Real.exp (-g) ≠ 0 := by positivity
  rw [sig, ← EReal.coe_neg, Ideal.exp_coe, ← EReal.coe_one, ← EReal.coe_add, Ideal.div_coe h, EReal.coe_one, one_mul, one_div]

/-- The logistic of plus infinity. -/
theorem sig_top : sig ⊤ = 1 := by
  rw [sig, EReal.neg_top, Ideal.exp_bot, add_zero, ← EReal.coe_one, Ideal.div_coe one_ne_zero]
  simp

/-- The logistic of minus infinity. -/
theorem sig_bot : sig ⊥ = 0 := by
  have e : (1 : EReal) + ⊤ = ⊤ := EReal.add_top_of_ne_bot (by decide)
  rw [sig, EReal.neg_bot, Ideal.exp_top, e]
  simp [Ideal.div]

/-- The two forms of the gate's derivative, times a real number. -/
theorem dsilu (p : ℝ) (g : EReal) : (p : EReal) * (sig g * (1 + g * (1 - sig g))) = (p : EReal) * sig g + (g * (p : EReal)) * (sig g * (1 - sig g)) := by
  induction g with
  | bot => simp [sig_bot]
  | top =>
    rw [sig_top]
    have : (1 : EReal) - 1 = 0 := by rw [← EReal.coe_one, ← EReal.coe_sub, sub_self, EReal.coe_zero]
    simp [this]
  | coe g =>
    rw [sig_coe, ← EReal.coe_one]
    norm_cast
    ring

/-- A finite sum of products of real numbers is a real number. -/
theorem sum_real {n : ℕ} (f h : Fin n → EReal) (hf : ∀ k, f k = ((f k).toReal : EReal)) (hh : ∀ k, h k = ((h k).toReal : EReal)) :
    ∑ k, f k * h k = ((∑ k, (f k).toReal * (h k).toReal : ℝ) : EReal) := by
  have e : ∀ (s : Finset (Fin n)), ∑ k ∈ s, f k * h k = ((∑ k ∈ s, (f k).toReal * (h k).toReal : ℝ) : EReal) := by
    intro s
    induction s using Finset.cons_induction with
    | empty => simp
    | cons a s ha ih => rw [Finset.sum_cons, Finset.sum_cons, ih, EReal.coe_add, EReal.coe_mul, ← hf, ← hh]
  exact e Finset.univ

/-- The cotangent of the gated activation: the product of the cotangent's row with the weight's row. -/
def inner (dy : FVec Ideal ⟨2, ![2048, 1024]⟩ .f32) (wd : FVec Ideal ⟨3, ![4, 704, 1024]⟩ .bf16) (b : Fin 4) (s : Fin 2048) (j : Fin 704) : EReal :=
  ∑ k : Fin 1024, dy (ix2 s k) * wd (ix3 b j k)

/-- The gate's gradient. -/
def gradG (dy : FVec Ideal ⟨2, ![2048, 1024]⟩ .f32) (g u : FVec Ideal ⟨3, ![4, 2048, 704]⟩ .f32) (wd : FVec Ideal ⟨3, ![4, 704, 1024]⟩ .bf16) :
    FVec Ideal ⟨3, ![4, 2048, 704]⟩ .f32 :=
  fun i => (inner dy wd (i 0 : Fin 4) (i 1 : Fin 2048) (i 2 : Fin 704) * u i) * (sig (g i) * (1 + g i * (1 - sig (g i))))

/-- The other up projection's gradient. -/
def gradU (dy : FVec Ideal ⟨2, ![2048, 1024]⟩ .f32) (g : FVec Ideal ⟨3, ![4, 2048, 704]⟩ .f32) (wd : FVec Ideal ⟨3, ![4, 704, 1024]⟩ .bf16) :
    FVec Ideal ⟨3, ![4, 2048, 704]⟩ .f32 :=
  fun i => inner dy wd (i 0 : Fin 4) (i 1 : Fin 2048) (i 2 : Fin 704) * (g i * sig (g i))

end Cert.Ffn

namespace Cert.Kernel5Ideal.Gen

open Idealize.ShloMosaic Idealize.ShloMosaic.TcCoe Idealize.SL.Sem Cert.Ffn Cert.Kernel5Ideal
open Idealize.ShloMosaic.Pipeline (Dat)

/-- What the body stores for the gate, at an index. -/
theorem pay4_apply (x0 : Vec Ideal S1024x1024 .f32) (x3 : Vec Ideal S1x704x1024 .bf16) (x1 x2 : Vec Ideal S1x1024x704 .f32) (s : Fin 1024) (j : Fin 704) :
    k0_pay4 (F := Ideal) x0 x3 x1 x2 (ix3 0 s j) = ((∑ k : Fin 1024, x0 (ix2 s k) * x3 (ix3 0 j k)) * x2 (ix3 0 s j)) * (Ffn.sig (x1 (ix3 0 s j)) * (1 + x1 (ix3 0 s j) * (1 - Ffn.sig (x1 (ix3 0 s j))))) := by
  pointwise [k0_pay4, k0_pay3, k0_pay2, k0_pay1]
  simp only [sig_sub]

/-- What the body stores for the other up projection, at an index. -/
theorem pay5_apply (x0 : Vec Ideal S1024x1024 .f32) (x3 : Vec Ideal S1x704x1024 .bf16) (x1 : Vec Ideal S1x1024x704 .f32) (s : Fin 1024) (j : Fin 704) :
    k0_pay5 (F := Ideal) x0 x3 x1 (ix3 0 s j) = (∑ k : Fin 1024, x0 (ix2 s k) * x3 (ix3 0 j k)) * (x1 (ix3 0 s j) * Ffn.sig (x1 (ix3 0 s j))) := by
  pointwise [k0_pay5, k0_pay3, k0_pay2, k0_pay1]
  simp only [sig_sub]

/-- The window index maps, at every grid point. -/
theorem idx_val : ∀ t : Fin cfg0.N, win0_0.index t = ![t.val / 4, 0] ∧ win0_1.index t = ![t.val % 4, t.val / 4, 0]
    ∧ win0_2.index t = ![t.val % 4, t.val / 4, 0] ∧ win0_3.index t = ![t.val % 4, 0, 0] ∧ win0_4.index t = ![t.val % 4, t.val / 4, 0]
    ∧ win0_5.index t = ![t.val % 4, t.val / 4, 0] :=
  (by decide +kernel : ∀ t : Fin grid0.N, _)

variable (m : (ℓ : Loc nD τ sig) → Buf (Elt Ideal) ℓ)

/-- The cotangent. -/
abbrev dyOf (c : Dev nD) : FVec Ideal S2048x1024 .f32 := m ((c.tc : Thread nD τ).loc main_arg0)
/-- The gate's activation. -/
abbrev gOf (c : Dev nD) : FVec Ideal S4x2048x704 .f32 := m ((c.tc : Thread nD τ).loc main_arg1)
/-- The other up projection's activation. -/
abbrev uOf (c : Dev nD) : FVec Ideal S4x2048x704 .f32 := m ((c.tc : Thread nD τ).loc main_arg2)
/-- The weights. -/
abbrev wdOf (c : Dev nD) : FVec Ideal S4x704x1024 .bf16 := m ((c.tc : Thread nD τ).loc main_arg3)

/-- A grid point's shard. -/
abbrev shardOf (t : Fin cfg0.N) : Fin 4 := ⟨t.val % 4, by omega⟩
/-- A token of a grid point's block. -/
abbrev tokOf (t : Fin cfg0.N) (s : Fin 1024) : Fin 2048 := ⟨1024 * (t.val / 4) + s.val, by have := t.isLt; have : cfg0.N = 8 := N_0; omega⟩

/-- What window 0 holds. -/
theorem rd0 (c : Dev nD) (t : Fin cfg0.N) (s k : Fin 1024) : iblk m c 0 t (ix2 s k) = dyOf m c (ix2 (tokOf t s) k) := by
  unfold iblk
  blk_ext [idx_val t]
/-- What window 1 holds. -/
theorem rd1 (c : Dev nD) (t : Fin cfg0.N) (s : Fin 1024) (j : Fin 704) : iblk m c 1 t (ix3 0 s j) = gOf m c (ix3 (shardOf t) (tokOf t s) j) := by
  unfold iblk
  blk_ext [idx_val t]
/-- What window 2 holds. -/
theorem rd2 (c : Dev nD) (t : Fin cfg0.N) (s : Fin 1024) (j : Fin 704) : iblk m c 2 t (ix3 0 s j) = uOf m c (ix3 (shardOf t) (tokOf t s) j) := by
  unfold iblk
  blk_ext [idx_val t]
/-- What window 3 holds. -/
theorem rd3 (c : Dev nD) (t : Fin cfg0.N) (j : Fin 704) (k : Fin 1024) : iblk m c 3 t (ix3 0 j k) = wdOf m c (ix3 (shardOf t) j k) := by
  unfold iblk
  blk_ext [idx_val t]

/-- The zero offset of two coordinates. -/
theorem hz2 : (![0, 0] : Fin 2 → Nat) = fun _ => 0 := funext fun a => by fin_cases a <;> rfl
/-- The zero offset of three coordinates. -/
theorem hz3 : (![0, 0, 0] : Fin 3 → Nat) = fun _ => 0 := funext fun a => by fin_cases a <;> rfl

/-- The product a grid point computes. -/
theorem inner_at (c : Dev nD) (t : Fin cfg0.N) (s : Fin 1024) (j : Fin 704) (x0 : Vec Ideal S1024x1024 .f32) (x3 : Vec Ideal S1x704x1024 .bf16)
    (h0 : x0 = iblk m c 0 t) (h3 : x3 = iblk m c 3 t) :
    ∑ k : Fin 1024, x0 (ix2 s k) * x3 (ix3 0 j k) = inner (dyOf m c) (wdOf m c) (shardOf t) (tokOf t s) j :=
  Finset.sum_congr rfl fun k _ => congrArg₂ (fun x y : EReal => x * y) ((congrFun h0 _).trans (rd0 m c t s k)) ((congrFun h3 _).trans (rd3 m c t j k))

/-- The gate's block, at an index. -/
theorem out4_at (c : Dev nD) (t : Fin cfg0.N) (s : Fin 1024) (j : Fin 704) :
    out0_4 (iblk m c 0 t) (iblk m c 1 t) (iblk m c 2 t) (iblk m c 3 t) (ix3 0 s j) = gradG (dyOf m c) (gOf m c) (uOf m c) (wdOf m c) (ix3 (shardOf t) (tokOf t s) j) := by
  unfold out0_4
  rw [View.canon_unit_zero hz3]
  simp only [View.ld_unit_zero (S := S1024x1024) hz2, View.ld_unit_zero (S := S1x1024x704) hz3, View.ld_unit_zero (S := S1x704x1024) hz3]
  refine (pay4_apply _ _ _ _ _ _).trans ?_
  rw [inner_at m c t s j _ _ rfl rfl, rd1, rd2]
  rfl

/-- The other up projection's block, at an index. -/
theorem out5_at (c : Dev nD) (t : Fin cfg0.N) (s : Fin 1024) (j : Fin 704) :
    out0_5 (iblk m c 0 t) (iblk m c 1 t) (iblk m c 2 t) (iblk m c 3 t) (ix3 0 s j) = gradU (dyOf m c) (gOf m c) (wdOf m c) (ix3 (shardOf t) (tokOf t s) j) := by
  unfold out0_5
  rw [View.canon_unit_zero hz3]
  simp only [View.ld_unit_zero (S := S1024x1024) hz2, View.ld_unit_zero (S := S1x1024x704) hz3, View.ld_unit_zero (S := S1x704x1024) hz3]
  refine (pay5_apply _ _ _ _ _).trans ?_
  rw [inner_at m c t s j _ _ rfl rfl, rd1]
  rfl

/-- A block index is its token and its channel: the shard's coordinate is zero. -/
theorem eq_blk (y : S1x1024x704.Idx) : y = ix3 (0 : Fin 1) (y 1 : Fin 1024) (y 2 : Fin 704) :=
  (eq_ix3 y).trans (congrArg (fun z : Fin 1 => ix3 z (y 1 : Fin 1024) (y 2 : Fin 704)) (Subsingleton.elim (α := Fin 1) _ _))

/-- The gate's gradient, as the kernel leaves it. -/
theorem arr4 (c : Dev nD) : (dats m 0 c).arrAt 4 (cfgs 0).N = gradG (dyOf m c) (gOf m c) (uOf m c) (wdOf m c) := by
  refine (dats m 0 c).arrAt_eq_of_covers 4 _ (by decide +kernel) fun t hf y => ?_
  have key := out4_at m c t
  rw [after0_4]
  generalize out0_4 (iblk m c 0 t) (iblk m c 1 t) (iblk m c 2 t) (iblk m c 3 t) = O at key
  generalize gradG (dyOf m c) (gOf m c) (uOf m c) (wdOf m c) = G at key
  have h0 : ((win0_4.blk t).view.emb y 0).val = t.val % 4 := by blk_simp [idx_val t]
  have h1 : ((win0_4.blk t).view.emb y 1).val = 1024 * (t.val / 4) + (y 1).val := by blk_simp [idx_val t]; omega
  have h2 : ((win0_4.blk t).view.emb y 2).val = (y 2).val := by blk_simp [idx_val t]
  have he : (win0_4.blk t).view.emb y = ix3 (shardOf t) (tokOf t (y 1)) (y 2 : Fin 704) := by
    funext a; apply Fin.ext
    match a with
    | ⟨0, _⟩ => exact h0
    | ⟨1, _⟩ => exact h1
    | ⟨2, _⟩ => exact h2
  blk_simp [idx_val t]
  exact (congrArg O (eq_blk y)).trans ((key _ _).trans (congrArg G he).symm)

/-- The other up projection's gradient, as the kernel leaves it. -/
theorem arr5 (c : Dev nD) : (dats m 0 c).arrAt 5 (cfgs 0).N = gradU (dyOf m c) (gOf m c) (wdOf m c) := by
  refine (dats m 0 c).arrAt_eq_of_covers 5 _ (by decide +kernel) fun t hf y => ?_
  have key := out5_at m c t
  rw [after0_5]
  generalize out0_5 (iblk m c 0 t) (iblk m c 1 t) (iblk m c 2 t) (iblk m c 3 t) = O at key
  generalize gradU (dyOf m c) (gOf m c) (wdOf m c) = G at key
  have h0 : ((win0_5.blk t).view.emb y 0).val = t.val % 4 := by blk_simp [idx_val t]
  have h1 : ((win0_5.blk t).view.emb y 1).val = 1024 * (t.val / 4) + (y 1).val := by blk_simp [idx_val t]; omega
  have h2 : ((win0_5.blk t).view.emb y 2).val = (y 2).val := by blk_simp [idx_val t]
  have he : (win0_5.blk t).view.emb y = ix3 (shardOf t) (tokOf t (y 1)) (y 2 : Fin 704) := by
    funext a; apply Fin.ext
    match a with
    | ⟨0, _⟩ => exact h0
    | ⟨1, _⟩ => exact h1
    | ⟨2, _⟩ => exact h2
  blk_simp [idx_val t]
  exact (congrArg O (eq_blk y)).trans ((key _ _).trans (congrArg G he).symm)

end Cert.Kernel5Ideal.Gen

namespace Cert.Reference5Ideal.Value

open Idealize.ShloMosaic Idealize.ShloMosaic.TcCoe Idealize.SL.Sem Cert.Ffn Cert.Reference5Ideal Cert.Reference5Ideal.Gen

/-- The rows of channels, per token. -/
def rows (a : FVec Ideal S4x2048x704 .f32) : FVec Ideal S2048x2816 .f32 :=
  shapeCast S2048x2816 (transpose S2048x4x704 [1, 0, 2] a transposes_S4x2048x704_S2048x4x704_1_0_2) shapeCasts_S2048x4x704_S2048x2816
/-- The rows of channels, at a token and a channel of a shard. -/
theorem rows_at (a : FVec Ideal S4x2048x704 .f32) (b : Fin 4) (s : Fin 2048) (j : Fin 704) : rows a (ix2 s (chan b j)) = a (ix3 b s j) := rows_apply _ _ _ _ _ _
/-- The constant one, everywhere. -/
def ones : FVec Ideal S2048x2816 .f32 := broadcastInDim S2048x2816 ![] bcast_S_S2048x2816 (constant S_ .f32 0x3F800000#32)
/-- The logistic of the rows. -/
def sigs (G : FVec Ideal S2048x2816 .f32) : FVec Ideal S2048x2816 .f32 := Host.divf ones (addf ones (Host.exp (Host.negf G)))
/-- The logistic of the rows, at an index. -/
theorem sigs_at (G : FVec Ideal S2048x2816 .f32) (s : Fin 2048) (k : Fin 2816) : sigs G (ix2 s k) = Ffn.sig (G (ix2 s k)) := by
  pointwise [sigs, ones]
  rfl
/-- The cotangent of the gated activation, as the reference computes it. -/
def cot (dy : FVec Ideal S2048x1024 .f32) (wd : FVec Ideal S4x704x1024 .bf16) : FVec Ideal S2048x2816 .f32 :=
  Host.dotGeneral dot_S2048x1024_S2816x1024_S2048x2816_1_1_0_0_n_n none dy (shapeCast S2816x1024 (extf .f32 wd bitsLt_bf16_f32) shapeCasts_S4x704x1024_S2816x1024)
/-- The cotangent of the gated activation, at an index. -/
theorem cot_at (dy : FVec Ideal S2048x1024 .f32) (wd : FVec Ideal S4x704x1024 .bf16) (b : Fin 4) (s : Fin 2048) (j : Fin 704) :
    cot dy wd (ix2 s (chan b j)) = inner dy wd b s j :=
  (dot_rows none _ _ _ _).trans (Finset.sum_congr rfl fun k _ => congrArg₂ (· * ·) rfl (weight_apply _ _ _ _ _))

/-- The rows of channels put back into shards, at an index. -/
theorem shards_at (A : FVec Ideal S2048x2816 .f32) (b : Fin 4) (s : Fin 2048) (j : Fin 704) :
    transpose S4x2048x704 [1, 0, 2] (shapeCast S2048x4x704 A shapeCasts_S2048x2816_S2048x4x704) transposes_S2048x4x704_S4x2048x704_1_0_2 (ix3 b s j) = A (ix2 s (chan b j)) := by
  pointwise []

/-- The gate's gradient, as the reference leaves it, where the cotangent times `u` is a real number. -/
theorem result_g (dy : FVec Ideal S2048x1024 .f32) (g u : FVec Ideal S4x2048x704 .f32) (wd : FVec Ideal S4x704x1024 .bf16) (b : Fin 4) (s : Fin 2048) (j : Fin 704)
    (p : ℝ) (hp : inner dy wd b s j * u (ix3 b s j) = (p : EReal)) :
    transpose S4x2048x704 [1, 0, 2] (shapeCast S2048x4x704 (addf (mulf (mulf (cot dy wd) (rows u)) (sigs (rows g))) (mulf (mulf (rows g) (mulf (cot dy wd) (rows u))) (mulf (sigs (rows g)) (subf ones (sigs (rows g)))))) shapeCasts_S2048x2816_S2048x4x704) transposes_S2048x4x704_S4x2048x704_1_0_2 (ix3 b s j)
      = gradG dy g u wd (ix3 b s j) := by
  rw [shards_at]
  have h1 : ones (ix2 s (chan b j)) = 1 := by pointwise [ones]
  show (cot dy wd (ix2 s (chan b j)) * rows u (ix2 s (chan b j))) * sigs (rows g) (ix2 s (chan b j))
      + (rows g (ix2 s (chan b j)) * (cot dy wd (ix2 s (chan b j)) * rows u (ix2 s (chan b j)))) * (sigs (rows g) (ix2 s (chan b j)) * (ones (ix2 s (chan b j)) - sigs (rows g) (ix2 s (chan b j))))
    = (inner dy wd b s j * u (ix3 b s j)) * (Ffn.sig (g (ix3 b s j)) * (1 + g (ix3 b s j) * (1 - Ffn.sig (g (ix3 b s j)))))
  rw [sigs_at, cot_at, rows_at, rows_at, h1, hp]
  exact (dsilu p _).symm

/-- The other up projection's gradient, as the reference leaves it. -/
theorem result_u (dy : FVec Ideal S2048x1024 .f32) (g : FVec Ideal S4x2048x704 .f32) (wd : FVec Ideal S4x704x1024 .bf16) (b : Fin 4) (s : Fin 2048) (j : Fin 704) :
    transpose S4x2048x704 [1, 0, 2] (shapeCast S2048x4x704 (mulf (mulf (rows g) (sigs (rows g))) (cot dy wd)) shapeCasts_S2048x2816_S2048x4x704) transposes_S2048x4x704_S4x2048x704_1_0_2 (ix3 b s j)
      = gradU dy g wd (ix3 b s j) := by
  rw [shards_at]
  show (rows g (ix2 s (chan b j)) * sigs (rows g) (ix2 s (chan b j))) * cot dy wd (ix2 s (chan b j)) = inner dy wd b s j * (g (ix3 b s j) * Ffn.sig (g (ix3 b s j)))
  rw [sigs_at, cot_at, rows_at]
  exact mul_comm _ _

end Cert.Reference5Ideal.Value

namespace Cert.Ffn

open Idealize.ShloMosaic

/-- The shape relations of the precondition's operations. -/
theorem pre_facts : Cert.Pre_finite5.Facts where
  bcast_S_S2048x1024 := by decide
  reducesTo_S2048x1024_S_d0_1 := by decide
  h_S_ := by decide
  bcast_S_S4x2048x704 := by decide
  reducesTo_S4x2048x704_S_d0_1_2 := by decide
  bitsLt_bf16_f32 := by decide
  bcast_S_S4x704x1024 := by decide
  reducesTo_S4x704x1024_S_d0_1_2 := by decide

/-- Under the precondition, every element of the cotangent, of `u` and of the weights is a real number. -/
theorem args_real [Cert.Pre_finite5.Facts] (dy : FVec Ideal Cert.Pre_finite5.S2048x1024 .f32) (g u : FVec Ideal Cert.Pre_finite5.S4x2048x704 .f32)
    (wd : FVec Ideal Cert.Pre_finite5.S4x704x1024 .bf16) (h : Cert.Pre_finite5.fn (F := Ideal) dy g u wd = fun _ => 1#1) :
    (∀ i, (dy i : EReal) = ((dy i : EReal).toReal : EReal)) ∧ (∀ i, (u i : EReal) = ((u i : EReal).toReal : EReal))
      ∧ ∀ i, (wd i : EReal) = ((wd i : EReal).toReal : EReal) := by
  have e := congrFun h (Shape.Idx.first Cert.Pre_finite5.Facts.h_S_)
  obtain ⟨e, e2⟩ := Cert.Att.and_one _ _ _ e
  obtain ⟨e0, e1⟩ := Cert.Att.and_one _ _ _ e
  exact ⟨fun i => Cert.Att.real_of_abs _ (Host.reduce_andi_all _ _ _ _ _ e0 i), fun i => Cert.Att.real_of_abs _ (Host.reduce_andi_all _ _ _ _ _ e1 i),
    fun i => Cert.Att.real_of_abs _ (Host.reduce_andi_all _ _ _ _ _ e2 i)⟩

/-- Under the precondition, the cotangent of the gated activation times `u` is a real number. -/
theorem real_of_pre [Cert.Pre_finite5.Facts] (dy : FVec Ideal Cert.Pre_finite5.S2048x1024 .f32) (g u : FVec Ideal Cert.Pre_finite5.S4x2048x704 .f32)
    (wd : FVec Ideal Cert.Pre_finite5.S4x704x1024 .bf16) (h : Cert.Pre_finite5.fn (F := Ideal) dy g u wd = fun _ => 1#1) (b : Fin 4) (s : Fin 2048) (j : Fin 704) :
    ∃ p : ℝ, inner dy wd b s j * u (ix3 b s j) = (p : EReal) := by
  obtain ⟨h0, h1, h2⟩ := args_real dy g u wd h
  refine ⟨(∑ k : Fin 1024, (dy (ix2 s k) : EReal).toReal * (wd (ix3 b j k) : EReal).toReal) * (u (ix3 b s j) : EReal).toReal, ?_⟩
  rw [EReal.coe_mul, ← h1]
  exact congrArg (· * (u (ix3 b s j) : EReal)) (sum_real (fun k => dy (ix2 s k)) (fun k => wd (ix3 b j k)) (fun k => h0 _) (fun k => h2 _))

end Cert.Ffn

open Idealize.ShloMosaic Idealize.ShloMosaic.TcCoe Idealize.SL.Sem Idealize.ShloMosaic.StableHlo

/-- From equal arguments that meet the precondition the kernel's call and the reference leave the same two gradients. -/
theorem Cert.Ffn.downBwd_algebraic : @Cert.algebraic_Kernel5Ideal_Reference5Ideal_pre_finite5 Cert.Kernel5Ideal.Gen.facts Cert.Reference5Ideal.Gen.facts Cert.Ffn.pre_facts := by
  intro m ρ m' ρ' hpre hag
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    Cert.Kernel5Ideal.Value.run_blocks m ρ, ?_⟩
  refine (θ_run _ _ _).mono (fun r h c => ?_) (Cert.Reference5Ideal.Value.run m' ρ')
  obtain ⟨hg, hu, hk⟩ := h c
  obtain ⟨e0, e1, e2, e3⟩ := hag c
  rw [e0, e1, e2, e3] at hg
  rw [e0, e1, e3] at hu
  refine ⟨hg.trans (Eq.trans ?_ (Cert.Kernel5Ideal.Gen.arr4 m c).symm), hu.trans (Eq.trans ?_ (Cert.Kernel5Ideal.Gen.arr5 m c).symm), hk⟩
  · funext i
    rw [eq_ix3 i]
    obtain ⟨p, hp⟩ := @Cert.Ffn.real_of_pre Cert.Ffn.pre_facts _ _ _ _ (hpre c) (i 0) (i 1) (i 2)
    exact Cert.Reference5Ideal.Value.result_g _ _ _ _ _ _ _ p hp
  · funext i
    rw [eq_ix3 i]
    exact Cert.Reference5Ideal.Value.result_u _ _ _ _ _ _

/-- The reference runs to the end, leaves its arguments as they were and every counter at zero: it has no counters. -/
theorem Cert.Ffn.downBwd_reference_frame (m : (ℓ : Loc Cert.Reference5Ideal.nD Cert.Reference5Ideal.τ Cert.Reference5Ideal.sig) → Buf (Elt Ideal) ℓ)
    (ρ : Dev Cert.Reference5Ideal.nD → PrngReg) : θ_run (Cert.Reference5Ideal.defs (F := Ideal)) (onTc (τ := Cert.Reference5Ideal.τ) (Cert.Reference5Ideal.main (F := Ideal))) ⟨m, fun _ => 0, ρ⟩ (fun r =>
      (∀ c : Dev Cert.Reference5Ideal.nD, r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0) :=
  (θ_run _ _ _).mono (fun _ h => ⟨fun c => (h c).2.2, sem_eq_zero_of_no_sems rfl _⟩) (Cert.Reference5Ideal.Value.run m ρ)

end
-- ==== Proof.Proj.Dots.lean ====
module

public import proofs.«01_k».proof.Proof.Ffn.Dots

/-!
# The products of the input projections

The projections multiply the tokens by one weight matrix per piece. Here are the three products of a piece: the projection itself, the
gradient of the tokens and the gradient of the weight, each as one sum per element; the host's products are these sums, and a block of
256 tokens holds the rows of its tokens.
-/

@[expose] public section

noncomputable section

namespace Cert.Proj

open Idealize.ShloMosaic
open scoped BigOperators

/-- The host's product of rows with columns, at an index. -/
theorem dot_plain {M K N : ℕ} {φ₁ φ₂ : FTy} (prec : Option ContractPrecision) (A : FVec Ideal ⟨2, ![M, K]⟩ φ₁) (B : FVec Ideal ⟨2, ![K, N]⟩ φ₂)
    (r : Fin M) (c : Fin N) :
    (Host.dotGeneral (DotDims.plain M K N) prec A B : FVec Ideal ⟨2, ![M, N]⟩ .f32) (ix2 r c) = ∑ k : Fin K, A (ix2 r k) * B (ix2 k c) := by
  show FloatOps.dotGeneral _ prec _ A B _ = _
  rw [Ideal.dotGeneral_apply, ← Equiv.sum_comp (DotDims.plainContr M K N).symm]
  refine Finset.sum_congr rfl fun k _ => ?_
  have hk := ValueIdx.contrEquiv1_symm_val _ K (DotDims.plain_contr_rank M K N) (DotDims.plain_contr_size M K N) k
  have el : (DotDims.plain M K N).lhsIdx (ix2 r c) ((DotDims.plainContr M K N).symm k) = ix2 r k := by
    funext a; apply Fin.ext
    match a with
    | ⟨0, _⟩ => rfl
    | ⟨1, _⟩ => exact hk
  have er : (DotDims.plain M K N).rhsIdx (ix2 r c) ((DotDims.plainContr M K N).symm k) = ix2 k c := by
    funext a; apply Fin.ext
    match a with
    | ⟨0, _⟩ => exact hk
    | ⟨1, _⟩ => rfl
  rw [el, er]

/-- A projection: the tokens' rows times the weight's columns. -/
def proj {M K N : ℕ} (h : FVec Ideal ⟨2, ![M, K]⟩ .f32) (w : FVec Ideal ⟨2, ![K, N]⟩ .bf16) : FVec Ideal ⟨2, ![M, N]⟩ .f32 :=
  fun i => ∑ k : Fin K, h (ix2 (i 0 : Fin M) k) * w (ix2 k (i 1 : Fin N))

/-- The host's projection from the weight read as a wider format. -/
theorem host_proj {M K N : ℕ} (h : FVec Ideal ⟨2, ![M, K]⟩ .f32) (w : FVec Ideal ⟨2, ![K, N]⟩ .bf16) (hb : FTy.bf16.bits < FTy.f32.bits) :
    (Host.dotGeneral (DotDims.plain M K N) none h (extf .f32 w hb) : FVec Ideal ⟨2, ![M, N]⟩ .f32) = proj h w := by
  funext i
  rw [eq_ix2 i]
  exact dot_plain none _ _ _ _

/-- One piece's part of the tokens' gradient: the cotangent's rows times the weight's rows. -/
def projH {M K N : ℕ} (d : FVec Ideal ⟨2, ![M, N]⟩ .f32) (w : FVec Ideal ⟨2, ![K, N]⟩ .bf16) (s : Fin M) (k : Fin K) : EReal :=
  ∑ j : Fin N, d (ix2 s j) * w (ix2 k j)

/-- The host's part of the tokens' gradient from the weight read as a wider format. -/
theorem host_projH {M K N : ℕ} (d : FVec Ideal ⟨2, ![M, N]⟩ .f32) (w : FVec Ideal ⟨2, ![K, N]⟩ .bf16) (hb : FTy.bf16.bits < FTy.f32.bits) (s : Fin M) (k : Fin K) :
    (Host.dotGeneral (DotDims.transposedRhs M N K) none d (extf .f32 w hb) : FVec Ideal ⟨2, ![M, K]⟩ .f32) (ix2 s k) = projH d w s k :=
  Cert.Ffn.dot_rows none _ _ _ _

/-- A token of a block of 256. -/
abbrev tok (t : ℕ) (ht : t < 8) (s : Fin 256) : Fin 2048 := ⟨256 * t + s.val, by omega⟩

/-- A block that holds the rows of its tokens, at an index and the index of the array that the block puts it at. -/
theorem blk_rows {N : ℕ} {α : Type} (O : (⟨2, ![256, N]⟩ : Shape).Idx → α) (G : (⟨2, ![2048, N]⟩ : Shape).Idx → α) (t : ℕ) (ht : t < 8)
    (key : ∀ (s : Fin 256) (j : Fin N), O (ix2 s j) = G (ix2 (tok t ht s) j)) (y : (⟨2, ![256, N]⟩ : Shape).Idx) (z : (⟨2, ![2048, N]⟩ : Shape).Idx)
    (h0 : (z 0).val = 256 * t + (y 0).val) (h1 : (z 1).val = (y 1).val) : O y = G z := by
  have hz : z = ix2 (tok t ht (y 0)) (y 1 : Fin N) := by
    funext a; apply Fin.ext
    match a with
    | ⟨0, _⟩ => exact h0
    | ⟨1, _⟩ => exact h1
  rw [hz]
  exact (congrArg O (eq_ix2 y)).trans (key _ _)

/-- A block of a projection: the product of a block of tokens with the weight. -/
theorem proj_blk {K N : ℕ} (h : FVec Ideal ⟨2, ![2048, K]⟩ .f32) (w : FVec Ideal ⟨2, ![K, N]⟩ .bf16) (x : FVec Ideal ⟨2, ![256, K]⟩ .f32) (v : FVec Ideal ⟨2, ![K, N]⟩ .bf16)
    (t : ℕ) (ht : t < 8) (hx : ∀ s k, x (ix2 s k) = h (ix2 (tok t ht s) k)) (hv : ∀ k j, v (ix2 k j) = w (ix2 k j)) (s : Fin 256) (j : Fin N) :
    ∑ k : Fin K, x (ix2 s k) * v (ix2 k j) = proj h w (ix2 (tok t ht s) j) :=
  Finset.sum_congr rfl fun k _ => congrArg₂ (fun a b : EReal => a * b) (hx s k) (hv k j)

/-- A block of one piece's part of the tokens' gradient. -/
theorem projH_blk {K N : ℕ} (d : FVec Ideal ⟨2, ![2048, N]⟩ .f32) (w : FVec Ideal ⟨2, ![K, N]⟩ .bf16) (x : FVec Ideal ⟨2, ![256, N]⟩ .f32) (v : FVec Ideal ⟨2, ![K, N]⟩ .bf16)
    (t : ℕ) (ht : t < 8) (hx : ∀ s j, x (ix2 s j) = d (ix2 (tok t ht s) j)) (hv : ∀ k j, v (ix2 k j) = w (ix2 k j)) (s : Fin 256) (k : Fin K) :
    ∑ j : Fin N, x (ix2 s j) * v (ix2 k j) = projH d w (tok t ht s) k :=
  Finset.sum_congr rfl fun j _ => congrArg₂ (fun a b : EReal => a * b) (hx s j) (hv k j)

/-- The zero offset of two coordinates. -/
theorem hz2 : (![0, 0] : Fin 2 → Nat) = fun _ => 0 := funext fun a => by fin_cases a <;> rfl

end Cert.Proj

end
-- ==== Proof.Ffn.Up.lean ====
module

public import proofs.«01_k».proof.Proof.Gen.Kernel6Ideal.Value
public import proofs.«01_k».proof.Proof.Gen.Reference6Ideal.Run
public import proofs.«01_k».proof.Proof.Proj.Dots
public import proofs.«01_k».proof.Defs
public import Idealize.ShloMosaic.Lib.Pipeline.ValueKit
public import Idealize.ShloMosaic.Lib.Quiescent

/-!
# An up projection of the feed-forward layer

Both programs leave, for every shard `b`, token `s` and channel `j` of the shard, the product of the token with the channel's row of
the weight. The kernel takes a block of tokens and a shard at a time; the reference takes one product over all the channels and
then puts them into shards.
-/

@[expose] public section

set_option maxRecDepth 16384

noncomputable section

namespace Cert.Kernel6Ideal.Gen

open Idealize.ShloMosaic Idealize.ShloMosaic.TcCoe Idealize.SL.Sem Cert.Ffn Cert.Kernel6Ideal
open Idealize.ShloMosaic.Pipeline (Dat)

/-- A block of the result, at an index. -/
theorem pay1_at (x : Vec Ideal S1024x1024 .f32) (w : Vec Ideal S1x704x1024 .bf16) (s : Fin 1024) (j : Fin 704) :
    k0_pay1 (F := Ideal) x w (ix3 0 s j) = ∑ k : Fin 1024, x (ix2 s k) * w (ix3 0 j k) := by
  pointwise [k0_pay1]

/-- The window index maps, at every grid point. -/
theorem idx_val : ∀ t : Fin cfg0.N, win0_0.index t = ![t.val / 4, 0] ∧ win0_1.index t = ![t.val % 4, 0, 0] ∧ win0_2.index t = ![t.val % 4, t.val / 4, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The weight. -/
abbrev wOf (c : Dev nD) : FVec Ideal S4x704x1024 .bf16 := m ((c.tc : Thread nD τ).loc main_arg1)

/-- The projection. -/
def up (h : FVec Ideal S2048x1024 .f32) (w : FVec Ideal S4x704x1024 .bf16) : FVec Ideal S4x2048x704 .f32 :=
  fun i => ∑ k : Fin 1024, h (ix2 (i 1 : Fin 2048) k) * w (ix3 (i 0 : Fin 4) (i 2 : Fin 704) k)

/-- A grid point's shard. -/
abbrev shardOf (t : Fin cfg0.N) : Fin 4 := ⟨t.val % 4, by omega⟩
/-- A token of a grid point's block. -/
abbrev tokOf (t : Fin cfg0.N) (s : Fin 1024) : Fin 2048 := ⟨1024 * (t.val / 4) + s.val, by have := t.isLt; have : cfg0.N = 8 := N_0; omega⟩

/-- What window 0 holds. -/
theorem rd0 (c : Dev nD) (t : Fin cfg0.N) (s k : Fin 1024) : iblk m c 0 t (ix2 s k) = hOf m c (ix2 (tokOf t s) k) := by
  unfold iblk
  blk_ext [idx_val t]
/-- What window 1 holds. -/
theorem rd1 (c : Dev nD) (t : Fin cfg0.N) (j : Fin 704) (k : Fin 1024) : iblk m c 1 t (ix3 0 j k) = wOf m c (ix3 (shardOf t) j k) := by
  unfold iblk
  blk_ext [idx_val t]

/-- A block of the kernel's result, at an index. -/
theorem blk_at (c : Dev nD) (t : Fin cfg0.N) (s : Fin 1024) (j : Fin 704) :
    k0_pay1 (F := Ideal) (iblk m c 0 t) (iblk m c 1 t) (ix3 0 s j) = up (hOf m c) (wOf m c) (ix3 (shardOf t) (tokOf t s) j) :=
  (pay1_at _ _ s j).trans (Finset.sum_congr rfl fun k _ => congrArg₂ (fun a b : EReal => a * b) (rd0 m c t s k) (rd1 m c t j k))

/-- The zero offset of three coordinates. -/
theorem hz3 : (![0, 0, 0] : Fin 3 → Nat) = fun _ => 0 := funext fun a => by fin_cases a <;> rfl

/-- The kernel's result. -/
theorem arr (c : Dev nD) : (dats m 0 c).arrAt 2 (cfgs 0).N = up (hOf m c) (wOf m c) := by
  refine (dats m 0 c).arrAt_eq_of_covers 2 _ (by decide +kernel) fun t hf y => ?_
  have hy : y = ix3 (0 : Fin 1) (y 1 : Fin 1024) (y 2 : Fin 704) :=
    (eq_ix3 y).trans (congrArg (fun z : Fin 1 => ix3 z (y 1 : Fin 1024) (y 2 : Fin 704)) (Subsingleton.elim (α := Fin 1) _ _))
  have h0 : ((win0_2.blk t).view.emb y 0).val = t.val % 4 := by blk_simp [idx_val t]
  have h1 : ((win0_2.blk t).view.emb y 1).val = 1024 * (t.val / 4) + (y 1).val := by blk_simp [idx_val t]; omega
  have h2 : ((win0_2.blk t).view.emb y 2).val = (y 2).val := by blk_simp [idx_val t]
  have he : (win0_2.blk t).view.emb y = ix3 (shardOf t) (tokOf t (y 1)) (y 2 : Fin 704) := by
    funext a; apply Fin.ext
    match a with
    | ⟨0, _⟩ => exact h0
    | ⟨1, _⟩ => exact h1
    | ⟨2, _⟩ => exact h2
  have key := blk_at m c t (y 1) (y 2)
  rw [after0_2]
  unfold out0_2
  rw [View.canon_unit_zero hz3]
  simp only [View.ld_unit_zero (S := S1024x1024) Proj.hz2, View.ld_unit_zero (S := S1x704x1024) hz3]
  blk_simp [idx_val t]
  exact (congrArg (k0_pay1 (F := Ideal) (iblk m c 0 t) (iblk m c 1 t)) hy).trans (key.trans (congrArg (up (hOf m c) (wOf m c)) he).symm)

end Cert.Kernel6Ideal.Gen

namespace Cert.Reference6Ideal.Value

open Idealize.ShloMosaic Idealize.ShloMosaic.TcCoe Idealize.SL.Sem Cert.Ffn Cert.Reference6Ideal Cert.Reference6Ideal.Gen

/-- The rows of channels put into shards, at an index. -/
theorem shards_at (A : FVec Ideal S2048x2816 .f32) (b : Fin 4) (s : Fin 2048) (j : Fin 704) :
    transpose S4x2048x704 [1, 0, 2] (shapeCast S2048x4x704 A shapeCasts_S2048x2816_S2048x4x704) transposes_S2048x4x704_S4x2048x704_1_0_2 (ix3 b s j) = A (ix2 s (chan b j)) := by
  pointwise []

/-- The weight with a column per channel, at a channel of a shard. -/
theorem weight_at (w : FVec Ideal S4x704x1024 .bf16) (b : Fin 4) (j : Fin 704) (k : Fin 1024) :
    transpose S1024x2816 [1, 0] (shapeCast S2816x1024 (extf .f32 w bitsLt_bf16_f32) shapeCasts_S4x704x1024_S2816x1024) transposes_S2816x1024_S1024x2816_1_0 (ix2 k (chan b j)) = w (ix3 b j k) := by
  refine Eq.trans ?_ (weight_apply (extf .f32 w bitsLt_bf16_f32) shapeCasts_S4x704x1024_S2816x1024 b j k)
  generalize shapeCast S2816x1024 (extf .f32 w bitsLt_bf16_f32) shapeCasts_S4x704x1024_S2816x1024 = W
  pointwise []

/-- The reference's result, at an index. -/
theorem result_at (h : FVec Ideal S2048x1024 .f32) (w : FVec Ideal S4x704x1024 .bf16) (b : Fin 4) (s : Fin 2048) (j : Fin 704) :
    transpose S4x2048x704 [1, 0, 2] (shapeCast S2048x4x704 (Host.dotGeneral dot_S2048x1024_S1024x2816_S2048x2816_1_0_0_1_n_n none h (transpose S1024x2816 [1, 0] (shapeCast S2816x1024 (extf .f32 w bitsLt_bf16_f32) shapeCasts_S4x704x1024_S2816x1024) transposes_S2816x1024_S1024x2816_1_0)) shapeCasts_S2048x2816_S2048x4x704) transposes_S2048x4x704_S4x2048x704_1_0_2 (ix3 b s j)
      = ∑ k : Fin 1024, h (ix2 s k) * w (ix3 b j k) := by
  rw [shards_at]
  exact (Proj.dot_plain none _ _ _ _).trans (Finset.sum_congr rfl fun k _ => congrArg (fun z : EReal => h (ix2 s k) * z) (weight_at w b j k))

end Cert.Reference6Ideal.Value

open Idealize.ShloMosaic Idealize.ShloMosaic.TcCoe Idealize.SL.Sem Idealize.ShloMosaic.StableHlo

/-- From equal arguments the kernel's call and the reference leave the same projection. -/
theorem Cert.Ffn.up_algebraic : @Cert.algebraic_Kernel6Ideal_Reference6Ideal Cert.Kernel6Ideal.Gen.facts Cert.Reference6Ideal.Gen.facts := by
  intro m ρ m' ρ' _ hag
  refine ⟨fun c => (Cert.Kernel6Ideal.Gen.dats m 0 c).arrAt 2 Cert.Kernel6Ideal.cfg0.N, Cert.Kernel6Ideal.Value.run_blocks m ρ, ?_⟩
  refine (θ_run _ _ _).mono (fun r h c => ?_) (Cert.Reference6Ideal.Value.run m' ρ')
  obtain ⟨hr, hu⟩ := h c
  obtain ⟨e0, e1⟩ := hag c
  rw [e0, e1] at hr
  refine ⟨hr.trans (Eq.trans ?_ (Cert.Kernel6Ideal.Gen.arr m c).symm), hu⟩
  funext i
  rw [eq_ix3 i]
  exact Cert.Reference6Ideal.Value.result_at _ _ _ _ _

/-- The reference runs to the end, leaves its arguments as they were and every counter at zero: it has no counters. -/
theorem Cert.Ffn.up_reference_frame : @Cert.quiescent_Reference6Ideal Cert.Reference6Ideal.Gen.facts := fun m ρ _ =>
  (θ_run _ _ _).mono (fun _ h => ⟨fun c => (h c).2, sem_eq_zero_of_no_sems rfl _⟩) (Cert.Reference6Ideal.Value.run m ρ)

end
-- ==== Proof.Ffn.Down.lean ====
module

public import proofs.«01_k».proof.Proof.Gen.Kernel7Ideal.Value
public import proofs.«01_k».proof.Proof.Gen.Reference7Ideal.Run
public import proofs.«01_k».proof.Proof.Ffn.DownDw
public import proofs.«01_k».proof.Proof.Proj.Dots
public import proofs.«01_k».proof.Defs
public import Idealize.ShloMosaic.Lib.Pipeline.ValueKit
public import Idealize.ShloMosaic.Lib.Quiescent

/-!
# The down projection of the feed-forward layer

Both programs leave, for every token `s` and output channel `k`, the sum over the shards and their hidden channels of the gated
activation times the weight. The kernel adds one shard after the other to the same block; the reference takes one product over
all the channels at once.
-/

@[expose] public section

set_option maxRecDepth 16384

noncomputable section

namespace Cert.Kernel7Ideal.Gen

open Idealize.ShloMosaic Idealize.ShloMosaic.TcCoe Idealize.SL.Sem Cert.Ffn Cert.Kernel7Ideal
open Idealize.ShloMosaic.Pipeline (Dat)

/-- One shard's part of a block, at an index. -/
theorem pay1_apply (x0 : Vec Ideal S1x1024x704 .f32) (x1 : Vec Ideal S1x1024x704 .f32) (x2 : Vec Ideal S1x704x1024 .bf16) (s k : Fin 1024) :
    k0_pay1 (F := Ideal) x0 x1 x2 (ix2 s k) = ∑ j : Fin 704, (silu (x0 (ix3 0 s j)) * x1 (ix3 0 s j)) * x2 (ix3 0 j k) := by
  pointwise [k0_pay1]
  simp only [sig_sub]
  rfl

/-- The block after one more shard: what it held plus the shard's part. -/
theorem pay2_apply (x0 : Vec Ideal S1x1024x704 .f32) (x1 : Vec Ideal S1x1024x704 .f32) (x2 : Vec Ideal S1x704x1024 .bf16)
    (x3 : Vec Ideal S1024x1024 .f32) (i : S1024x1024.Idx) :
    k0_pay2 (F := Ideal) x0 x1 x2 x3 i = x3 i + k0_pay1 (F := Ideal) x0 x1 x2 i := by
  unfold k0_pay2
  rw [shapeCast_self]
  rfl

/-- The window index maps, at every grid point. -/
theorem idx_val : ∀ t : Fin cfg0.N, win0_0.index t = ![t.val % 4, t.val / 4, 0] ∧ win0_1.index t = ![t.val % 4, t.val / 4, 0]
    ∧ win0_2.index t = ![t.val % 4, 0, 0] ∧ win0_3.index t = ![t.val / 4, 0] :=
  (by decide +kernel : ∀ t : Fin grid0.N, _)

/-- The block is written back after the last shard. -/
theorem flush_val : ∀ t : Fin cfg0.N, (cfg0.win 3).flush t = true → t.val % 4 = 3 :=
  (by decide +kernel : ∀ t : Fin grid0.N, _)

variable (m : (ℓ : Loc nD τ sig) → Buf (Elt Ideal) ℓ)

/-- The gate. -/
abbrev gOf (c : Dev nD) : FVec Ideal S4x2048x704 .f32 := m ((c.tc : Thread nD τ).loc main_arg0)
/-- The other up projection. -/
abbrev uOf (c : Dev nD) : FVec Ideal S4x2048x704 .f32 := m ((c.tc : Thread nD τ).loc main_arg1)
/-- The weight. -/
abbrev wOf (c : Dev nD) : FVec Ideal S4x704x1024 .bf16 := m ((c.tc : Thread nD τ).loc main_arg2)

/-- One shard's part of the projection. -/
def part (g u : FVec Ideal S4x2048x704 .f32) (w : FVec Ideal S4x704x1024 .bf16) (s : Fin 2048) (k : Fin 1024) (b : Fin 4) : EReal :=
  ∑ j : Fin 704, (silu (g (ix3 b s j)) * u (ix3 b s j)) * w (ix3 b j k)

/-- The projection. -/
def down (g u : FVec Ideal S4x2048x704 .f32) (w : FVec Ideal S4x704x1024 .bf16) : FVec Ideal S2048x1024 .f32 :=
  fun i => ∑ b : Fin 4, part g u w (i 0 : Fin 2048) (i 1 : Fin 1024) b

/-- A grid point's shard. -/
abbrev shardOf (t : Fin cfg0.N) : Fin 4 := ⟨t.val % 4, by omega⟩
/-- A token of a grid point's block. -/
abbrev tokOf (t : Fin cfg0.N) (s : Fin 1024) : Fin 2048 := ⟨1024 * (t.val / 4) + s.val, by have := t.isLt; have : cfg0.N = 8 := N_0; omega⟩

/-- What window 0 holds. -/
theorem rd0 (c : Dev nD) (t : Fin cfg0.N) (s : Fin 1024) (j : Fin 704) :
    iblk m c 0 t (ix3 0 s j) = gOf m c (ix3 (shardOf t) (tokOf t s) j) := by
  unfold iblk
  blk_ext [idx_val t]
/-- What window 1 holds. -/
theorem rd1 (c : Dev nD) (t : Fin cfg0.N) (s : Fin 1024) (j : Fin 704) :
    iblk m c 1 t (ix3 0 s j) = uOf m c (ix3 (shardOf t) (tokOf t s) j) := by
  unfold iblk
  blk_ext [idx_val t]
/-- What window 2 holds. -/
theorem rd2 (c : Dev nD) (t : Fin cfg0.N) (j : Fin 704) (k : Fin 1024) :
    iblk m c 2 t (ix3 0 j k) = wOf m c (ix3 (shardOf t) j k) := by
  unfold iblk
  blk_ext [idx_val t]

/-- What a grid point adds to its block, at an index. -/
theorem pay_at (c : Dev nD) (t : Fin cfg0.N) (s k : Fin 1024) :
    k0_pay1 (F := Ideal) (iblk m c 0 t) (iblk m c 1 t) (iblk m c 2 t) (ix2 s k) = part (gOf m c) (uOf m c) (wOf m c) (tokOf t s) k (shardOf t) :=
  (pay1_apply _ _ _ _ _).trans (Finset.sum_congr rfl fun j _ => congrArg₂ (fun a b : EReal => a * b)
    (congrArg₂ (fun a b : EReal => silu a * b) (rd0 m c t s j) (rd1 m c t s j)) (rd2 m c t j k))

/-- The zero offset of three coordinates. -/
theorem hz3 : (![0, 0, 0] : Fin 3 → Nat) = fun _ => 0 := funext fun a => by fin_cases a <;> rfl

/-- The first shard's point leaves its part. -/
theorem out_A (c : Dev nD) (t : Fin cfg0.N) (h0 : t.val % 4 = 0) :
    outsAt0 m c t.val t.isLt = k0_pay1 (iblk m c 0 t) (iblk m c 1 t) (iblk m c 2 t) := by
  rw [outsAt0_A m c t h0 (by omega)]
  unfold out0_A_3
  rw [View.read_writes_eq_canon _ _ _ (cover0_A_3 c _ _ _ _ _ _ _ _ _ _ _ _ _ _)]
  unfold kernelRun0_A
  dsimp only
  rw [View.canon_unit_zero Proj.hz2]
  simp only [View.readAt_eq_ld, (hs0_0 t).read_unread, (hs0_1 t).read_unread, (hs0_2 t).read_unread,
    View.ld_unit_zero (S := S1x1024x704) hz3, View.ld_unit_zero (S := S1x704x1024) hz3]

/-- A later shard's point adds its part. -/
theorem out_B (c : Dev nD) (t : Fin cfg0.N) (h0 : ¬t.val % 4 = 0) :
    outsAt0 m c t.val t.isLt = k0_pay2 (iblk m c 0 t) (iblk m c 1 t) (iblk m c 2 t) (outsAt0 m c (t.val - 1) (Nat.lt_of_le_of_lt (Nat.sub_le _ _) t.isLt)) := by
  rw [outsAt0_B m c t h0 (by omega)]
  unfold out0_B_3
  rw [View.read_writes_eq_canon _ _ _ (cover0_B_3 c _ _ _ _ _ _ _ _ _ _ _ _ _ _ _)]
  unfold kernelRun0_B
  dsimp only
  rw [View.canon_unit_zero Proj.hz2]
  simp only [View.readAt_eq_ld, (hs0_0 t).read_unread, (hs0_1 t).read_unread, (hs0_2 t).read_unread, (hs0_3 t).read_unread,
    View.ld_unit_zero (S := S1x1024x704) hz3, View.ld_unit_zero (S := S1x704x1024) hz3, View.ld_unit_zero (S := S1024x1024) Proj.hz2]

/-- What a block holds after a grid point: the parts of the shards so far. -/
theorem outs_eq (c : Dev nD) (s k : Fin 1024) : ∀ n (hn : n < cfg0.N), outsAt0 m c n hn (ix2 s k)
    = ∑ b ∈ Finset.range (n % 4 + 1), part (gOf m c) (uOf m c) (wOf m c) (tokOf ⟨n, hn⟩ s) k (Fin.ofNat 4 b)
  | 0, hn => by
    rw [out_A m c ⟨0, hn⟩ rfl, pay_at]
    simp
    rfl
  | n + 1, hn => by
    by_cases h0 : (n + 1) % 4 = 0
    · rw [out_A m c ⟨n + 1, hn⟩ h0, pay_at]
      simp only [h0, zero_add, Finset.sum_range_one]
      refine congrArg _ (Fin.ext ?_)
      simpa using h0
    · rw [out_B m c ⟨n + 1, hn⟩ h0, pay2_apply, pay_at]
      have ih := outs_eq c s k n (Nat.lt_of_succ_lt hn)
      have e4 : (n + 1) % 4 = n % 4 + 1 := by omega
      have ed : (n + 1) / 4 = n / 4 := by omega
      rw [e4, Finset.sum_range_succ]
      refine congrArg₂ (· + ·) (ih.trans (Finset.sum_congr rfl fun b _ => ?_)) (congrArg _ (Fin.ext ?_))
      · exact congrArg (fun z => part _ _ _ z k _) (Fin.ext (by simp only [ed]))
      · simp only [Fin.ofNat]
        omega

/-- The block a grid point writes back. -/
theorem outs_last (c : Dev nD) (t : Fin cfg0.N) (h : t.val % 4 = 3) (s k : Fin 1024) :
    outsAt0 m c t.val t.isLt (ix2 s k) = down (gOf m c) (uOf m c) (wOf m c) (ix2 (tokOf t s) k) := by
  rw [outs_eq m c s k t.val t.isLt, h, Finset.sum_range]
  exact Finset.sum_congr rfl fun b _ => congrArg (part (gOf m c) (uOf m c) (wOf m c) (tokOf t s) k) (Fin.ext (Nat.mod_eq_of_lt b.isLt))

/-- The kernel's result. -/
theorem arr (c : Dev nD) : (dats m 0 c).arrAt 3 (cfgs 0).N = down (gOf m c) (uOf m c) (wOf m c) := by
  refine (dats m 0 c).arrAt_eq_of_covers 3 _ (by decide +kernel) fun t hf y => ?_
  have key := outs_last m c t (flush_val t hf)
  rw [after0_3]
  generalize outsAt0 m c t.val t.isLt = O at key
  generalize down (gOf m c) (uOf m c) (wOf m c) = G at key
  have h0 : ((win0_3.blk t).view.emb y 0).val = 1024 * (t.val / 4) + (y 0).val := by blk_simp [idx_val t]; omega
  have h1 : ((win0_3.blk t).view.emb y 1).val = (y 1).val := by blk_simp [idx_val t]
  have he : (win0_3.blk t).view.emb y = ix2 (tokOf t (y 0)) (y 1 : Fin 1024) := by
    funext a; apply Fin.ext
    match a with
    | ⟨0, _⟩ => exact h0
    | ⟨1, _⟩ => exact h1
  blk_simp [idx_val t]
  exact (congrArg O (eq_ix2 y)).trans ((key _ _).trans (congrArg G he).symm)

end Cert.Kernel7Ideal.Gen

open Idealize.ShloMosaic Idealize.ShloMosaic.TcCoe Idealize.SL.Sem Idealize.ShloMosaic.StableHlo Cert.Ffn

/-- From equal arguments the kernel's call and the reference leave the same projection. -/
theorem Cert.Ffn.down_algebraic : @Cert.algebraic_Kernel7Ideal_Reference7Ideal Cert.Kernel7Ideal.Gen.facts Cert.Reference7Ideal.Gen.facts := by
  intro m ρ m' ρ' _ hag
  refine ⟨fun c => (Cert.Kernel7Ideal.Gen.dats m 0 c).arrAt 3 Cert.Kernel7Ideal.cfg0.N, Cert.Kernel7Ideal.Value.run_blocks m ρ, ?_⟩
  refine (θ_run _ _ _).mono (fun r h c => ?_) (Cert.Reference7Ideal.Value.run m' ρ')
  obtain ⟨hr, hu⟩ := h c
  obtain ⟨e0, e1, e2⟩ := hag c
  rw [e0, e1, e2] at hr
  refine ⟨hr.trans (Eq.trans ?_ (Cert.Kernel7Ideal.Gen.arr m c).symm), hu⟩
  funext i
  rw [eq_ix2 i]
  exact (Cert.Proj.dot_plain none _ _ _ _).trans ((sum_chan _).trans (Finset.sum_congr rfl fun b _ => Finset.sum_congr rfl fun j _ =>
    congrArg₂ (fun a b : EReal => a * b) (Cert.Reference3Ideal.Value.gated_apply _ _ _ _ _) (weight_apply _ _ _ _ _)))

/-- The reference runs to the end, leaves its arguments as they were and every counter at zero: it has no counters. -/
theorem Cert.Ffn.down_reference_frame : @Cert.quiescent_Reference7Ideal Cert.Reference7Ideal.Gen.facts := fun m ρ _ =>
  (θ_run _ _ _).mono (fun _ h => ⟨fun c => (h c).2, sem_eq_zero_of_no_sems rfl _⟩) (Cert.Reference7Ideal.Value.run m ρ)

end
-- ==== Proof.Proj.Fwd0.lean ====
module

public import proofs.«01_k».proof.Proof.Gen.Kernel8Ideal.Value
public import proofs.«01_k».proof.Proof.Gen.Reference8Ideal.Run
public import proofs.«01_k».proof.Proof.Proj.Dots
public import proofs.«01_k».proof.Defs
public import Idealize.ShloMosaic.Lib.Pipeline.ValueKit
public import Idealize.ShloMosaic.Lib.Quiescent

/-!
# The input projections of the first group of pieces

The recurrent unit's input, its gate and the attention's input: each the tokens times a weight matrix of its own.
-/

@[expose] public section

set_option maxRecDepth 16384

noncomputable section

namespace Cert.Kernel8Ideal.Gen

open Idealize.ShloMosaic Idealize.ShloMosaic.TcCoe Idealize.SL.Sem Cert.Proj Cert.Kernel8Ideal
open Idealize.ShloMosaic.Pipeline (Dat)

/-- The block of a piece of 1024 channels, at an index. -/
theorem pay2_at (x : Vec Ideal S256x1024 .f32) (w : Vec Ideal S1024x1024 .bf16) (s : Fin 256) (j : Fin 1024) :
    k0_pay2 (F := Ideal) x w (ix2 s j) = ∑ k : Fin 1024, x (ix2 s k) * w (ix2 k j) := by
  pointwise [k0_pay2, k0_pay1]
/-- The block of a piece of 2304 channels, at an index. -/
theorem pay4_at (x : Vec Ideal S256x1024 .f32) (w : Vec Ideal S1024x2304 .bf16) (s : Fin 256) (j : Fin 2304) :
    k0_pay4 (F := Ideal) x w (ix2 s j) = ∑ k : Fin 1024, x (ix2 s k) * w (ix2 k j) := by
  pointwise [k0_pay4, k0_pay1]

/-- The window index maps, at every grid point. -/
theorem idx_val : ∀ t : Fin cfg0.N, win0_0.index t = ![t.val, 0] ∧ win0_1.index t = ![0, 0] ∧ win0_2.index t = ![0, 0] ∧ win0_3.index t = ![0, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The weight of the recurrent unit's input. -/
abbrev w1Of (c : Dev nD) : FVec Ideal S1024x1024 .bf16 := m ((c.tc : Thread nD τ).loc main_arg1)
/-- The weight of the recurrent unit's gate. -/
abbrev w2Of (c : Dev nD) : FVec Ideal S1024x1024 .bf16 := m ((c.tc : Thread nD τ).loc main_arg2)
/-- The weight of the attention's input. -/
abbrev w3Of (c : Dev nD) : FVec Ideal S1024x2304 .bf16 := m ((c.tc : Thread nD τ).loc main_arg3)

/-- A grid point's number is below the number of blocks. -/
theorem pt (t : Fin cfg0.N) : t.val < 8 := by have := t.isLt; have : cfg0.N = 8 := N_0; omega

/-- What the windows of the inputs hold. -/
theorem rd (c : Dev nD) (t : Fin cfg0.N) :
    (∀ (s : Fin 256) (k : Fin 1024), iblk m c 0 t (ix2 s k) = hOf m c (ix2 (tok t.val (pt t) s) k))
    ∧ (∀ (k : Fin 1024) (j : Fin 1024), iblk m c 1 t (ix2 k j) = w1Of m c (ix2 k j))
    ∧ (∀ (k : Fin 1024) (j : Fin 1024), iblk m c 2 t (ix2 k j) = w2Of m c (ix2 k j))
    ∧ (∀ (k : Fin 1024) (j : Fin 2304), iblk m c 3 t (ix2 k j) = w3Of m c (ix2 k j)) := by
  refine ⟨?_, ?_, ?_, ?_⟩ <;>
  · intro s j
    unfold iblk
    blk_ext [idx_val t]

/-- The rows of the results' windows. -/
theorem rows (t : Fin cfg0.N) :
    (∀ y, ((win0_4.blk t).view.emb y 0).val = 256 * t.val + (y 0).val ∧ ((win0_4.blk t).view.emb y 1).val = (y 1).val)
    ∧ (∀ y, ((win0_5.blk t).view.emb y 0).val = 256 * t.val + (y 0).val ∧ ((win0_5.blk t).view.emb y 1).val = (y 1).val)
    ∧ (∀ y, ((win0_6.blk t).view.emb y 0).val = 256 * t.val + (y 0).val ∧ ((win0_6.blk t).view.emb y 1).val = (y 1).val) := by
  refine ⟨?_, ?_, ?_⟩ <;>
  · intro y
    constructor
    · blk_simp [idx_val t]; omega
    · blk_simp [idx_val t]

/-- The pieces, as the kernel leaves them. -/
theorem arr (c : Dev nD) : (dats m 0 c).arrAt 4 (cfgs 0).N = proj (hOf m c) (w1Of m c)
    ∧ (dats m 0 c).arrAt 5 (cfgs 0).N = proj (hOf m c) (w2Of m c)
    ∧ (dats m 0 c).arrAt 6 (cfgs 0).N = proj (hOf m c) (w3Of m c) := by
  refine ⟨?_, ?_, ?_⟩ <;> refine (dats m 0 c).arrAt_eq_of_covers _ _ (by decide +kernel) fun t hf y => ?_
  on_goal 1 => rw [after0_4]; unfold out0_4
  on_goal 2 => rw [after0_5]; unfold out0_5
  on_goal 3 => rw [after0_6]; unfold out0_6
  all_goals
    rw [View.canon_unit_zero hz2]
    simp only [View.ld_unit_zero (S := S256x1024) hz2, View.ld_unit_zero (S := S1024x1024) hz2, View.ld_unit_zero (S := S1024x2304) hz2]
  all_goals blk_simp [idx_val t]
  · exact blk_rows _ _ t.val (pt t) (fun s j => (pay2_at (iblk m c 0 t) (iblk m c 1 t) s j).trans (proj_blk (hOf m c) (w1Of m c) _ _ t.val (pt t) (rd m c t).1 (rd m c t).2.1 s j)) y _ ((rows t).1 y).1 ((rows t).1 y).2
  · exact blk_rows _ _ t.val (pt t) (fun s j => (pay2_at (iblk m c 0 t) (iblk m c 2 t) s j).trans (proj_blk (hOf m c) (w2Of m c) _ _ t.val (pt t) (rd m c t).1 (rd m c t).2.2.1 s j)) y _ ((rows t).2.1 y).1 ((rows t).2.1 y).2
  · exact blk_rows _ _ t.val (pt t) (fun s j => (pay4_at (iblk m c 0 t) (iblk m c 3 t) s j).trans (proj_blk (hOf m c) (w3Of m c) _ _ t.val (pt t) (rd m c t).1 (rd m c t).2.2.2 s j)) y _ ((rows t).2.2 y).1 ((rows t).2.2 y).2

end Cert.Kernel8Ideal.Gen

open Idealize.ShloMosaic Idealize.ShloMosaic.TcCoe Idealize.SL.Sem Idealize.ShloMosaic.StableHlo Cert.Proj

/-- From equal arguments the kernel's call and the reference leave the same projections. -/
theorem Cert.Proj.fwd0_algebraic : @Cert.algebraic_Kernel8Ideal_Reference8Ideal Cert.Kernel8Ideal.Gen.facts Cert.Reference8Ideal.Gen.facts := by
  intro m ρ m' ρ' _ hag
  refine ⟨fun c => (Cert.Kernel8Ideal.Gen.dats m 0 c).arrAt 4 Cert.Kernel8Ideal.cfg0.N, fun c => (Cert.Kernel8Ideal.Gen.dats m 0 c).arrAt 5 Cert.Kernel8Ideal.cfg0.N, fun c => (Cert.Kernel8Ideal.Gen.dats m 0 c).arrAt 6 Cert.Kernel8Ideal.cfg0.N, Cert.Kernel8Ideal.Value.run_blocks m ρ, ?_⟩
  refine (θ_run _ _ _).mono (fun r h c => ?_) (Cert.Reference8Ideal.Value.run m' ρ')
  obtain ⟨h1, h2, h3, hk⟩ := h c
  obtain ⟨e0, e1, e2, e3⟩ := hag c
  rw [e0, e1] at h1
  rw [e0, e2] at h2
  rw [e0, e3] at h3
  exact ⟨h1.trans ((host_proj _ _ _).trans (Cert.Kernel8Ideal.Gen.arr m c).1.symm), h2.trans ((host_proj _ _ _).trans (Cert.Kernel8Ideal.Gen.arr m c).2.1.symm), h3.trans ((host_proj _ _ _).trans (Cert.Kernel8Ideal.Gen.arr m c).2.2.symm), hk⟩

/-- The reference runs to the end, leaves its arguments as they were and every counter at zero: it has no counters. -/
theorem Cert.Proj.fwd0_reference_frame : @Cert.quiescent_Reference8Ideal Cert.Reference8Ideal.Gen.facts := fun m ρ _ =>
  (θ_run _ _ _).mono (fun _ h => ⟨fun c => (h c).2.2.2, sem_eq_zero_of_no_sems rfl _⟩) (Cert.Reference8Ideal.Value.run m ρ)

end
-- ==== Proof.Proj.Fwd1.lean ====
module

public import proofs.«01_k».proof.Proof.Gen.Kernel9Ideal.Value
public import proofs.«01_k».proof.Proof.Gen.Reference9Ideal.Run
public import proofs.«01_k».proof.Proof.Proj.Dots
public import proofs.«01_k».proof.Defs
public import Idealize.ShloMosaic.Lib.Pipeline.ValueKit
public import Idealize.ShloMosaic.Lib.Quiescent

/-!
# The input projections of the second group of pieces

The delta rule's queries, keys, values, output gate and step sizes: each the tokens times a weight matrix of its own.
-/

@[expose] public section

set_option maxRecDepth 16384

noncomputable section

namespace Cert.Kernel9Ideal.Gen

open Idealize.ShloMosaic Idealize.ShloMosaic.TcCoe Idealize.SL.Sem Cert.Proj Cert.Kernel9Ideal
open Idealize.ShloMosaic.Pipeline (Dat)

/-- The block of a piece of 1024 channels, at an index. -/
theorem pay2_at (x : Vec Ideal S256x1024 .f32) (w : Vec Ideal S1024x1024 .bf16) (s : Fin 256) (j : Fin 1024) :
    k0_pay2 (F := Ideal) x w (ix2 s j) = ∑ k : Fin 1024, x (ix2 s k) * w (ix2 k j) := by
  pointwise [k0_pay2, k0_pay1]
/-- The block of a piece of 128 channels, at an index. -/
theorem pay6_at (x : Vec Ideal S256x1024 .f32) (w : Vec Ideal S1024x128 .bf16) (s : Fin 256) (j : Fin 128) :
    k0_pay6 (F := Ideal) x w (ix2 s j) = ∑ k : Fin 1024, x (ix2 s k) * w (ix2 k j) := by
  pointwise [k0_pay6, k0_pay1]

/-- The window index maps, at every grid point. -/
theorem idx_val : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![t.val, 0] ∧ win0_7.index t = ![t.val, 0] ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The weight of the delta rule's queries. -/
abbrev w1Of (c : Dev nD) : FVec Ideal S1024x1024 .bf16 := m ((c.tc : Thread nD τ).loc main_arg1)
/-- The weight of the delta rule's keys. -/
abbrev w2Of (c : Dev nD) : FVec Ideal S1024x1024 .bf16 := m ((c.tc : Thread nD τ).loc main_arg2)
/-- The weight of the delta rule's values. -/
abbrev w3Of (c : Dev nD) : FVec Ideal S1024x1024 .bf16 := m ((c.tc : Thread nD τ).loc main_arg3)
/-- The weight of the delta rule's output gate. -/
abbrev w4Of (c : Dev nD) : FVec Ideal S1024x1024 .bf16 := m ((c.tc : Thread nD τ).loc main_arg4)
/-- The weight of the delta rule's step sizes and decays. -/
abbrev w5Of (c : Dev nD) : FVec Ideal S1024x128 .bf16 := m ((c.tc : Thread nD τ).loc main_arg5)

/-- A grid point's number is below the number of blocks. -/
theorem pt (t : Fin cfg0.N) : t.val < 8 := by have := t.isLt; have : cfg0.N = 8 := N_0; omega

/-- What the windows of the inputs hold. -/
theorem rd (c : Dev nD) (t : Fin cfg0.N) :
    (∀ (s : Fin 256) (k : Fin 1024), iblk m c 0 t (ix2 s k) = hOf m c (ix2 (tok t.val (pt t) s) k))
    ∧ (∀ (k : Fin 1024) (j : Fin 1024), iblk m c 1 t (ix2 k j) = w1Of m c (ix2 k j))
    ∧ (∀ (k : Fin 1024) (j : Fin 1024), iblk m c 2 t (ix2 k j) = w2Of m c (ix2 k j))
    ∧ (∀ (k : Fin 1024) (j : Fin 1024), iblk m c 3 t (ix2 k j) = w3Of m c (ix2 k j))
    ∧ (∀ (k : Fin 1024) (j : Fin 1024), iblk m c 4 t (ix2 k j) = w4Of m c (ix2 k j))
    ∧ (∀ (k : Fin 1024) (j : Fin 128), iblk m c 5 t (ix2 k j) = w5Of m c (ix2 k j)) := by
  refine ⟨?_, ?_, ?_, ?_, ?_, ?_⟩ <;>
  · intro s j
    unfold iblk
    blk_ext [idx_val t]

/-- The rows of the results' windows. -/
theorem rows (t : Fin cfg0.N) :
    (∀ y, ((win0_6.blk t).view.emb y 0).val = 256 * t.val + (y 0).val ∧ ((win0_6.blk t).view.emb y 1).val = (y 1).val)
    ∧ (∀ y, ((win0_7.blk t).view.emb y 0).val = 256 * t.val + (y 0).val ∧ ((win0_7.blk t).view.emb y 1).val = (y 1).val)
    ∧ (∀ y, ((win0_8.blk t).view.emb y 0).val = 256 * t.val + (y 0).val ∧ ((win0_8.blk t).view.emb y 1).val = (y 1).val)
    ∧ (∀ y, ((win0_9.blk t).view.emb y 0).val = 256 * t.val + (y 0).val ∧ ((win0_9.blk t).view.emb y 1).val = (y 1).val)
    ∧ (∀ y, ((win0_10.blk t).view.emb y 0).val = 256 * t.val + (y 0).val ∧ ((win0_10.blk t).view.emb y 1).val = (y 1).val) := by
  refine ⟨?_, ?_, ?_, ?_, ?_⟩ <;>
  · intro y
    constructor
    · blk_simp [idx_val t]; omega
    · blk_simp [idx_val t]

/-- The pieces, as the kernel leaves them. -/
theorem arr (c : Dev nD) : (dats m 0 c).arrAt 6 (cfgs 0).N = proj (hOf m c) (w1Of m c)
    ∧ (dats m 0 c).arrAt 7 (cfgs 0).N = proj (hOf m c) (w2Of m c)
    ∧ (dats m 0 c).arrAt 8 (cfgs 0).N = proj (hOf m c) (w3Of m c)
    ∧ (dats m 0 c).arrAt 9 (cfgs 0).N = proj (hOf m c) (w4Of m c)
    ∧ (dats m 0 c).arrAt 10 (cfgs 0).N = proj (hOf m c) (w5Of m c) := by
  refine ⟨?_, ?_, ?_, ?_, ?_⟩ <;> refine (dats m 0 c).arrAt_eq_of_covers _ _ (by decide +kernel) fun t hf y => ?_
  on_goal 1 => rw [after0_6]; unfold out0_6
  on_goal 2 => rw [after0_7]; unfold out0_7
  on_goal 3 => rw [after0_8]; unfold out0_8
  on_goal 4 => rw [after0_9]; unfold out0_9
  on_goal 5 => rw [after0_10]; unfold out0_10
  all_goals
    rw [View.canon_unit_zero hz2]
    simp only [View.ld_unit_zero (S := S256x1024) hz2, View.ld_unit_zero (S := S1024x1024) hz2, View.ld_unit_zero (S := S1024x128) hz2]
  all_goals blk_simp [idx_val t]
  · exact blk_rows _ _ t.val (pt t) (fun s j => (pay2_at (iblk m c 0 t) (iblk m c 1 t) s j).trans (proj_blk (hOf m c) (w1Of m c) _ _ t.val (pt t) (rd m c t).1 (rd m c t).2.1 s j)) y _ ((rows t).1 y).1 ((rows t).1 y).2
  · exact blk_rows _ _ t.val (pt t) (fun s j => (pay2_at (iblk m c 0 t) (iblk m c 2 t) s j).trans (proj_blk (hOf m c) (w2Of m c) _ _ t.val (pt t) (rd m c t).1 (rd m c t).2.2.1 s j)) y _ ((rows t).2.1 y).1 ((rows t).2.1 y).2
  · exact blk_rows _ _ t.val (pt t) (fun s j => (pay2_at (iblk m c 0 t) (iblk m c 3 t) s j).trans (proj_blk (hOf m c) (w3Of m c) _ _ t.val (pt t) (rd m c t).1 (rd m c t).2.2.2.1 s j)) y _ ((rows t).2.2.1 y).1 ((rows t).2.2.1 y).2
  · exact blk_rows _ _ t.val (pt t) (fun s j => (pay2_at (iblk m c 0 t) (iblk m c 4 t) s j).trans (proj_blk (hOf m c) (w4Of m c) _ _ t.val (pt t) (rd m c t).1 (rd m c t).2.2.2.2.1 s j)) y _ ((rows t).2.2.2.1 y).1 ((rows t).2.2.2.1 y).2
  · exact blk_rows _ _ t.val (pt t) (fun s j => (pay6_at (iblk m c 0 t) (iblk m c 5 t) s j).trans (proj_blk (hOf m c) (w5Of m c) _ _ t.val (pt t) (rd m c t).1 (rd m c t).2.2.2.2.2 s j)) y _ ((rows t).2.2.2.2 y).1 ((rows t).2.2.2.2 y).2

end Cert.Kernel9Ideal.Gen

open Idealize.ShloMosaic Idealize.ShloMosaic.TcCoe Idealize.SL.Sem Idealize.ShloMosaic.StableHlo Cert.Proj

/-- From equal arguments the kernel's call and the reference leave the same projections. -/
theorem Cert.Proj.fwd1_algebraic : @Cert.algebraic_Kernel9Ideal_Reference9Ideal Cert.Kernel9Ideal.Gen.facts Cert.Reference9Ideal.Gen.facts := by
  intro m ρ m' ρ' _ hag
  refine ⟨fun c => (Cert.Kernel9Ideal.Gen.dats m 0 c).arrAt 6 Cert.Kernel9Ideal.cfg0.N, fun c => (Cert.Kernel9Ideal.Gen.dats m 0 c).arrAt 7 Cert.Kernel9Ideal.cfg0.N, fun c => (Cert.Kernel9Ideal.Gen.dats m 0 c).arrAt 8 Cert.Kernel9Ideal.cfg0.N, fun c => (Cert.Kernel9Ideal.Gen.dats m 0 c).arrAt 9 Cert.Kernel9Ideal.cfg0.N, fun c => (Cert.Kernel9Ideal.Gen.dats m 0 c).arrAt 10 Cert.Kernel9Ideal.cfg0.N, Cert.Kernel9Ideal.Value.run_blocks m ρ, ?_⟩
  refine (θ_run _ _ _).mono (fun r h c => ?_) (Cert.Reference9Ideal.Value.run m' ρ')
  obtain ⟨h1, h2, h3, h4, h5, hk⟩ := h c
  obtain ⟨e0, e1, e2, e3, e4, e5⟩ := hag c
  rw [e0, e1] at h1
  rw [e0, e2] at h2
  rw [e0, e3] at h3
  rw [e0, e4] at h4
  rw [e0, e5] at h5
  exact ⟨h1.trans ((host_proj _ _ _).trans (Cert.Kernel9Ideal.Gen.arr m c).1.symm), h2.trans ((host_proj _ _ _).trans (Cert.Kernel9Ideal.Gen.arr m c).2.1.symm), h3.trans ((host_proj _ _ _).trans (Cert.Kernel9Ideal.Gen.arr m c).2.2.1.symm), h4.trans ((host_proj _ _ _).trans (Cert.Kernel9Ideal.Gen.arr m c).2.2.2.1.symm), h5.trans ((host_proj _ _ _).trans (Cert.Kernel9Ideal.Gen.arr m c).2.2.2.2.symm), hk⟩

/-- The reference runs to the end, leaves its arguments as they were and every counter at zero: it has no counters. -/
theorem Cert.Proj.fwd1_reference_frame : @Cert.quiescent_Reference9Ideal Cert.Reference9Ideal.Gen.facts := fun m ρ _ =>
  (θ_run _ _ _).mono (fun _ h => ⟨fun c => (h c).2.2.2.2.2, sem_eq_zero_of_no_sems rfl _⟩) (Cert.Reference9Ideal.Value.run m ρ)

end
-- ==== Proof.Proj.Fwd2.lean ====
module

public import proofs.«01_k».proof.Proof.Gen.Kernel10Ideal.Value
public import proofs.«01_k».proof.Proof.Gen.Reference10Ideal.Run
public import proofs.«01_k».proof.Proof.Proj.Dots
public import proofs.«01_k».proof.Defs
public import Idealize.ShloMosaic.Lib.Pipeline.ValueKit
public import Idealize.ShloMosaic.Lib.Quiescent

/-!
# The input projection of the third group of pieces

The merge's gates: the tokens times one weight matrix.
-/

@[expose] public section

set_option maxRecDepth 16384

noncomputable section

namespace Cert.Kernel10Ideal.Gen

open Idealize.ShloMosaic Idealize.ShloMosaic.TcCoe Idealize.SL.Sem Cert.Proj Cert.Kernel10Ideal
open Idealize.ShloMosaic.Pipeline (Dat)

/-- The block of a piece of 3072 channels, at an index. -/
theorem pay1_at (x : Vec Ideal S256x1024 .f32) (w : Vec Ideal S1024x3072 .bf16) (s : Fin 256) (j : Fin 3072) :
    k0_pay1 (F := Ideal) x w (ix2 s j) = ∑ k : Fin 1024, x (ix2 s k) * w (ix2 k j) := by
  pointwise [k0_pay1]

/-- The window index maps, at every grid point. -/
theorem idx_val : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The weight of the merge's gates. -/
abbrev w1Of (c : Dev nD) : FVec Ideal S1024x3072 .bf16 := m ((c.tc : Thread nD τ).loc main_arg1)

/-- A grid point's number is below the number of blocks. -/
theorem pt (t : Fin cfg0.N) : t.val < 8 := by have := t.isLt; have : cfg0.N = 8 := N_0; omega

/-- What window 0 holds. -/
theorem rd0 (c : Dev nD) (t : Fin cfg0.N) (s : Fin 256) (k : Fin 1024) : iblk m c 0 t (ix2 s k) = hOf m c (ix2 (tok t.val (pt t) s) k) := by
  unfold iblk
  blk_ext [idx_val t]
/-- What window 1 holds. -/
theorem rd1 (c : Dev nD) (t : Fin cfg0.N) (k : Fin 1024) (j : Fin 3072) : iblk m c 1 t (ix2 k j) = w1Of m c (ix2 k j) := by
  unfold iblk
  blk_ext [idx_val t]

/-- The merge's gates, as the kernel leaves it. -/
theorem arr2 (c : Dev nD) : (dats m 0 c).arrAt 2 (cfgs 0).N = proj (hOf m c) (w1Of m c) := by
  refine (dats m 0 c).arrAt_eq_of_covers 2 _ (by decide +kernel) fun t hf y => ?_
  have key := fun s j => (pay1_at (iblk m c 0 t) (iblk m c 1 t) s j).trans (proj_blk (hOf m c) (w1Of m c) _ _ t.val (pt t) (rd0 m c t) (rd1 m c t) s j)
  have h0 : ((win0_2.blk t).view.emb y 0).val = 256 * t.val + (y 0).val := by blk_simp [idx_val t]; omega
  have h1 : ((win0_2.blk t).view.emb y 1).val = (y 1).val := by blk_simp [idx_val t]
  have done := blk_rows _ _ t.val (pt t) key y _ h0 h1
  rw [after0_2]
  unfold out0_2
  rw [View.canon_unit_zero hz2]
  simp only [View.ld_unit_zero (S := S256x1024) hz2, View.ld_unit_zero (S := S1024x3072) hz2]
  blk_simp [idx_val t]
  exact done

end Cert.Kernel10Ideal.Gen

open Idealize.ShloMosaic Idealize.ShloMosaic.TcCoe Idealize.SL.Sem Idealize.ShloMosaic.StableHlo Cert.Proj

/-- From equal arguments the kernel's call and the reference leave the same projections. -/
theorem Cert.Proj.fwd2_algebraic : @Cert.algebraic_Kernel10Ideal_Reference10Ideal Cert.Kernel10Ideal.Gen.facts Cert.Reference10Ideal.Gen.facts := by
  intro m ρ m' ρ' _ hag
  refine ⟨fun c => (Cert.Kernel10Ideal.Gen.dats m 0 c).arrAt 2 Cert.Kernel10Ideal.cfg0.N, Cert.Kernel10Ideal.Value.run_blocks m ρ, ?_⟩
  refine (θ_run _ _ _).mono (fun r h c => ?_) (Cert.Reference10Ideal.Value.run m' ρ')
  obtain ⟨h1, hk⟩ := h c
  obtain ⟨e0, e1⟩ := hag c
  rw [e0, e1] at h1
  exact ⟨h1.trans ((host_proj _ _ _).trans (Cert.Kernel10Ideal.Gen.arr2 m c).symm), hk⟩

/-- The reference runs to the end, leaves its arguments as they were and every counter at zero: it has no counters. -/
theorem Cert.Proj.fwd2_reference_frame : @Cert.quiescent_Reference10Ideal Cert.Reference10Ideal.Gen.facts := fun m ρ _ =>
  (θ_run _ _ _).mono (fun _ h => ⟨fun c => (h c).2, sem_eq_zero_of_no_sems rfl _⟩) (Cert.Reference10Ideal.Value.run m ρ)

end
-- ==== Proof.Proj.Dh0.lean ====
module

public import proofs.«01_k».proof.Proof.Gen.Kernel11Ideal.Value
public import proofs.«01_k».proof.Proof.Gen.Reference11Ideal.Run
public import proofs.«01_k».proof.Proof.Proj.Dots
public import proofs.«01_k».proof.Defs
public import Idealize.ShloMosaic.Lib.Pipeline.ValueKit
public import Idealize.ShloMosaic.Lib.Quiescent

/-!
# The tokens' gradient of the first group of pieces

The sum over the three pieces of the piece's cotangent times its weight's rows. The two programs add the pieces in different orders.
-/

@[expose] public section

set_option maxRecDepth 16384

noncomputable section

namespace Cert.Kernel11Ideal.Gen

open Idealize.ShloMosaic Idealize.ShloMosaic.TcCoe Idealize.SL.Sem Cert.Proj Cert.Kernel11Ideal
open Idealize.ShloMosaic.Pipeline (Dat)

/-- A block of the gradient, at an index. -/
theorem pay1_at (x0 : Vec Ideal S256x1024 .f32) (w0 : Vec Ideal S1024x1024 .bf16) (x1 : Vec Ideal S256x1024 .f32) (w1 : Vec Ideal S1024x1024 .bf16) (x2 : Vec Ideal S256x2304 .f32) (w2 : Vec Ideal S1024x2304 .bf16) (s : Fin 256) (k : Fin 1024) :
    k0_pay1 (F := Ideal) x0 w0 x1 w1 x2 w2 (ix2 s k) = (∑ j : Fin 1024, x0 (ix2 s j) * w0 (ix2 k j)) + (∑ j : Fin 1024, x1 (ix2 s j) * w1 (ix2 k j)) + (∑ j : Fin 2304, x2 (ix2 s j) * w2 (ix2 k j)) := by
  pointwise [k0_pay1]

/-- The window index maps, at every grid point. -/
theorem idx_val : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![0, 0] ∧ win0_6.index t = ![t.val, 0] :=
  (by decide +kernel : ∀ t : Fin grid0.N, _)

variable (m : (ℓ : Loc nD τ sig) → Buf (Elt Ideal) ℓ)

/-- The cotangent of the recurrent unit's input. -/
abbrev d0Of (c : Dev nD) : FVec Ideal S2048x1024 .f32 := m ((c.tc : Thread nD τ).loc main_arg0)
/-- The weight of the recurrent unit's input. -/
abbrev w0Of (c : Dev nD) : FVec Ideal S1024x1024 .bf16 := m ((c.tc : Thread nD τ).loc main_arg3)
/-- The cotangent of the recurrent unit's gate. -/
abbrev d1Of (c : Dev nD) : FVec Ideal S2048x1024 .f32 := m ((c.tc : Thread nD τ).loc main_arg1)
/-- The weight of the recurrent unit's gate. -/
abbrev w1Of (c : Dev nD) : FVec Ideal S1024x1024 .bf16 := m ((c.tc : Thread nD τ).loc main_arg4)
/-- The cotangent of the attention's input. -/
abbrev d2Of (c : Dev nD) : FVec Ideal S2048x2304 .f32 := m ((c.tc : Thread nD τ).loc main_arg2)
/-- The weight of the attention's input. -/
abbrev w2Of (c : Dev nD) : FVec Ideal S1024x2304 .bf16 := m ((c.tc : Thread nD τ).loc main_arg5)

/-- The gradient. -/
def grad (c : Dev nD) : FVec Ideal S2048x1024 .f32 := fun i =>
  projH (d0Of m c) (w0Of m c) (i 0 : Fin 2048) (i 1 : Fin 1024) + projH (d1Of m c) (w1Of m c) (i 0 : Fin 2048) (i 1 : Fin 1024) + projH (d2Of m c) (w2Of m c) (i 0 : Fin 2048) (i 1 : Fin 1024)

/-- A grid point's number is below the number of blocks. -/
theorem pt (t : Fin cfg0.N) : t.val < 8 := by have := t.isLt; have : cfg0.N = 8 := N_0; omega

/-- What the windows of the inputs hold. -/
theorem rd (c : Dev nD) (t : Fin cfg0.N) :
    (∀ (s : Fin 256) (j : Fin 1024), iblk m c 0 t (ix2 s j) = d0Of m c (ix2 (tok t.val (pt t) s) j))
    ∧ (∀ (k : Fin 1024) (j : Fin 1024), iblk m c 3 t (ix2 k j) = w0Of m c (ix2 k j))
    ∧ (∀ (s : Fin 256) (j : Fin 1024), iblk m c 1 t (ix2 s j) = d1Of m c (ix2 (tok t.val (pt t) s) j))
    ∧ (∀ (k : Fin 1024) (j : Fin 1024), iblk m c 4 t (ix2 k j) = w1Of m c (ix2 k j))
    ∧ (∀ (s : Fin 256) (j : Fin 2304), iblk m c 2 t (ix2 s j) = d2Of m c (ix2 (tok t.val (pt t) s) j))
    ∧ (∀ (k : Fin 1024) (j : Fin 2304), iblk m c 5 t (ix2 k j) = w2Of m c (ix2 k j)) := by
  refine ⟨?_, ?_, ?_, ?_, ?_, ?_⟩ <;>
  · intro s j
    unfold iblk
    blk_ext [idx_val t]

/-- A block of the kernel's result, at an index. -/
theorem blk_at (c : Dev nD) (t : Fin cfg0.N) (s : Fin 256) (k : Fin 1024) :
    k0_pay1 (F := Ideal) (iblk m c 0 t) (iblk m c 3 t) (iblk m c 1 t) (iblk m c 4 t) (iblk m c 2 t) (iblk m c 5 t) (ix2 s k) = grad m c (ix2 (tok t.val (pt t) s) k) := by
  refine (pay1_at _ _ _ _ _ _ s k).trans ?_
  exact (congrArg₂ (fun a b : EReal => a + b) (congrArg₂ (fun a b : EReal => a + b) (projH_blk (d0Of m c) (w0Of m c) _ _ t.val (pt t) (rd m c t).1 (rd m c t).2.1 s k)
    (projH_blk (d1Of m c) (w1Of m c) _ _ t.val (pt t) (rd m c t).2.2.1 (rd m c t).2.2.2.1 s k))
    (projH_blk (d2Of m c) (w2Of m c) _ _ t.val (pt t) (rd m c t).2.2.2.2.1 (rd m c t).2.2.2.2.2 s k))

/-- The kernel's result. -/
theorem arr (c : Dev nD) : (dats m 0 c).arrAt 6 (cfgs 0).N = grad m c := by
  refine (dats m 0 c).arrAt_eq_of_covers 6 _ (by decide +kernel) fun t hf y => ?_
  have h0 : ((win0_6.blk t).view.emb y 0).val = 256 * t.val + (y 0).val := by blk_simp [idx_val t]; omega
  have h1 : ((win0_6.blk t).view.emb y 1).val = (y 1).val := by blk_simp [idx_val t]
  have done := blk_rows _ _ t.val (pt t) (blk_at m c t) y _ h0 h1
  rw [after0_6]
  unfold out0_6
  rw [View.canon_unit_zero hz2]
  simp only [View.ld_unit_zero (S := S256x1024) hz2, View.ld_unit_zero (S := S1024x1024) hz2, View.ld_unit_zero (S := S256x2304) hz2, View.ld_unit_zero (S := S1024x2304) hz2]
  blk_simp [idx_val t]
  exact done

end Cert.Kernel11Ideal.Gen

open Idealize.ShloMosaic Idealize.ShloMosaic.TcCoe Idealize.SL.Sem Idealize.ShloMosaic.StableHlo Cert.Proj

/-- From equal arguments the kernel's call and the reference leave the same gradient. -/
theorem Cert.Proj.dh0_algebraic : @Cert.algebraic_Kernel11Ideal_Reference11Ideal Cert.Kernel11Ideal.Gen.facts Cert.Reference11Ideal.Gen.facts := by
  intro m ρ m' ρ' _ hag
  refine ⟨fun c => (Cert.Kernel11Ideal.Gen.dats m 0 c).arrAt 6 Cert.Kernel11Ideal.cfg0.N, Cert.Kernel11Ideal.Value.run_blocks m ρ, ?_⟩
  refine (θ_run _ _ _).mono (fun r h c => ?_) (Cert.Reference11Ideal.Value.run m' ρ')
  obtain ⟨hr, hu⟩ := h c
  obtain ⟨e0, e1, e2, e3, e4, e5⟩ := hag c
  rw [e0, e1, e2, e3, e4, e5] at hr
  refine ⟨hr.trans (Eq.trans ?_ (Cert.Kernel11Ideal.Gen.arr m c).symm), hu⟩
  funext i
  rw [eq_ix2 i]
  refine Eq.trans (congrArg₂ (fun a b : EReal => a + b) (congrArg₂ (fun a b : EReal => a + b) (host_projH _ _ _ _ _) (host_projH _ _ _ _ _)) (host_projH _ _ _ _ _)) ?_
  show (_ : EReal) = projH (Cert.Kernel11Ideal.Gen.d0Of m c) (Cert.Kernel11Ideal.Gen.w0Of m c) (i 0 : Fin 2048) (i 1 : Fin 1024) + projH (Cert.Kernel11Ideal.Gen.d1Of m c) (Cert.Kernel11Ideal.Gen.w1Of m c) (i 0 : Fin 2048) (i 1 : Fin 1024) + projH (Cert.Kernel11Ideal.Gen.d2Of m c) (Cert.Kernel11Ideal.Gen.w2Of m c) (i 0 : Fin 2048) (i 1 : Fin 1024)
  abel

/-- The reference runs to the end, leaves its arguments as they were and every counter at zero: it has no counters. -/
theorem Cert.Proj.dh0_reference_frame : @Cert.quiescent_Reference11Ideal Cert.Reference11Ideal.Gen.facts := fun m ρ _ =>
  (θ_run _ _ _).mono (fun _ h => ⟨fun c => (h c).2, sem_eq_zero_of_no_sems rfl _⟩) (Cert.Reference11Ideal.Value.run m ρ)

end
-- ==== Proof.Proj.Dh1.lean ====
module

public import proofs.«01_k».proof.Proof.Gen.Kernel12Ideal.Value
public import proofs.«01_k».proof.Proof.Gen.Reference12Ideal.Run
public import proofs.«01_k».proof.Proof.Proj.Dots
public import proofs.«01_k».proof.Defs
public import Idealize.ShloMosaic.Lib.Pipeline.ValueKit
public import Idealize.ShloMosaic.Lib.Quiescent

/-!
# The tokens' gradient of the second group of pieces

What the gradient was plus the sum over the five pieces of the piece's cotangent times its weight's rows. The two programs add
the pieces in different orders.
-/

@[expose] public section

set_option maxRecDepth 16384

noncomputable section

namespace Cert.Kernel12Ideal.Gen

open Idealize.ShloMosaic Idealize.ShloMosaic.TcCoe Idealize.SL.Sem Cert.Proj Cert.Kernel12Ideal
open Idealize.ShloMosaic.Pipeline (Dat)

/-- A block of the gradient, at an index. -/
theorem pay1_at (x0 : Vec Ideal S256x1024 .f32) (w0 : Vec Ideal S1024x1024 .bf16) (x1 : Vec Ideal S256x1024 .f32) (w1 : Vec Ideal S1024x1024 .bf16) (x2 : Vec Ideal S256x1024 .f32) (w2 : Vec Ideal S1024x1024 .bf16) (x3 : Vec Ideal S256x1024 .f32) (w3 : Vec Ideal S1024x1024 .bf16) (x4 : Vec Ideal S256x128 .f32) (w4 : Vec Ideal S1024x128 .bf16) (a : Vec Ideal S256x1024 .f32) (s : Fin 256) (k : Fin 1024) :
    k0_pay1 (F := Ideal) x0 w0 x1 w1 x2 w2 x3 w3 x4 w4 a (ix2 s k) = (∑ j : Fin 1024, x0 (ix2 s j) * w0 (ix2 k j)) + (∑ j : Fin 1024, x1 (ix2 s j) * w1 (ix2 k j)) + (∑ j : Fin 1024, x2 (ix2 s j) * w2 (ix2 k j)) + (∑ j : Fin 1024, x3 (ix2 s j) * w3 (ix2 k j)) + (∑ j : Fin 128, x4 (ix2 s j) * w4 (ix2 k j)) + a (ix2 s k) := by
  pointwise [k0_pay1]

/-- The window index maps, at every grid point. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] :=
  (by decide +kernel : ∀ t : Fin grid0.N, _)

variable (m : (ℓ : Loc nD τ sig) → Buf (Elt Ideal) ℓ)

/-- The cotangent of the delta rule's queries. -/
abbrev d0Of (c : Dev nD) : FVec Ideal S2048x1024 .f32 := m ((c.tc : Thread nD τ).loc main_arg0)
/-- The weight of the delta rule's queries. -/
abbrev w0Of (c : Dev nD) : FVec Ideal S1024x1024 .bf16 := m ((c.tc : Thread nD τ).loc main_arg5)
/-- The cotangent of the delta rule's keys. -/
abbrev d1Of (c : Dev nD) : FVec Ideal S2048x1024 .f32 := m ((c.tc : Thread nD τ).loc main_arg1)
/-- The weight of the delta rule's keys. -/
abbrev w1Of (c : Dev nD) : FVec Ideal S1024x1024 .bf16 := m ((c.tc : Thread nD τ).loc main_arg6)
/-- The cotangent of the delta rule's values. -/
abbrev d2Of (c : Dev nD) : FVec Ideal S2048x1024 .f32 := m ((c.tc : Thread nD τ).loc main_arg2)
/-- The weight of the delta rule's values. -/
abbrev w2Of (c : Dev nD) : FVec Ideal S1024x1024 .bf16 := m ((c.tc : Thread nD τ).loc main_arg7)
/-- The cotangent of the delta rule's output gate. -/
abbrev d3Of (c : Dev nD) : FVec Ideal S2048x1024 .f32 := m ((c.tc : Thread nD τ).loc main_arg3)
/-- The weight of the delta rule's output gate. -/
abbrev w3Of (c : Dev nD) : FVec Ideal S1024x1024 .bf16 := m ((c.tc : Thread nD τ).loc main_arg8)
/-- The cotangent of the delta rule's step sizes and decays. -/
abbrev d4Of (c : Dev nD) : FVec Ideal S2048x128 .f32 := m ((c.tc : Thread nD τ).loc main_arg4)
/-- The weight of the delta rule's step sizes and decays. -/
abbrev w4Of (c : Dev nD) : FVec Ideal S1024x128 .bf16 := m ((c.tc : Thread nD τ).loc main_arg9)
/-- The gradient that the group adds to. -/
abbrev accOf (c : Dev nD) : FVec Ideal S2048x1024 .f32 := m ((c.tc : Thread nD τ).loc main_arg10)

/-- The gradient. -/
def grad (c : Dev nD) : FVec Ideal S2048x1024 .f32 := fun i =>
  projH (d0Of m c) (w0Of m c) (i 0 : Fin 2048) (i 1 : Fin 1024) + projH (d1Of m c) (w1Of m c) (i 0 : Fin 2048) (i 1 : Fin 1024) + projH (d2Of m c) (w2Of m c) (i 0 : Fin 2048) (i 1 : Fin 1024) + projH (d3Of m c) (w3Of m c) (i 0 : Fin 2048) (i 1 : Fin 1024) + projH (d4Of m c) (w4Of m c) (i 0 : Fin 2048) (i 1 : Fin 1024) + accOf m c i

/-- A grid point's number is below the number of blocks. -/
theorem pt (t : Fin cfg0.N) : t.val < 8 := by have := t.isLt; have : cfg0.N = 8 := N_0; omega

/-- What the windows of the inputs hold. -/
theorem rd (c : Dev nD) (t : Fin cfg0.N) :
    (∀ (s : Fin 256) (j : Fin 1024), iblk m c 0 t (ix2 s j) = d0Of m c (ix2 (tok t.val (pt t) s) j))
    ∧ (∀ (k : Fin 1024) (j : Fin 1024), iblk m c 5 t (ix2 k j) = w0Of m c (ix2 k j))
    ∧ (∀ (s : Fin 256) (j : Fin 1024), iblk m c 1 t (ix2 s j) = d1Of m c (ix2 (tok t.val (pt t) s) j))
    ∧ (∀ (k : Fin 1024) (j : Fin 1024), iblk m c 6 t (ix2 k j) = w1Of m c (ix2 k j))
    ∧ (∀ (s : Fin 256) (j : Fin 1024), iblk m c 2 t (ix2 s j) = d2Of m c (ix2 (tok t.val (pt t) s) j))
    ∧ (∀ (k : Fin 1024) (j : Fin 1024), iblk m c 7 t (ix2 k j) = w2Of m c (ix2 k j))
    ∧ (∀ (s : Fin 256) (j : Fin 1024), iblk m c 3 t (ix2 s j) = d3Of m c (ix2 (tok t.val (pt t) s) j))
    ∧ (∀ (k : Fin 1024) (j : Fin 1024), iblk m c 8 t (ix2 k j) = w3Of m c (ix2 k j))
    ∧ (∀ (s : Fin 256) (j : Fin 128), iblk m c 4 t (ix2 s j) = d4Of m c (ix2 (tok t.val (pt t) s) j))
    ∧ (∀ (k : Fin 1024) (j : Fin 128), iblk m c 9 t (ix2 k j) = w4Of m c (ix2 k j))
    ∧ (∀ (s : Fin 256) (k : Fin 1024), iblk m c 10 t (ix2 s k) = accOf m c (ix2 (tok t.val (pt t) s) k)) := by
  refine ⟨?_, ?_, ?_, ?_, ?_, ?_, ?_, ?_, ?_, ?_, ?_⟩ <;>
  · intro s j
    unfold iblk
    blk_ext [idx_val t]

/-- A block of the kernel's result, at an index. -/
theorem blk_at (c : Dev nD) (t : Fin cfg0.N) (s : Fin 256) (k : Fin 1024) :
    k0_pay1 (F := Ideal) (iblk m c 0 t) (iblk m c 5 t) (iblk m c 1 t) (iblk m c 6 t) (iblk m c 2 t) (iblk m c 7 t) (iblk m c 3 t) (iblk m c 8 t) (iblk m c 4 t) (iblk m c 9 t) (iblk m c 10 t) (ix2 s k) = grad m c (ix2 (tok t.val (pt t) s) k) := by
  refine (pay1_at _ _ _ _ _ _ _ _ _ _ _ s k).trans ?_
  exact (congrArg₂ (fun a b : EReal => a + b) (congrArg₂ (fun a b : EReal => a + b) (congrArg₂ (fun a b : EReal => a + b) (congrArg₂ (fun a b : EReal => a + b) (congrArg₂ (fun a b : EReal => a + b) (projH_blk (d0Of m c) (w0Of m c) _ _ t.val (pt t) (rd m c t).1 (rd m c t).2.1 s k)
    (projH_blk (d1Of m c) (w1Of m c) _ _ t.val (pt t) (rd m c t).2.2.1 (rd m c t).2.2.2.1 s k))
    (projH_blk (d2Of m c) (w2Of m c) _ _ t.val (pt t) (rd m c t).2.2.2.2.1 (rd m c t).2.2.2.2.2.1 s k))
    (projH_blk (d3Of m c) (w3Of m c) _ _ t.val (pt t) (rd m c t).2.2.2.2.2.2.1 (rd m c t).2.2.2.2.2.2.2.1 s k))
    (projH_blk (d4Of m c) (w4Of m c) _ _ t.val (pt t) (rd m c t).2.2.2.2.2.2.2.2.1 (rd m c t).2.2.2.2.2.2.2.2.2.1 s k))
    ((rd m c t).2.2.2.2.2.2.2.2.2.2 s k))

/-- The kernel's result. -/
theorem arr (c : Dev nD) : (dats m 0 c).arrAt 11 (cfgs 0).N = grad m c := by
  refine (dats m 0 c).arrAt_eq_of_covers 11 _ (by decide +kernel) fun t hf y => ?_
  have h0 : ((win0_11.blk t).view.emb y 0).val = 256 * t.val + (y 0).val := by blk_simp [idx_val t]; omega
  have h1 : ((win0_11.blk t).view.emb y 1).val = (y 1).val := by blk_simp [idx_val t]
  have done := blk_rows _ _ t.val (pt t) (blk_at m c t) y _ h0 h1
  rw [after0_11]
  unfold out0_11
  rw [View.canon_unit_zero hz2]
  simp only [View.ld_unit_zero (S := S256x1024) hz2, View.ld_unit_zero (S := S1024x1024) hz2, View.ld_unit_zero (S := S256x128) hz2, View.ld_unit_zero (S := S1024x128) hz2]
  blk_simp [idx_val t]
  exact done

end Cert.Kernel12Ideal.Gen

open Idealize.ShloMosaic Idealize.ShloMosaic.TcCoe Idealize.SL.Sem Idealize.ShloMosaic.StableHlo Cert.Proj

/-- From equal arguments the kernel's call and the reference leave the same gradient. -/
theorem Cert.Proj.dh1_algebraic : @Cert.algebraic_Kernel12Ideal_Reference12Ideal Cert.Kernel12Ideal.Gen.facts Cert.Reference12Ideal.Gen.facts := by
  intro m ρ m' ρ' _ hag
  refine ⟨fun c => (Cert.Kernel12Ideal.Gen.dats m 0 c).arrAt 11 Cert.Kernel12Ideal.cfg0.N, Cert.Kernel12Ideal.Value.run_blocks m ρ, ?_⟩
  refine (θ_run _ _ _).mono (fun r h c => ?_) (Cert.Reference12Ideal.Value.run m' ρ')
  obtain ⟨hr, hu⟩ := h c
  obtain ⟨e0, e1, e2, e3, e4, e5, e6, e7, e8, e9, e10⟩ := hag c
  rw [e0, e1, e2, e3, e4, e5, e6, e7, e8, e9, e10] at hr
  refine ⟨hr.trans (Eq.trans ?_ (Cert.Kernel12Ideal.Gen.arr m c).symm), hu⟩
  funext i
  rw [eq_ix2 i]
  refine Eq.trans (congrArg (fun b : EReal => Cert.Kernel12Ideal.Gen.accOf m c (ix2 (i 0 : Fin 2048) (i 1 : Fin 1024)) + b) (congrArg₂ (fun a b : EReal => a + b) (congrArg₂ (fun a b : EReal => a + b) (congrArg₂ (fun a b : EReal => a + b) (congrArg₂ (fun a b : EReal => a + b) (host_projH _ _ _ _ _) (host_projH _ _ _ _ _)) (host_projH _ _ _ _ _)) (host_projH _ _ _ _ _)) (host_projH _ _ _ _ _))) ?_
  show (_ : EReal) = projH (Cert.Kernel12Ideal.Gen.d0Of m c) (Cert.Kernel12Ideal.Gen.w0Of m c) (i 0 : Fin 2048) (i 1 : Fin 1024) + projH (Cert.Kernel12Ideal.Gen.d1Of m c) (Cert.Kernel12Ideal.Gen.w1Of m c) (i 0 : Fin 2048) (i 1 : Fin 1024) + projH (Cert.Kernel12Ideal.Gen.d2Of m c) (Cert.Kernel12Ideal.Gen.w2Of m c) (i 0 : Fin 2048) (i 1 : Fin 1024) + projH (Cert.Kernel12Ideal.Gen.d3Of m c) (Cert.Kernel12Ideal.Gen.w3Of m c) (i 0 : Fin 2048) (i 1 : Fin 1024) + projH (Cert.Kernel12Ideal.Gen.d4Of m c) (Cert.Kernel12Ideal.Gen.w4Of m c) (i 0 : Fin 2048) (i 1 : Fin 1024) + Cert.Kernel12Ideal.Gen.accOf m c (ix2 (i 0 : Fin 2048) (i 1 : Fin 1024))
  abel

/-- The reference runs to the end, leaves its arguments as they were and every counter at zero: it has no counters. -/
theorem Cert.Proj.dh1_reference_frame : @Cert.quiescent_Reference12Ideal Cert.Reference12Ideal.Gen.facts := fun m ρ _ =>
  (θ_run _ _ _).mono (fun _ h => ⟨fun c => (h c).2, sem_eq_zero_of_no_sems rfl _⟩) (Cert.Reference12Ideal.Value.run m ρ)

end
-- ==== Proof.Proj.Dh2.lean ====
module

public import proofs.«01_k».proof.Proof.Gen.Kernel13Ideal.Value
public import proofs.«01_k».proof.Proof.Gen.Reference13Ideal.Run
public import proofs.«01_k».proof.Proof.Proj.Dots
public import proofs.«01_k».proof.Defs
public import Idealize.ShloMosaic.Lib.Pipeline.ValueKit
public import Idealize.ShloMosaic.Lib.Quiescent

/-!
# The tokens' gradient of the third group of pieces

What the gradient was plus the merge's cotangent times its weight's rows.
-/

@[expose] public section

set_option maxRecDepth 16384

noncomputable section

namespace Cert.Kernel13Ideal.Gen

open Idealize.ShloMosaic Idealize.ShloMosaic.TcCoe Idealize.SL.Sem Cert.Proj Cert.Kernel13Ideal
open Idealize.ShloMosaic.Pipeline (Dat)

/-- A block of the gradient, at an index. -/
theorem pay1_at (x0 : Vec Ideal S256x3072 .f32) (w0 : Vec Ideal S1024x3072 .bf16) (a : Vec Ideal S256x1024 .f32) (s : Fin 256) (k : Fin 1024) :
    k0_pay1 (F := Ideal) x0 w0 a (ix2 s k) = (∑ j : Fin 3072, x0 (ix2 s j) * w0 (ix2 k j)) + a (ix2 s k) := by
  pointwise [k0_pay1]

/-- The window index maps, at every grid point. -/
theorem idx_val : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (m : (ℓ : Loc nD τ sig) → Buf (Elt Ideal) ℓ)

/-- The cotangent of the merge's gates. -/
abbrev d0Of (c : Dev nD) : FVec Ideal S2048x3072 .f32 := m ((c.tc : Thread nD τ).loc main_arg0)
/-- The weight of the merge's gates. -/
abbrev w0Of (c : Dev nD) : FVec Ideal S1024x3072 .bf16 := m ((c.tc : Thread nD τ).loc main_arg1)
/-- The gradient that the group adds to. -/
abbrev accOf (c : Dev nD) : FVec Ideal S2048x1024 .f32 := m ((c.tc : Thread nD τ).loc main_arg2)

/-- The gradient. -/
def grad (c : Dev nD) : FVec Ideal S2048x1024 .f32 := fun i =>
  projH (d0Of m c) (w0Of m c) (i 0 : Fin 2048) (i 1 : Fin 1024) + accOf m c i

/-- A grid point's number is below the number of blocks. -/
theorem pt (t : Fin cfg0.N) : t.val < 8 := by have := t.isLt; have : cfg0.N = 8 := N_0; omega

/-- What window 0 holds. -/
theorem rd0 (c : Dev nD) (t : Fin cfg0.N) (s : Fin 256) (j : Fin 3072) : iblk m c 0 t (ix2 s j) = d0Of m c (ix2 (tok t.val (pt t) s) j) := by
  unfold iblk
  blk_ext [idx_val t]
/-- What window 1 holds. -/
theorem rd1 (c : Dev nD) (t : Fin cfg0.N) (k : Fin 1024) (j : Fin 3072) : iblk m c 1 t (ix2 k j) = w0Of m c (ix2 k j) := by
  unfold iblk
  blk_ext [idx_val t]
/-- What window 2 holds. -/
theorem rd2 (c : Dev nD) (t : Fin cfg0.N) (s : Fin 256) (k : Fin 1024) : iblk m c 2 t (ix2 s k) = accOf m c (ix2 (tok t.val (pt t) s) k) := by
  unfold iblk
  blk_ext [idx_val t]

/-- A block of the kernel's result, at an index. -/
theorem blk_at (c : Dev nD) (t : Fin cfg0.N) (s : Fin 256) (k : Fin 1024) :
    k0_pay1 (F := Ideal) (iblk m c 0 t) (iblk m c 1 t) (iblk m c 2 t) (ix2 s k) = grad m c (ix2 (tok t.val (pt t) s) k) := by
  refine (pay1_at _ _ _ s k).trans ?_
  exact (congrArg₂ (fun a b : EReal => a + b) (projH_blk (d0Of m c) (w0Of m c) _ _ t.val (pt t) (rd0 m c t) (rd1 m c t) s k)
    (rd2 m c t s k))

/-- The kernel's result. -/
theorem arr (c : Dev nD) : (dats m 0 c).arrAt 3 (cfgs 0).N = grad m c := by
  refine (dats m 0 c).arrAt_eq_of_covers 3 _ (by decide +kernel) fun t hf y => ?_
  have h0 : ((win0_3.blk t).view.emb y 0).val = 256 * t.val + (y 0).val := by blk_simp [idx_val t]; omega
  have h1 : ((win0_3.blk t).view.emb y 1).val = (y 1).val := by blk_simp [idx_val t]
  have done := blk_rows _ _ t.val (pt t) (blk_at m c t) y _ h0 h1
  rw [after0_3]
  unfold out0_3
  rw [View.canon_unit_zero hz2]
  simp only [View.ld_unit_zero (S := S256x3072) hz2, View.ld_unit_zero (S := S1024x3072) hz2, View.ld_unit_zero (S := S256x1024) hz2]
  blk_simp [idx_val t]
  exact done

end Cert.Kernel13Ideal.Gen

open Idealize.ShloMosaic Idealize.ShloMosaic.TcCoe Idealize.SL.Sem Idealize.ShloMosaic.StableHlo Cert.Proj

/-- From equal arguments the kernel's call and the reference leave the same gradient. -/
theorem Cert.Proj.dh2_algebraic : @Cert.algebraic_Kernel13Ideal_Reference13Ideal Cert.Kernel13Ideal.Gen.facts Cert.Reference13Ideal.Gen.facts := by
  intro m ρ m' ρ' _ hag
  refine ⟨fun c => (Cert.Kernel13Ideal.Gen.dats m 0 c).arrAt 3 Cert.Kernel13Ideal.cfg0.N, Cert.Kernel13Ideal.Value.run_blocks m ρ, ?_⟩
  refine (θ_run _ _ _).mono (fun r h c => ?_) (Cert.Reference13Ideal.Value.run m' ρ')
  obtain ⟨hr, hu⟩ := h c
  obtain ⟨e0, e1, e2⟩ := hag c
  rw [e0, e1, e2] at hr
  refine ⟨hr.trans (Eq.trans ?_ (Cert.Kernel13Ideal.Gen.arr m c).symm), hu⟩
  funext i
  rw [eq_ix2 i]
  refine Eq.trans (congrArg (fun b : EReal => Cert.Kernel13Ideal.Gen.accOf m c (ix2 (i 0 : Fin 2048) (i 1 : Fin 1024)) + b) (host_projH _ _ _ _ _)) ?_
  show (_ : EReal) = projH (Cert.Kernel13Ideal.Gen.d0Of m c) (Cert.Kernel13Ideal.Gen.w0Of m c) (i 0 : Fin 2048) (i 1 : Fin 1024) + Cert.Kernel13Ideal.Gen.accOf m c (ix2 (i 0 : Fin 2048) (i 1 : Fin 1024))
  abel

/-- The reference runs to the end, leaves its arguments as they were and every counter at zero: it has no counters. -/
theorem Cert.Proj.dh2_reference_frame : @Cert.quiescent_Reference13Ideal Cert.Reference13Ideal.Gen.facts := fun m ρ _ =>
  (θ_run _ _ _).mono (fun _ h => ⟨fun c => (h c).2, sem_eq_zero_of_no_sems rfl _⟩) (Cert.Reference13Ideal.Value.run m ρ)

end
-- ==== Proof.Proj.Acc.lean ====
module

public import proofs.«01_k».proof.Proof.Proj.Dots
public import Idealize.ShloMosaic.Lib.Pipeline.ValueKit

/-!
# The gradient of a weight, summed over blocks of tokens

The gradient of a weight sums the products of the tokens with the cotangent over all tokens. Here is that sum, that a buffer filled by
columns with the sums over one block of tokens holds them all, and that a buffer that adds block after block ends with the sum over all
tokens.
-/

@[expose] public section

set_option maxRecDepth 16384

noncomputable section

namespace Cert.Proj

open Idealize.ShloMosaic
open scoped BigOperators

/-- The products of the columns of two arrays, summed over the rows. -/
def cols {M K N : ℕ} (x : FVec Ideal ⟨2, ![M, K]⟩ .f32) (y : FVec Ideal ⟨2, ![M, N]⟩ .f32) : FVec Ideal ⟨2, ![K, N]⟩ .f32 :=
  fun i => ∑ s : Fin M, x (ix2 s (i 0 : Fin K)) * y (ix2 s (i 1 : Fin N))

/-- What a buffer holds after one more block of tokens. -/
def more {M K N : ℕ} (a : FVec Ideal ⟨2, ![K, N]⟩ .f32) (x : FVec Ideal ⟨2, ![M, K]⟩ .f32) (y : FVec Ideal ⟨2, ![M, N]⟩ .f32) : FVec Ideal ⟨2, ![K, N]⟩ .f32 :=
  fun i => a i + cols x y i

/-- The host's product of columns with columns, transposed and rounded, is the sum over the rows. -/
theorem host_cols {M K N : ℕ} (x : FVec Ideal ⟨2, ![M, K]⟩ .f32) (y : FVec Ideal ⟨2, ![M, N]⟩ .f32)
    (ht : (⟨2, ![N, K]⟩ : Shape).Transposes [1, 0] ⟨2, ![K, N]⟩) (hb : FTy.bf16.bits < FTy.f32.bits) :
    (truncf .bf16 (transpose ⟨2, ![K, N]⟩ [1, 0] (Host.dotGeneral (Cert.Ffn.colsDims M N K) none y x : FVec Ideal ⟨2, ![N, K]⟩ .f32) ht) hb : FVec Ideal ⟨2, ![K, N]⟩ .bf16)
      = cols x y := by
  funext i
  rw [eq_ix2 i]
  have e : transpose ⟨2, ![K, N]⟩ [1, 0] (Host.dotGeneral (Cert.Ffn.colsDims M N K) none y x : FVec Ideal ⟨2, ![N, K]⟩ .f32) ht (ix2 (i 0 : Fin K) (i 1 : Fin N))
      = (Host.dotGeneral (Cert.Ffn.colsDims M N K) none y x : FVec Ideal ⟨2, ![N, K]⟩ .f32) (ix2 (i 1 : Fin N) (i 0 : Fin K)) := by
    refine congrArg (Host.dotGeneral (Cert.Ffn.colsDims M N K) none y x : FVec Ideal ⟨2, ![N, K]⟩ .f32) (funext fun a => Fin.ext ?_)
    match a with
    | ⟨0, _⟩ => rfl
    | ⟨1, _⟩ => rfl
  refine Eq.trans e ((Cert.Ffn.dot_cols none y x (i 1 : Fin N) (i 0 : Fin K)).trans ?_)
  exact Finset.sum_congr rfl fun s _ => mul_comm (G := EReal) _ _

/-- Columns of a block of products stored where they belong: the first block of tokens. -/
theorem piece_first {M K N W o : ℕ} (x : FVec Ideal ⟨2, ![M, K]⟩ .f32) (y : FVec Ideal ⟨2, ![M, N]⟩ .f32)
    (hy : ∀ a, ![0, o] a + ![M, W] a ≤ (⟨2, ![M, N]⟩ : Shape).size a) (hp : ∀ a, ![0, o] a + ![K, W] a ≤ (⟨2, ![K, N]⟩ : Shape).size a)
    (p : FVec Ideal ⟨2, ![K, W]⟩ .f32)
    (h : ∀ (k : Fin K) (j : Fin W), p (ix2 k j) = ∑ s : Fin M, x (ix2 s k) * (View.ld (Val := Elt Ideal) (e' := .f32) y (Rect.unit (s := ⟨2, ![M, N]⟩) ![0, o] ![M, W] hy) : FVec Ideal ⟨2, ![M, W]⟩ .f32) (ix2 s j))
    (i : (⟨2, ![K, W]⟩ : Shape).Idx) : p i = cols x y ((Rect.unit (s := ⟨2, ![K, N]⟩) ![0, o] ![K, W] hp).emb i) := by
  refine (congrArg p (eq_ix2 i)).trans ((h _ _).trans (Finset.sum_congr rfl fun s _ => congrArg₂ (fun a b : EReal => a * b)
    (congrArg x ?_) (congrArg y ?_))) <;> (funext a; apply Fin.ext)
  · match a with
    | ⟨0, _⟩ => rfl
    | ⟨1, _⟩ => simp [Rect.emb, Rect.unit]
  · match a with
    | ⟨0, _⟩ => simp [Rect.emb, Rect.unit]
    | ⟨1, _⟩ => simp [Rect.emb, Rect.unit]

/-- Columns of a block of products stored where they belong: a later block of tokens. -/
theorem piece_more {M K N W o : ℕ} (a : FVec Ideal ⟨2, ![K, N]⟩ .f32) (x : FVec Ideal ⟨2, ![M, K]⟩ .f32) (y : FVec Ideal ⟨2, ![M, N]⟩ .f32)
    (hy : ∀ a, ![0, o] a + ![M, W] a ≤ (⟨2, ![M, N]⟩ : Shape).size a) (hp : ∀ a, ![0, o] a + ![K, W] a ≤ (⟨2, ![K, N]⟩ : Shape).size a)
    (p : FVec Ideal ⟨2, ![K, W]⟩ .f32)
    (h : ∀ (k : Fin K) (j : Fin W), p (ix2 k j) = (View.ld (Val := Elt Ideal) (e' := .f32) a (Rect.unit (s := ⟨2, ![K, N]⟩) ![0, o] ![K, W] hp) : FVec Ideal ⟨2, ![K, W]⟩ .f32) (ix2 k j)
      + ∑ s : Fin M, x (ix2 s k) * (View.ld (Val := Elt Ideal) (e' := .f32) y (Rect.unit (s := ⟨2, ![M, N]⟩) ![0, o] ![M, W] hy) : FVec Ideal ⟨2, ![M, W]⟩ .f32) (ix2 s j))
    (i : (⟨2, ![K, W]⟩ : Shape).Idx) : p i = more a x y ((Rect.unit (s := ⟨2, ![K, N]⟩) ![0, o] ![K, W] hp).emb i) :=
  (congrArg p (eq_ix2 i)).trans ((h _ _).trans (congrArg₂ (fun a b : EReal => a + b)
    (congrArg (View.ld (Val := Elt Ideal) (e' := .f32) a (Rect.unit (s := ⟨2, ![K, N]⟩) ![0, o] ![K, W] hp) : FVec Ideal ⟨2, ![K, W]⟩ .f32) (eq_ix2 i)).symm
    (piece_first x y hy hp (fun i => ∑ s : Fin M, x (ix2 s (i 0 : Fin K)) * (View.ld (Val := Elt Ideal) (e' := .f32) y (Rect.unit (s := ⟨2, ![M, N]⟩) ![0, o] ![M, W] hy) : FVec Ideal ⟨2, ![M, W]⟩ .f32) (ix2 s (i 1 : Fin W)))
      (fun _ _ => rfl) i)))

/-- An index lies in the columns that its column lies in. -/
theorem col_mem {K N W o : ℕ} (hp : ∀ a, ![0, o] a + ![K, W] a ≤ (⟨2, ![K, N]⟩ : Shape).size a) (y : (⟨2, ![K, N]⟩ : Shape).Idx)
    (hl : o ≤ (y 1).val) (hr : (y 1).val < o + W) : y ∈ (Rect.unit (s := ⟨2, ![K, N]⟩) ![0, o] ![K, W] hp).set := by
  refine Rect.mem_set_unit.2 fun a => ?_
  match a with
  | ⟨0, _⟩ => exact ⟨Nat.zero_le _, (Nat.zero_add K).symm ▸ (y 0).isLt⟩
  | ⟨1, _⟩ => exact ⟨hl, hr⟩

/-- A buffer filled by three groups of columns that each hold their part of one array holds that array. -/
theorem three_cols {K N W₀ W₁ W₂ o₁ o₂ : ℕ} (G : FVec Ideal ⟨2, ![K, N]⟩ .f32) (h₁ : o₁ = W₀) (h₂ : o₂ = o₁ + W₁) (hN : N = o₂ + W₂)
    (r₀ : ∀ a, ![0, 0] a + ![K, W₀] a ≤ (⟨2, ![K, N]⟩ : Shape).size a) (r₁ : ∀ a, ![0, o₁] a + ![K, W₁] a ≤ (⟨2, ![K, N]⟩ : Shape).size a)
    (r₂ : ∀ a, ![0, o₂] a + ![K, W₂] a ≤ (⟨2, ![K, N]⟩ : Shape).size a)
    (p₀ : FVec Ideal ⟨2, ![K, W₀]⟩ .f32) (p₁ : FVec Ideal ⟨2, ![K, W₁]⟩ .f32) (p₂ : FVec Ideal ⟨2, ![K, W₂]⟩ .f32)
    (q₀ : ∀ i, p₀ i = G ((Rect.unit (s := ⟨2, ![K, N]⟩) ![0, 0] ![K, W₀] r₀).emb i)) (q₁ : ∀ i, p₁ i = G ((Rect.unit (s := ⟨2, ![K, N]⟩) ![0, o₁] ![K, W₁] r₁).emb i))
    (q₂ : ∀ i, p₂ i = G ((Rect.unit (s := ⟨2, ![K, N]⟩) ![0, o₂] ![K, W₂] r₂).emb i)) :
    (∀ y, ∃ q ∈ ([⟨Rect.unit (s := ⟨2, ![K, N]⟩) ![0, o₂] ![K, W₂] r₂, p₂⟩, ⟨Rect.unit (s := ⟨2, ![K, N]⟩) ![0, o₁] ![K, W₁] r₁, p₁⟩,
      ⟨Rect.unit (s := ⟨2, ![K, N]⟩) ![0, 0] ![K, W₀] r₀, p₀⟩] : List (View.Piece (Elt Ideal) ⟨2, ![K, N]⟩ .f32)), y ∈ q.1.set)
    ∧ View.canon ([⟨Rect.unit (s := ⟨2, ![K, N]⟩) ![0, o₂] ![K, W₂] r₂, p₂⟩, ⟨Rect.unit (s := ⟨2, ![K, N]⟩) ![0, o₁] ![K, W₁] r₁, p₁⟩,
      ⟨Rect.unit (s := ⟨2, ![K, N]⟩) ![0, 0] ![K, W₀] r₀, p₀⟩] : List (View.Piece (Elt Ideal) ⟨2, ![K, N]⟩ .f32)) = G := by
  have cover : ∀ y, ∃ q ∈ ([⟨Rect.unit (s := ⟨2, ![K, N]⟩) ![0, o₂] ![K, W₂] r₂, p₂⟩, ⟨Rect.unit (s := ⟨2, ![K, N]⟩) ![0, o₁] ![K, W₁] r₁, p₁⟩,
      ⟨Rect.unit (s := ⟨2, ![K, N]⟩) ![0, 0] ![K, W₀] r₀, p₀⟩] : List (View.Piece (Elt Ideal) ⟨2, ![K, N]⟩ .f32)), y ∈ q.1.set := fun y => by
    have hy : (y 1).val < N := (y 1).isLt
    by_cases c₁ : (y 1).val < o₁
    · exact ⟨_, .tail _ (.tail _ (.head _)), col_mem r₀ y (Nat.zero_le _) (by omega)⟩
    · by_cases c₂ : (y 1).val < o₂
      · exact ⟨_, .tail _ (.head _), col_mem r₁ y (by omega) (by omega)⟩
      · exact ⟨_, .head _, col_mem r₂ y (by omega) (by omega)⟩
  refine ⟨cover, funext fun y => View.canon_apply_of_pieces G _ ?_ y (cover y)⟩
  exact List.forall_mem_cons.2 ⟨q₂, List.forall_mem_cons.2 ⟨q₁, List.forall_mem_cons.2 ⟨q₀, fun p hp => absurd hp List.not_mem_nil⟩⟩⟩

/-- Such a buffer, read back whole. -/
theorem three_back {sig : RefSig} {κ : Kind} {sp : Space} {K N W₀ W₁ W₂ o₁ o₂ : ℕ} (v : View sig κ sp ⟨2, ![K, N]⟩ .f32) (G : FVec Ideal ⟨2, ![K, N]⟩ .f32)
    (h₁ : o₁ = W₀) (h₂ : o₂ = o₁ + W₁) (hN : N = o₂ + W₂)
    (r₀ : ∀ a, ![0, 0] a + ![K, W₀] a ≤ (⟨2, ![K, N]⟩ : Shape).size a) (r₁ : ∀ a, ![0, o₁] a + ![K, W₁] a ≤ (⟨2, ![K, N]⟩ : Shape).size a)
    (r₂ : ∀ a, ![0, o₂] a + ![K, W₂] a ≤ (⟨2, ![K, N]⟩ : Shape).size a) (r : ∀ a, ![0, 0] a + ![K, N] a ≤ (⟨2, ![K, N]⟩ : Shape).size a)
    (p₀ : FVec Ideal ⟨2, ![K, W₀]⟩ .f32) (p₁ : FVec Ideal ⟨2, ![K, W₁]⟩ .f32) (p₂ : FVec Ideal ⟨2, ![K, W₂]⟩ .f32)
    (q₀ : ∀ i, p₀ i = G ((Rect.unit (s := ⟨2, ![K, N]⟩) ![0, 0] ![K, W₀] r₀).emb i)) (q₁ : ∀ i, p₁ i = G ((Rect.unit (s := ⟨2, ![K, N]⟩) ![0, o₁] ![K, W₁] r₁).emb i))
    (q₂ : ∀ i, p₂ i = G ((Rect.unit (s := ⟨2, ![K, N]⟩) ![0, o₂] ![K, W₂] r₂).emb i)) :
    v.readCov ([⟨Rect.unit (s := ⟨2, ![K, N]⟩) ![0, o₂] ![K, W₂] r₂, p₂⟩, ⟨Rect.unit (s := ⟨2, ![K, N]⟩) ![0, o₁] ![K, W₁] r₁, p₁⟩,
      ⟨Rect.unit (s := ⟨2, ![K, N]⟩) ![0, 0] ![K, W₀] r₀, p₀⟩] : List (View.Piece (Elt Ideal) ⟨2, ![K, N]⟩ .f32)) (Rect.unit (s := ⟨2, ![K, N]⟩) ![0, 0] ![K, N] r).toLoadRect = G := by
  obtain ⟨cover, e⟩ := three_cols G h₁ h₂ hN r₀ r₁ r₂ p₀ p₁ p₂ q₀ q₁ q₂
  rw [View.readCov_eq_canon_ld v _ _ cover, e]
  exact View.ld_unit_zero (Val := Elt Ideal) (e := .f32) (S := ⟨2, ![K, N]⟩) hz2 r G

/-- A whole block of products: the first block of tokens. -/
theorem whole_first {M K N : ℕ} (x : FVec Ideal ⟨2, ![M, K]⟩ .f32) (y : FVec Ideal ⟨2, ![M, N]⟩ .f32) (p : FVec Ideal ⟨2, ![K, N]⟩ .f32)
    (h : ∀ (k : Fin K) (j : Fin N), p (ix2 k j) = ∑ s : Fin M, x (ix2 s k) * y (ix2 s j)) : p = cols x y :=
  funext fun i => (congrArg p (eq_ix2 i)).trans (h _ _)

/-- A whole block of products: a later block of tokens. -/
theorem whole_more {M K N : ℕ} (a : FVec Ideal ⟨2, ![K, N]⟩ .f32) (x : FVec Ideal ⟨2, ![M, K]⟩ .f32) (y : FVec Ideal ⟨2, ![M, N]⟩ .f32) (p : FVec Ideal ⟨2, ![K, N]⟩ .f32)
    (h : ∀ (k : Fin K) (j : Fin N), p (ix2 k j) = a (ix2 k j) + ∑ s : Fin M, x (ix2 s k) * y (ix2 s j)) : p = more a x y :=
  funext fun i => (congrArg p (eq_ix2 i)).trans ((h _ _).trans (congrArg (fun z : EReal => z + cols x y i) (congrArg a (eq_ix2 i)).symm))

/-- A buffer that starts with the first block of tokens and adds block after block ends with the sum over all tokens. -/
theorem total {P K N : ℕ} (hP : P = 8) (h : FVec Ideal ⟨2, ![2048, K]⟩ .f32) (d : FVec Ideal ⟨2, ![2048, N]⟩ .f32)
    (f : (n : ℕ) → n < P → FVec Ideal ⟨2, ![K, N]⟩ .f32) (x : Fin P → FVec Ideal ⟨2, ![256, K]⟩ .f32) (y : Fin P → FVec Ideal ⟨2, ![256, N]⟩ .f32)
    (hx : ∀ (t : Fin P) (s : Fin 256) (k : Fin K), x t (ix2 s k) = h (ix2 (tok t.val (hP ▸ t.isLt) s) k))
    (hy : ∀ (t : Fin P) (s : Fin 256) (j : Fin N), y t (ix2 s j) = d (ix2 (tok t.val (hP ▸ t.isLt) s) j))
    (h0 : ∀ t : Fin P, t.val % 8 = 0 → f t.val t.isLt = cols (x t) (y t))
    (h1 : ∀ t : Fin P, ¬t.val % 8 = 0 → f t.val t.isLt = more (f (t.val - 1) (Nat.lt_of_le_of_lt (Nat.sub_le _ _) t.isLt)) (x t) (y t))
    (t : Fin P) (ht : t.val % 8 = 7) : f t.val t.isLt = cols h d := by
  subst hP
  funext i
  have key := Pipeline.eq_sum_fin_of_reset_step_apply_last (M := EReal) (fun n hn => f n hn) 8 (fun _ => 0) (fun t i => cols (x t) (y t) i)
    (fun t h => fun i => (congrFun (h0 t h) i).trans (zero_add (M := EReal) _).symm) (fun t h i => congrFun (h1 t h) i) (le_refl 8) t (by omega) i
  refine key.trans ((zero_add (M := EReal) _).trans ?_)
  refine Fin.sum_mul_add_congr (M := EReal) (S := 8) (n := 256) fun t s hl => ?_
  have e : tok t.val t.isLt s = ⟨t.val * 256 + s.val, hl⟩ := Fin.ext (by show 256 * t.val + s.val = t.val * 256 + s.val; omega)
  rw [← e]
  exact congrArg₂ (fun a b : EReal => a * b) (hx t s _) (hy t s _)

/-- What is written back after the last block, one block more than the buffer held before it, is the sum over all tokens. -/
theorem total_back {P K N : ℕ} (hP : P = 8) (h : FVec Ideal ⟨2, ![2048, K]⟩ .f32) (d : FVec Ideal ⟨2, ![2048, N]⟩ .f32)
    (f : (n : ℕ) → n < P → FVec Ideal ⟨2, ![K, N]⟩ .f32) (x : Fin P → FVec Ideal ⟨2, ![256, K]⟩ .f32) (y : Fin P → FVec Ideal ⟨2, ![256, N]⟩ .f32)
    (hx : ∀ (t : Fin P) (s : Fin 256) (k : Fin K), x t (ix2 s k) = h (ix2 (tok t.val (hP ▸ t.isLt) s) k))
    (hy : ∀ (t : Fin P) (s : Fin 256) (j : Fin N), y t (ix2 s j) = d (ix2 (tok t.val (hP ▸ t.isLt) s) j))
    (h0 : ∀ t : Fin P, t.val % 8 = 0 → f t.val t.isLt = cols (x t) (y t))
    (h1 : ∀ t : Fin P, ¬t.val % 8 = 0 → f t.val t.isLt = more (f (t.val - 1) (Nat.lt_of_le_of_lt (Nat.sub_le _ _) t.isLt)) (x t) (y t))
    (t : Fin P) (ht : t.val % 8 = 7) (b : (⟨2, ![K, N]⟩ : Shape).Idx → EReal)
    (hb : b = more (f (t.val - 1) (Nat.lt_of_le_of_lt (Nat.sub_le _ _) t.isLt)) (x t) (y t)) : b = cols h d :=
  hb.trans ((h1 t (by omega)).symm.trans (total hP h d f x y hx hy h0 h1 t ht))

end Cert.Proj

end
-- ==== Proof.Proj.Dw0.lean ====
module

public import proofs.«01_k».proof.Proof.Gen.Kernel14Ideal.Value
public import proofs.«01_k».proof.Proof.Gen.Reference14Ideal.Run
public import proofs.«01_k».proof.Proof.Proj.Acc
public import proofs.«01_k».proof.Defs
public import Idealize.ShloMosaic.Lib.Pipeline.ValueKit
public import Idealize.ShloMosaic.Lib.Pipeline.ReadBack
public import Idealize.ShloMosaic.Lib.Quiescent

/-!
# The gradients of the first group's weights

The recurrence's, the gate's and the attention's pieces: the tokens' columns times the columns of each cotangent. The kernel sums over
blocks of 256 tokens in one buffer per piece, the attention's by three groups of columns, and writes the buffers back after the last block.
-/

@[expose] public section

set_option maxRecDepth 16384

noncomputable section

namespace Cert.Kernel14Ideal.Gen

open Idealize.ShloMosaic Idealize.ShloMosaic.TcCoe Idealize.SL.Sem Cert.Proj Cert.Kernel14Ideal
open Idealize.ShloMosaic.Pipeline (Dat)

/-- A product of the columns of 1024 channels with a block's columns, at an index: the first block of tokens. -/
theorem wide_first (x y : Vec Ideal S256x1024 .f32) (k j : Fin 1024) :
    k0_pay12 (F := Ideal) x y (ix2 k j) = ∑ s : Fin 256, x (ix2 s k) * y (ix2 s j) := by
  pointwise [k0_pay12, k0_pay11, k0_pay10]

/-- The same after a later block of tokens. -/
theorem wide_more (x y : Vec Ideal S256x1024 .f32) (a : Vec Ideal S1024x1024 .f32) (k j : Fin 1024) :
    k0_pay13 (F := Ideal) x y a (ix2 k j) = a (ix2 k j) + ∑ s : Fin 256, x (ix2 s k) * y (ix2 s j) := by
  pointwise [k0_pay13, k0_pay11, k0_pay10]

/-- The product with the last, narrow columns, at an index: the first block of tokens. -/
theorem narrow_first (x : Vec Ideal S256x1024 .f32) (y : Vec Ideal S256x256 .f32) (k : Fin 1024) (j : Fin 256) :
    k0_pay5 (F := Ideal) (k0_pay10 x) y (ix2 k j) = ∑ s : Fin 256, x (ix2 s k) * y (ix2 s j) := by
  pointwise [k0_pay5, k0_pay4, k0_pay10]

/-- The same after a later block of tokens. -/
theorem narrow_more (x : Vec Ideal S256x1024 .f32) (y : Vec Ideal S256x256 .f32) (a : Vec Ideal S1024x256 .f32) (k : Fin 1024) (j : Fin 256) :
    k0_pay6 (F := Ideal) (k0_pay10 x) y a (ix2 k j) = a (ix2 k j) + ∑ s : Fin 256, x (ix2 s k) * y (ix2 s j) := by
  pointwise [k0_pay6, k0_pay4, k0_pay10]

/-- The rounding of a buffer of 1024 columns leaves it as it is. -/
theorem round_wide (a : Vec Ideal S1024x1024 .f32) : (k0_pay7 (F := Ideal) a : S1024x1024.Idx → EReal) = a := rfl

/-- The rounding of the attention's buffer leaves it as it is. -/
theorem round_three (a : Vec Ideal S1024x2304 .f32) : (k0_pay9 (F := Ideal) a : S1024x2304.Idx → EReal) = a := rfl

/-- The window index maps, at every grid point. -/
theorem idx_val : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_6.index t = ![0, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The cotangent of the first piece. -/
abbrev d0Of (c : Dev nD) : FVec Ideal S2048x1024 .f32 := m ((c.tc : Thread nD τ).loc main_arg1)
/-- The cotangent of the second piece. -/
abbrev d1Of (c : Dev nD) : FVec Ideal S2048x1024 .f32 := m ((c.tc : Thread nD τ).loc main_arg2)
/-- The cotangent of the third piece. -/
abbrev d2Of (c : Dev nD) : FVec Ideal S2048x2304 .f32 := m ((c.tc : Thread nD τ).loc main_arg3)

/-- A grid point's number is below the number of blocks. -/
theorem pt (t : Fin cfg0.N) : t.val < 8 := by have := t.isLt; have : cfg0.N = 8 := N_0; omega

/-- What the windows of the inputs hold: a block of tokens. -/
theorem rd (c : Dev nD) (t : Fin cfg0.N) :
    (∀ (s : Fin 256) (k : Fin 1024), iblk m c 0 t (ix2 s k) = hOf m c (ix2 (tok t.val (pt t) s) k))
    ∧ (∀ (s : Fin 256) (j : Fin 1024), iblk m c 1 t (ix2 s j) = d0Of m c (ix2 (tok t.val (pt t) s) j))
    ∧ (∀ (s : Fin 256) (j : Fin 1024), iblk m c 2 t (ix2 s j) = d1Of m c (ix2 (tok t.val (pt t) s) j))
    ∧ (∀ (s : Fin 256) (j : Fin 2304), iblk m c 3 t (ix2 s j) = d2Of m c (ix2 (tok t.val (pt t) s) j)) := by
  refine ⟨?_, ?_, ?_, ?_⟩ <;>
  · intro s j
    unfold iblk
    blk_ext [idx_val t]

/-- The windows of the results are the whole arrays. -/
theorem emb_out (t : Fin cfg0.N) : (∀ y, (win0_4.blk t).view.emb y = y) ∧ (∀ y, (win0_5.blk t).view.emb y = y) ∧ (∀ y, (win0_6.blk t).view.emb y = y) := by
  refine ⟨?_, ?_, ?_⟩ <;>
  · intro y
    funext a; apply Fin.ext
    match a with
    | ⟨0, _⟩ => blk_simp [idx_val t]
    | ⟨1, _⟩ => blk_simp [idx_val t]

/-- The buffers of a grid point. -/
abbrev bufs (c : Dev nD) (n : ℕ) (hn : n < cfg0.N) := (outsAt0 m c n hn).2.2.2

/-- The buffers after the first block of tokens. -/
theorem first (c : Dev nD) (t : Fin cfg0.N) (h : t.val % 8 = 0) :
    (bufs m c t.val t.isLt).1 = cols (iblk m c 0 t) (iblk m c 1 t) ∧ (bufs m c t.val t.isLt).2.1 = cols (iblk m c 0 t) (iblk m c 2 t)
    ∧ (bufs m c t.val t.isLt).2.2 = cols (iblk m c 0 t) (iblk m c 3 t) := by
  have h' : ¬1 ≤ t.val := by have := pt t; omega
  unfold bufs
  rw [outsAt0_A m c t h h' h h' h h' h h' h h' (by omega)]
  refine ⟨?_, ?_, ?_⟩ <;> frame_out
  on_goal 3 => exact (three_cols _ rfl rfl rfl _ _ _ _ _ _ (piece_first _ _ _ _ _ (wide_first _ _)) (piece_first _ _ _ _ _ (wide_first _ _)) (piece_first _ _ _ _ _ (narrow_first _ _))).2
  all_goals exact whole_first _ _ _ (wide_first _ _)

/-- One block more in each buffer. -/
abbrev Step (c : Dev nD) (t : Fin cfg0.N) (b0 b1 : S1024x1024.Idx → EReal) (b2 : S1024x2304.Idx → EReal) : Prop :=
  let old := bufs m c (t.val - 1) (Nat.lt_of_le_of_lt (Nat.sub_le _ _) t.isLt)
  b0 = more old.1 (iblk m c 0 t) (iblk m c 1 t) ∧ b1 = more old.2.1 (iblk m c 0 t) (iblk m c 2 t) ∧ b2 = more old.2.2 (iblk m c 0 t) (iblk m c 3 t)

/-- The buffers after a later block of tokens. -/
theorem later (c : Dev nD) (t : Fin cfg0.N) (h : ¬t.val % 8 = 0) :
    Step m c t (bufs m c t.val t.isLt).1 (bufs m c t.val t.isLt).2.1 (bufs m c t.val t.isLt).2.2 := by
  have h' : 1 ≤ t.val := by omega
  unfold Step bufs
  by_cases h6 : t.val % 8 = 7
  on_goal 1 => rw [outsAt0_C m c t h h' h h' h h' h h' h h' h6]
  on_goal 2 => rw [outsAt0_B m c t h h' h h' h h' h h' h h' h6]
  all_goals
    refine ⟨?_, ?_, ?_⟩ <;> frame_out <;> simp only [read_unread_whole]
    on_goal 3 => exact (three_cols _ rfl rfl rfl _ _ _ _ _ _ (piece_more _ _ _ _ _ _ (wide_more _ _ _)) (piece_more _ _ _ _ _ _ (wide_more _ _ _)) (piece_more _ _ _ _ _ _ (narrow_more _ _ _))).2
    all_goals exact whole_more _ _ _ _ (wide_more _ _ _)

/-- What the last grid point writes back: the buffers after its block of tokens. -/
theorem back (c : Dev nD) (t : Fin cfg0.N) (h6 : t.val % 8 = 7) :
    Step m c t (outsAt0 m c t.val t.isLt).1 (outsAt0 m c t.val t.isLt).2.1 (outsAt0 m c t.val t.isLt).2.2.1 := by
  have h : ¬t.val % 8 = 0 := by omega
  have h' : 1 ≤ t.val := by omega
  unfold Step bufs
  rw [outsAt0_C m c t h h' h h' h h' h h' h h' h6]
  refine ⟨?_, ?_, ?_⟩ <;> frame_out <;> simp only [read_unread_whole]
  on_goal 3 =>
    refine (round_three _).trans ?_
    exact three_back _ _ rfl rfl rfl _ _ _ _ _ _ _ (piece_more _ _ _ _ _ _ (wide_more _ _ _)) (piece_more _ _ _ _ _ _ (wide_more _ _ _)) (piece_more _ _ _ _ _ _ (narrow_more _ _ _))
  all_goals exact (round_wide _).trans (whole_more _ _ _ _ (wide_more _ _ _))

/-- The blocks that are written back are the gradients. -/
theorem out_eq (c : Dev nD) (t : Fin cfg0.N) (h6 : t.val % 8 = 7) :
    ((outsAt0 m c t.val t.isLt).1 : S1024x1024.Idx → EReal) = cols (hOf m c) (d0Of m c)
    ∧ ((outsAt0 m c t.val t.isLt).2.1 : S1024x1024.Idx → EReal) = cols (hOf m c) (d1Of m c)
    ∧ ((outsAt0 m c t.val t.isLt).2.2.1 : S1024x2304.Idx → EReal) = cols (hOf m c) (d2Of m c) := by
  have hx := fun t => (rd m c t).1
  have b := back m c t h6
  exact ⟨total_back N_0 _ _ (fun n hn => (bufs m c n hn).1) _ _ hx (fun t => (rd m c t).2.1) (fun t h => (first m c t h).1) (fun t h => (later m c t h).1) t h6 _ b.1,
    total_back N_0 _ _ (fun n hn => (bufs m c n hn).2.1) _ _ hx (fun t => (rd m c t).2.2.1) (fun t h => (first m c t h).2.1) (fun t h => (later m c t h).2.1) t h6 _ b.2.1,
    total_back N_0 _ _ (fun n hn => (bufs m c n hn).2.2) _ _ hx (fun t => (rd m c t).2.2.2) (fun t h => (first m c t h).2.2) (fun t h => (later m c t h).2.2) t h6 _ b.2.2⟩

/-- The kernel's results. -/
theorem arr (c : Dev nD) : (dats m 0 c).arrAt 4 (cfgs 0).N = cols (hOf m c) (d0Of m c) ∧ (dats m 0 c).arrAt 5 (cfgs 0).N = cols (hOf m c) (d1Of m c)
    ∧ (dats m 0 c).arrAt 6 (cfgs 0).N = cols (hOf m c) (d2Of m c) := by
  refine ⟨?_, ?_, ?_⟩ <;> refine (dats m 0 c).arrAt_eq_of_covers _ _ (by decide +kernel) fun t hf y => ?_
  · rw [after0_4, (out_eq m c t ((flush0_4 t).mp hf)).1]
    exact congrArg (cols (hOf m c) (d0Of m c)) ((emb_out t).1 y).symm
  · rw [after0_5, (out_eq m c t ((flush0_5 t).mp hf)).2.1]
    exact congrArg (cols (hOf m c) (d1Of m c)) ((emb_out t).2.1 y).symm
  · rw [after0_6, (out_eq m c t ((flush0_6 t).mp hf)).2.2]
    exact congrArg (cols (hOf m c) (d2Of m c)) ((emb_out t).2.2 y).symm

end Cert.Kernel14Ideal.Gen

open Idealize.ShloMosaic Idealize.ShloMosaic.TcCoe Idealize.SL.Sem Idealize.ShloMosaic.StableHlo Cert.Proj

/-- From equal arguments the kernel's call and the reference leave the same gradients. -/
theorem Cert.Proj.dw0_algebraic : @Cert.algebraic_Kernel14Ideal_Reference14Ideal Cert.Kernel14Ideal.Gen.facts Cert.Reference14Ideal.Gen.facts := by
  intro m ρ m' ρ' _ hag
  refine ⟨fun c => (Cert.Kernel14Ideal.Gen.dats m 0 c).arrAt 4 Cert.Kernel14Ideal.cfg0.N, fun c => (Cert.Kernel14Ideal.Gen.dats m 0 c).arrAt 5 Cert.Kernel14Ideal.cfg0.N, fun c => (Cert.Kernel14Ideal.Gen.dats m 0 c).arrAt 6 Cert.Kernel14Ideal.cfg0.N, Cert.Kernel14Ideal.Value.run_blocks m ρ, ?_⟩
  refine (θ_run _ _ _).mono (fun r h c => ?_) (Cert.Reference14Ideal.Value.run m' ρ')
  obtain ⟨h1, h2, h3, hk⟩ := h c
  obtain ⟨e0, e1, e2, e3⟩ := hag c
  rw [e0, e1] at h1
  rw [e0, e2] at h2
  rw [e0, e3] at h3
  exact ⟨h1.trans ((host_cols _ _ _ _).trans (Cert.Kernel14Ideal.Gen.arr m c).1.symm), h2.trans ((host_cols _ _ _ _).trans (Cert.Kernel14Ideal.Gen.arr m c).2.1.symm), h3.trans ((host_cols _ _ _ _).trans (Cert.Kernel14Ideal.Gen.arr m c).2.2.symm), hk⟩

/-- The reference runs to the end, leaves its arguments as they were and every counter at zero: it has no counters. -/
theorem Cert.Proj.dw0_reference_frame : @Cert.quiescent_Reference14Ideal Cert.Reference14Ideal.Gen.facts := fun m ρ _ =>
  (θ_run _ _ _).mono (fun _ h => ⟨fun c => (h c).2.2.2, sem_eq_zero_of_no_sems rfl _⟩) (Cert.Reference14Ideal.Value.run m ρ)

end
-- ==== Proof.Proj.Dw1.lean ====
module

public import proofs.«01_k».proof.Proof.Gen.Kernel15Ideal.Value
public import proofs.«01_k».proof.Proof.Gen.Reference15Ideal.Run
public import proofs.«01_k».proof.Proof.Proj.Acc
public import proofs.«01_k».proof.Defs
public import Idealize.ShloMosaic.Lib.Pipeline.ValueKit
public import Idealize.ShloMosaic.Lib.Pipeline.ReadBack
public import Idealize.ShloMosaic.Lib.Quiescent

/-!
# The gradients of the second group's weights

The delta rule's pieces: the tokens' columns times the columns of each cotangent. The kernel sums over blocks of 256 tokens in one
buffer per piece and writes the buffers back after the last block.
-/

@[expose] public section

set_option maxRecDepth 16384

noncomputable section

namespace Cert.Kernel15Ideal.Gen

open Idealize.ShloMosaic Idealize.ShloMosaic.TcCoe Idealize.SL.Sem Cert.Proj Cert.Kernel15Ideal
open Idealize.ShloMosaic.Pipeline (Dat)

/-- A product of the columns of 1024 channels with a block's columns, at an index: the first block of tokens. -/
theorem wide_first (x y : Vec Ideal S256x1024 .f32) (k j : Fin 1024) :
    k0_pay14 (F := Ideal) x y (ix2 k j) = ∑ s : Fin 256, x (ix2 s k) * y (ix2 s j) := by
  pointwise [k0_pay14, k0_pay13, k0_pay12]

/-- The same after a later block of tokens. -/
theorem wide_more (x y : Vec Ideal S256x1024 .f32) (a : Vec Ideal S1024x1024 .f32) (k j : Fin 1024) :
    k0_pay15 (F := Ideal) x y a (ix2 k j) = a (ix2 k j) + ∑ s : Fin 256, x (ix2 s k) * y (ix2 s j) := by
  pointwise [k0_pay15, k0_pay13, k0_pay12]

/-- The product with the last, narrow columns, at an index: the first block of tokens. -/
theorem narrow_first (x : Vec Ideal S256x1024 .f32) (y : Vec Ideal S256x128 .f32) (k : Fin 1024) (j : Fin 128) :
    k0_pay5 (F := Ideal) (k0_pay12 x) y (ix2 k j) = ∑ s : Fin 256, x (ix2 s k) * y (ix2 s j) := by
  pointwise [k0_pay5, k0_pay4, k0_pay12]

/-- The same after a later block of tokens. -/
theorem narrow_more (x : Vec Ideal S256x1024 .f32) (y : Vec Ideal S256x128 .f32) (a : Vec Ideal S1024x128 .f32) (k : Fin 1024) (j : Fin 128) :
    k0_pay6 (F := Ideal) (k0_pay12 x) y a (ix2 k j) = a (ix2 k j) + ∑ s : Fin 256, x (ix2 s k) * y (ix2 s j) := by
  pointwise [k0_pay6, k0_pay4, k0_pay12]

/-- The rounding of a wide buffer leaves it as it is. -/
theorem round_wide (a : Vec Ideal S1024x1024 .f32) : (k0_pay7 (F := Ideal) a : S1024x1024.Idx → EReal) = a := rfl

/-- The rounding of the narrow buffer leaves it as it is. -/
theorem round_narrow (a : Vec Ideal S1024x128 .f32) : (k0_pay11 (F := Ideal) a : S1024x128.Idx → EReal) = a := rfl

/-- The window index maps, at every grid point. -/
theorem idx_val : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![0, 0] ∧ win0_7.index t = ![0, 0] ∧ win0_8.index t = ![0, 0] ∧ win0_9.index t = ![0, 0] ∧ win0_10.index t = ![0, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The cotangent of the first piece. -/
abbrev d0Of (c : Dev nD) : FVec Ideal S2048x1024 .f32 := m ((c.tc : Thread nD τ).loc main_arg1)
/-- The cotangent of the second piece. -/
abbrev d1Of (c : Dev nD) : FVec Ideal S2048x1024 .f32 := m ((c.tc : Thread nD τ).loc main_arg2)
/-- The cotangent of the third piece. -/
abbrev d2Of (c : Dev nD) : FVec Ideal S2048x1024 .f32 := m ((c.tc : Thread nD τ).loc main_arg3)
/-- The cotangent of the fourth piece. -/
abbrev d3Of (c : Dev nD) : FVec Ideal S2048x1024 .f32 := m ((c.tc : Thread nD τ).loc main_arg4)
/-- The cotangent of the fifth piece. -/
abbrev d4Of (c : Dev nD) : FVec Ideal S2048x128 .f32 := m ((c.tc : Thread nD τ).loc main_arg5)

/-- A grid point's number is below the number of blocks. -/
theorem pt (t : Fin cfg0.N) : t.val < 8 := by have := t.isLt; have : cfg0.N = 8 := N_0; omega

/-- What the windows of the inputs hold: a block of tokens. -/
theorem rd (c : Dev nD) (t : Fin cfg0.N) :
    (∀ (s : Fin 256) (k : Fin 1024), iblk m c 0 t (ix2 s k) = hOf m c (ix2 (tok t.val (pt t) s) k))
    ∧ (∀ (s : Fin 256) (j : Fin 1024), iblk m c 1 t (ix2 s j) = d0Of m c (ix2 (tok t.val (pt t) s) j))
    ∧ (∀ (s : Fin 256) (j : Fin 1024), iblk m c 2 t (ix2 s j) = d1Of m c (ix2 (tok t.val (pt t) s) j))
    ∧ (∀ (s : Fin 256) (j : Fin 1024), iblk m c 3 t (ix2 s j) = d2Of m c (ix2 (tok t.val (pt t) s) j))
    ∧ (∀ (s : Fin 256) (j : Fin 1024), iblk m c 4 t (ix2 s j) = d3Of m c (ix2 (tok t.val (pt t) s) j))
    ∧ (∀ (s : Fin 256) (j : Fin 128), iblk m c 5 t (ix2 s j) = d4Of m c (ix2 (tok t.val (pt t) s) j)) := by
  refine ⟨?_, ?_, ?_, ?_, ?_, ?_⟩ <;>
  · intro s j
    unfold iblk
    blk_ext [idx_val t]

/-- The windows of the results are the whole arrays. -/
theorem emb_out (t : Fin cfg0.N) : (∀ y, (win0_6.blk t).view.emb y = y) ∧ (∀ y, (win0_7.blk t).view.emb y = y) ∧ (∀ y, (win0_8.blk t).view.emb y = y)
    ∧ (∀ y, (win0_9.blk t).view.emb y = y) ∧ (∀ y, (win0_10.blk t).view.emb y = y) := by
  refine ⟨?_, ?_, ?_, ?_, ?_⟩ <;>
  · intro y
    funext a; apply Fin.ext
    match a with
    | ⟨0, _⟩ => blk_simp [idx_val t]
    | ⟨1, _⟩ => blk_simp [idx_val t]

/-- The buffers of a grid point. -/
abbrev bufs (c : Dev nD) (n : ℕ) (hn : n < cfg0.N) := (outsAt0 m c n hn).2.2.2.2.2

/-- The buffers after the first block of tokens. -/
theorem first (c : Dev nD) (t : Fin cfg0.N) (h : t.val % 8 = 0) :
    (bufs m c t.val t.isLt).1 = cols (iblk m c 0 t) (iblk m c 1 t) ∧ (bufs m c t.val t.isLt).2.1 = cols (iblk m c 0 t) (iblk m c 2 t)
    ∧ (bufs m c t.val t.isLt).2.2.1 = cols (iblk m c 0 t) (iblk m c 3 t) ∧ (bufs m c t.val t.isLt).2.2.2.1 = cols (iblk m c 0 t) (iblk m c 4 t)
    ∧ (bufs m c t.val t.isLt).2.2.2.2 = cols (iblk m c 0 t) (iblk m c 5 t) := by
  have h' : ¬1 ≤ t.val := by have := pt t; omega
  unfold bufs
  rw [outsAt0_A m c t h h' h h' h h' h h' h h' (by omega)]
  refine ⟨?_, ?_, ?_, ?_, ?_⟩ <;> frame_out
  on_goal 5 => exact whole_first _ _ _ (narrow_first _ _)
  all_goals exact whole_first _ _ _ (wide_first _ _)

/-- One block more in each buffer. -/
abbrev Step (c : Dev nD) (t : Fin cfg0.N) (b0 b1 b2 b3 : S1024x1024.Idx → EReal) (b4 : S1024x128.Idx → EReal) : Prop :=
  let old := bufs m c (t.val - 1) (Nat.lt_of_le_of_lt (Nat.sub_le _ _) t.isLt)
  b0 = more old.1 (iblk m c 0 t) (iblk m c 1 t) ∧ b1 = more old.2.1 (iblk m c 0 t) (iblk m c 2 t) ∧ b2 = more old.2.2.1 (iblk m c 0 t) (iblk m c 3 t)
    ∧ b3 = more old.2.2.2.1 (iblk m c 0 t) (iblk m c 4 t) ∧ b4 = more old.2.2.2.2 (iblk m c 0 t) (iblk m c 5 t)

/-- The buffers after a later block of tokens. -/
theorem later (c : Dev nD) (t : Fin cfg0.N) (h : ¬t.val % 8 = 0) :
    Step m c t (bufs m c t.val t.isLt).1 (bufs m c t.val t.isLt).2.1 (bufs m c t.val t.isLt).2.2.1 (bufs m c t.val t.isLt).2.2.2.1 (bufs m c t.val t.isLt).2.2.2.2 := by
  have h' : 1 ≤ t.val := by omega
  unfold Step bufs
  by_cases h6 : t.val % 8 = 7
  on_goal 1 => rw [outsAt0_C m c t h h' h h' h h' h h' h h' h6]
  on_goal 2 => rw [outsAt0_B m c t h h' h h' h h' h h' h h' h6]
  all_goals
    refine ⟨?_, ?_, ?_, ?_, ?_⟩ <;> frame_out <;> simp only [read_unread_whole]
    on_goal 5 => exact whole_more _ _ _ _ (narrow_more _ _ _)
    all_goals exact whole_more _ _ _ _ (wide_more _ _ _)

/-- What the last grid point writes back: the buffers after its block of tokens. -/
theorem back (c : Dev nD) (t : Fin cfg0.N) (h6 : t.val % 8 = 7) :
    Step m c t (outsAt0 m c t.val t.isLt).1 (outsAt0 m c t.val t.isLt).2.1 (outsAt0 m c t.val t.isLt).2.2.1 (outsAt0 m c t.val t.isLt).2.2.2.1 (outsAt0 m c t.val t.isLt).2.2.2.2.1 := by
  have h : ¬t.val % 8 = 0 := by omega
  have h' : 1 ≤ t.val := by omega
  unfold Step bufs
  rw [outsAt0_C m c t h h' h h' h h' h h' h h' h6]
  refine ⟨?_, ?_, ?_, ?_, ?_⟩ <;> frame_out <;> simp only [read_unread_whole]
  on_goal 5 => exact (round_narrow _).trans (whole_more _ _ _ _ (narrow_more _ _ _))
  all_goals exact (round_wide _).trans (whole_more _ _ _ _ (wide_more _ _ _))

/-- The blocks that are written back are the gradients. -/
theorem out_eq (c : Dev nD) (t : Fin cfg0.N) (h6 : t.val % 8 = 7) :
    ((outsAt0 m c t.val t.isLt).1 : S1024x1024.Idx → EReal) = cols (hOf m c) (d0Of m c)
    ∧ ((outsAt0 m c t.val t.isLt).2.1 : S1024x1024.Idx → EReal) = cols (hOf m c) (d1Of m c)
    ∧ ((outsAt0 m c t.val t.isLt).2.2.1 : S1024x1024.Idx → EReal) = cols (hOf m c) (d2Of m c)
    ∧ ((outsAt0 m c t.val t.isLt).2.2.2.1 : S1024x1024.Idx → EReal) = cols (hOf m c) (d3Of m c)
    ∧ ((outsAt0 m c t.val t.isLt).2.2.2.2.1 : S1024x128.Idx → EReal) = cols (hOf m c) (d4Of m c) := by
  have hx := fun t => (rd m c t).1
  have b := back m c t h6
  exact ⟨total_back N_0 _ _ (fun n hn => (bufs m c n hn).1) _ _ hx (fun t => (rd m c t).2.1) (fun t h => (first m c t h).1) (fun t h => (later m c t h).1) t h6 _ b.1,
    total_back N_0 _ _ (fun n hn => (bufs m c n hn).2.1) _ _ hx (fun t => (rd m c t).2.2.1) (fun t h => (first m c t h).2.1) (fun t h => (later m c t h).2.1) t h6 _ b.2.1,
    total_back N_0 _ _ (fun n hn => (bufs m c n hn).2.2.1) _ _ hx (fun t => (rd m c t).2.2.2.1) (fun t h => (first m c t h).2.2.1) (fun t h => (later m c t h).2.2.1) t h6 _ b.2.2.1,
    total_back N_0 _ _ (fun n hn => (bufs m c n hn).2.2.2.1) _ _ hx (fun t => (rd m c t).2.2.2.2.1) (fun t h => (first m c t h).2.2.2.1) (fun t h => (later m c t h).2.2.2.1) t h6 _ b.2.2.2.1,
    total_back N_0 _ _ (fun n hn => (bufs m c n hn).2.2.2.2) _ _ hx (fun t => (rd m c t).2.2.2.2.2) (fun t h => (first m c t h).2.2.2.2) (fun t h => (later m c t h).2.2.2.2) t h6 _ b.2.2.2.2⟩

/-- The kernel's results. -/
theorem arr (c : Dev nD) : (dats m 0 c).arrAt 6 (cfgs 0).N = cols (hOf m c) (d0Of m c) ∧ (dats m 0 c).arrAt 7 (cfgs 0).N = cols (hOf m c) (d1Of m c)
    ∧ (dats m 0 c).arrAt 8 (cfgs 0).N = cols (hOf m c) (d2Of m c) ∧ (dats m 0 c).arrAt 9 (cfgs 0).N = cols (hOf m c) (d3Of m c)
    ∧ (dats m 0 c).arrAt 10 (cfgs 0).N = cols (hOf m c) (d4Of m c) := by
  refine ⟨?_, ?_, ?_, ?_, ?_⟩ <;> refine (dats m 0 c).arrAt_eq_of_covers _ _ (by decide +kernel) fun t hf y => ?_
  · rw [after0_6, (out_eq m c t ((flush0_6 t).mp hf)).1]
    exact congrArg (cols (hOf m c) (d0Of m c)) ((emb_out t).1 y).symm
  · rw [after0_7, (out_eq m c t ((flush0_7 t).mp hf)).2.1]
    exact congrArg (cols (hOf m c) (d1Of m c)) ((emb_out t).2.1 y).symm
  · rw [after0_8, (out_eq m c t ((flush0_8 t).mp hf)).2.2.1]
    exact congrArg (cols (hOf m c) (d2Of m c)) ((emb_out t).2.2.1 y).symm
  · rw [after0_9, (out_eq m c t ((flush0_9 t).mp hf)).2.2.2.1]
    exact congrArg (cols (hOf m c) (d3Of m c)) ((emb_out t).2.2.2.1 y).symm
  · rw [after0_10, (out_eq m c t ((flush0_10 t).mp hf)).2.2.2.2]
    exact congrArg (cols (hOf m c) (d4Of m c)) ((emb_out t).2.2.2.2 y).symm

end Cert.Kernel15Ideal.Gen

open Idealize.ShloMosaic Idealize.ShloMosaic.TcCoe Idealize.SL.Sem Idealize.ShloMosaic.StableHlo Cert.Proj

/-- From equal arguments the kernel's call and the reference leave the same gradients. -/
theorem Cert.Proj.dw1_algebraic : @Cert.algebraic_Kernel15Ideal_Reference15Ideal Cert.Kernel15Ideal.Gen.facts Cert.Reference15Ideal.Gen.facts := by
  intro m ρ m' ρ' _ hag
  refine ⟨fun c => (Cert.Kernel15Ideal.Gen.dats m 0 c).arrAt 6 Cert.Kernel15Ideal.cfg0.N, fun c => (Cert.Kernel15Ideal.Gen.dats m 0 c).arrAt 7 Cert.Kernel15Ideal.cfg0.N, fun c => (Cert.Kernel15Ideal.Gen.dats m 0 c).arrAt 8 Cert.Kernel15Ideal.cfg0.N, fun c => (Cert.Kernel15Ideal.Gen.dats m 0 c).arrAt 9 Cert.Kernel15Ideal.cfg0.N, fun c => (Cert.Kernel15Ideal.Gen.dats m 0 c).arrAt 10 Cert.Kernel15Ideal.cfg0.N, Cert.Kernel15Ideal.Value.run_blocks m ρ, ?_⟩
  refine (θ_run _ _ _).mono (fun r h c => ?_) (Cert.Reference15Ideal.Value.run m' ρ')
  obtain ⟨h1, h2, h3, h4, h5, hk⟩ := h c
  obtain ⟨e0, e1, e2, e3, e4, e5⟩ := hag c
  rw [e0, e1] at h1
  rw [e0, e2] at h2
  rw [e0, e3] at h3
  rw [e0, e4] at h4
  rw [e0, e5] at h5
  exact ⟨h1.trans ((host_cols _ _ _ _).trans (Cert.Kernel15Ideal.Gen.arr m c).1.symm), h2.trans ((host_cols _ _ _ _).trans (Cert.Kernel15Ideal.Gen.arr m c).2.1.symm), h3.trans ((host_cols _ _ _ _).trans (Cert.Kernel15Ideal.Gen.arr m c).2.2.1.symm), h4.trans ((host_cols _ _ _ _).trans (Cert.Kernel15Ideal.Gen.arr m c).2.2.2.1.symm), h5.trans ((host_cols _ _ _ _).trans (Cert.Kernel15Ideal.Gen.arr m c).2.2.2.2.symm), hk⟩

/-- The reference runs to the end, leaves its arguments as they were and every counter at zero: it has no counters. -/
theorem Cert.Proj.dw1_reference_frame : @Cert.quiescent_Reference15Ideal Cert.Reference15Ideal.Gen.facts := fun m ρ _ =>
  (θ_run _ _ _).mono (fun _ h => ⟨fun c => (h c).2.2.2.2.2, sem_eq_zero_of_no_sems rfl _⟩) (Cert.Reference15Ideal.Value.run m ρ)

end
-- ==== Proof.Proj.Dw2.lean ====
module

public import proofs.«01_k».proof.Proof.Gen.Kernel16Ideal.Value
public import proofs.«01_k».proof.Proof.Gen.Reference16Ideal.Run
public import proofs.«01_k».proof.Proof.Proj.Acc
public import proofs.«01_k».proof.Defs
public import Idealize.ShloMosaic.Lib.Pipeline.ValueKit
public import Idealize.ShloMosaic.Lib.Pipeline.ReadBack
public import Idealize.ShloMosaic.Lib.Quiescent

/-!
# The gradient of the third group's weight

The merge's weight: the tokens' columns times the columns of its cotangent. The kernel sums over blocks of 256 tokens in a buffer, three
groups of columns one by one, and writes the buffer back after the last block.
-/

@[expose] public section

set_option maxRecDepth 16384

noncomputable section

namespace Cert.Kernel16Ideal.Gen

open Idealize.ShloMosaic Idealize.ShloMosaic.TcCoe Idealize.SL.Sem Cert.Proj Cert.Kernel16Ideal
open Idealize.ShloMosaic.Pipeline (Dat)

/-- The first columns of the first block of tokens, at an index. -/
theorem pay4_at (x y : Vec Ideal S256x1024 .f32) (k j : Fin 1024) :
    k0_pay4 (F := Ideal) x y (ix2 k j) = ∑ s : Fin 256, x (ix2 s k) * y (ix2 s j) := by
  pointwise [k0_pay4, k0_pay3, k0_pay2]

/-- The first columns after a later block of tokens, at an index. -/
theorem pay5_at (x y : Vec Ideal S256x1024 .f32) (a : Vec Ideal S1024x1024 .f32) (k j : Fin 1024) :
    k0_pay5 (F := Ideal) x y a (ix2 k j) = a (ix2 k j) + ∑ s : Fin 256, x (ix2 s k) * y (ix2 s j) := by
  pointwise [k0_pay5, k0_pay3, k0_pay2]

/-- The rounding of the buffer leaves it as it is. -/
theorem pay1_eq (a : Vec Ideal S1024x3072 .f32) : (k0_pay1 (F := Ideal) a : S1024x3072.Idx → EReal) = a := rfl

/-- The window index maps, at every grid point. -/
theorem idx_val : ∀ t : Fin cfg0.N, win0_0.index t = ![t.val, 0] ∧ win0_1.index t = ![t.val, 0] ∧ win0_2.index t = ![0, 0] :=
  (by decide +kernel : ∀ t : Fin grid0.N, _)

variable (m : (ℓ : Loc nD τ sig) → Buf (Elt Ideal) ℓ)

/-- The tokens. -/
abbrev hOf (c : Dev nD) : FVec Ideal S2048x1024 .f32 := m ((c.tc : Thread nD τ).loc main_arg0)
/-- The cotangent. -/
abbrev dOf (c : Dev nD) : FVec Ideal S2048x3072 .f32 := m ((c.tc : Thread nD τ).loc main_arg1)

/-- A grid point's number is below the number of blocks. -/
theorem pt (t : Fin cfg0.N) : t.val < 8 := by have := t.isLt; have : cfg0.N = 8 := N_0; omega

/-- What window 0 holds. -/
theorem rd0 (c : Dev nD) (t : Fin cfg0.N) (s : Fin 256) (k : Fin 1024) : iblk m c 0 t (ix2 s k) = hOf m c (ix2 (tok t.val (pt t) s) k) := by
  unfold iblk
  blk_ext [idx_val t]
/-- What window 1 holds. -/
theorem rd1 (c : Dev nD) (t : Fin cfg0.N) (s : Fin 256) (j : Fin 3072) : iblk m c 1 t (ix2 s j) = dOf m c (ix2 (tok t.val (pt t) s) j) := by
  unfold iblk
  blk_ext [idx_val t]

/-- The buffer after the first block of tokens. -/
theorem first (c : Dev nD) (t : Fin cfg0.N) (h : t.val % 8 = 0) :
    (outsAt0 m c t.val t.isLt).2 = cols (iblk m c 0 t) (iblk m c 1 t) := by
  have h' : ¬1 ≤ t.val := by have := pt t; omega
  rw [outsAt0_A m c t h h' h h' h h' (by omega)]
  frame_out
  exact (three_cols _ rfl rfl rfl _ _ _ _ _ _ (piece_first _ _ _ _ _ (pay4_at _ _)) (piece_first _ _ _ _ _ (pay4_at _ _)) (piece_first _ _ _ _ _ (pay4_at _ _))).2

/-- The buffer after a later block of tokens. -/
theorem later (c : Dev nD) (t : Fin cfg0.N) (h : ¬t.val % 8 = 0) :
    (outsAt0 m c t.val t.isLt).2 = more (outsAt0 m c (t.val - 1) (Nat.lt_of_le_of_lt (Nat.sub_le _ _) t.isLt)).2 (iblk m c 0 t) (iblk m c 1 t) := by
  have h' : 1 ≤ t.val := by omega
  by_cases h6 : t.val % 8 = 7
  on_goal 1 => rw [outsAt0_C m c t h h' h h' h h' h6]
  on_goal 2 => rw [outsAt0_B m c t h h' h h' h h' h6]
  all_goals
    frame_out
    simp only [read_unread_whole]
    exact (three_cols _ rfl rfl rfl _ _ _ _ _ _ (piece_more _ _ _ _ _ _ (pay5_at _ _ _)) (piece_more _ _ _ _ _ _ (pay5_at _ _ _)) (piece_more _ _ _ _ _ _ (pay5_at _ _ _))).2

/-- What the last grid point writes back: the buffer after its block of tokens. -/
theorem back (c : Dev nD) (t : Fin cfg0.N) (h6 : t.val % 8 = 7) :
    ((outsAt0 m c t.val t.isLt).1 : S1024x3072.Idx → EReal) = more (outsAt0 m c (t.val - 1) (Nat.lt_of_le_of_lt (Nat.sub_le _ _) t.isLt)).2 (iblk m c 0 t) (iblk m c 1 t) := by
  have h : ¬t.val % 8 = 0 := by omega
  have h' : 1 ≤ t.val := by omega
  rw [outsAt0_C m c t h h' h h' h h' h6]
  frame_out
  simp only [read_unread_whole]
  refine (pay1_eq _).trans ?_
  exact three_back _ _ rfl rfl rfl _ _ _ _ _ _ _ (piece_more _ _ _ _ _ _ (pay5_at _ _ _)) (piece_more _ _ _ _ _ _ (pay5_at _ _ _)) (piece_more _ _ _ _ _ _ (pay5_at _ _ _))

/-- The block that is written back is the gradient. -/
theorem out_eq (c : Dev nD) (t : Fin cfg0.N) (h6 : t.val % 8 = 7) : ((outsAt0 m c t.val t.isLt).1 : S1024x3072.Idx → EReal) = cols (hOf m c) (dOf m c) := by
  exact total_back N_0 _ _ (fun n hn => (outsAt0 m c n hn).2) _ _ (rd0 m c) (rd1 m c) (first m c) (later m c) t h6 _ (back m c t h6)

/-- The grid point that writes back is the last. -/
theorem flush_val : ∀ t : Fin cfg0.N, (cfg0.win 2).flush t = true → t.val % 8 = 7 := fun t h => (flush0_2 t).mp h

/-- The kernel's result. -/
theorem arr (c : Dev nD) : (dats m 0 c).arrAt 2 (cfgs 0).N = cols (hOf m c) (dOf m c) := by
  refine (dats m 0 c).arrAt_eq_of_covers 2 _ (by decide +kernel) fun t hf y => ?_
  rw [after0_2, out_eq m c t (flush_val t hf)]
  generalize cols (hOf m c) (dOf m c) = G
  have he : (win0_2.blk t).view.emb y = y := by
    funext a; apply Fin.ext
    match a with
    | ⟨0, _⟩ => blk_simp [idx_val t]
    | ⟨1, _⟩ => blk_simp [idx_val t]
  exact (congrArg G he).symm

end Cert.Kernel16Ideal.Gen

open Idealize.ShloMosaic Idealize.ShloMosaic.TcCoe Idealize.SL.Sem Idealize.ShloMosaic.StableHlo Cert.Proj

/-- From equal arguments the kernel's call and the reference leave the same gradient. -/
theorem Cert.Proj.dw2_algebraic : @Cert.algebraic_Kernel16Ideal_Reference16Ideal Cert.Kernel16Ideal.Gen.facts Cert.Reference16Ideal.Gen.facts := by
  intro m ρ m' ρ' _ hag
  refine ⟨fun c => (Cert.Kernel16Ideal.Gen.dats m 0 c).arrAt 2 Cert.Kernel16Ideal.cfg0.N, Cert.Kernel16Ideal.Value.run_blocks m ρ, ?_⟩
  refine (θ_run _ _ _).mono (fun r h c => ?_) (Cert.Reference16Ideal.Value.run m' ρ')
  obtain ⟨hr, hu⟩ := h c
  obtain ⟨e0, e1⟩ := hag c
  rw [e0, e1] at hr
  exact ⟨hr.trans ((host_cols _ _ _ _).trans (Cert.Kernel16Ideal.Gen.arr m c).symm), hu⟩

/-- The reference runs to the end, leaves its arguments as they were and every counter at zero: it has no counters. -/
theorem Cert.Proj.dw2_reference_frame : @Cert.quiescent_Reference16Ideal Cert.Reference16Ideal.Gen.facts := fun m ρ _ =>
  (θ_run _ _ _).mono (fun _ h => ⟨fun c => (h c).2, sem_eq_zero_of_no_sems rfl _⟩) (Cert.Reference16Ideal.Value.run m ρ)

end
-- ==== Proof.lean ====
module

public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Att.Alg
public import proofs.«01_k».proof.Proof.Ffn.UpDw
public import proofs.«01_k».proof.Proof.Ffn.DownDw
public import proofs.«01_k».proof.Proof.Ffn.UpDh
public import proofs.«01_k».proof.Proof.Ffn.DownBwd
public import proofs.«01_k».proof.Proof.Ffn.Up
public import proofs.«01_k».proof.Proof.Ffn.Down
public import proofs.«01_k».proof.Proof.Proj.Fwd0
public import proofs.«01_k».proof.Proof.Proj.Fwd1
public import proofs.«01_k».proof.Proof.Proj.Fwd2
public import proofs.«01_k».proof.Proof.Proj.Dh0
public import proofs.«01_k».proof.Proof.Proj.Dh1
public import proofs.«01_k».proof.Proof.Proj.Dh2
public import proofs.«01_k».proof.Proof.Proj.Dw0
public import proofs.«01_k».proof.Proof.Proj.Dw1
public import proofs.«01_k».proof.Proof.Proj.Dw2

/-!
# The certificate

The kernel programs and the references run to the end and leave their arguments as they were; each idealised kernel is its
kernel, the attention's with its mask constant read as minus infinity; and each idealised kernel and its reference have equal
results: the attention's backward and the gated down projection's activation gradients from finite arguments, the feed-forward
network's other products and the products with the mixer's input weights from any.
-/

@[expose] public section

open Idealize.ShloMosaic

/-- Everything the certificate claims. -/
theorem Cert.Proof.claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Att.pre_facts, Cert.Ffn.pre_facts,
    fun m ρ _ => Cert.Kernel.Gen.frame m ρ, fun m ρ _ => Cert.KernelIdeal.Gen.frame m ρ, fun m ρ _ => Cert.KernelIdeal.Gen.frame m ρ,
    fun m ρ _ => Cert.Att.reference_frame m ρ, fun m ρ _ => Cert.Att.reference_frame m ρ,
    fun m ρ _ => Cert.Kernel2.Gen.frame m ρ, fun m ρ _ => Cert.Kernel2Ideal.Gen.frame m ρ, fun m ρ _ => Cert.Ffn.upDw_reference_frame m ρ,
    fun m ρ _ => Cert.Kernel3.Gen.frame m ρ, fun m ρ _ => Cert.Kernel3Ideal.Gen.frame m ρ, fun m ρ _ => Cert.Ffn.downDw_reference_frame m ρ,
    fun m ρ _ => Cert.Kernel4.Gen.frame m ρ, fun m ρ _ => Cert.Kernel4Ideal.Gen.frame m ρ, fun m ρ _ => Cert.Ffn.upDh_reference_frame m ρ,
    fun m ρ _ => Cert.Kernel5.Gen.frame m ρ, fun m ρ _ => Cert.Kernel5Ideal.Gen.frame m ρ, fun m ρ _ => Cert.Kernel5Ideal.Gen.frame m ρ,
    fun m ρ _ => Cert.Ffn.downBwd_reference_frame m ρ, fun m ρ _ => Cert.Ffn.downBwd_reference_frame m ρ,
    fun m ρ _ => Cert.Kernel6.Gen.frame m ρ, fun m ρ _ => Cert.Kernel6Ideal.Gen.frame m ρ, Cert.Ffn.up_reference_frame,
    fun m ρ _ => Cert.Kernel7.Gen.frame m ρ, fun m ρ _ => Cert.Kernel7Ideal.Gen.frame m ρ, Cert.Ffn.down_reference_frame,
    fun m ρ _ => Cert.Kernel8.Gen.frame m ρ, fun m ρ _ => Cert.Kernel8Ideal.Gen.frame m ρ, Cert.Proj.fwd0_reference_frame,
    fun m ρ _ => Cert.Kernel9.Gen.frame m ρ, fun m ρ _ => Cert.Kernel9Ideal.Gen.frame m ρ, Cert.Proj.fwd1_reference_frame,
    fun m ρ _ => Cert.Kernel10.Gen.frame m ρ, fun m ρ _ => Cert.Kernel10Ideal.Gen.frame m ρ, Cert.Proj.fwd2_reference_frame,
    fun m ρ _ => Cert.Kernel11.Gen.frame m ρ, fun m ρ _ => Cert.Kernel11Ideal.Gen.frame m ρ, Cert.Proj.dh0_reference_frame,
    fun m ρ _ => Cert.Kernel12.Gen.frame m ρ, fun m ρ _ => Cert.Kernel12Ideal.Gen.frame m ρ, Cert.Proj.dh1_reference_frame,
    fun m ρ _ => Cert.Kernel13.Gen.frame m ρ, fun m ρ _ => Cert.Kernel13Ideal.Gen.frame m ρ, Cert.Proj.dh2_reference_frame,
    fun m ρ _ => Cert.Kernel14.Gen.frame m ρ, fun m ρ _ => Cert.Kernel14Ideal.Gen.frame m ρ, Cert.Proj.dw0_reference_frame,
    fun m ρ _ => Cert.Kernel15.Gen.frame m ρ, fun m ρ _ => Cert.Kernel15Ideal.Gen.frame m ρ, Cert.Proj.dw1_reference_frame,
    fun m ρ _ => Cert.Kernel16.Gen.frame m ρ, fun m ρ _ => Cert.Kernel16Ideal.Gen.frame m ρ, Cert.Proj.dw2_reference_frame,
    IdealRules.named_const.statement Cert.KernelIdeal.κ "mask" .f32 0xF149F2CA#32 ⊥ rfl, Cert.Att.algebraic,
    trivial, Cert.Ffn.upDw_algebraic, trivial, Cert.Ffn.downDw_algebraic, trivial, Cert.Ffn.upDh_algebraic, trivial, Cert.Ffn.downBwd_algebraic,
    trivial, Cert.Ffn.up_algebraic, trivial, Cert.Ffn.down_algebraic, trivial, Cert.Proj.fwd0_algebraic, trivial, Cert.Proj.fwd1_algebraic, trivial, Cert.Proj.fwd2_algebraic, trivial, Cert.Proj.dh0_algebraic, trivial, Cert.Proj.dh1_algebraic, trivial, Cert.Proj.dh2_algebraic, trivial, Cert.Proj.dw0_algebraic, trivial, Cert.Proj.dw1_algebraic, trivial, Cert.Proj.dw2_algebraic⟩
